-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_keys [hPre_finite_keys : Cert.Pre_finite_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_keys [hPre_finite_keys : Cert.Pre_finite_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Experts0 [hPre_tables : Cert.Pre_tables.Facts] (m : (ℓ : Loc Cert.Experts0.nD Cert.Experts0.τ Cert.Experts0.sig) → Buf (Elt Bits) ℓ) : Prop :=
  ∀ c : Dev Cert.Experts0.nD,
    (Cert.Pre_tables.fn (F := Bits) (m ((c.tc : Thread Cert.Experts0.nD Cert.Experts0.τ).loc Cert.Experts0.main_arg0)) (m ((c.tc : Thread Cert.Experts0.nD Cert.Experts0.τ).loc Cert.Experts0.main_arg1)) (m ((c.tc : Thread Cert.Experts0.nD Cert.Experts0.τ).loc Cert.Experts0.main_arg2)) (m ((c.tc : Thread Cert.Experts0.nD Cert.Experts0.τ).loc Cert.Experts0.main_arg3)) (m ((c.tc : Thread Cert.Experts0.nD Cert.Experts0.τ).loc Cert.Experts0.main_arg4)) (m ((c.tc : Thread Cert.Experts0.nD Cert.Experts0.τ).loc Cert.Experts0.main_arg5)) (m ((c.tc : Thread Cert.Experts0.nD Cert.Experts0.τ).loc Cert.Experts0.main_arg6)) (m ((c.tc : Thread Cert.Experts0.nD Cert.Experts0.τ).loc Cert.Experts0.main_arg7))) = (fun _ => 1#1)

def Pre_Experts0Ideal [hPre_tables : Cert.Pre_tables.Facts] (m : (ℓ : Loc Cert.Experts0Ideal.nD Cert.Experts0Ideal.τ Cert.Experts0Ideal.sig) → Buf (Elt Ideal) ℓ) : Prop :=
  ∀ c : Dev Cert.Experts0Ideal.nD,
    (Cert.Pre_tables.fn (F := Ideal) (m ((c.tc : Thread Cert.Experts0Ideal.nD Cert.Experts0Ideal.τ).loc Cert.Experts0Ideal.main_arg0)) (m ((c.tc : Thread Cert.Experts0Ideal.nD Cert.Experts0Ideal.τ).loc Cert.Experts0Ideal.main_arg1)) (m ((c.tc : Thread Cert.Experts0Ideal.nD Cert.Experts0Ideal.τ).loc Cert.Experts0Ideal.main_arg2)) (m ((c.tc : Thread Cert.Experts0Ideal.nD Cert.Experts0Ideal.τ).loc Cert.Experts0Ideal.main_arg3)) (m ((c.tc : Thread Cert.Experts0Ideal.nD Cert.Experts0Ideal.τ).loc Cert.Experts0Ideal.main_arg4)) (m ((c.tc : Thread Cert.Experts0Ideal.nD Cert.Experts0Ideal.τ).loc Cert.Experts0Ideal.main_arg5)) (m ((c.tc : Thread Cert.Experts0Ideal.nD Cert.Experts0Ideal.τ).loc Cert.Experts0Ideal.main_arg6)) (m ((c.tc : Thread Cert.Experts0Ideal.nD Cert.Experts0Ideal.τ).loc Cert.Experts0Ideal.main_arg7))) = (fun _ => 1#1)

def Pre_ExpertsReference0Ideal (m : (ℓ : Loc Cert.ExpertsReference0Ideal.nD Cert.ExpertsReference0Ideal.τ Cert.ExpertsReference0Ideal.sig) → Buf (Elt Ideal) ℓ) : Prop :=
  True

def Pre_ExpertsReference0Ideal_tables [hPre_tables : Cert.Pre_tables.Facts] (m : (ℓ : Loc Cert.ExpertsReference0Ideal.nD Cert.ExpertsReference0Ideal.τ Cert.ExpertsReference0Ideal.sig) → Buf (Elt Ideal) ℓ) : Prop :=
  ∀ c : Dev Cert.ExpertsReference0Ideal.nD,
    (Cert.Pre_tables.fn (F := Ideal) (m ((c.tc : Thread Cert.ExpertsReference0Ideal.nD Cert.ExpertsReference0Ideal.τ).loc Cert.ExpertsReference0Ideal.main_arg0)) (m ((c.tc : Thread Cert.ExpertsReference0Ideal.nD Cert.ExpertsReference0Ideal.τ).loc Cert.ExpertsReference0Ideal.main_arg1)) (m ((c.tc : Thread Cert.ExpertsReference0Ideal.nD Cert.ExpertsReference0Ideal.τ).loc Cert.ExpertsReference0Ideal.main_arg2)) (m ((c.tc : Thread Cert.ExpertsReference0Ideal.nD Cert.ExpertsReference0Ideal.τ).loc Cert.ExpertsReference0Ideal.main_arg3)) (m ((c.tc : Thread Cert.ExpertsReference0Ideal.nD Cert.ExpertsReference0Ideal.τ).loc Cert.ExpertsReference0Ideal.main_arg4)) (m ((c.tc : Thread Cert.ExpertsReference0Ideal.nD Cert.ExpertsReference0Ideal.τ).loc Cert.ExpertsReference0Ideal.main_arg5)) (m ((c.tc : Thread Cert.ExpertsReference0Ideal.nD Cert.ExpertsReference0Ideal.τ).loc Cert.ExpertsReference0Ideal.main_arg6)) (m ((c.tc : Thread Cert.ExpertsReference0Ideal.nD Cert.ExpertsReference0Ideal.τ).loc Cert.ExpertsReference0Ideal.main_arg7))) = (fun _ => 1#1)

def Pre_Experts1 [hPre_tables : Cert.Pre_tables.Facts] (m : (ℓ : Loc Cert.Experts1.nD Cert.Experts1.τ Cert.Experts1.sig) → Buf (Elt Bits) ℓ) : Prop :=
  ∀ c : Dev Cert.Experts1.nD,
    (Cert.Pre_tables.fn (F := Bits) (m ((c.tc : Thread Cert.Experts1.nD Cert.Experts1.τ).loc Cert.Experts1.main_arg0)) (m ((c.tc : Thread Cert.Experts1.nD Cert.Experts1.τ).loc Cert.Experts1.main_arg1)) (m ((c.tc : Thread Cert.Experts1.nD Cert.Experts1.τ).loc Cert.Experts1.main_arg2)) (m ((c.tc : Thread Cert.Experts1.nD Cert.Experts1.τ).loc Cert.Experts1.main_arg3)) (m ((c.tc : Thread Cert.Experts1.nD Cert.Experts1.τ).loc Cert.Experts1.main_arg4)) (m ((c.tc : Thread Cert.Experts1.nD Cert.Experts1.τ).loc Cert.Experts1.main_arg5)) (m ((c.tc : Thread Cert.Experts1.nD Cert.Experts1.τ).loc Cert.Experts1.main_arg6)) (m ((c.tc : Thread Cert.Experts1.nD Cert.Experts1.τ).loc Cert.Experts1.main_arg7))) = (fun _ => 1#1)

def Pre_Experts1Ideal [hPre_tables : Cert.Pre_tables.Facts] (m : (ℓ : Loc Cert.Experts1Ideal.nD Cert.Experts1Ideal.τ Cert.Experts1Ideal.sig) → Buf (Elt Ideal) ℓ) : Prop :=
  ∀ c : Dev Cert.Experts1Ideal.nD,
    (Cert.Pre_tables.fn (F := Ideal) (m ((c.tc : Thread Cert.Experts1Ideal.nD Cert.Experts1Ideal.τ).loc Cert.Experts1Ideal.main_arg0)) (m ((c.tc : Thread Cert.Experts1Ideal.nD Cert.Experts1Ideal.τ).loc Cert.Experts1Ideal.main_arg1)) (m ((c.tc : Thread Cert.Experts1Ideal.nD Cert.Experts1Ideal.τ).loc Cert.Experts1Ideal.main_arg2)) (m ((c.tc : Thread Cert.Experts1Ideal.nD Cert.Experts1Ideal.τ).loc Cert.Experts1Ideal.main_arg3)) (m ((c.tc : Thread Cert.Experts1Ideal.nD Cert.Experts1Ideal.τ).loc Cert.Experts1Ideal.main_arg4)) (m ((c.tc : Thread Cert.Experts1Ideal.nD Cert.Experts1Ideal.τ).loc Cert.Experts1Ideal.main_arg5)) (m ((c.tc : Thread Cert.Experts1Ideal.nD Cert.Experts1Ideal.τ).loc Cert.Experts1Ideal.main_arg6)) (m ((c.tc : Thread Cert.Experts1Ideal.nD Cert.Experts1Ideal.τ).loc Cert.Experts1Ideal.main_arg7))) = (fun _ => 1#1)

def Pre_ExpertsReference1Ideal (m : (ℓ : Loc Cert.ExpertsReference1Ideal.nD Cert.ExpertsReference1Ideal.τ Cert.ExpertsReference1Ideal.sig) → Buf (Elt Ideal) ℓ) : Prop :=
  True

def Pre_ExpertsReference1Ideal_tables [hPre_tables : Cert.Pre_tables.Facts] (m : (ℓ : Loc Cert.ExpertsReference1Ideal.nD Cert.ExpertsReference1Ideal.τ Cert.ExpertsReference1Ideal.sig) → Buf (Elt Ideal) ℓ) : Prop :=
  ∀ c : Dev Cert.ExpertsReference1Ideal.nD,
    (Cert.Pre_tables.fn (F := Ideal) (m ((c.tc : Thread Cert.ExpertsReference1Ideal.nD Cert.ExpertsReference1Ideal.τ).loc Cert.ExpertsReference1Ideal.main_arg0)) (m ((c.tc : Thread Cert.ExpertsReference1Ideal.nD Cert.ExpertsReference1Ideal.τ).loc Cert.ExpertsReference1Ideal.main_arg1)) (m ((c.tc : Thread Cert.ExpertsReference1Ideal.nD Cert.ExpertsReference1Ideal.τ).loc Cert.ExpertsReference1Ideal.main_arg2)) (m ((c.tc : Thread Cert.ExpertsReference1Ideal.nD Cert.ExpertsReference1Ideal.τ).loc Cert.ExpertsReference1Ideal.main_arg3)) (m ((c.tc : Thread Cert.ExpertsReference1Ideal.nD Cert.ExpertsReference1Ideal.τ).loc Cert.ExpertsReference1Ideal.main_arg4)) (m ((c.tc : Thread Cert.ExpertsReference1Ideal.nD Cert.ExpertsReference1Ideal.τ).loc Cert.ExpertsReference1Ideal.main_arg5)) (m ((c.tc : Thread Cert.ExpertsReference1Ideal.nD Cert.ExpertsReference1Ideal.τ).loc Cert.ExpertsReference1Ideal.main_arg6)) (m ((c.tc : Thread Cert.ExpertsReference1Ideal.nD Cert.ExpertsReference1Ideal.τ).loc Cert.ExpertsReference1Ideal.main_arg7))) = (fun _ => 1#1)

def Pre_Experts2 [hPre_tables : Cert.Pre_tables.Facts] (m : (ℓ : Loc Cert.Experts2.nD Cert.Experts2.τ Cert.Experts2.sig) → Buf (Elt Bits) ℓ) : Prop :=
  ∀ c : Dev Cert.Experts2.nD,
    (Cert.Pre_tables.fn (F := Bits) (m ((c.tc : Thread Cert.Experts2.nD Cert.Experts2.τ).loc Cert.Experts2.main_arg0)) (m ((c.tc : Thread Cert.Experts2.nD Cert.Experts2.τ).loc Cert.Experts2.main_arg1)) (m ((c.tc : Thread Cert.Experts2.nD Cert.Experts2.τ).loc Cert.Experts2.main_arg2)) (m ((c.tc : Thread Cert.Experts2.nD Cert.Experts2.τ).loc Cert.Experts2.main_arg3)) (m ((c.tc : Thread Cert.Experts2.nD Cert.Experts2.τ).loc Cert.Experts2.main_arg4)) (m ((c.tc : Thread Cert.Experts2.nD Cert.Experts2.τ).loc Cert.Experts2.main_arg5)) (m ((c.tc : Thread Cert.Experts2.nD Cert.Experts2.τ).loc Cert.Experts2.main_arg6)) (m ((c.tc : Thread Cert.Experts2.nD Cert.Experts2.τ).loc Cert.Experts2.main_arg7))) = (fun _ => 1#1)

def Pre_Experts2Ideal [hPre_tables : Cert.Pre_tables.Facts] (m : (ℓ : Loc Cert.Experts2Ideal.nD Cert.Experts2Ideal.τ Cert.Experts2Ideal.sig) → Buf (Elt Ideal) ℓ) : Prop :=
  ∀ c : Dev Cert.Experts2Ideal.nD,
    (Cert.Pre_tables.fn (F := Ideal) (m ((c.tc : Thread Cert.Experts2Ideal.nD Cert.Experts2Ideal.τ).loc Cert.Experts2Ideal.main_arg0)) (m ((c.tc : Thread Cert.Experts2Ideal.nD Cert.Experts2Ideal.τ).loc Cert.Experts2Ideal.main_arg1)) (m ((c.tc : Thread Cert.Experts2Ideal.nD Cert.Experts2Ideal.τ).loc Cert.Experts2Ideal.main_arg2)) (m ((c.tc : Thread Cert.Experts2Ideal.nD Cert.Experts2Ideal.τ).loc Cert.Experts2Ideal.main_arg3)) (m ((c.tc : Thread Cert.Experts2Ideal.nD Cert.Experts2Ideal.τ).loc Cert.Experts2Ideal.main_arg4)) (m ((c.tc : Thread Cert.Experts2Ideal.nD Cert.Experts2Ideal.τ).loc Cert.Experts2Ideal.main_arg5)) (m ((c.tc : Thread Cert.Experts2Ideal.nD Cert.Experts2Ideal.τ).loc Cert.Experts2Ideal.main_arg6)) (m ((c.tc : Thread Cert.Experts2Ideal.nD Cert.Experts2Ideal.τ).loc Cert.Experts2Ideal.main_arg7))) = (fun _ => 1#1)

def Pre_ExpertsReference2Ideal (m : (ℓ : Loc Cert.ExpertsReference2Ideal.nD Cert.ExpertsReference2Ideal.τ Cert.ExpertsReference2Ideal.sig) → Buf (Elt Ideal) ℓ) : Prop :=
  True

def Pre_ExpertsReference2Ideal_tables [hPre_tables : Cert.Pre_tables.Facts] (m : (ℓ : Loc Cert.ExpertsReference2Ideal.nD Cert.ExpertsReference2Ideal.τ Cert.ExpertsReference2Ideal.sig) → Buf (Elt Ideal) ℓ) : Prop :=
  ∀ c : Dev Cert.ExpertsReference2Ideal.nD,
    (Cert.Pre_tables.fn (F := Ideal) (m ((c.tc : Thread Cert.ExpertsReference2Ideal.nD Cert.ExpertsReference2Ideal.τ).loc Cert.ExpertsReference2Ideal.main_arg0)) (m ((c.tc : Thread Cert.ExpertsReference2Ideal.nD Cert.ExpertsReference2Ideal.τ).loc Cert.ExpertsReference2Ideal.main_arg1)) (m ((c.tc : Thread Cert.ExpertsReference2Ideal.nD Cert.ExpertsReference2Ideal.τ).loc Cert.ExpertsReference2Ideal.main_arg2)) (m ((c.tc : Thread Cert.ExpertsReference2Ideal.nD Cert.ExpertsReference2Ideal.τ).loc Cert.ExpertsReference2Ideal.main_arg3)) (m ((c.tc : Thread Cert.ExpertsReference2Ideal.nD Cert.ExpertsReference2Ideal.τ).loc Cert.ExpertsReference2Ideal.main_arg4)) (m ((c.tc : Thread Cert.ExpertsReference2Ideal.nD Cert.ExpertsReference2Ideal.τ).loc Cert.ExpertsReference2Ideal.main_arg5)) (m ((c.tc : Thread Cert.ExpertsReference2Ideal.nD Cert.ExpertsReference2Ideal.τ).loc Cert.ExpertsReference2Ideal.main_arg6)) (m ((c.tc : Thread Cert.ExpertsReference2Ideal.nD Cert.ExpertsReference2Ideal.τ).loc Cert.ExpertsReference2Ideal.main_arg7))) = (fun _ => 1#1)

def Pre_Experts3 [hPre_tables : Cert.Pre_tables.Facts] (m : (ℓ : Loc Cert.Experts3.nD Cert.Experts3.τ Cert.Experts3.sig) → Buf (Elt Bits) ℓ) : Prop :=
  ∀ c : Dev Cert.Experts3.nD,
    (Cert.Pre_tables.fn (F := Bits) (m ((c.tc : Thread Cert.Experts3.nD Cert.Experts3.τ).loc Cert.Experts3.main_arg0)) (m ((c.tc : Thread Cert.Experts3.nD Cert.Experts3.τ).loc Cert.Experts3.main_arg1)) (m ((c.tc : Thread Cert.Experts3.nD Cert.Experts3.τ).loc Cert.Experts3.main_arg2)) (m ((c.tc : Thread Cert.Experts3.nD Cert.Experts3.τ).loc Cert.Experts3.main_arg3)) (m ((c.tc : Thread Cert.Experts3.nD Cert.Experts3.τ).loc Cert.Experts3.main_arg4)) (m ((c.tc : Thread Cert.Experts3.nD Cert.Experts3.τ).loc Cert.Experts3.main_arg5)) (m ((c.tc : Thread Cert.Experts3.nD Cert.Experts3.τ).loc Cert.Experts3.main_arg6)) (m ((c.tc : Thread Cert.Experts3.nD Cert.Experts3.τ).loc Cert.Experts3.main_arg7))) = (fun _ => 1#1)

def Pre_Experts3Ideal [hPre_tables : Cert.Pre_tables.Facts] (m : (ℓ : Loc Cert.Experts3Ideal.nD Cert.Experts3Ideal.τ Cert.Experts3Ideal.sig) → Buf (Elt Ideal) ℓ) : Prop :=
  ∀ c : Dev Cert.Experts3Ideal.nD,
    (Cert.Pre_tables.fn (F := Ideal) (m ((c.tc : Thread Cert.Experts3Ideal.nD Cert.Experts3Ideal.τ).loc Cert.Experts3Ideal.main_arg0)) (m ((c.tc : Thread Cert.Experts3Ideal.nD Cert.Experts3Ideal.τ).loc Cert.Experts3Ideal.main_arg1)) (m ((c.tc : Thread Cert.Experts3Ideal.nD Cert.Experts3Ideal.τ).loc Cert.Experts3Ideal.main_arg2)) (m ((c.tc : Thread Cert.Experts3Ideal.nD Cert.Experts3Ideal.τ).loc Cert.Experts3Ideal.main_arg3)) (m ((c.tc : Thread Cert.Experts3Ideal.nD Cert.Experts3Ideal.τ).loc Cert.Experts3Ideal.main_arg4)) (m ((c.tc : Thread Cert.Experts3Ideal.nD Cert.Experts3Ideal.τ).loc Cert.Experts3Ideal.main_arg5)) (m ((c.tc : Thread Cert.Experts3Ideal.nD Cert.Experts3Ideal.τ).loc Cert.Experts3Ideal.main_arg6)) (m ((c.tc : Thread Cert.Experts3Ideal.nD Cert.Experts3Ideal.τ).loc Cert.Experts3Ideal.main_arg7))) = (fun _ => 1#1)

def Pre_ExpertsReference3Ideal (m : (ℓ : Loc Cert.ExpertsReference3Ideal.nD Cert.ExpertsReference3Ideal.τ Cert.ExpertsReference3Ideal.sig) → Buf (Elt Ideal) ℓ) : Prop :=
  True

def Pre_ExpertsReference3Ideal_tables [hPre_tables : Cert.Pre_tables.Facts] (m : (ℓ : Loc Cert.ExpertsReference3Ideal.nD Cert.ExpertsReference3Ideal.τ Cert.ExpertsReference3Ideal.sig) → Buf (Elt Ideal) ℓ) : Prop :=
  ∀ c : Dev Cert.ExpertsReference3Ideal.nD,
    (Cert.Pre_tables.fn (F := Ideal) (m ((c.tc : Thread Cert.ExpertsReference3Ideal.nD Cert.ExpertsReference3Ideal.τ).loc Cert.ExpertsReference3Ideal.main_arg0)) (m ((c.tc : Thread Cert.ExpertsReference3Ideal.nD Cert.ExpertsReference3Ideal.τ).loc Cert.ExpertsReference3Ideal.main_arg1)) (m ((c.tc : Thread Cert.ExpertsReference3Ideal.nD Cert.ExpertsReference3Ideal.τ).loc Cert.ExpertsReference3Ideal.main_arg2)) (m ((c.tc : Thread Cert.ExpertsReference3Ideal.nD Cert.ExpertsReference3Ideal.τ).loc Cert.ExpertsReference3Ideal.main_arg3)) (m ((c.tc : Thread Cert.ExpertsReference3Ideal.nD Cert.ExpertsReference3Ideal.τ).loc Cert.ExpertsReference3Ideal.main_arg4)) (m ((c.tc : Thread Cert.ExpertsReference3Ideal.nD Cert.ExpertsReference3Ideal.τ).loc Cert.ExpertsReference3Ideal.main_arg5)) (m ((c.tc : Thread Cert.ExpertsReference3Ideal.nD Cert.ExpertsReference3Ideal.τ).loc Cert.ExpertsReference3Ideal.main_arg6)) (m ((c.tc : Thread Cert.ExpertsReference3Ideal.nD Cert.ExpertsReference3Ideal.τ).loc Cert.ExpertsReference3Ideal.main_arg7))) = (fun _ => 1#1)

def Pre_ProjectAB (m : (ℓ : Loc Cert.ProjectAB.nD Cert.ProjectAB.τ Cert.ProjectAB.sig) → Buf (Elt Bits) ℓ) : Prop :=
  True

def Pre_ProjectABIdeal (m : (ℓ : Loc Cert.ProjectABIdeal.nD Cert.ProjectABIdeal.τ Cert.ProjectABIdeal.sig) → Buf (Elt Ideal) ℓ) : Prop :=
  True

def Pre_ProjectABReferenceIdeal (m : (ℓ : Loc Cert.ProjectABReferenceIdeal.nD Cert.ProjectABReferenceIdeal.τ Cert.ProjectABReferenceIdeal.sig) → Buf (Elt Ideal) ℓ) : Prop :=
  True

def Pre_ProjectDil (m : (ℓ : Loc Cert.ProjectDil.nD Cert.ProjectDil.τ Cert.ProjectDil.sig) → Buf (Elt Bits) ℓ) : Prop :=
  True

def Pre_ProjectDilIdeal (m : (ℓ : Loc Cert.ProjectDilIdeal.nD Cert.ProjectDilIdeal.τ Cert.ProjectDilIdeal.sig) → Buf (Elt Ideal) ℓ) : Prop :=
  True

def Pre_ProjectDilReferenceIdeal (m : (ℓ : Loc Cert.ProjectDilReferenceIdeal.nD Cert.ProjectDilReferenceIdeal.τ Cert.ProjectDilReferenceIdeal.sig) → Buf (Elt Ideal) ℓ) : Prop :=
  True

def Pre_ProjectLatent (m : (ℓ : Loc Cert.ProjectLatent.nD Cert.ProjectLatent.τ Cert.ProjectLatent.sig) → Buf (Elt Bits) ℓ) : Prop :=
  True

def Pre_ProjectLatentIdeal (m : (ℓ : Loc Cert.ProjectLatentIdeal.nD Cert.ProjectLatentIdeal.τ Cert.ProjectLatentIdeal.sig) → Buf (Elt Ideal) ℓ) : Prop :=
  True

def Pre_ProjectLatentReferenceIdeal (m : (ℓ : Loc Cert.ProjectLatentReferenceIdeal.nD Cert.ProjectLatentReferenceIdeal.τ Cert.ProjectLatentReferenceIdeal.sig) → Buf (Elt Ideal) ℓ) : Prop :=
  True

def Pre_ProjectKV (m : (ℓ : Loc Cert.ProjectKV.nD Cert.ProjectKV.τ Cert.ProjectKV.sig) → Buf (Elt Bits) ℓ) : Prop :=
  True

def Pre_ProjectKVIdeal (m : (ℓ : Loc Cert.ProjectKVIdeal.nD Cert.ProjectKVIdeal.τ Cert.ProjectKVIdeal.sig) → Buf (Elt Ideal) ℓ) : Prop :=
  True

def Pre_ProjectKVReferenceIdeal (m : (ℓ : Loc Cert.ProjectKVReferenceIdeal.nD Cert.ProjectKVReferenceIdeal.τ Cert.ProjectKVReferenceIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineReferenceIdeal (m : (ℓ : Loc Cert.CombineReferenceIdeal.nD Cert.CombineReferenceIdeal.τ Cert.CombineReferenceIdeal.sig) → Buf (Elt Ideal) ℓ) : Prop :=
  True

def Pre_CombineLast (m : (ℓ : Loc Cert.CombineLast.nD Cert.CombineLast.τ Cert.CombineLast.sig) → Buf (Elt Bits) ℓ) : Prop :=
  True

def Pre_CombineLastIdeal (m : (ℓ : Loc Cert.CombineLastIdeal.nD Cert.CombineLastIdeal.τ Cert.CombineLastIdeal.sig) → Buf (Elt Ideal) ℓ) : Prop :=
  True

def Pre_CombineLastReferenceIdeal (m : (ℓ : Loc Cert.CombineLastReferenceIdeal.nD Cert.CombineLastReferenceIdeal.τ Cert.CombineLastReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_keys [hKernelIdeal : Cert.KernelIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_keys [hReferenceIdeal : Cert.ReferenceIdeal.Facts] [hPre_finite_keys : Cert.Pre_finite_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Experts0 [hExperts0 : Cert.Experts0.Facts] [hPre_tables : Cert.Pre_tables.Facts] : Prop :=
  ∀ (m : (ℓ : Loc Cert.Experts0.nD Cert.Experts0.τ Cert.Experts0.sig) → Buf (Elt Bits) ℓ) (g : Dev Cert.Experts0.nD → PrngReg), Pre_Experts0 m →
    θ_run (Cert.Experts0.defs (F := Bits)) (onTc (τ := Cert.Experts0.τ) (Cert.Experts0.main (F := Bits))) ⟨m, fun _ => 0, g⟩ (fun r => (∀ c : Dev Cert.Experts0.nD,
      r.2.mem ((c.tc : Thread Cert.Experts0.nD Cert.Experts0.τ).loc Cert.Experts0.main_arg0) = m ((c.tc : Thread Cert.Experts0.nD Cert.Experts0.τ).loc Cert.Experts0.main_arg0)
      ∧ r.2.mem ((c.tc : Thread Cert.Experts0.nD Cert.Experts0.τ).loc Cert.Experts0.main_arg1) = m ((c.tc : Thread Cert.Experts0.nD Cert.Experts0.τ).loc Cert.Experts0.main_arg1)
      ∧ r.2.mem ((c.tc : Thread Cert.Experts0.nD Cert.Experts0.τ).loc Cert.Experts0.main_arg2) = m ((c.tc : Thread Cert.Experts0.nD Cert.Experts0.τ).loc Cert.Experts0.main_arg2)
      ∧ r.2.mem ((c.tc : Thread Cert.Experts0.nD Cert.Experts0.τ).loc Cert.Experts0.main_arg3) = m ((c.tc : Thread Cert.Experts0.nD Cert.Experts0.τ).loc Cert.Experts0.main_arg3)
      ∧ r.2.mem ((c.tc : Thread Cert.Experts0.nD Cert.Experts0.τ).loc Cert.Experts0.main_arg4) = m ((c.tc : Thread Cert.Experts0.nD Cert.Experts0.τ).loc Cert.Experts0.main_arg4)
      ∧ r.2.mem ((c.tc : Thread Cert.Experts0.nD Cert.Experts0.τ).loc Cert.Experts0.main_arg5) = m ((c.tc : Thread Cert.Experts0.nD Cert.Experts0.τ).loc Cert.Experts0.main_arg5)
      ∧ r.2.mem ((c.tc : Thread Cert.Experts0.nD Cert.Experts0.τ).loc Cert.Experts0.main_arg6) = m ((c.tc : Thread Cert.Experts0.nD Cert.Experts0.τ).loc Cert.Experts0.main_arg6)
      ∧ r.2.mem ((c.tc : Thread Cert.Experts0.nD Cert.Experts0.τ).loc Cert.Experts0.main_arg7) = m ((c.tc : Thread Cert.Experts0.nD Cert.Experts0.τ).loc Cert.Experts0.main_arg7))
      ∧ r.2.sem = fun _ => 0)

def quiescent_Experts0Ideal [hExperts0Ideal : Cert.Experts0Ideal.Facts] [hPre_tables : Cert.Pre_tables.Facts] : Prop :=
  ∀ (m : (ℓ : Loc Cert.Experts0Ideal.nD Cert.Experts0Ideal.τ Cert.Experts0Ideal.sig) → Buf (Elt Ideal) ℓ) (g : Dev Cert.Experts0Ideal.nD → PrngReg), Pre_Experts0Ideal m →
    θ_run (Cert.Experts0Ideal.defs (F := Ideal)) (onTc (τ := Cert.Experts0Ideal.τ) (Cert.Experts0Ideal.main (F := Ideal))) ⟨m, fun _ => 0, g⟩ (fun r => (∀ c : Dev Cert.Experts0Ideal.nD,
      r.2.mem ((c.tc : Thread Cert.Experts0Ideal.nD Cert.Experts0Ideal.τ).loc Cert.Experts0Ideal.main_arg0) = m ((c.tc : Thread Cert.Experts0Ideal.nD Cert.Experts0Ideal.τ).loc Cert.Experts0Ideal.main_arg0)
      ∧ r.2.mem ((c.tc : Thread Cert.Experts0Ideal.nD Cert.Experts0Ideal.τ).loc Cert.Experts0Ideal.main_arg1) = m ((c.tc : Thread Cert.Experts0Ideal.nD Cert.Experts0Ideal.τ).loc Cert.Experts0Ideal.main_arg1)
      ∧ r.2.mem ((c.tc : Thread Cert.Experts0Ideal.nD Cert.Experts0Ideal.τ).loc Cert.Experts0Ideal.main_arg2) = m ((c.tc : Thread Cert.Experts0Ideal.nD Cert.Experts0Ideal.τ).loc Cert.Experts0Ideal.main_arg2)
      ∧ r.2.mem ((c.tc : Thread Cert.Experts0Ideal.nD Cert.Experts0Ideal.τ).loc Cert.Experts0Ideal.main_arg3) = m ((c.tc : Thread Cert.Experts0Ideal.nD Cert.Experts0Ideal.τ).loc Cert.Experts0Ideal.main_arg3)
      ∧ r.2.mem ((c.tc : Thread Cert.Experts0Ideal.nD Cert.Experts0Ideal.τ).loc Cert.Experts0Ideal.main_arg4) = m ((c.tc : Thread Cert.Experts0Ideal.nD Cert.Experts0Ideal.τ).loc Cert.Experts0Ideal.main_arg4)
      ∧ r.2.mem ((c.tc : Thread Cert.Experts0Ideal.nD Cert.Experts0Ideal.τ).loc Cert.Experts0Ideal.main_arg5) = m ((c.tc : Thread Cert.Experts0Ideal.nD Cert.Experts0Ideal.τ).loc Cert.Experts0Ideal.main_arg5)
      ∧ r.2.mem ((c.tc : Thread Cert.Experts0Ideal.nD Cert.Experts0Ideal.τ).loc Cert.Experts0Ideal.main_arg6) = m ((c.tc : Thread Cert.Experts0Ideal.nD Cert.Experts0Ideal.τ).loc Cert.Experts0Ideal.main_arg6)
      ∧ r.2.mem ((c.tc : Thread Cert.Experts0Ideal.nD Cert.Experts0Ideal.τ).loc Cert.Experts0Ideal.main_arg7) = m ((c.tc : Thread Cert.Experts0Ideal.nD Cert.Experts0Ideal.τ).loc Cert.Experts0Ideal.main_arg7))
      ∧ r.2.sem = fun _ => 0)

def quiescent_ExpertsReference0Ideal [hExpertsReference0Ideal : Cert.ExpertsReference0Ideal.Facts] : Prop :=
  ∀ (m : (ℓ : Loc Cert.ExpertsReference0Ideal.nD Cert.ExpertsReference0Ideal.τ Cert.ExpertsReference0Ideal.sig) → Buf (Elt Ideal) ℓ) (g : Dev Cert.ExpertsReference0Ideal.nD → PrngReg), Pre_ExpertsReference0Ideal m →
    θ_run (Cert.ExpertsReference0Ideal.defs (F := Ideal)) (onTc (τ := Cert.ExpertsReference0Ideal.τ) (Cert.ExpertsReference0Ideal.main (F := Ideal))) ⟨m, fun _ => 0, g⟩ (fun r => (∀ c : Dev Cert.ExpertsReference0Ideal.nD,
      r.2.mem ((c.tc : Thread Cert.ExpertsReference0Ideal.nD Cert.ExpertsReference0Ideal.τ).loc Cert.ExpertsReference0Ideal.main_arg0) = m ((c.tc : Thread Cert.ExpertsReference0Ideal.nD Cert.ExpertsReference0Ideal.τ).loc Cert.ExpertsReference0Ideal.main_arg0)
      ∧ r.2.mem ((c.tc : Thread Cert.ExpertsReference0Ideal.nD Cert.ExpertsReference0Ideal.τ).loc Cert.ExpertsReference0Ideal.main_arg1) = m ((c.tc : Thread Cert.ExpertsReference0Ideal.nD Cert.ExpertsReference0Ideal.τ).loc Cert.ExpertsReference0Ideal.main_arg1)
      ∧ r.2.mem ((c.tc : Thread Cert.ExpertsReference0Ideal.nD Cert.ExpertsReference0Ideal.τ).loc Cert.ExpertsReference0Ideal.main_arg2) = m ((c.tc : Thread Cert.ExpertsReference0Ideal.nD Cert.ExpertsReference0Ideal.τ).loc Cert.ExpertsReference0Ideal.main_arg2)
      ∧ r.2.mem ((c.tc : Thread Cert.ExpertsReference0Ideal.nD Cert.ExpertsReference0Ideal.τ).loc Cert.ExpertsReference0Ideal.main_arg3) = m ((c.tc : Thread Cert.ExpertsReference0Ideal.nD Cert.ExpertsReference0Ideal.τ).loc Cert.ExpertsReference0Ideal.main_arg3)
      ∧ r.2.mem ((c.tc : Thread Cert.ExpertsReference0Ideal.nD Cert.ExpertsReference0Ideal.τ).loc Cert.ExpertsReference0Ideal.main_arg4) = m ((c.tc : Thread Cert.ExpertsReference0Ideal.nD Cert.ExpertsReference0Ideal.τ).loc Cert.ExpertsReference0Ideal.main_arg4)
      ∧ r.2.mem ((c.tc : Thread Cert.ExpertsReference0Ideal.nD Cert.ExpertsReference0Ideal.τ).loc Cert.ExpertsReference0Ideal.main_arg5) = m ((c.tc : Thread Cert.ExpertsReference0Ideal.nD Cert.ExpertsReference0Ideal.τ).loc Cert.ExpertsReference0Ideal.main_arg5)
      ∧ r.2.mem ((c.tc : Thread Cert.ExpertsReference0Ideal.nD Cert.ExpertsReference0Ideal.τ).loc Cert.ExpertsReference0Ideal.main_arg6) = m ((c.tc : Thread Cert.ExpertsReference0Ideal.nD Cert.ExpertsReference0Ideal.τ).loc Cert.ExpertsReference0Ideal.main_arg6)
      ∧ r.2.mem ((c.tc : Thread Cert.ExpertsReference0Ideal.nD Cert.ExpertsReference0Ideal.τ).loc Cert.ExpertsReference0Ideal.main_arg7) = m ((c.tc : Thread Cert.ExpertsReference0Ideal.nD Cert.ExpertsReference0Ideal.τ).loc Cert.ExpertsReference0Ideal.main_arg7))
      ∧ r.2.sem = fun _ => 0)

def quiescent_ExpertsReference0Ideal_pre_tables [hExpertsReference0Ideal : Cert.ExpertsReference0Ideal.Facts] [hPre_tables : Cert.Pre_tables.Facts] : Prop :=
  ∀ (m : (ℓ : Loc Cert.ExpertsReference0Ideal.nD Cert.ExpertsReference0Ideal.τ Cert.ExpertsReference0Ideal.sig) → Buf (Elt Ideal) ℓ) (g : Dev Cert.ExpertsReference0Ideal.nD → PrngReg), Pre_ExpertsReference0Ideal_tables m →
    θ_run (Cert.ExpertsReference0Ideal.defs (F := Ideal)) (onTc (τ := Cert.ExpertsReference0Ideal.τ) (Cert.ExpertsReference0Ideal.main (F := Ideal))) ⟨m, fun _ => 0, g⟩ (fun r => (∀ c : Dev Cert.ExpertsReference0Ideal.nD,
      r.2.mem ((c.tc : Thread Cert.ExpertsReference0Ideal.nD Cert.ExpertsReference0Ideal.τ).loc Cert.ExpertsReference0Ideal.main_arg0) = m ((c.tc : Thread Cert.ExpertsReference0Ideal.nD Cert.ExpertsReference0Ideal.τ).loc Cert.ExpertsReference0Ideal.main_arg0)
      ∧ r.2.mem ((c.tc : Thread Cert.ExpertsReference0Ideal.nD Cert.ExpertsReference0Ideal.τ).loc Cert.ExpertsReference0Ideal.main_arg1) = m ((c.tc : Thread Cert.ExpertsReference0Ideal.nD Cert.ExpertsReference0Ideal.τ).loc Cert.ExpertsReference0Ideal.main_arg1)
      ∧ r.2.mem ((c.tc : Thread Cert.ExpertsReference0Ideal.nD Cert.ExpertsReference0Ideal.τ).loc Cert.ExpertsReference0Ideal.main_arg2) = m ((c.tc : Thread Cert.ExpertsReference0Ideal.nD Cert.ExpertsReference0Ideal.τ).loc Cert.ExpertsReference0Ideal.main_arg2)
      ∧ r.2.mem ((c.tc : Thread Cert.ExpertsReference0Ideal.nD Cert.ExpertsReference0Ideal.τ).loc Cert.ExpertsReference0Ideal.main_arg3) = m ((c.tc : Thread Cert.ExpertsReference0Ideal.nD Cert.ExpertsReference0Ideal.τ).loc Cert.ExpertsReference0Ideal.main_arg3)
      ∧ r.2.mem ((c.tc : Thread Cert.ExpertsReference0Ideal.nD Cert.ExpertsReference0Ideal.τ).loc Cert.ExpertsReference0Ideal.main_arg4) = m ((c.tc : Thread Cert.ExpertsReference0Ideal.nD Cert.ExpertsReference0Ideal.τ).loc Cert.ExpertsReference0Ideal.main_arg4)
      ∧ r.2.mem ((c.tc : Thread Cert.ExpertsReference0Ideal.nD Cert.ExpertsReference0Ideal.τ).loc Cert.ExpertsReference0Ideal.main_arg5) = m ((c.tc : Thread Cert.ExpertsReference0Ideal.nD Cert.ExpertsReference0Ideal.τ).loc Cert.ExpertsReference0Ideal.main_arg5)
      ∧ r.2.mem ((c.tc : Thread Cert.ExpertsReference0Ideal.nD Cert.ExpertsReference0Ideal.τ).loc Cert.ExpertsReference0Ideal.main_arg6) = m ((c.tc : Thread Cert.ExpertsReference0Ideal.nD Cert.ExpertsReference0Ideal.τ).loc Cert.ExpertsReference0Ideal.main_arg6)
      ∧ r.2.mem ((c.tc : Thread Cert.ExpertsReference0Ideal.nD Cert.ExpertsReference0Ideal.τ).loc Cert.ExpertsReference0Ideal.main_arg7) = m ((c.tc : Thread Cert.ExpertsReference0Ideal.nD Cert.ExpertsReference0Ideal.τ).loc Cert.ExpertsReference0Ideal.main_arg7))
      ∧ r.2.sem = fun _ => 0)

def quiescent_Experts1 [hExperts1 : Cert.Experts1.Facts] [hPre_tables : Cert.Pre_tables.Facts] : Prop :=
  ∀ (m : (ℓ : Loc Cert.Experts1.nD Cert.Experts1.τ Cert.Experts1.sig) → Buf (Elt Bits) ℓ) (g : Dev Cert.Experts1.nD → PrngReg), Pre_Experts1 m →
    θ_run (Cert.Experts1.defs (F := Bits)) (onTc (τ := Cert.Experts1.τ) (Cert.Experts1.main (F := Bits))) ⟨m, fun _ => 0, g⟩ (fun r => (∀ c : Dev Cert.Experts1.nD,
      r.2.mem ((c.tc : Thread Cert.Experts1.nD Cert.Experts1.τ).loc Cert.Experts1.main_arg0) = m ((c.tc : Thread Cert.Experts1.nD Cert.Experts1.τ).loc Cert.Experts1.main_arg0)
      ∧ r.2.mem ((c.tc : Thread Cert.Experts1.nD Cert.Experts1.τ).loc Cert.Experts1.main_arg1) = m ((c.tc : Thread Cert.Experts1.nD Cert.Experts1.τ).loc Cert.Experts1.main_arg1)
      ∧ r.2.mem ((c.tc : Thread Cert.Experts1.nD Cert.Experts1.τ).loc Cert.Experts1.main_arg2) = m ((c.tc : Thread Cert.Experts1.nD Cert.Experts1.τ).loc Cert.Experts1.main_arg2)
      ∧ r.2.mem ((c.tc : Thread Cert.Experts1.nD Cert.Experts1.τ).loc Cert.Experts1.main_arg3) = m ((c.tc : Thread Cert.Experts1.nD Cert.Experts1.τ).loc Cert.Experts1.main_arg3)
      ∧ r.2.mem ((c.tc : Thread Cert.Experts1.nD Cert.Experts1.τ).loc Cert.Experts1.main_arg4) = m ((c.tc : Thread Cert.Experts1.nD Cert.Experts1.τ).loc Cert.Experts1.main_arg4)
      ∧ r.2.mem ((c.tc : Thread Cert.Experts1.nD Cert.Experts1.τ).loc Cert.Experts1.main_arg5) = m ((c.tc : Thread Cert.Experts1.nD Cert.Experts1.τ).loc Cert.Experts1.main_arg5)
      ∧ r.2.mem ((c.tc : Thread Cert.Experts1.nD Cert.Experts1.τ).loc Cert.Experts1.main_arg6) = m ((c.tc : Thread Cert.Experts1.nD Cert.Experts1.τ).loc Cert.Experts1.main_arg6)
      ∧ r.2.mem ((c.tc : Thread Cert.Experts1.nD Cert.Experts1.τ).loc Cert.Experts1.main_arg7) = m ((c.tc : Thread Cert.Experts1.nD Cert.Experts1.τ).loc Cert.Experts1.main_arg7))
      ∧ r.2.sem = fun _ => 0)

def quiescent_Experts1Ideal [hExperts1Ideal : Cert.Experts1Ideal.Facts] [hPre_tables : Cert.Pre_tables.Facts] : Prop :=
  ∀ (m : (ℓ : Loc Cert.Experts1Ideal.nD Cert.Experts1Ideal.τ Cert.Experts1Ideal.sig) → Buf (Elt Ideal) ℓ) (g : Dev Cert.Experts1Ideal.nD → PrngReg), Pre_Experts1Ideal m →
    θ_run (Cert.Experts1Ideal.defs (F := Ideal)) (onTc (τ := Cert.Experts1Ideal.τ) (Cert.Experts1Ideal.main (F := Ideal))) ⟨m, fun _ => 0, g⟩ (fun r => (∀ c : Dev Cert.Experts1Ideal.nD,
      r.2.mem ((c.tc : Thread Cert.Experts1Ideal.nD Cert.Experts1Ideal.τ).loc Cert.Experts1Ideal.main_arg0) = m ((c.tc : Thread Cert.Experts1Ideal.nD Cert.Experts1Ideal.τ).loc Cert.Experts1Ideal.main_arg0)
      ∧ r.2.mem ((c.tc : Thread Cert.Experts1Ideal.nD Cert.Experts1Ideal.τ).loc Cert.Experts1Ideal.main_arg1) = m ((c.tc : Thread Cert.Experts1Ideal.nD Cert.Experts1Ideal.τ).loc Cert.Experts1Ideal.main_arg1)
      ∧ r.2.mem ((c.tc : Thread Cert.Experts1Ideal.nD Cert.Experts1Ideal.τ).loc Cert.Experts1Ideal.main_arg2) = m ((c.tc : Thread Cert.Experts1Ideal.nD Cert.Experts1Ideal.τ).loc Cert.Experts1Ideal.main_arg2)
      ∧ r.2.mem ((c.tc : Thread Cert.Experts1Ideal.nD Cert.Experts1Ideal.τ).loc Cert.Experts1Ideal.main_arg3) = m ((c.tc : Thread Cert.Experts1Ideal.nD Cert.Experts1Ideal.τ).loc Cert.Experts1Ideal.main_arg3)
      ∧ r.2.mem ((c.tc : Thread Cert.Experts1Ideal.nD Cert.Experts1Ideal.τ).loc Cert.Experts1Ideal.main_arg4) = m ((c.tc : Thread Cert.Experts1Ideal.nD Cert.Experts1Ideal.τ).loc Cert.Experts1Ideal.main_arg4)
      ∧ r.2.mem ((c.tc : Thread Cert.Experts1Ideal.nD Cert.Experts1Ideal.τ).loc Cert.Experts1Ideal.main_arg5) = m ((c.tc : Thread Cert.Experts1Ideal.nD Cert.Experts1Ideal.τ).loc Cert.Experts1Ideal.main_arg5)
      ∧ r.2.mem ((c.tc : Thread Cert.Experts1Ideal.nD Cert.Experts1Ideal.τ).loc Cert.Experts1Ideal.main_arg6) = m ((c.tc : Thread Cert.Experts1Ideal.nD Cert.Experts1Ideal.τ).loc Cert.Experts1Ideal.main_arg6)
      ∧ r.2.mem ((c.tc : Thread Cert.Experts1Ideal.nD Cert.Experts1Ideal.τ).loc Cert.Experts1Ideal.main_arg7) = m ((c.tc : Thread Cert.Experts1Ideal.nD Cert.Experts1Ideal.τ).loc Cert.Experts1Ideal.main_arg7))
      ∧ r.2.sem = fun _ => 0)

def quiescent_ExpertsReference1Ideal [hExpertsReference1Ideal : Cert.ExpertsReference1Ideal.Facts] : Prop :=
  ∀ (m : (ℓ : Loc Cert.ExpertsReference1Ideal.nD Cert.ExpertsReference1Ideal.τ Cert.ExpertsReference1Ideal.sig) → Buf (Elt Ideal) ℓ) (g : Dev Cert.ExpertsReference1Ideal.nD → PrngReg), Pre_ExpertsReference1Ideal m →
    θ_run (Cert.ExpertsReference1Ideal.defs (F := Ideal)) (onTc (τ := Cert.ExpertsReference1Ideal.τ) (Cert.ExpertsReference1Ideal.main (F := Ideal))) ⟨m, fun _ => 0, g⟩ (fun r => (∀ c : Dev Cert.ExpertsReference1Ideal.nD,
      r.2.mem ((c.tc : Thread Cert.ExpertsReference1Ideal.nD Cert.ExpertsReference1Ideal.τ).loc Cert.ExpertsReference1Ideal.main_arg0) = m ((c.tc : Thread Cert.ExpertsReference1Ideal.nD Cert.ExpertsReference1Ideal.τ).loc Cert.ExpertsReference1Ideal.main_arg0)
      ∧ r.2.mem ((c.tc : Thread Cert.ExpertsReference1Ideal.nD Cert.ExpertsReference1Ideal.τ).loc Cert.ExpertsReference1Ideal.main_arg1) = m ((c.tc : Thread Cert.ExpertsReference1Ideal.nD Cert.ExpertsReference1Ideal.τ).loc Cert.ExpertsReference1Ideal.main_arg1)
      ∧ r.2.mem ((c.tc : Thread Cert.ExpertsReference1Ideal.nD Cert.ExpertsReference1Ideal.τ).loc Cert.ExpertsReference1Ideal.main_arg2) = m ((c.tc : Thread Cert.ExpertsReference1Ideal.nD Cert.ExpertsReference1Ideal.τ).loc Cert.ExpertsReference1Ideal.main_arg2)
      ∧ r.2.mem ((c.tc : Thread Cert.ExpertsReference1Ideal.nD Cert.ExpertsReference1Ideal.τ).loc Cert.ExpertsReference1Ideal.main_arg3) = m ((c.tc : Thread Cert.ExpertsReference1Ideal.nD Cert.ExpertsReference1Ideal.τ).loc Cert.ExpertsReference1Ideal.main_arg3)
      ∧ r.2.mem ((c.tc : Thread Cert.ExpertsReference1Ideal.nD Cert.ExpertsReference1Ideal.τ).loc Cert.ExpertsReference1Ideal.main_arg4) = m ((c.tc : Thread Cert.ExpertsReference1Ideal.nD Cert.ExpertsReference1Ideal.τ).loc Cert.ExpertsReference1Ideal.main_arg4)
      ∧ r.2.mem ((c.tc : Thread Cert.ExpertsReference1Ideal.nD Cert.ExpertsReference1Ideal.τ).loc Cert.ExpertsReference1Ideal.main_arg5) = m ((c.tc : Thread Cert.ExpertsReference1Ideal.nD Cert.ExpertsReference1Ideal.τ).loc Cert.ExpertsReference1Ideal.main_arg5)
      ∧ r.2.mem ((c.tc : Thread Cert.ExpertsReference1Ideal.nD Cert.ExpertsReference1Ideal.τ).loc Cert.ExpertsReference1Ideal.main_arg6) = m ((c.tc : Thread Cert.ExpertsReference1Ideal.nD Cert.ExpertsReference1Ideal.τ).loc Cert.ExpertsReference1Ideal.main_arg6)
      ∧ r.2.mem ((c.tc : Thread Cert.ExpertsReference1Ideal.nD Cert.ExpertsReference1Ideal.τ).loc Cert.ExpertsReference1Ideal.main_arg7) = m ((c.tc : Thread Cert.ExpertsReference1Ideal.nD Cert.ExpertsReference1Ideal.τ).loc Cert.ExpertsReference1Ideal.main_arg7))
      ∧ r.2.sem = fun _ => 0)

def quiescent_ExpertsReference1Ideal_pre_tables [hExpertsReference1Ideal : Cert.ExpertsReference1Ideal.Facts] [hPre_tables : Cert.Pre_tables.Facts] : Prop :=
  ∀ (m : (ℓ : Loc Cert.ExpertsReference1Ideal.nD Cert.ExpertsReference1Ideal.τ Cert.ExpertsReference1Ideal.sig) → Buf (Elt Ideal) ℓ) (g : Dev Cert.ExpertsReference1Ideal.nD → PrngReg), Pre_ExpertsReference1Ideal_tables m →
    θ_run (Cert.ExpertsReference1Ideal.defs (F := Ideal)) (onTc (τ := Cert.ExpertsReference1Ideal.τ) (Cert.ExpertsReference1Ideal.main (F := Ideal))) ⟨m, fun _ => 0, g⟩ (fun r => (∀ c : Dev Cert.ExpertsReference1Ideal.nD,
      r.2.mem ((c.tc : Thread Cert.ExpertsReference1Ideal.nD Cert.ExpertsReference1Ideal.τ).loc Cert.ExpertsReference1Ideal.main_arg0) = m ((c.tc : Thread Cert.ExpertsReference1Ideal.nD Cert.ExpertsReference1Ideal.τ).loc Cert.ExpertsReference1Ideal.main_arg0)
      ∧ r.2.mem ((c.tc : Thread Cert.ExpertsReference1Ideal.nD Cert.ExpertsReference1Ideal.τ).loc Cert.ExpertsReference1Ideal.main_arg1) = m ((c.tc : Thread Cert.ExpertsReference1Ideal.nD Cert.ExpertsReference1Ideal.τ).loc Cert.ExpertsReference1Ideal.main_arg1)
      ∧ r.2.mem ((c.tc : Thread Cert.ExpertsReference1Ideal.nD Cert.ExpertsReference1Ideal.τ).loc Cert.ExpertsReference1Ideal.main_arg2) = m ((c.tc : Thread Cert.ExpertsReference1Ideal.nD Cert.ExpertsReference1Ideal.τ).loc Cert.ExpertsReference1Ideal.main_arg2)
      ∧ r.2.mem ((c.tc : Thread Cert.ExpertsReference1Ideal.nD Cert.ExpertsReference1Ideal.τ).loc Cert.ExpertsReference1Ideal.main_arg3) = m ((c.tc : Thread Cert.ExpertsReference1Ideal.nD Cert.ExpertsReference1Ideal.τ).loc Cert.ExpertsReference1Ideal.main_arg3)
      ∧ r.2.mem ((c.tc : Thread Cert.ExpertsReference1Ideal.nD Cert.ExpertsReference1Ideal.τ).loc Cert.ExpertsReference1Ideal.main_arg4) = m ((c.tc : Thread Cert.ExpertsReference1Ideal.nD Cert.ExpertsReference1Ideal.τ).loc Cert.ExpertsReference1Ideal.main_arg4)
      ∧ r.2.mem ((c.tc : Thread Cert.ExpertsReference1Ideal.nD Cert.ExpertsReference1Ideal.τ).loc Cert.ExpertsReference1Ideal.main_arg5) = m ((c.tc : Thread Cert.ExpertsReference1Ideal.nD Cert.ExpertsReference1Ideal.τ).loc Cert.ExpertsReference1Ideal.main_arg5)
      ∧ r.2.mem ((c.tc : Thread Cert.ExpertsReference1Ideal.nD Cert.ExpertsReference1Ideal.τ).loc Cert.ExpertsReference1Ideal.main_arg6) = m ((c.tc : Thread Cert.ExpertsReference1Ideal.nD Cert.ExpertsReference1Ideal.τ).loc Cert.ExpertsReference1Ideal.main_arg6)
      ∧ r.2.mem ((c.tc : Thread Cert.ExpertsReference1Ideal.nD Cert.ExpertsReference1Ideal.τ).loc Cert.ExpertsReference1Ideal.main_arg7) = m ((c.tc : Thread Cert.ExpertsReference1Ideal.nD Cert.ExpertsReference1Ideal.τ).loc Cert.ExpertsReference1Ideal.main_arg7))
      ∧ r.2.sem = fun _ => 0)

def quiescent_Experts2 [hExperts2 : Cert.Experts2.Facts] [hPre_tables : Cert.Pre_tables.Facts] : Prop :=
  ∀ (m : (ℓ : Loc Cert.Experts2.nD Cert.Experts2.τ Cert.Experts2.sig) → Buf (Elt Bits) ℓ) (g : Dev Cert.Experts2.nD → PrngReg), Pre_Experts2 m →
    θ_run (Cert.Experts2.defs (F := Bits)) (onTc (τ := Cert.Experts2.τ) (Cert.Experts2.main (F := Bits))) ⟨m, fun _ => 0, g⟩ (fun r => (∀ c : Dev Cert.Experts2.nD,
      r.2.mem ((c.tc : Thread Cert.Experts2.nD Cert.Experts2.τ).loc Cert.Experts2.main_arg0) = m ((c.tc : Thread Cert.Experts2.nD Cert.Experts2.τ).loc Cert.Experts2.main_arg0)
      ∧ r.2.mem ((c.tc : Thread Cert.Experts2.nD Cert.Experts2.τ).loc Cert.Experts2.main_arg1) = m ((c.tc : Thread Cert.Experts2.nD Cert.Experts2.τ).loc Cert.Experts2.main_arg1)
      ∧ r.2.mem ((c.tc : Thread Cert.Experts2.nD Cert.Experts2.τ).loc Cert.Experts2.main_arg2) = m ((c.tc : Thread Cert.Experts2.nD Cert.Experts2.τ).loc Cert.Experts2.main_arg2)
      ∧ r.2.mem ((c.tc : Thread Cert.Experts2.nD Cert.Experts2.τ).loc Cert.Experts2.main_arg3) = m ((c.tc : Thread Cert.Experts2.nD Cert.Experts2.τ).loc Cert.Experts2.main_arg3)
      ∧ r.2.mem ((c.tc : Thread Cert.Experts2.nD Cert.Experts2.τ).loc Cert.Experts2.main_arg4) = m ((c.tc : Thread Cert.Experts2.nD Cert.Experts2.τ).loc Cert.Experts2.main_arg4)
      ∧ r.2.mem ((c.tc : Thread Cert.Experts2.nD Cert.Experts2.τ).loc Cert.Experts2.main_arg5) = m ((c.tc : Thread Cert.Experts2.nD Cert.Experts2.τ).loc Cert.Experts2.main_arg5)
      ∧ r.2.mem ((c.tc : Thread Cert.Experts2.nD Cert.Experts2.τ).loc Cert.Experts2.main_arg6) = m ((c.tc : Thread Cert.Experts2.nD Cert.Experts2.τ).loc Cert.Experts2.main_arg6)
      ∧ r.2.mem ((c.tc : Thread Cert.Experts2.nD Cert.Experts2.τ).loc Cert.Experts2.main_arg7) = m ((c.tc : Thread Cert.Experts2.nD Cert.Experts2.τ).loc Cert.Experts2.main_arg7))
      ∧ r.2.sem = fun _ => 0)

def quiescent_Experts2Ideal [hExperts2Ideal : Cert.Experts2Ideal.Facts] [hPre_tables : Cert.Pre_tables.Facts] : Prop :=
  ∀ (m : (ℓ : Loc Cert.Experts2Ideal.nD Cert.Experts2Ideal.τ Cert.Experts2Ideal.sig) → Buf (Elt Ideal) ℓ) (g : Dev Cert.Experts2Ideal.nD → PrngReg), Pre_Experts2Ideal m →
    θ_run (Cert.Experts2Ideal.defs (F := Ideal)) (onTc (τ := Cert.Experts2Ideal.τ) (Cert.Experts2Ideal.main (F := Ideal))) ⟨m, fun _ => 0, g⟩ (fun r => (∀ c : Dev Cert.Experts2Ideal.nD,
      r.2.mem ((c.tc : Thread Cert.Experts2Ideal.nD Cert.Experts2Ideal.τ).loc Cert.Experts2Ideal.main_arg0) = m ((c.tc : Thread Cert.Experts2Ideal.nD Cert.Experts2Ideal.τ).loc Cert.Experts2Ideal.main_arg0)
      ∧ r.2.mem ((c.tc : Thread Cert.Experts2Ideal.nD Cert.Experts2Ideal.τ).loc Cert.Experts2Ideal.main_arg1) = m ((c.tc : Thread Cert.Experts2Ideal.nD Cert.Experts2Ideal.τ).loc Cert.Experts2Ideal.main_arg1)
      ∧ r.2.mem ((c.tc : Thread Cert.Experts2Ideal.nD Cert.Experts2Ideal.τ).loc Cert.Experts2Ideal.main_arg2) = m ((c.tc : Thread Cert.Experts2Ideal.nD Cert.Experts2Ideal.τ).loc Cert.Experts2Ideal.main_arg2)
      ∧ r.2.mem ((c.tc : Thread Cert.Experts2Ideal.nD Cert.Experts2Ideal.τ).loc Cert.Experts2Ideal.main_arg3) = m ((c.tc : Thread Cert.Experts2Ideal.nD Cert.Experts2Ideal.τ).loc Cert.Experts2Ideal.main_arg3)
      ∧ r.2.mem ((c.tc : Thread Cert.Experts2Ideal.nD Cert.Experts2Ideal.τ).loc Cert.Experts2Ideal.main_arg4) = m ((c.tc : Thread Cert.Experts2Ideal.nD Cert.Experts2Ideal.τ).loc Cert.Experts2Ideal.main_arg4)
      ∧ r.2.mem ((c.tc : Thread Cert.Experts2Ideal.nD Cert.Experts2Ideal.τ).loc Cert.Experts2Ideal.main_arg5) = m ((c.tc : Thread Cert.Experts2Ideal.nD Cert.Experts2Ideal.τ).loc Cert.Experts2Ideal.main_arg5)
      ∧ r.2.mem ((c.tc : Thread Cert.Experts2Ideal.nD Cert.Experts2Ideal.τ).loc Cert.Experts2Ideal.main_arg6) = m ((c.tc : Thread Cert.Experts2Ideal.nD Cert.Experts2Ideal.τ).loc Cert.Experts2Ideal.main_arg6)
      ∧ r.2.mem ((c.tc : Thread Cert.Experts2Ideal.nD Cert.Experts2Ideal.τ).loc Cert.Experts2Ideal.main_arg7) = m ((c.tc : Thread Cert.Experts2Ideal.nD Cert.Experts2Ideal.τ).loc Cert.Experts2Ideal.main_arg7))
      ∧ r.2.sem = fun _ => 0)

def quiescent_ExpertsReference2Ideal [hExpertsReference2Ideal : Cert.ExpertsReference2Ideal.Facts] : Prop :=
  ∀ (m : (ℓ : Loc Cert.ExpertsReference2Ideal.nD Cert.ExpertsReference2Ideal.τ Cert.ExpertsReference2Ideal.sig) → Buf (Elt Ideal) ℓ) (g : Dev Cert.ExpertsReference2Ideal.nD → PrngReg), Pre_ExpertsReference2Ideal m →
    θ_run (Cert.ExpertsReference2Ideal.defs (F := Ideal)) (onTc (τ := Cert.ExpertsReference2Ideal.τ) (Cert.ExpertsReference2Ideal.main (F := Ideal))) ⟨m, fun _ => 0, g⟩ (fun r => (∀ c : Dev Cert.ExpertsReference2Ideal.nD,
      r.2.mem ((c.tc : Thread Cert.ExpertsReference2Ideal.nD Cert.ExpertsReference2Ideal.τ).loc Cert.ExpertsReference2Ideal.main_arg0) = m ((c.tc : Thread Cert.ExpertsReference2Ideal.nD Cert.ExpertsReference2Ideal.τ).loc Cert.ExpertsReference2Ideal.main_arg0)
      ∧ r.2.mem ((c.tc : Thread Cert.ExpertsReference2Ideal.nD Cert.ExpertsReference2Ideal.τ).loc Cert.ExpertsReference2Ideal.main_arg1) = m ((c.tc : Thread Cert.ExpertsReference2Ideal.nD Cert.ExpertsReference2Ideal.τ).loc Cert.ExpertsReference2Ideal.main_arg1)
      ∧ r.2.mem ((c.tc : Thread Cert.ExpertsReference2Ideal.nD Cert.ExpertsReference2Ideal.τ).loc Cert.ExpertsReference2Ideal.main_arg2) = m ((c.tc : Thread Cert.ExpertsReference2Ideal.nD Cert.ExpertsReference2Ideal.τ).loc Cert.ExpertsReference2Ideal.main_arg2)
      ∧ r.2.mem ((c.tc : Thread Cert.ExpertsReference2Ideal.nD Cert.ExpertsReference2Ideal.τ).loc Cert.ExpertsReference2Ideal.main_arg3) = m ((c.tc : Thread Cert.ExpertsReference2Ideal.nD Cert.ExpertsReference2Ideal.τ).loc Cert.ExpertsReference2Ideal.main_arg3)
      ∧ r.2.mem ((c.tc : Thread Cert.ExpertsReference2Ideal.nD Cert.ExpertsReference2Ideal.τ).loc Cert.ExpertsReference2Ideal.main_arg4) = m ((c.tc : Thread Cert.ExpertsReference2Ideal.nD Cert.ExpertsReference2Ideal.τ).loc Cert.ExpertsReference2Ideal.main_arg4)
      ∧ r.2.mem ((c.tc : Thread Cert.ExpertsReference2Ideal.nD Cert.ExpertsReference2Ideal.τ).loc Cert.ExpertsReference2Ideal.main_arg5) = m ((c.tc : Thread Cert.ExpertsReference2Ideal.nD Cert.ExpertsReference2Ideal.τ).loc Cert.ExpertsReference2Ideal.main_arg5)
      ∧ r.2.mem ((c.tc : Thread Cert.ExpertsReference2Ideal.nD Cert.ExpertsReference2Ideal.τ).loc Cert.ExpertsReference2Ideal.main_arg6) = m ((c.tc : Thread Cert.ExpertsReference2Ideal.nD Cert.ExpertsReference2Ideal.τ).loc Cert.ExpertsReference2Ideal.main_arg6)
      ∧ r.2.mem ((c.tc : Thread Cert.ExpertsReference2Ideal.nD Cert.ExpertsReference2Ideal.τ).loc Cert.ExpertsReference2Ideal.main_arg7) = m ((c.tc : Thread Cert.ExpertsReference2Ideal.nD Cert.ExpertsReference2Ideal.τ).loc Cert.ExpertsReference2Ideal.main_arg7))
      ∧ r.2.sem = fun _ => 0)

def quiescent_ExpertsReference2Ideal_pre_tables [hExpertsReference2Ideal : Cert.ExpertsReference2Ideal.Facts] [hPre_tables : Cert.Pre_tables.Facts] : Prop :=
  ∀ (m : (ℓ : Loc Cert.ExpertsReference2Ideal.nD Cert.ExpertsReference2Ideal.τ Cert.ExpertsReference2Ideal.sig) → Buf (Elt Ideal) ℓ) (g : Dev Cert.ExpertsReference2Ideal.nD → PrngReg), Pre_ExpertsReference2Ideal_tables m →
    θ_run (Cert.ExpertsReference2Ideal.defs (F := Ideal)) (onTc (τ := Cert.ExpertsReference2Ideal.τ) (Cert.ExpertsReference2Ideal.main (F := Ideal))) ⟨m, fun _ => 0, g⟩ (fun r => (∀ c : Dev Cert.ExpertsReference2Ideal.nD,
      r.2.mem ((c.tc : Thread Cert.ExpertsReference2Ideal.nD Cert.ExpertsReference2Ideal.τ).loc Cert.ExpertsReference2Ideal.main_arg0) = m ((c.tc : Thread Cert.ExpertsReference2Ideal.nD Cert.ExpertsReference2Ideal.τ).loc Cert.ExpertsReference2Ideal.main_arg0)
      ∧ r.2.mem ((c.tc : Thread Cert.ExpertsReference2Ideal.nD Cert.ExpertsReference2Ideal.τ).loc Cert.ExpertsReference2Ideal.main_arg1) = m ((c.tc : Thread Cert.ExpertsReference2Ideal.nD Cert.ExpertsReference2Ideal.τ).loc Cert.ExpertsReference2Ideal.main_arg1)
      ∧ r.2.mem ((c.tc : Thread Cert.ExpertsReference2Ideal.nD Cert.ExpertsReference2Ideal.τ).loc Cert.ExpertsReference2Ideal.main_arg2) = m ((c.tc : Thread Cert.ExpertsReference2Ideal.nD Cert.ExpertsReference2Ideal.τ).loc Cert.ExpertsReference2Ideal.main_arg2)
      ∧ r.2.mem ((c.tc : Thread Cert.ExpertsReference2Ideal.nD Cert.ExpertsReference2Ideal.τ).loc Cert.ExpertsReference2Ideal.main_arg3) = m ((c.tc : Thread Cert.ExpertsReference2Ideal.nD Cert.ExpertsReference2Ideal.τ).loc Cert.ExpertsReference2Ideal.main_arg3)
      ∧ r.2.mem ((c.tc : Thread Cert.ExpertsReference2Ideal.nD Cert.ExpertsReference2Ideal.τ).loc Cert.ExpertsReference2Ideal.main_arg4) = m ((c.tc : Thread Cert.ExpertsReference2Ideal.nD Cert.ExpertsReference2Ideal.τ).loc Cert.ExpertsReference2Ideal.main_arg4)
      ∧ r.2.mem ((c.tc : Thread Cert.ExpertsReference2Ideal.nD Cert.ExpertsReference2Ideal.τ).loc Cert.ExpertsReference2Ideal.main_arg5) = m ((c.tc : Thread Cert.ExpertsReference2Ideal.nD Cert.ExpertsReference2Ideal.τ).loc Cert.ExpertsReference2Ideal.main_arg5)
      ∧ r.2.mem ((c.tc : Thread Cert.ExpertsReference2Ideal.nD Cert.ExpertsReference2Ideal.τ).loc Cert.ExpertsReference2Ideal.main_arg6) = m ((c.tc : Thread Cert.ExpertsReference2Ideal.nD Cert.ExpertsReference2Ideal.τ).loc Cert.ExpertsReference2Ideal.main_arg6)
      ∧ r.2.mem ((c.tc : Thread Cert.ExpertsReference2Ideal.nD Cert.ExpertsReference2Ideal.τ).loc Cert.ExpertsReference2Ideal.main_arg7) = m ((c.tc : Thread Cert.ExpertsReference2Ideal.nD Cert.ExpertsReference2Ideal.τ).loc Cert.ExpertsReference2Ideal.main_arg7))
      ∧ r.2.sem = fun _ => 0)

def quiescent_Experts3 [hExperts3 : Cert.Experts3.Facts] [hPre_tables : Cert.Pre_tables.Facts] : Prop :=
  ∀ (m : (ℓ : Loc Cert.Experts3.nD Cert.Experts3.τ Cert.Experts3.sig) → Buf (Elt Bits) ℓ) (g : Dev Cert.Experts3.nD → PrngReg), Pre_Experts3 m →
    θ_run (Cert.Experts3.defs (F := Bits)) (onTc (τ := Cert.Experts3.τ) (Cert.Experts3.main (F := Bits))) ⟨m, fun _ => 0, g⟩ (fun r => (∀ c : Dev Cert.Experts3.nD,
      r.2.mem ((c.tc : Thread Cert.Experts3.nD Cert.Experts3.τ).loc Cert.Experts3.main_arg0) = m ((c.tc : Thread Cert.Experts3.nD Cert.Experts3.τ).loc Cert.Experts3.main_arg0)
      ∧ r.2.mem ((c.tc : Thread Cert.Experts3.nD Cert.Experts3.τ).loc Cert.Experts3.main_arg1) = m ((c.tc : Thread Cert.Experts3.nD Cert.Experts3.τ).loc Cert.Experts3.main_arg1)
      ∧ r.2.mem ((c.tc : Thread Cert.Experts3.nD Cert.Experts3.τ).loc Cert.Experts3.main_arg2) = m ((c.tc : Thread Cert.Experts3.nD Cert.Experts3.τ).loc Cert.Experts3.main_arg2)
      ∧ r.2.mem ((c.tc : Thread Cert.Experts3.nD Cert.Experts3.τ).loc Cert.Experts3.main_arg3) = m ((c.tc : Thread Cert.Experts3.nD Cert.Experts3.τ).loc Cert.Experts3.main_arg3)
      ∧ r.2.mem ((c.tc : Thread Cert.Experts3.nD Cert.Experts3.τ).loc Cert.Experts3.main_arg4) = m ((c.tc : Thread Cert.Experts3.nD Cert.Experts3.τ).loc Cert.Experts3.main_arg4)
      ∧ r.2.mem ((c.tc : Thread Cert.Experts3.nD Cert.Experts3.τ).loc Cert.Experts3.main_arg5) = m ((c.tc : Thread Cert.Experts3.nD Cert.Experts3.τ).loc Cert.Experts3.main_arg5)
      ∧ r.2.mem ((c.tc : Thread Cert.Experts3.nD Cert.Experts3.τ).loc Cert.Experts3.main_arg6) = m ((c.tc : Thread Cert.Experts3.nD Cert.Experts3.τ).loc Cert.Experts3.main_arg6)
      ∧ r.2.mem ((c.tc : Thread Cert.Experts3.nD Cert.Experts3.τ).loc Cert.Experts3.main_arg7) = m ((c.tc : Thread Cert.Experts3.nD Cert.Experts3.τ).loc Cert.Experts3.main_arg7))
      ∧ r.2.sem = fun _ => 0)

def quiescent_Experts3Ideal [hExperts3Ideal : Cert.Experts3Ideal.Facts] [hPre_tables : Cert.Pre_tables.Facts] : Prop :=
  ∀ (m : (ℓ : Loc Cert.Experts3Ideal.nD Cert.Experts3Ideal.τ Cert.Experts3Ideal.sig) → Buf (Elt Ideal) ℓ) (g : Dev Cert.Experts3Ideal.nD → PrngReg), Pre_Experts3Ideal m →
    θ_run (Cert.Experts3Ideal.defs (F := Ideal)) (onTc (τ := Cert.Experts3Ideal.τ) (Cert.Experts3Ideal.main (F := Ideal))) ⟨m, fun _ => 0, g⟩ (fun r => (∀ c : Dev Cert.Experts3Ideal.nD,
      r.2.mem ((c.tc : Thread Cert.Experts3Ideal.nD Cert.Experts3Ideal.τ).loc Cert.Experts3Ideal.main_arg0) = m ((c.tc : Thread Cert.Experts3Ideal.nD Cert.Experts3Ideal.τ).loc Cert.Experts3Ideal.main_arg0)
      ∧ r.2.mem ((c.tc : Thread Cert.Experts3Ideal.nD Cert.Experts3Ideal.τ).loc Cert.Experts3Ideal.main_arg1) = m ((c.tc : Thread Cert.Experts3Ideal.nD Cert.Experts3Ideal.τ).loc Cert.Experts3Ideal.main_arg1)
      ∧ r.2.mem ((c.tc : Thread Cert.Experts3Ideal.nD Cert.Experts3Ideal.τ).loc Cert.Experts3Ideal.main_arg2) = m ((c.tc : Thread Cert.Experts3Ideal.nD Cert.Experts3Ideal.τ).loc Cert.Experts3Ideal.main_arg2)
      ∧ r.2.mem ((c.tc : Thread Cert.Experts3Ideal.nD Cert.Experts3Ideal.τ).loc Cert.Experts3Ideal.main_arg3) = m ((c.tc : Thread Cert.Experts3Ideal.nD Cert.Experts3Ideal.τ).loc Cert.Experts3Ideal.main_arg3)
      ∧ r.2.mem ((c.tc : Thread Cert.Experts3Ideal.nD Cert.Experts3Ideal.τ).loc Cert.Experts3Ideal.main_arg4) = m ((c.tc : Thread Cert.Experts3Ideal.nD Cert.Experts3Ideal.τ).loc Cert.Experts3Ideal.main_arg4)
      ∧ r.2.mem ((c.tc : Thread Cert.Experts3Ideal.nD Cert.Experts3Ideal.τ).loc Cert.Experts3Ideal.main_arg5) = m ((c.tc : Thread Cert.Experts3Ideal.nD Cert.Experts3Ideal.τ).loc Cert.Experts3Ideal.main_arg5)
      ∧ r.2.mem ((c.tc : Thread Cert.Experts3Ideal.nD Cert.Experts3Ideal.τ).loc Cert.Experts3Ideal.main_arg6) = m ((c.tc : Thread Cert.Experts3Ideal.nD Cert.Experts3Ideal.τ).loc Cert.Experts3Ideal.main_arg6)
      ∧ r.2.mem ((c.tc : Thread Cert.Experts3Ideal.nD Cert.Experts3Ideal.τ).loc Cert.Experts3Ideal.main_arg7) = m ((c.tc : Thread Cert.Experts3Ideal.nD Cert.Experts3Ideal.τ).loc Cert.Experts3Ideal.main_arg7))
      ∧ r.2.sem = fun _ => 0)

def quiescent_ExpertsReference3Ideal [hExpertsReference3Ideal : Cert.ExpertsReference3Ideal.Facts] : Prop :=
  ∀ (m : (ℓ : Loc Cert.ExpertsReference3Ideal.nD Cert.ExpertsReference3Ideal.τ Cert.ExpertsReference3Ideal.sig) → Buf (Elt Ideal) ℓ) (g : Dev Cert.ExpertsReference3Ideal.nD → PrngReg), Pre_ExpertsReference3Ideal m →
    θ_run (Cert.ExpertsReference3Ideal.defs (F := Ideal)) (onTc (τ := Cert.ExpertsReference3Ideal.τ) (Cert.ExpertsReference3Ideal.main (F := Ideal))) ⟨m, fun _ => 0, g⟩ (fun r => (∀ c : Dev Cert.ExpertsReference3Ideal.nD,
      r.2.mem ((c.tc : Thread Cert.ExpertsReference3Ideal.nD Cert.ExpertsReference3Ideal.τ).loc Cert.ExpertsReference3Ideal.main_arg0) = m ((c.tc : Thread Cert.ExpertsReference3Ideal.nD Cert.ExpertsReference3Ideal.τ).loc Cert.ExpertsReference3Ideal.main_arg0)
      ∧ r.2.mem ((c.tc : Thread Cert.ExpertsReference3Ideal.nD Cert.ExpertsReference3Ideal.τ).loc Cert.ExpertsReference3Ideal.main_arg1) = m ((c.tc : Thread Cert.ExpertsReference3Ideal.nD Cert.ExpertsReference3Ideal.τ).loc Cert.ExpertsReference3Ideal.main_arg1)
      ∧ r.2.mem ((c.tc : Thread Cert.ExpertsReference3Ideal.nD Cert.ExpertsReference3Ideal.τ).loc Cert.ExpertsReference3Ideal.main_arg2) = m ((c.tc : Thread Cert.ExpertsReference3Ideal.nD Cert.ExpertsReference3Ideal.τ).loc Cert.ExpertsReference3Ideal.main_arg2)
      ∧ r.2.mem ((c.tc : Thread Cert.ExpertsReference3Ideal.nD Cert.ExpertsReference3Ideal.τ).loc Cert.ExpertsReference3Ideal.main_arg3) = m ((c.tc : Thread Cert.ExpertsReference3Ideal.nD Cert.ExpertsReference3Ideal.τ).loc Cert.ExpertsReference3Ideal.main_arg3)
      ∧ r.2.mem ((c.tc : Thread Cert.ExpertsReference3Ideal.nD Cert.ExpertsReference3Ideal.τ).loc Cert.ExpertsReference3Ideal.main_arg4) = m ((c.tc : Thread Cert.ExpertsReference3Ideal.nD Cert.ExpertsReference3Ideal.τ).loc Cert.ExpertsReference3Ideal.main_arg4)
      ∧ r.2.mem ((c.tc : Thread Cert.ExpertsReference3Ideal.nD Cert.ExpertsReference3Ideal.τ).loc Cert.ExpertsReference3Ideal.main_arg5) = m ((c.tc : Thread Cert.ExpertsReference3Ideal.nD Cert.ExpertsReference3Ideal.τ).loc Cert.ExpertsReference3Ideal.main_arg5)
      ∧ r.2.mem ((c.tc : Thread Cert.ExpertsReference3Ideal.nD Cert.ExpertsReference3Ideal.τ).loc Cert.ExpertsReference3Ideal.main_arg6) = m ((c.tc : Thread Cert.ExpertsReference3Ideal.nD Cert.ExpertsReference3Ideal.τ).loc Cert.ExpertsReference3Ideal.main_arg6)
      ∧ r.2.mem ((c.tc : Thread Cert.ExpertsReference3Ideal.nD Cert.ExpertsReference3Ideal.τ).loc Cert.ExpertsReference3Ideal.main_arg7) = m ((c.tc : Thread Cert.ExpertsReference3Ideal.nD Cert.ExpertsReference3Ideal.τ).loc Cert.ExpertsReference3Ideal.main_arg7))
      ∧ r.2.sem = fun _ => 0)

def quiescent_ExpertsReference3Ideal_pre_tables [hExpertsReference3Ideal : Cert.ExpertsReference3Ideal.Facts] [hPre_tables : Cert.Pre_tables.Facts] : Prop :=
  ∀ (m : (ℓ : Loc Cert.ExpertsReference3Ideal.nD Cert.ExpertsReference3Ideal.τ Cert.ExpertsReference3Ideal.sig) → Buf (Elt Ideal) ℓ) (g : Dev Cert.ExpertsReference3Ideal.nD → PrngReg), Pre_ExpertsReference3Ideal_tables m →
    θ_run (Cert.ExpertsReference3Ideal.defs (F := Ideal)) (onTc (τ := Cert.ExpertsReference3Ideal.τ) (Cert.ExpertsReference3Ideal.main (F := Ideal))) ⟨m, fun _ => 0, g⟩ (fun r => (∀ c : Dev Cert.ExpertsReference3Ideal.nD,
      r.2.mem ((c.tc : Thread Cert.ExpertsReference3Ideal.nD Cert.ExpertsReference3Ideal.τ).loc Cert.ExpertsReference3Ideal.main_arg0) = m ((c.tc : Thread Cert.ExpertsReference3Ideal.nD Cert.ExpertsReference3Ideal.τ).loc Cert.ExpertsReference3Ideal.main_arg0)
      ∧ r.2.mem ((c.tc : Thread Cert.ExpertsReference3Ideal.nD Cert.ExpertsReference3Ideal.τ).loc Cert.ExpertsReference3Ideal.main_arg1) = m ((c.tc : Thread Cert.ExpertsReference3Ideal.nD Cert.ExpertsReference3Ideal.τ).loc Cert.ExpertsReference3Ideal.main_arg1)
      ∧ r.2.mem ((c.tc : Thread Cert.ExpertsReference3Ideal.nD Cert.ExpertsReference3Ideal.τ).loc Cert.ExpertsReference3Ideal.main_arg2) = m ((c.tc : Thread Cert.ExpertsReference3Ideal.nD Cert.ExpertsReference3Ideal.τ).loc Cert.ExpertsReference3Ideal.main_arg2)
      ∧ r.2.mem ((c.tc : Thread Cert.ExpertsReference3Ideal.nD Cert.ExpertsReference3Ideal.τ).loc Cert.ExpertsReference3Ideal.main_arg3) = m ((c.tc : Thread Cert.ExpertsReference3Ideal.nD Cert.ExpertsReference3Ideal.τ).loc Cert.ExpertsReference3Ideal.main_arg3)
      ∧ r.2.mem ((c.tc : Thread Cert.ExpertsReference3Ideal.nD Cert.ExpertsReference3Ideal.τ).loc Cert.ExpertsReference3Ideal.main_arg4) = m ((c.tc : Thread Cert.ExpertsReference3Ideal.nD Cert.ExpertsReference3Ideal.τ).loc Cert.ExpertsReference3Ideal.main_arg4)
      ∧ r.2.mem ((c.tc : Thread Cert.ExpertsReference3Ideal.nD Cert.ExpertsReference3Ideal.τ).loc Cert.ExpertsReference3Ideal.main_arg5) = m ((c.tc : Thread Cert.ExpertsReference3Ideal.nD Cert.ExpertsReference3Ideal.τ).loc Cert.ExpertsReference3Ideal.main_arg5)
      ∧ r.2.mem ((c.tc : Thread Cert.ExpertsReference3Ideal.nD Cert.ExpertsReference3Ideal.τ).loc Cert.ExpertsReference3Ideal.main_arg6) = m ((c.tc : Thread Cert.ExpertsReference3Ideal.nD Cert.ExpertsReference3Ideal.τ).loc Cert.ExpertsReference3Ideal.main_arg6)
      ∧ r.2.mem ((c.tc : Thread Cert.ExpertsReference3Ideal.nD Cert.ExpertsReference3Ideal.τ).loc Cert.ExpertsReference3Ideal.main_arg7) = m ((c.tc : Thread Cert.ExpertsReference3Ideal.nD Cert.ExpertsReference3Ideal.τ).loc Cert.ExpertsReference3Ideal.main_arg7))
      ∧ r.2.sem = fun _ => 0)

def quiescent_ProjectAB [hProjectAB : Cert.ProjectAB.Facts] : Prop :=
  ∀ (m : (ℓ : Loc Cert.ProjectAB.nD Cert.ProjectAB.τ Cert.ProjectAB.sig) → Buf (Elt Bits) ℓ) (g : Dev Cert.ProjectAB.nD → PrngReg), Pre_ProjectAB m →
    θ_run (Cert.ProjectAB.defs (F := Bits)) (onTc (τ := Cert.ProjectAB.τ) (Cert.ProjectAB.main (F := Bits))) ⟨m, fun _ => 0, g⟩ (fun r => (∀ c : Dev Cert.ProjectAB.nD,
      r.2.mem ((c.tc : Thread Cert.ProjectAB.nD Cert.ProjectAB.τ).loc Cert.ProjectAB.main_arg0) = m ((c.tc : Thread Cert.ProjectAB.nD Cert.ProjectAB.τ).loc Cert.ProjectAB.main_arg0)
      ∧ r.2.mem ((c.tc : Thread Cert.ProjectAB.nD Cert.ProjectAB.τ).loc Cert.ProjectAB.main_arg1) = m ((c.tc : Thread Cert.ProjectAB.nD Cert.ProjectAB.τ).loc Cert.ProjectAB.main_arg1)
      ∧ r.2.mem ((c.tc : Thread Cert.ProjectAB.nD Cert.ProjectAB.τ).loc Cert.ProjectAB.main_arg2) = m ((c.tc : Thread Cert.ProjectAB.nD Cert.ProjectAB.τ).loc Cert.ProjectAB.main_arg2)
      ∧ r.2.mem ((c.tc : Thread Cert.ProjectAB.nD Cert.ProjectAB.τ).loc Cert.ProjectAB.main_arg3) = m ((c.tc : Thread Cert.ProjectAB.nD Cert.ProjectAB.τ).loc Cert.ProjectAB.main_arg3)
      ∧ r.2.mem ((c.tc : Thread Cert.ProjectAB.nD Cert.ProjectAB.τ).loc Cert.ProjectAB.main_arg4) = m ((c.tc : Thread Cert.ProjectAB.nD Cert.ProjectAB.τ).loc Cert.ProjectAB.main_arg4)
      ∧ r.2.mem ((c.tc : Thread Cert.ProjectAB.nD Cert.ProjectAB.τ).loc Cert.ProjectAB.main_arg5) = m ((c.tc : Thread Cert.ProjectAB.nD Cert.ProjectAB.τ).loc Cert.ProjectAB.main_arg5))
      ∧ r.2.sem = fun _ => 0)

def quiescent_ProjectABIdeal [hProjectABIdeal : Cert.ProjectABIdeal.Facts] : Prop :=
  ∀ (m : (ℓ : Loc Cert.ProjectABIdeal.nD Cert.ProjectABIdeal.τ Cert.ProjectABIdeal.sig) → Buf (Elt Ideal) ℓ) (g : Dev Cert.ProjectABIdeal.nD → PrngReg), Pre_ProjectABIdeal m →
    θ_run (Cert.ProjectABIdeal.defs (F := Ideal)) (onTc (τ := Cert.ProjectABIdeal.τ) (Cert.ProjectABIdeal.main (F := Ideal))) ⟨m, fun _ => 0, g⟩ (fun r => (∀ c : Dev Cert.ProjectABIdeal.nD,
      r.2.mem ((c.tc : Thread Cert.ProjectABIdeal.nD Cert.ProjectABIdeal.τ).loc Cert.ProjectABIdeal.main_arg0) = m ((c.tc : Thread Cert.ProjectABIdeal.nD Cert.ProjectABIdeal.τ).loc Cert.ProjectABIdeal.main_arg0)
      ∧ r.2.mem ((c.tc : Thread Cert.ProjectABIdeal.nD Cert.ProjectABIdeal.τ).loc Cert.ProjectABIdeal.main_arg1) = m ((c.tc : Thread Cert.ProjectABIdeal.nD Cert.ProjectABIdeal.τ).loc Cert.ProjectABIdeal.main_arg1)
      ∧ r.2.mem ((c.tc : Thread Cert.ProjectABIdeal.nD Cert.ProjectABIdeal.τ).loc Cert.ProjectABIdeal.main_arg2) = m ((c.tc : Thread Cert.ProjectABIdeal.nD Cert.ProjectABIdeal.τ).loc Cert.ProjectABIdeal.main_arg2)
      ∧ r.2.mem ((c.tc : Thread Cert.ProjectABIdeal.nD Cert.ProjectABIdeal.τ).loc Cert.ProjectABIdeal.main_arg3) = m ((c.tc : Thread Cert.ProjectABIdeal.nD Cert.ProjectABIdeal.τ).loc Cert.ProjectABIdeal.main_arg3)
      ∧ r.2.mem ((c.tc : Thread Cert.ProjectABIdeal.nD Cert.ProjectABIdeal.τ).loc Cert.ProjectABIdeal.main_arg4) = m ((c.tc : Thread Cert.ProjectABIdeal.nD Cert.ProjectABIdeal.τ).loc Cert.ProjectABIdeal.main_arg4)
      ∧ r.2.mem ((c.tc : Thread Cert.ProjectABIdeal.nD Cert.ProjectABIdeal.τ).loc Cert.ProjectABIdeal.main_arg5) = m ((c.tc : Thread Cert.ProjectABIdeal.nD Cert.ProjectABIdeal.τ).loc Cert.ProjectABIdeal.main_arg5))
      ∧ r.2.sem = fun _ => 0)

def quiescent_ProjectABReferenceIdeal [hProjectABReferenceIdeal : Cert.ProjectABReferenceIdeal.Facts] : Prop :=
  ∀ (m : (ℓ : Loc Cert.ProjectABReferenceIdeal.nD Cert.ProjectABReferenceIdeal.τ Cert.ProjectABReferenceIdeal.sig) → Buf (Elt Ideal) ℓ) (g : Dev Cert.ProjectABReferenceIdeal.nD → PrngReg), Pre_ProjectABReferenceIdeal m →
    θ_run (Cert.ProjectABReferenceIdeal.defs (F := Ideal)) (onTc (τ := Cert.ProjectABReferenceIdeal.τ) (Cert.ProjectABReferenceIdeal.main (F := Ideal))) ⟨m, fun _ => 0, g⟩ (fun r => (∀ c : Dev Cert.ProjectABReferenceIdeal.nD,
      r.2.mem ((c.tc : Thread Cert.ProjectABReferenceIdeal.nD Cert.ProjectABReferenceIdeal.τ).loc Cert.ProjectABReferenceIdeal.main_arg0) = m ((c.tc : Thread Cert.ProjectABReferenceIdeal.nD Cert.ProjectABReferenceIdeal.τ).loc Cert.ProjectABReferenceIdeal.main_arg0)
      ∧ r.2.mem ((c.tc : Thread Cert.ProjectABReferenceIdeal.nD Cert.ProjectABReferenceIdeal.τ).loc Cert.ProjectABReferenceIdeal.main_arg1) = m ((c.tc : Thread Cert.ProjectABReferenceIdeal.nD Cert.ProjectABReferenceIdeal.τ).loc Cert.ProjectABReferenceIdeal.main_arg1)
      ∧ r.2.mem ((c.tc : Thread Cert.ProjectABReferenceIdeal.nD Cert.ProjectABReferenceIdeal.τ).loc Cert.ProjectABReferenceIdeal.main_arg2) = m ((c.tc : Thread Cert.ProjectABReferenceIdeal.nD Cert.ProjectABReferenceIdeal.τ).loc Cert.ProjectABReferenceIdeal.main_arg2)
      ∧ r.2.mem ((c.tc : Thread Cert.ProjectABReferenceIdeal.nD Cert.ProjectABReferenceIdeal.τ).loc Cert.ProjectABReferenceIdeal.main_arg3) = m ((c.tc : Thread Cert.ProjectABReferenceIdeal.nD Cert.ProjectABReferenceIdeal.τ).loc Cert.ProjectABReferenceIdeal.main_arg3)
      ∧ r.2.mem ((c.tc : Thread Cert.ProjectABReferenceIdeal.nD Cert.ProjectABReferenceIdeal.τ).loc Cert.ProjectABReferenceIdeal.main_arg4) = m ((c.tc : Thread Cert.ProjectABReferenceIdeal.nD Cert.ProjectABReferenceIdeal.τ).loc Cert.ProjectABReferenceIdeal.main_arg4)
      ∧ r.2.mem ((c.tc : Thread Cert.ProjectABReferenceIdeal.nD Cert.ProjectABReferenceIdeal.τ).loc Cert.ProjectABReferenceIdeal.main_arg5) = m ((c.tc : Thread Cert.ProjectABReferenceIdeal.nD Cert.ProjectABReferenceIdeal.τ).loc Cert.ProjectABReferenceIdeal.main_arg5))
      ∧ r.2.sem = fun _ => 0)

def quiescent_ProjectDil [hProjectDil : Cert.ProjectDil.Facts] : Prop :=
  ∀ (m : (ℓ : Loc Cert.ProjectDil.nD Cert.ProjectDil.τ Cert.ProjectDil.sig) → Buf (Elt Bits) ℓ) (g : Dev Cert.ProjectDil.nD → PrngReg), Pre_ProjectDil m →
    θ_run (Cert.ProjectDil.defs (F := Bits)) (onTc (τ := Cert.ProjectDil.τ) (Cert.ProjectDil.main (F := Bits))) ⟨m, fun _ => 0, g⟩ (fun r => (∀ c : Dev Cert.ProjectDil.nD,
      r.2.mem ((c.tc : Thread Cert.ProjectDil.nD Cert.ProjectDil.τ).loc Cert.ProjectDil.main_arg0) = m ((c.tc : Thread Cert.ProjectDil.nD Cert.ProjectDil.τ).loc Cert.ProjectDil.main_arg0)
      ∧ r.2.mem ((c.tc : Thread Cert.ProjectDil.nD Cert.ProjectDil.τ).loc Cert.ProjectDil.main_arg1) = m ((c.tc : Thread Cert.ProjectDil.nD Cert.ProjectDil.τ).loc Cert.ProjectDil.main_arg1)
      ∧ r.2.mem ((c.tc : Thread Cert.ProjectDil.nD Cert.ProjectDil.τ).loc Cert.ProjectDil.main_arg2) = m ((c.tc : Thread Cert.ProjectDil.nD Cert.ProjectDil.τ).loc Cert.ProjectDil.main_arg2)
      ∧ r.2.mem ((c.tc : Thread Cert.ProjectDil.nD Cert.ProjectDil.τ).loc Cert.ProjectDil.main_arg3) = m ((c.tc : Thread Cert.ProjectDil.nD Cert.ProjectDil.τ).loc Cert.ProjectDil.main_arg3)
      ∧ r.2.mem ((c.tc : Thread Cert.ProjectDil.nD Cert.ProjectDil.τ).loc Cert.ProjectDil.main_arg4) = m ((c.tc : Thread Cert.ProjectDil.nD Cert.ProjectDil.τ).loc Cert.ProjectDil.main_arg4)
      ∧ r.2.mem ((c.tc : Thread Cert.ProjectDil.nD Cert.ProjectDil.τ).loc Cert.ProjectDil.main_arg5) = m ((c.tc : Thread Cert.ProjectDil.nD Cert.ProjectDil.τ).loc Cert.ProjectDil.main_arg5)
      ∧ r.2.mem ((c.tc : Thread Cert.ProjectDil.nD Cert.ProjectDil.τ).loc Cert.ProjectDil.main_arg6) = m ((c.tc : Thread Cert.ProjectDil.nD Cert.ProjectDil.τ).loc Cert.ProjectDil.main_arg6))
      ∧ r.2.sem = fun _ => 0)

def quiescent_ProjectDilIdeal [hProjectDilIdeal : Cert.ProjectDilIdeal.Facts] : Prop :=
  ∀ (m : (ℓ : Loc Cert.ProjectDilIdeal.nD Cert.ProjectDilIdeal.τ Cert.ProjectDilIdeal.sig) → Buf (Elt Ideal) ℓ) (g : Dev Cert.ProjectDilIdeal.nD → PrngReg), Pre_ProjectDilIdeal m →
    θ_run (Cert.ProjectDilIdeal.defs (F := Ideal)) (onTc (τ := Cert.ProjectDilIdeal.τ) (Cert.ProjectDilIdeal.main (F := Ideal))) ⟨m, fun _ => 0, g⟩ (fun r => (∀ c : Dev Cert.ProjectDilIdeal.nD,
      r.2.mem ((c.tc : Thread Cert.ProjectDilIdeal.nD Cert.ProjectDilIdeal.τ).loc Cert.ProjectDilIdeal.main_arg0) = m ((c.tc : Thread Cert.ProjectDilIdeal.nD Cert.ProjectDilIdeal.τ).loc Cert.ProjectDilIdeal.main_arg0)
      ∧ r.2.mem ((c.tc : Thread Cert.ProjectDilIdeal.nD Cert.ProjectDilIdeal.τ).loc Cert.ProjectDilIdeal.main_arg1) = m ((c.tc : Thread Cert.ProjectDilIdeal.nD Cert.ProjectDilIdeal.τ).loc Cert.ProjectDilIdeal.main_arg1)
      ∧ r.2.mem ((c.tc : Thread Cert.ProjectDilIdeal.nD Cert.ProjectDilIdeal.τ).loc Cert.ProjectDilIdeal.main_arg2) = m ((c.tc : Thread Cert.ProjectDilIdeal.nD Cert.ProjectDilIdeal.τ).loc Cert.ProjectDilIdeal.main_arg2)
      ∧ r.2.mem ((c.tc : Thread Cert.ProjectDilIdeal.nD Cert.ProjectDilIdeal.τ).loc Cert.ProjectDilIdeal.main_arg3) = m ((c.tc : Thread Cert.ProjectDilIdeal.nD Cert.ProjectDilIdeal.τ).loc Cert.ProjectDilIdeal.main_arg3)
      ∧ r.2.mem ((c.tc : Thread Cert.ProjectDilIdeal.nD Cert.ProjectDilIdeal.τ).loc Cert.ProjectDilIdeal.main_arg4) = m ((c.tc : Thread Cert.ProjectDilIdeal.nD Cert.ProjectDilIdeal.τ).loc Cert.ProjectDilIdeal.main_arg4)
      ∧ r.2.mem ((c.tc : Thread Cert.ProjectDilIdeal.nD Cert.ProjectDilIdeal.τ).loc Cert.ProjectDilIdeal.main_arg5) = m ((c.tc : Thread Cert.ProjectDilIdeal.nD Cert.ProjectDilIdeal.τ).loc Cert.ProjectDilIdeal.main_arg5)
      ∧ r.2.mem ((c.tc : Thread Cert.ProjectDilIdeal.nD Cert.ProjectDilIdeal.τ).loc Cert.ProjectDilIdeal.main_arg6) = m ((c.tc : Thread Cert.ProjectDilIdeal.nD Cert.ProjectDilIdeal.τ).loc Cert.ProjectDilIdeal.main_arg6))
      ∧ r.2.sem = fun _ => 0)

def quiescent_ProjectDilReferenceIdeal [hProjectDilReferenceIdeal : Cert.ProjectDilReferenceIdeal.Facts] : Prop :=
  ∀ (m : (ℓ : Loc Cert.ProjectDilReferenceIdeal.nD Cert.ProjectDilReferenceIdeal.τ Cert.ProjectDilReferenceIdeal.sig) → Buf (Elt Ideal) ℓ) (g : Dev Cert.ProjectDilReferenceIdeal.nD → PrngReg), Pre_ProjectDilReferenceIdeal m →
    θ_run (Cert.ProjectDilReferenceIdeal.defs (F := Ideal)) (onTc (τ := Cert.ProjectDilReferenceIdeal.τ) (Cert.ProjectDilReferenceIdeal.main (F := Ideal))) ⟨m, fun _ => 0, g⟩ (fun r => (∀ c : Dev Cert.ProjectDilReferenceIdeal.nD,
      r.2.mem ((c.tc : Thread Cert.ProjectDilReferenceIdeal.nD Cert.ProjectDilReferenceIdeal.τ).loc Cert.ProjectDilReferenceIdeal.main_arg0) = m ((c.tc : Thread Cert.ProjectDilReferenceIdeal.nD Cert.ProjectDilReferenceIdeal.τ).loc Cert.ProjectDilReferenceIdeal.main_arg0)
      ∧ r.2.mem ((c.tc : Thread Cert.ProjectDilReferenceIdeal.nD Cert.ProjectDilReferenceIdeal.τ).loc Cert.ProjectDilReferenceIdeal.main_arg1) = m ((c.tc : Thread Cert.ProjectDilReferenceIdeal.nD Cert.ProjectDilReferenceIdeal.τ).loc Cert.ProjectDilReferenceIdeal.main_arg1)
      ∧ r.2.mem ((c.tc : Thread Cert.ProjectDilReferenceIdeal.nD Cert.ProjectDilReferenceIdeal.τ).loc Cert.ProjectDilReferenceIdeal.main_arg2) = m ((c.tc : Thread Cert.ProjectDilReferenceIdeal.nD Cert.ProjectDilReferenceIdeal.τ).loc Cert.ProjectDilReferenceIdeal.main_arg2)
      ∧ r.2.mem ((c.tc : Thread Cert.ProjectDilReferenceIdeal.nD Cert.ProjectDilReferenceIdeal.τ).loc Cert.ProjectDilReferenceIdeal.main_arg3) = m ((c.tc : Thread Cert.ProjectDilReferenceIdeal.nD Cert.ProjectDilReferenceIdeal.τ).loc Cert.ProjectDilReferenceIdeal.main_arg3)
      ∧ r.2.mem ((c.tc : Thread Cert.ProjectDilReferenceIdeal.nD Cert.ProjectDilReferenceIdeal.τ).loc Cert.ProjectDilReferenceIdeal.main_arg4) = m ((c.tc : Thread Cert.ProjectDilReferenceIdeal.nD Cert.ProjectDilReferenceIdeal.τ).loc Cert.ProjectDilReferenceIdeal.main_arg4)
      ∧ r.2.mem ((c.tc : Thread Cert.ProjectDilReferenceIdeal.nD Cert.ProjectDilReferenceIdeal.τ).loc Cert.ProjectDilReferenceIdeal.main_arg5) = m ((c.tc : Thread Cert.ProjectDilReferenceIdeal.nD Cert.ProjectDilReferenceIdeal.τ).loc Cert.ProjectDilReferenceIdeal.main_arg5)
      ∧ r.2.mem ((c.tc : Thread Cert.ProjectDilReferenceIdeal.nD Cert.ProjectDilReferenceIdeal.τ).loc Cert.ProjectDilReferenceIdeal.main_arg6) = m ((c.tc : Thread Cert.ProjectDilReferenceIdeal.nD Cert.ProjectDilReferenceIdeal.τ).loc Cert.ProjectDilReferenceIdeal.main_arg6))
      ∧ r.2.sem = fun _ => 0)

def quiescent_ProjectLatent [hProjectLatent : Cert.ProjectLatent.Facts] : Prop :=
  ∀ (m : (ℓ : Loc Cert.ProjectLatent.nD Cert.ProjectLatent.τ Cert.ProjectLatent.sig) → Buf (Elt Bits) ℓ) (g : Dev Cert.ProjectLatent.nD → PrngReg), Pre_ProjectLatent m →
    θ_run (Cert.ProjectLatent.defs (F := Bits)) (onTc (τ := Cert.ProjectLatent.τ) (Cert.ProjectLatent.main (F := Bits))) ⟨m, fun _ => 0, g⟩ (fun r => (∀ c : Dev Cert.ProjectLatent.nD,
      r.2.mem ((c.tc : Thread Cert.ProjectLatent.nD Cert.ProjectLatent.τ).loc Cert.ProjectLatent.main_arg0) = m ((c.tc : Thread Cert.ProjectLatent.nD Cert.ProjectLatent.τ).loc Cert.ProjectLatent.main_arg0)
      ∧ r.2.mem ((c.tc : Thread Cert.ProjectLatent.nD Cert.ProjectLatent.τ).loc Cert.ProjectLatent.main_arg1) = m ((c.tc : Thread Cert.ProjectLatent.nD Cert.ProjectLatent.τ).loc Cert.ProjectLatent.main_arg1)
      ∧ r.2.mem ((c.tc : Thread Cert.ProjectLatent.nD Cert.ProjectLatent.τ).loc Cert.ProjectLatent.main_arg2) = m ((c.tc : Thread Cert.ProjectLatent.nD Cert.ProjectLatent.τ).loc Cert.ProjectLatent.main_arg2)
      ∧ r.2.mem ((c.tc : Thread Cert.ProjectLatent.nD Cert.ProjectLatent.τ).loc Cert.ProjectLatent.main_arg3) = m ((c.tc : Thread Cert.ProjectLatent.nD Cert.ProjectLatent.τ).loc Cert.ProjectLatent.main_arg3)
      ∧ r.2.mem ((c.tc : Thread Cert.ProjectLatent.nD Cert.ProjectLatent.τ).loc Cert.ProjectLatent.main_arg4) = m ((c.tc : Thread Cert.ProjectLatent.nD Cert.ProjectLatent.τ).loc Cert.ProjectLatent.main_arg4))
      ∧ r.2.sem = fun _ => 0)

def quiescent_ProjectLatentIdeal [hProjectLatentIdeal : Cert.ProjectLatentIdeal.Facts] : Prop :=
  ∀ (m : (ℓ : Loc Cert.ProjectLatentIdeal.nD Cert.ProjectLatentIdeal.τ Cert.ProjectLatentIdeal.sig) → Buf (Elt Ideal) ℓ) (g : Dev Cert.ProjectLatentIdeal.nD → PrngReg), Pre_ProjectLatentIdeal m →
    θ_run (Cert.ProjectLatentIdeal.defs (F := Ideal)) (onTc (τ := Cert.ProjectLatentIdeal.τ) (Cert.ProjectLatentIdeal.main (F := Ideal))) ⟨m, fun _ => 0, g⟩ (fun r => (∀ c : Dev Cert.ProjectLatentIdeal.nD,
      r.2.mem ((c.tc : Thread Cert.ProjectLatentIdeal.nD Cert.ProjectLatentIdeal.τ).loc Cert.ProjectLatentIdeal.main_arg0) = m ((c.tc : Thread Cert.ProjectLatentIdeal.nD Cert.ProjectLatentIdeal.τ).loc Cert.ProjectLatentIdeal.main_arg0)
      ∧ r.2.mem ((c.tc : Thread Cert.ProjectLatentIdeal.nD Cert.ProjectLatentIdeal.τ).loc Cert.ProjectLatentIdeal.main_arg1) = m ((c.tc : Thread Cert.ProjectLatentIdeal.nD Cert.ProjectLatentIdeal.τ).loc Cert.ProjectLatentIdeal.main_arg1)
      ∧ r.2.mem ((c.tc : Thread Cert.ProjectLatentIdeal.nD Cert.ProjectLatentIdeal.τ).loc Cert.ProjectLatentIdeal.main_arg2) = m ((c.tc : Thread Cert.ProjectLatentIdeal.nD Cert.ProjectLatentIdeal.τ).loc Cert.ProjectLatentIdeal.main_arg2)
      ∧ r.2.mem ((c.tc : Thread Cert.ProjectLatentIdeal.nD Cert.ProjectLatentIdeal.τ).loc Cert.ProjectLatentIdeal.main_arg3) = m ((c.tc : Thread Cert.ProjectLatentIdeal.nD Cert.ProjectLatentIdeal.τ).loc Cert.ProjectLatentIdeal.main_arg3)
      ∧ r.2.mem ((c.tc : Thread Cert.ProjectLatentIdeal.nD Cert.ProjectLatentIdeal.τ).loc Cert.ProjectLatentIdeal.main_arg4) = m ((c.tc : Thread Cert.ProjectLatentIdeal.nD Cert.ProjectLatentIdeal.τ).loc Cert.ProjectLatentIdeal.main_arg4))
      ∧ r.2.sem = fun _ => 0)

def quiescent_ProjectLatentReferenceIdeal [hProjectLatentReferenceIdeal : Cert.ProjectLatentReferenceIdeal.Facts] : Prop :=
  ∀ (m : (ℓ : Loc Cert.ProjectLatentReferenceIdeal.nD Cert.ProjectLatentReferenceIdeal.τ Cert.ProjectLatentReferenceIdeal.sig) → Buf (Elt Ideal) ℓ) (g : Dev Cert.ProjectLatentReferenceIdeal.nD → PrngReg), Pre_ProjectLatentReferenceIdeal m →
    θ_run (Cert.ProjectLatentReferenceIdeal.defs (F := Ideal)) (onTc (τ := Cert.ProjectLatentReferenceIdeal.τ) (Cert.ProjectLatentReferenceIdeal.main (F := Ideal))) ⟨m, fun _ => 0, g⟩ (fun r => (∀ c : Dev Cert.ProjectLatentReferenceIdeal.nD,
      r.2.mem ((c.tc : Thread Cert.ProjectLatentReferenceIdeal.nD Cert.ProjectLatentReferenceIdeal.τ).loc Cert.ProjectLatentReferenceIdeal.main_arg0) = m ((c.tc : Thread Cert.ProjectLatentReferenceIdeal.nD Cert.ProjectLatentReferenceIdeal.τ).loc Cert.ProjectLatentReferenceIdeal.main_arg0)
      ∧ r.2.mem ((c.tc : Thread Cert.ProjectLatentReferenceIdeal.nD Cert.ProjectLatentReferenceIdeal.τ).loc Cert.ProjectLatentReferenceIdeal.main_arg1) = m ((c.tc : Thread Cert.ProjectLatentReferenceIdeal.nD Cert.ProjectLatentReferenceIdeal.τ).loc Cert.ProjectLatentReferenceIdeal.main_arg1)
      ∧ r.2.mem ((c.tc : Thread Cert.ProjectLatentReferenceIdeal.nD Cert.ProjectLatentReferenceIdeal.τ).loc Cert.ProjectLatentReferenceIdeal.main_arg2) = m ((c.tc : Thread Cert.ProjectLatentReferenceIdeal.nD Cert.ProjectLatentReferenceIdeal.τ).loc Cert.ProjectLatentReferenceIdeal.main_arg2)
      ∧ r.2.mem ((c.tc : Thread Cert.ProjectLatentReferenceIdeal.nD Cert.ProjectLatentReferenceIdeal.τ).loc Cert.ProjectLatentReferenceIdeal.main_arg3) = m ((c.tc : Thread Cert.ProjectLatentReferenceIdeal.nD Cert.ProjectLatentReferenceIdeal.τ).loc Cert.ProjectLatentReferenceIdeal.main_arg3)
      ∧ r.2.mem ((c.tc : Thread Cert.ProjectLatentReferenceIdeal.nD Cert.ProjectLatentReferenceIdeal.τ).loc Cert.ProjectLatentReferenceIdeal.main_arg4) = m ((c.tc : Thread Cert.ProjectLatentReferenceIdeal.nD Cert.ProjectLatentReferenceIdeal.τ).loc Cert.ProjectLatentReferenceIdeal.main_arg4))
      ∧ r.2.sem = fun _ => 0)

def quiescent_ProjectKV [hProjectKV : Cert.ProjectKV.Facts] : Prop :=
  ∀ (m : (ℓ : Loc Cert.ProjectKV.nD Cert.ProjectKV.τ Cert.ProjectKV.sig) → Buf (Elt Bits) ℓ) (g : Dev Cert.ProjectKV.nD → PrngReg), Pre_ProjectKV m →
    θ_run (Cert.ProjectKV.defs (F := Bits)) (onTc (τ := Cert.ProjectKV.τ) (Cert.ProjectKV.main (F := Bits))) ⟨m, fun _ => 0, g⟩ (fun r => (∀ c : Dev Cert.ProjectKV.nD,
      r.2.mem ((c.tc : Thread Cert.ProjectKV.nD Cert.ProjectKV.τ).loc Cert.ProjectKV.main_arg0) = m ((c.tc : Thread Cert.ProjectKV.nD Cert.ProjectKV.τ).loc Cert.ProjectKV.main_arg0)
      ∧ r.2.mem ((c.tc : Thread Cert.ProjectKV.nD Cert.ProjectKV.τ).loc Cert.ProjectKV.main_arg1) = m ((c.tc : Thread Cert.ProjectKV.nD Cert.ProjectKV.τ).loc Cert.ProjectKV.main_arg1)
      ∧ r.2.mem ((c.tc : Thread Cert.ProjectKV.nD Cert.ProjectKV.τ).loc Cert.ProjectKV.main_arg2) = m ((c.tc : Thread Cert.ProjectKV.nD Cert.ProjectKV.τ).loc Cert.ProjectKV.main_arg2))
      ∧ r.2.sem = fun _ => 0)

def quiescent_ProjectKVIdeal [hProjectKVIdeal : Cert.ProjectKVIdeal.Facts] : Prop :=
  ∀ (m : (ℓ : Loc Cert.ProjectKVIdeal.nD Cert.ProjectKVIdeal.τ Cert.ProjectKVIdeal.sig) → Buf (Elt Ideal) ℓ) (g : Dev Cert.ProjectKVIdeal.nD → PrngReg), Pre_ProjectKVIdeal m →
    θ_run (Cert.ProjectKVIdeal.defs (F := Ideal)) (onTc (τ := Cert.ProjectKVIdeal.τ) (Cert.ProjectKVIdeal.main (F := Ideal))) ⟨m, fun _ => 0, g⟩ (fun r => (∀ c : Dev Cert.ProjectKVIdeal.nD,
      r.2.mem ((c.tc : Thread Cert.ProjectKVIdeal.nD Cert.ProjectKVIdeal.τ).loc Cert.ProjectKVIdeal.main_arg0) = m ((c.tc : Thread Cert.ProjectKVIdeal.nD Cert.ProjectKVIdeal.τ).loc Cert.ProjectKVIdeal.main_arg0)
      ∧ r.2.mem ((c.tc : Thread Cert.ProjectKVIdeal.nD Cert.ProjectKVIdeal.τ).loc Cert.ProjectKVIdeal.main_arg1) = m ((c.tc : Thread Cert.ProjectKVIdeal.nD Cert.ProjectKVIdeal.τ).loc Cert.ProjectKVIdeal.main_arg1)
      ∧ r.2.mem ((c.tc : Thread Cert.ProjectKVIdeal.nD Cert.ProjectKVIdeal.τ).loc Cert.ProjectKVIdeal.main_arg2) = m ((c.tc : Thread Cert.ProjectKVIdeal.nD Cert.ProjectKVIdeal.τ).loc Cert.ProjectKVIdeal.main_arg2))
      ∧ r.2.sem = fun _ => 0)

def quiescent_ProjectKVReferenceIdeal [hProjectKVReferenceIdeal : Cert.ProjectKVReferenceIdeal.Facts] : Prop :=
  ∀ (m : (ℓ : Loc Cert.ProjectKVReferenceIdeal.nD Cert.ProjectKVReferenceIdeal.τ Cert.ProjectKVReferenceIdeal.sig) → Buf (Elt Ideal) ℓ) (g : Dev Cert.ProjectKVReferenceIdeal.nD → PrngReg), Pre_ProjectKVReferenceIdeal m →
    θ_run (Cert.ProjectKVReferenceIdeal.defs (F := Ideal)) (onTc (τ := Cert.ProjectKVReferenceIdeal.τ) (Cert.ProjectKVReferenceIdeal.main (F := Ideal))) ⟨m, fun _ => 0, g⟩ (fun r => (∀ c : Dev Cert.ProjectKVReferenceIdeal.nD,
      r.2.mem ((c.tc : Thread Cert.ProjectKVReferenceIdeal.nD Cert.ProjectKVReferenceIdeal.τ).loc Cert.ProjectKVReferenceIdeal.main_arg0) = m ((c.tc : Thread Cert.ProjectKVReferenceIdeal.nD Cert.ProjectKVReferenceIdeal.τ).loc Cert.ProjectKVReferenceIdeal.main_arg0)
      ∧ r.2.mem ((c.tc : Thread Cert.ProjectKVReferenceIdeal.nD Cert.ProjectKVReferenceIdeal.τ).loc Cert.ProjectKVReferenceIdeal.main_arg1) = m ((c.tc : Thread Cert.ProjectKVReferenceIdeal.nD Cert.ProjectKVReferenceIdeal.τ).loc Cert.ProjectKVReferenceIdeal.main_arg1)
      ∧ r.2.mem ((c.tc : Thread Cert.ProjectKVReferenceIdeal.nD Cert.ProjectKVReferenceIdeal.τ).loc Cert.ProjectKVReferenceIdeal.main_arg2) = m ((c.tc : Thread Cert.ProjectKVReferenceIdeal.nD Cert.ProjectKVReferenceIdeal.τ).loc Cert.ProjectKVReferenceIdeal.main_arg2))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3))
      ∧ r.2.sem = fun _ => 0)

def quiescent_CombineLast [hCombineLast : Cert.CombineLast.Facts] : Prop :=
  ∀ (m : (ℓ : Loc Cert.CombineLast.nD Cert.CombineLast.τ Cert.CombineLast.sig) → Buf (Elt Bits) ℓ) (g : Dev Cert.CombineLast.nD → PrngReg), Pre_CombineLast m →
    θ_run (Cert.CombineLast.defs (F := Bits)) (onTc (τ := Cert.CombineLast.τ) (Cert.CombineLast.main (F := Bits))) ⟨m, fun _ => 0, g⟩ (fun r => (∀ c : Dev Cert.CombineLast.nD,
      r.2.mem ((c.tc : Thread Cert.CombineLast.nD Cert.CombineLast.τ).loc Cert.CombineLast.main_arg0) = m ((c.tc : Thread Cert.CombineLast.nD Cert.CombineLast.τ).loc Cert.CombineLast.main_arg0)
      ∧ r.2.mem ((c.tc : Thread Cert.CombineLast.nD Cert.CombineLast.τ).loc Cert.CombineLast.main_arg1) = m ((c.tc : Thread Cert.CombineLast.nD Cert.CombineLast.τ).loc Cert.CombineLast.main_arg1)
      ∧ r.2.mem ((c.tc : Thread Cert.CombineLast.nD Cert.CombineLast.τ).loc Cert.CombineLast.main_arg2) = m ((c.tc : Thread Cert.CombineLast.nD Cert.CombineLast.τ).loc Cert.CombineLast.main_arg2)
      ∧ r.2.mem ((c.tc : Thread Cert.CombineLast.nD Cert.CombineLast.τ).loc Cert.CombineLast.main_arg3) = m ((c.tc : Thread Cert.CombineLast.nD Cert.CombineLast.τ).loc Cert.CombineLast.main_arg3)
      ∧ r.2.mem ((c.tc : Thread Cert.CombineLast.nD Cert.CombineLast.τ).loc Cert.CombineLast.main_arg4) = m ((c.tc : Thread Cert.CombineLast.nD Cert.CombineLast.τ).loc Cert.CombineLast.main_arg4))
      ∧ r.2.sem = fun _ => 0)

def quiescent_CombineLastIdeal [hCombineLastIdeal : Cert.CombineLastIdeal.Facts] : Prop :=
  ∀ (m : (ℓ : Loc Cert.CombineLastIdeal.nD Cert.CombineLastIdeal.τ Cert.CombineLastIdeal.sig) → Buf (Elt Ideal) ℓ) (g : Dev Cert.CombineLastIdeal.nD → PrngReg), Pre_CombineLastIdeal m →
    θ_run (Cert.CombineLastIdeal.defs (F := Ideal)) (onTc (τ := Cert.CombineLastIdeal.τ) (Cert.CombineLastIdeal.main (F := Ideal))) ⟨m, fun _ => 0, g⟩ (fun r => (∀ c : Dev Cert.CombineLastIdeal.nD,
      r.2.mem ((c.tc : Thread Cert.CombineLastIdeal.nD Cert.CombineLastIdeal.τ).loc Cert.CombineLastIdeal.main_arg0) = m ((c.tc : Thread Cert.CombineLastIdeal.nD Cert.CombineLastIdeal.τ).loc Cert.CombineLastIdeal.main_arg0)
      ∧ r.2.mem ((c.tc : Thread Cert.CombineLastIdeal.nD Cert.CombineLastIdeal.τ).loc Cert.CombineLastIdeal.main_arg1) = m ((c.tc : Thread Cert.CombineLastIdeal.nD Cert.CombineLastIdeal.τ).loc Cert.CombineLastIdeal.main_arg1)
      ∧ r.2.mem ((c.tc : Thread Cert.CombineLastIdeal.nD Cert.CombineLastIdeal.τ).loc Cert.CombineLastIdeal.main_arg2) = m ((c.tc : Thread Cert.CombineLastIdeal.nD Cert.CombineLastIdeal.τ).loc Cert.CombineLastIdeal.main_arg2)
      ∧ r.2.mem ((c.tc : Thread Cert.CombineLastIdeal.nD Cert.CombineLastIdeal.τ).loc Cert.CombineLastIdeal.main_arg3) = m ((c.tc : Thread Cert.CombineLastIdeal.nD Cert.CombineLastIdeal.τ).loc Cert.CombineLastIdeal.main_arg3)
      ∧ r.2.mem ((c.tc : Thread Cert.CombineLastIdeal.nD Cert.CombineLastIdeal.τ).loc Cert.CombineLastIdeal.main_arg4) = m ((c.tc : Thread Cert.CombineLastIdeal.nD Cert.CombineLastIdeal.τ).loc Cert.CombineLastIdeal.main_arg4))
      ∧ r.2.sem = fun _ => 0)

def quiescent_CombineLastReferenceIdeal [hCombineLastReferenceIdeal : Cert.CombineLastReferenceIdeal.Facts] : Prop :=
  ∀ (m : (ℓ : Loc Cert.CombineLastReferenceIdeal.nD Cert.CombineLastReferenceIdeal.τ Cert.CombineLastReferenceIdeal.sig) → Buf (Elt Ideal) ℓ) (g : Dev Cert.CombineLastReferenceIdeal.nD → PrngReg), Pre_CombineLastReferenceIdeal m →
    θ_run (Cert.CombineLastReferenceIdeal.defs (F := Ideal)) (onTc (τ := Cert.CombineLastReferenceIdeal.τ) (Cert.CombineLastReferenceIdeal.main (F := Ideal))) ⟨m, fun _ => 0, g⟩ (fun r => (∀ c : Dev Cert.CombineLastReferenceIdeal.nD,
      r.2.mem ((c.tc : Thread Cert.CombineLastReferenceIdeal.nD Cert.CombineLastReferenceIdeal.τ).loc Cert.CombineLastReferenceIdeal.main_arg0) = m ((c.tc : Thread Cert.CombineLastReferenceIdeal.nD Cert.CombineLastReferenceIdeal.τ).loc Cert.CombineLastReferenceIdeal.main_arg0)
      ∧ r.2.mem ((c.tc : Thread Cert.CombineLastReferenceIdeal.nD Cert.CombineLastReferenceIdeal.τ).loc Cert.CombineLastReferenceIdeal.main_arg1) = m ((c.tc : Thread Cert.CombineLastReferenceIdeal.nD Cert.CombineLastReferenceIdeal.τ).loc Cert.CombineLastReferenceIdeal.main_arg1)
      ∧ r.2.mem ((c.tc : Thread Cert.CombineLastReferenceIdeal.nD Cert.CombineLastReferenceIdeal.τ).loc Cert.CombineLastReferenceIdeal.main_arg2) = m ((c.tc : Thread Cert.CombineLastReferenceIdeal.nD Cert.CombineLastReferenceIdeal.τ).loc Cert.CombineLastReferenceIdeal.main_arg2)
      ∧ r.2.mem ((c.tc : Thread Cert.CombineLastReferenceIdeal.nD Cert.CombineLastReferenceIdeal.τ).loc Cert.CombineLastReferenceIdeal.main_arg3) = m ((c.tc : Thread Cert.CombineLastReferenceIdeal.nD Cert.CombineLastReferenceIdeal.τ).loc Cert.CombineLastReferenceIdeal.main_arg3)
      ∧ r.2.mem ((c.tc : Thread Cert.CombineLastReferenceIdeal.nD Cert.CombineLastReferenceIdeal.τ).loc Cert.CombineLastReferenceIdeal.main_arg4) = m ((c.tc : Thread Cert.CombineLastReferenceIdeal.nD Cert.CombineLastReferenceIdeal.τ).loc Cert.CombineLastReferenceIdeal.main_arg4))
      ∧ r.2.sem = fun _ => 0)

def preserves_Kernel_KernelIdeal : Prop :=
  True

def algebraic_KernelIdeal_ReferenceIdeal_pre_finite_keys [hKernelIdeal : Cert.KernelIdeal.Facts] [hReferenceIdeal : Cert.ReferenceIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Experts0_Experts0Ideal : Prop :=
  True

def algebraic_Experts0Ideal_ExpertsReference0Ideal [hExperts0Ideal : Cert.Experts0Ideal.Facts] [hExpertsReference0Ideal : Cert.ExpertsReference0Ideal.Facts] [hPre_tables : Cert.Pre_tables.Facts] : Prop :=
  ∀ (m : (ℓ : Loc Cert.Experts0Ideal.nD Cert.Experts0Ideal.τ Cert.Experts0Ideal.sig) → Buf (Elt Ideal) ℓ) (g : Dev Cert.Experts0Ideal.nD → PrngReg)
    (m' : (ℓ : Loc Cert.ExpertsReference0Ideal.nD Cert.ExpertsReference0Ideal.τ Cert.ExpertsReference0Ideal.sig) → Buf (Elt Ideal) ℓ) (g' : Dev Cert.ExpertsReference0Ideal.nD → PrngReg), Pre_Experts0Ideal m →
    (∀ c : Dev Cert.Experts0Ideal.nD,
      m' ((c.tc : Thread Cert.ExpertsReference0Ideal.nD Cert.ExpertsReference0Ideal.τ).loc Cert.ExpertsReference0Ideal.main_arg0) = m ((c.tc : Thread Cert.Experts0Ideal.nD Cert.Experts0Ideal.τ).loc Cert.Experts0Ideal.main_arg0)
      ∧ m' ((c.tc : Thread Cert.ExpertsReference0Ideal.nD Cert.ExpertsReference0Ideal.τ).loc Cert.ExpertsReference0Ideal.main_arg1) = m ((c.tc : Thread Cert.Experts0Ideal.nD Cert.Experts0Ideal.τ).loc Cert.Experts0Ideal.main_arg1)
      ∧ m' ((c.tc : Thread Cert.ExpertsReference0Ideal.nD Cert.ExpertsReference0Ideal.τ).loc Cert.ExpertsReference0Ideal.main_arg2) = m ((c.tc : Thread Cert.Experts0Ideal.nD Cert.Experts0Ideal.τ).loc Cert.Experts0Ideal.main_arg2)
      ∧ m' ((c.tc : Thread Cert.ExpertsReference0Ideal.nD Cert.ExpertsReference0Ideal.τ).loc Cert.ExpertsReference0Ideal.main_arg3) = m ((c.tc : Thread Cert.Experts0Ideal.nD Cert.Experts0Ideal.τ).loc Cert.Experts0Ideal.main_arg3)
      ∧ m' ((c.tc : Thread Cert.ExpertsReference0Ideal.nD Cert.ExpertsReference0Ideal.τ).loc Cert.ExpertsReference0Ideal.main_arg4) = m ((c.tc : Thread Cert.Experts0Ideal.nD Cert.Experts0Ideal.τ).loc Cert.Experts0Ideal.main_arg4)
      ∧ m' ((c.tc : Thread Cert.ExpertsReference0Ideal.nD Cert.ExpertsReference0Ideal.τ).loc Cert.ExpertsReference0Ideal.main_arg5) = m ((c.tc : Thread Cert.Experts0Ideal.nD Cert.Experts0Ideal.τ).loc Cert.Experts0Ideal.main_arg5)
      ∧ m' ((c.tc : Thread Cert.ExpertsReference0Ideal.nD Cert.ExpertsReference0Ideal.τ).loc Cert.ExpertsReference0Ideal.main_arg6) = m ((c.tc : Thread Cert.Experts0Ideal.nD Cert.Experts0Ideal.τ).loc Cert.Experts0Ideal.main_arg6)
      ∧ m' ((c.tc : Thread Cert.ExpertsReference0Ideal.nD Cert.ExpertsReference0Ideal.τ).loc Cert.ExpertsReference0Ideal.main_arg7) = m ((c.tc : Thread Cert.Experts0Ideal.nD Cert.Experts0Ideal.τ).loc Cert.Experts0Ideal.main_arg7)) →
    ∃ (v0 : (c : Dev Cert.Experts0Ideal.nD) → Buf (Elt Ideal) ((c.tc : Thread Cert.Experts0Ideal.nD Cert.Experts0Ideal.τ).loc Cert.Experts0Ideal.main_v0)),
      θ_run (Cert.Experts0Ideal.defs (F := Ideal)) (onTc (τ := Cert.Experts0Ideal.τ) (Cert.Experts0Ideal.main (F := Ideal))) ⟨m, fun _ => 0, g⟩ (fun r => ∀ c : Dev Cert.Experts0Ideal.nD,
          r.2.mem ((c.tc : Thread Cert.Experts0Ideal.nD Cert.Experts0Ideal.τ).loc Cert.Experts0Ideal.main_v0) = v0 c
          ∧ r.2.mem ((c.tc : Thread Cert.Experts0Ideal.nD Cert.Experts0Ideal.τ).loc Cert.Experts0Ideal.main_arg0) = m ((c.tc : Thread Cert.Experts0Ideal.nD Cert.Experts0Ideal.τ).loc Cert.Experts0Ideal.main_arg0)
          ∧ r.2.mem ((c.tc : Thread Cert.Experts0Ideal.nD Cert.Experts0Ideal.τ).loc Cert.Experts0Ideal.main_arg1) = m ((c.tc : Thread Cert.Experts0Ideal.nD Cert.Experts0Ideal.τ).loc Cert.Experts0Ideal.main_arg1)
          ∧ r.2.mem ((c.tc : Thread Cert.Experts0Ideal.nD Cert.Experts0Ideal.τ).loc Cert.Experts0Ideal.main_arg2) = m ((c.tc : Thread Cert.Experts0Ideal.nD Cert.Experts0Ideal.τ).loc Cert.Experts0Ideal.main_arg2)
          ∧ r.2.mem ((c.tc : Thread Cert.Experts0Ideal.nD Cert.Experts0Ideal.τ).loc Cert.Experts0Ideal.main_arg3) = m ((c.tc : Thread Cert.Experts0Ideal.nD Cert.Experts0Ideal.τ).loc Cert.Experts0Ideal.main_arg3)
          ∧ r.2.mem ((c.tc : Thread Cert.Experts0Ideal.nD Cert.Experts0Ideal.τ).loc Cert.Experts0Ideal.main_arg4) = m ((c.tc : Thread Cert.Experts0Ideal.nD Cert.Experts0Ideal.τ).loc Cert.Experts0Ideal.main_arg4)
          ∧ r.2.mem ((c.tc : Thread Cert.Experts0Ideal.nD Cert.Experts0Ideal.τ).loc Cert.Experts0Ideal.main_arg5) = m ((c.tc : Thread Cert.Experts0Ideal.nD Cert.Experts0Ideal.τ).loc Cert.Experts0Ideal.main_arg5)
          ∧ r.2.mem ((c.tc : Thread Cert.Experts0Ideal.nD Cert.Experts0Ideal.τ).loc Cert.Experts0Ideal.main_arg6) = m ((c.tc : Thread Cert.Experts0Ideal.nD Cert.Experts0Ideal.τ).loc Cert.Experts0Ideal.main_arg6)
          ∧ r.2.mem ((c.tc : Thread Cert.Experts0Ideal.nD Cert.Experts0Ideal.τ).loc Cert.Experts0Ideal.main_arg7) = m ((c.tc : Thread Cert.Experts0Ideal.nD Cert.Experts0Ideal.τ).loc Cert.Experts0Ideal.main_arg7))
      ∧ θ_run (Cert.ExpertsReference0Ideal.defs (F := Ideal)) (onTc (τ := Cert.ExpertsReference0Ideal.τ) (Cert.ExpertsReference0Ideal.main (F := Ideal))) ⟨m', fun _ => 0, g'⟩ (fun r => ∀ c : Dev Cert.ExpertsReference0Ideal.nD,
          r.2.mem ((c.tc : Thread Cert.ExpertsReference0Ideal.nD Cert.ExpertsReference0Ideal.τ).loc Cert.ExpertsReference0Ideal.main_v49) = v0 c
          ∧ r.2.mem ((c.tc : Thread Cert.ExpertsReference0Ideal.nD Cert.ExpertsReference0Ideal.τ).loc Cert.ExpertsReference0Ideal.main_arg0) = m' ((c.tc : Thread Cert.ExpertsReference0Ideal.nD Cert.ExpertsReference0Ideal.τ).loc Cert.ExpertsReference0Ideal.main_arg0)
          ∧ r.2.mem ((c.tc : Thread Cert.ExpertsReference0Ideal.nD Cert.ExpertsReference0Ideal.τ).loc Cert.ExpertsReference0Ideal.main_arg1) = m' ((c.tc : Thread Cert.ExpertsReference0Ideal.nD Cert.ExpertsReference0Ideal.τ).loc Cert.ExpertsReference0Ideal.main_arg1)
          ∧ r.2.mem ((c.tc : Thread Cert.ExpertsReference0Ideal.nD Cert.ExpertsReference0Ideal.τ).loc Cert.ExpertsReference0Ideal.main_arg2) = m' ((c.tc : Thread Cert.ExpertsReference0Ideal.nD Cert.ExpertsReference0Ideal.τ).loc Cert.ExpertsReference0Ideal.main_arg2)
          ∧ r.2.mem ((c.tc : Thread Cert.ExpertsReference0Ideal.nD Cert.ExpertsReference0Ideal.τ).loc Cert.ExpertsReference0Ideal.main_arg3) = m' ((c.tc : Thread Cert.ExpertsReference0Ideal.nD Cert.ExpertsReference0Ideal.τ).loc Cert.ExpertsReference0Ideal.main_arg3)
          ∧ r.2.mem ((c.tc : Thread Cert.ExpertsReference0Ideal.nD Cert.ExpertsReference0Ideal.τ).loc Cert.ExpertsReference0Ideal.main_arg4) = m' ((c.tc : Thread Cert.ExpertsReference0Ideal.nD Cert.ExpertsReference0Ideal.τ).loc Cert.ExpertsReference0Ideal.main_arg4)
          ∧ r.2.mem ((c.tc : Thread Cert.ExpertsReference0Ideal.nD Cert.ExpertsReference0Ideal.τ).loc Cert.ExpertsReference0Ideal.main_arg5) = m' ((c.tc : Thread Cert.ExpertsReference0Ideal.nD Cert.ExpertsReference0Ideal.τ).loc Cert.ExpertsReference0Ideal.main_arg5)
          ∧ r.2.mem ((c.tc : Thread Cert.ExpertsReference0Ideal.nD Cert.ExpertsReference0Ideal.τ).loc Cert.ExpertsReference0Ideal.main_arg6) = m' ((c.tc : Thread Cert.ExpertsReference0Ideal.nD Cert.ExpertsReference0Ideal.τ).loc Cert.ExpertsReference0Ideal.main_arg6)
          ∧ r.2.mem ((c.tc : Thread Cert.ExpertsReference0Ideal.nD Cert.ExpertsReference0Ideal.τ).loc Cert.ExpertsReference0Ideal.main_arg7) = m' ((c.tc : Thread Cert.ExpertsReference0Ideal.nD Cert.ExpertsReference0Ideal.τ).loc Cert.ExpertsReference0Ideal.main_arg7))

def preserves_Experts1_Experts1Ideal : Prop :=
  True

def algebraic_Experts1Ideal_ExpertsReference1Ideal [hExperts1Ideal : Cert.Experts1Ideal.Facts] [hExpertsReference1Ideal : Cert.ExpertsReference1Ideal.Facts] [hPre_tables : Cert.Pre_tables.Facts] : Prop :=
  ∀ (m : (ℓ : Loc Cert.Experts1Ideal.nD Cert.Experts1Ideal.τ Cert.Experts1Ideal.sig) → Buf (Elt Ideal) ℓ) (g : Dev Cert.Experts1Ideal.nD → PrngReg)
    (m' : (ℓ : Loc Cert.ExpertsReference1Ideal.nD Cert.ExpertsReference1Ideal.τ Cert.ExpertsReference1Ideal.sig) → Buf (Elt Ideal) ℓ) (g' : Dev Cert.ExpertsReference1Ideal.nD → PrngReg), Pre_Experts1Ideal m →
    (∀ c : Dev Cert.Experts1Ideal.nD,
      m' ((c.tc : Thread Cert.ExpertsReference1Ideal.nD Cert.ExpertsReference1Ideal.τ).loc Cert.ExpertsReference1Ideal.main_arg0) = m ((c.tc : Thread Cert.Experts1Ideal.nD Cert.Experts1Ideal.τ).loc Cert.Experts1Ideal.main_arg0)
      ∧ m' ((c.tc : Thread Cert.ExpertsReference1Ideal.nD Cert.ExpertsReference1Ideal.τ).loc Cert.ExpertsReference1Ideal.main_arg1) = m ((c.tc : Thread Cert.Experts1Ideal.nD Cert.Experts1Ideal.τ).loc Cert.Experts1Ideal.main_arg1)
      ∧ m' ((c.tc : Thread Cert.ExpertsReference1Ideal.nD Cert.ExpertsReference1Ideal.τ).loc Cert.ExpertsReference1Ideal.main_arg2) = m ((c.tc : Thread Cert.Experts1Ideal.nD Cert.Experts1Ideal.τ).loc Cert.Experts1Ideal.main_arg2)
      ∧ m' ((c.tc : Thread Cert.ExpertsReference1Ideal.nD Cert.ExpertsReference1Ideal.τ).loc Cert.ExpertsReference1Ideal.main_arg3) = m ((c.tc : Thread Cert.Experts1Ideal.nD Cert.Experts1Ideal.τ).loc Cert.Experts1Ideal.main_arg3)
      ∧ m' ((c.tc : Thread Cert.ExpertsReference1Ideal.nD Cert.ExpertsReference1Ideal.τ).loc Cert.ExpertsReference1Ideal.main_arg4) = m ((c.tc : Thread Cert.Experts1Ideal.nD Cert.Experts1Ideal.τ).loc Cert.Experts1Ideal.main_arg4)
      ∧ m' ((c.tc : Thread Cert.ExpertsReference1Ideal.nD Cert.ExpertsReference1Ideal.τ).loc Cert.ExpertsReference1Ideal.main_arg5) = m ((c.tc : Thread Cert.Experts1Ideal.nD Cert.Experts1Ideal.τ).loc Cert.Experts1Ideal.main_arg5)
      ∧ m' ((c.tc : Thread Cert.ExpertsReference1Ideal.nD Cert.ExpertsReference1Ideal.τ).loc Cert.ExpertsReference1Ideal.main_arg6) = m ((c.tc : Thread Cert.Experts1Ideal.nD Cert.Experts1Ideal.τ).loc Cert.Experts1Ideal.main_arg6)
      ∧ m' ((c.tc : Thread Cert.ExpertsReference1Ideal.nD Cert.ExpertsReference1Ideal.τ).loc Cert.ExpertsReference1Ideal.main_arg7) = m ((c.tc : Thread Cert.Experts1Ideal.nD Cert.Experts1Ideal.τ).loc Cert.Experts1Ideal.main_arg7)) →
    ∃ (v0 : (c : Dev Cert.Experts1Ideal.nD) → Buf (Elt Ideal) ((c.tc : Thread Cert.Experts1Ideal.nD Cert.Experts1Ideal.τ).loc Cert.Experts1Ideal.main_v0)),
      θ_run (Cert.Experts1Ideal.defs (F := Ideal)) (onTc (τ := Cert.Experts1Ideal.τ) (Cert.Experts1Ideal.main (F := Ideal))) ⟨m, fun _ => 0, g⟩ (fun r => ∀ c : Dev Cert.Experts1Ideal.nD,
          r.2.mem ((c.tc : Thread Cert.Experts1Ideal.nD Cert.Experts1Ideal.τ).loc Cert.Experts1Ideal.main_v0) = v0 c
          ∧ r.2.mem ((c.tc : Thread Cert.Experts1Ideal.nD Cert.Experts1Ideal.τ).loc Cert.Experts1Ideal.main_arg0) = m ((c.tc : Thread Cert.Experts1Ideal.nD Cert.Experts1Ideal.τ).loc Cert.Experts1Ideal.main_arg0)
          ∧ r.2.mem ((c.tc : Thread Cert.Experts1Ideal.nD Cert.Experts1Ideal.τ).loc Cert.Experts1Ideal.main_arg1) = m ((c.tc : Thread Cert.Experts1Ideal.nD Cert.Experts1Ideal.τ).loc Cert.Experts1Ideal.main_arg1)
          ∧ r.2.mem ((c.tc : Thread Cert.Experts1Ideal.nD Cert.Experts1Ideal.τ).loc Cert.Experts1Ideal.main_arg2) = m ((c.tc : Thread Cert.Experts1Ideal.nD Cert.Experts1Ideal.τ).loc Cert.Experts1Ideal.main_arg2)
          ∧ r.2.mem ((c.tc : Thread Cert.Experts1Ideal.nD Cert.Experts1Ideal.τ).loc Cert.Experts1Ideal.main_arg3) = m ((c.tc : Thread Cert.Experts1Ideal.nD Cert.Experts1Ideal.τ).loc Cert.Experts1Ideal.main_arg3)
          ∧ r.2.mem ((c.tc : Thread Cert.Experts1Ideal.nD Cert.Experts1Ideal.τ).loc Cert.Experts1Ideal.main_arg4) = m ((c.tc : Thread Cert.Experts1Ideal.nD Cert.Experts1Ideal.τ).loc Cert.Experts1Ideal.main_arg4)
          ∧ r.2.mem ((c.tc : Thread Cert.Experts1Ideal.nD Cert.Experts1Ideal.τ).loc Cert.Experts1Ideal.main_arg5) = m ((c.tc : Thread Cert.Experts1Ideal.nD Cert.Experts1Ideal.τ).loc Cert.Experts1Ideal.main_arg5)
          ∧ r.2.mem ((c.tc : Thread Cert.Experts1Ideal.nD Cert.Experts1Ideal.τ).loc Cert.Experts1Ideal.main_arg6) = m ((c.tc : Thread Cert.Experts1Ideal.nD Cert.Experts1Ideal.τ).loc Cert.Experts1Ideal.main_arg6)
          ∧ r.2.mem ((c.tc : Thread Cert.Experts1Ideal.nD Cert.Experts1Ideal.τ).loc Cert.Experts1Ideal.main_arg7) = m ((c.tc : Thread Cert.Experts1Ideal.nD Cert.Experts1Ideal.τ).loc Cert.Experts1Ideal.main_arg7))
      ∧ θ_run (Cert.ExpertsReference1Ideal.defs (F := Ideal)) (onTc (τ := Cert.ExpertsReference1Ideal.τ) (Cert.ExpertsReference1Ideal.main (F := Ideal))) ⟨m', fun _ => 0, g'⟩ (fun r => ∀ c : Dev Cert.ExpertsReference1Ideal.nD,
          r.2.mem ((c.tc : Thread Cert.ExpertsReference1Ideal.nD Cert.ExpertsReference1Ideal.τ).loc Cert.ExpertsReference1Ideal.main_v49) = v0 c
          ∧ r.2.mem ((c.tc : Thread Cert.ExpertsReference1Ideal.nD Cert.ExpertsReference1Ideal.τ).loc Cert.ExpertsReference1Ideal.main_arg0) = m' ((c.tc : Thread Cert.ExpertsReference1Ideal.nD Cert.ExpertsReference1Ideal.τ).loc Cert.ExpertsReference1Ideal.main_arg0)
          ∧ r.2.mem ((c.tc : Thread Cert.ExpertsReference1Ideal.nD Cert.ExpertsReference1Ideal.τ).loc Cert.ExpertsReference1Ideal.main_arg1) = m' ((c.tc : Thread Cert.ExpertsReference1Ideal.nD Cert.ExpertsReference1Ideal.τ).loc Cert.ExpertsReference1Ideal.main_arg1)
          ∧ r.2.mem ((c.tc : Thread Cert.ExpertsReference1Ideal.nD Cert.ExpertsReference1Ideal.τ).loc Cert.ExpertsReference1Ideal.main_arg2) = m' ((c.tc : Thread Cert.ExpertsReference1Ideal.nD Cert.ExpertsReference1Ideal.τ).loc Cert.ExpertsReference1Ideal.main_arg2)
          ∧ r.2.mem ((c.tc : Thread Cert.ExpertsReference1Ideal.nD Cert.ExpertsReference1Ideal.τ).loc Cert.ExpertsReference1Ideal.main_arg3) = m' ((c.tc : Thread Cert.ExpertsReference1Ideal.nD Cert.ExpertsReference1Ideal.τ).loc Cert.ExpertsReference1Ideal.main_arg3)
          ∧ r.2.mem ((c.tc : Thread Cert.ExpertsReference1Ideal.nD Cert.ExpertsReference1Ideal.τ).loc Cert.ExpertsReference1Ideal.main_arg4) = m' ((c.tc : Thread Cert.ExpertsReference1Ideal.nD Cert.ExpertsReference1Ideal.τ).loc Cert.ExpertsReference1Ideal.main_arg4)
          ∧ r.2.mem ((c.tc : Thread Cert.ExpertsReference1Ideal.nD Cert.ExpertsReference1Ideal.τ).loc Cert.ExpertsReference1Ideal.main_arg5) = m' ((c.tc : Thread Cert.ExpertsReference1Ideal.nD Cert.ExpertsReference1Ideal.τ).loc Cert.ExpertsReference1Ideal.main_arg5)
          ∧ r.2.mem ((c.tc : Thread Cert.ExpertsReference1Ideal.nD Cert.ExpertsReference1Ideal.τ).loc Cert.ExpertsReference1Ideal.main_arg6) = m' ((c.tc : Thread Cert.ExpertsReference1Ideal.nD Cert.ExpertsReference1Ideal.τ).loc Cert.ExpertsReference1Ideal.main_arg6)
          ∧ r.2.mem ((c.tc : Thread Cert.ExpertsReference1Ideal.nD Cert.ExpertsReference1Ideal.τ).loc Cert.ExpertsReference1Ideal.main_arg7) = m' ((c.tc : Thread Cert.ExpertsReference1Ideal.nD Cert.ExpertsReference1Ideal.τ).loc Cert.ExpertsReference1Ideal.main_arg7))

def preserves_Experts2_Experts2Ideal : Prop :=
  True

def algebraic_Experts2Ideal_ExpertsReference2Ideal [hExperts2Ideal : Cert.Experts2Ideal.Facts] [hExpertsReference2Ideal : Cert.ExpertsReference2Ideal.Facts] [hPre_tables : Cert.Pre_tables.Facts] : Prop :=
  ∀ (m : (ℓ : Loc Cert.Experts2Ideal.nD Cert.Experts2Ideal.τ Cert.Experts2Ideal.sig) → Buf (Elt Ideal) ℓ) (g : Dev Cert.Experts2Ideal.nD → PrngReg)
    (m' : (ℓ : Loc Cert.ExpertsReference2Ideal.nD Cert.ExpertsReference2Ideal.τ Cert.ExpertsReference2Ideal.sig) → Buf (Elt Ideal) ℓ) (g' : Dev Cert.ExpertsReference2Ideal.nD → PrngReg), Pre_Experts2Ideal m →
    (∀ c : Dev Cert.Experts2Ideal.nD,
      m' ((c.tc : Thread Cert.ExpertsReference2Ideal.nD Cert.ExpertsReference2Ideal.τ).loc Cert.ExpertsReference2Ideal.main_arg0) = m ((c.tc : Thread Cert.Experts2Ideal.nD Cert.Experts2Ideal.τ).loc Cert.Experts2Ideal.main_arg0)
      ∧ m' ((c.tc : Thread Cert.ExpertsReference2Ideal.nD Cert.ExpertsReference2Ideal.τ).loc Cert.ExpertsReference2Ideal.main_arg1) = m ((c.tc : Thread Cert.Experts2Ideal.nD Cert.Experts2Ideal.τ).loc Cert.Experts2Ideal.main_arg1)
      ∧ m' ((c.tc : Thread Cert.ExpertsReference2Ideal.nD Cert.ExpertsReference2Ideal.τ).loc Cert.ExpertsReference2Ideal.main_arg2) = m ((c.tc : Thread Cert.Experts2Ideal.nD Cert.Experts2Ideal.τ).loc Cert.Experts2Ideal.main_arg2)
      ∧ m' ((c.tc : Thread Cert.ExpertsReference2Ideal.nD Cert.ExpertsReference2Ideal.τ).loc Cert.ExpertsReference2Ideal.main_arg3) = m ((c.tc : Thread Cert.Experts2Ideal.nD Cert.Experts2Ideal.τ).loc Cert.Experts2Ideal.main_arg3)
      ∧ m' ((c.tc : Thread Cert.ExpertsReference2Ideal.nD Cert.ExpertsReference2Ideal.τ).loc Cert.ExpertsReference2Ideal.main_arg4) = m ((c.tc : Thread Cert.Experts2Ideal.nD Cert.Experts2Ideal.τ).loc Cert.Experts2Ideal.main_arg4)
      ∧ m' ((c.tc : Thread Cert.ExpertsReference2Ideal.nD Cert.ExpertsReference2Ideal.τ).loc Cert.ExpertsReference2Ideal.main_arg5) = m ((c.tc : Thread Cert.Experts2Ideal.nD Cert.Experts2Ideal.τ).loc Cert.Experts2Ideal.main_arg5)
      ∧ m' ((c.tc : Thread Cert.ExpertsReference2Ideal.nD Cert.ExpertsReference2Ideal.τ).loc Cert.ExpertsReference2Ideal.main_arg6) = m ((c.tc : Thread Cert.Experts2Ideal.nD Cert.Experts2Ideal.τ).loc Cert.Experts2Ideal.main_arg6)
      ∧ m' ((c.tc : Thread Cert.ExpertsReference2Ideal.nD Cert.ExpertsReference2Ideal.τ).loc Cert.ExpertsReference2Ideal.main_arg7) = m ((c.tc : Thread Cert.Experts2Ideal.nD Cert.Experts2Ideal.τ).loc Cert.Experts2Ideal.main_arg7)) →
    ∃ (v0 : (c : Dev Cert.Experts2Ideal.nD) → Buf (Elt Ideal) ((c.tc : Thread Cert.Experts2Ideal.nD Cert.Experts2Ideal.τ).loc Cert.Experts2Ideal.main_v0)),
      θ_run (Cert.Experts2Ideal.defs (F := Ideal)) (onTc (τ := Cert.Experts2Ideal.τ) (Cert.Experts2Ideal.main (F := Ideal))) ⟨m, fun _ => 0, g⟩ (fun r => ∀ c : Dev Cert.Experts2Ideal.nD,
          r.2.mem ((c.tc : Thread Cert.Experts2Ideal.nD Cert.Experts2Ideal.τ).loc Cert.Experts2Ideal.main_v0) = v0 c
          ∧ r.2.mem ((c.tc : Thread Cert.Experts2Ideal.nD Cert.Experts2Ideal.τ).loc Cert.Experts2Ideal.main_arg0) = m ((c.tc : Thread Cert.Experts2Ideal.nD Cert.Experts2Ideal.τ).loc Cert.Experts2Ideal.main_arg0)
          ∧ r.2.mem ((c.tc : Thread Cert.Experts2Ideal.nD Cert.Experts2Ideal.τ).loc Cert.Experts2Ideal.main_arg1) = m ((c.tc : Thread Cert.Experts2Ideal.nD Cert.Experts2Ideal.τ).loc Cert.Experts2Ideal.main_arg1)
          ∧ r.2.mem ((c.tc : Thread Cert.Experts2Ideal.nD Cert.Experts2Ideal.τ).loc Cert.Experts2Ideal.main_arg2) = m ((c.tc : Thread Cert.Experts2Ideal.nD Cert.Experts2Ideal.τ).loc Cert.Experts2Ideal.main_arg2)
          ∧ r.2.mem ((c.tc : Thread Cert.Experts2Ideal.nD Cert.Experts2Ideal.τ).loc Cert.Experts2Ideal.main_arg3) = m ((c.tc : Thread Cert.Experts2Ideal.nD Cert.Experts2Ideal.τ).loc Cert.Experts2Ideal.main_arg3)
          ∧ r.2.mem ((c.tc : Thread Cert.Experts2Ideal.nD Cert.Experts2Ideal.τ).loc Cert.Experts2Ideal.main_arg4) = m ((c.tc : Thread Cert.Experts2Ideal.nD Cert.Experts2Ideal.τ).loc Cert.Experts2Ideal.main_arg4)
          ∧ r.2.mem ((c.tc : Thread Cert.Experts2Ideal.nD Cert.Experts2Ideal.τ).loc Cert.Experts2Ideal.main_arg5) = m ((c.tc : Thread Cert.Experts2Ideal.nD Cert.Experts2Ideal.τ).loc Cert.Experts2Ideal.main_arg5)
          ∧ r.2.mem ((c.tc : Thread Cert.Experts2Ideal.nD Cert.Experts2Ideal.τ).loc Cert.Experts2Ideal.main_arg6) = m ((c.tc : Thread Cert.Experts2Ideal.nD Cert.Experts2Ideal.τ).loc Cert.Experts2Ideal.main_arg6)
          ∧ r.2.mem ((c.tc : Thread Cert.Experts2Ideal.nD Cert.Experts2Ideal.τ).loc Cert.Experts2Ideal.main_arg7) = m ((c.tc : Thread Cert.Experts2Ideal.nD Cert.Experts2Ideal.τ).loc Cert.Experts2Ideal.main_arg7))
      ∧ θ_run (Cert.ExpertsReference2Ideal.defs (F := Ideal)) (onTc (τ := Cert.ExpertsReference2Ideal.τ) (Cert.ExpertsReference2Ideal.main (F := Ideal))) ⟨m', fun _ => 0, g'⟩ (fun r => ∀ c : Dev Cert.ExpertsReference2Ideal.nD,
          r.2.mem ((c.tc : Thread Cert.ExpertsReference2Ideal.nD Cert.ExpertsReference2Ideal.τ).loc Cert.ExpertsReference2Ideal.main_v49) = v0 c
          ∧ r.2.mem ((c.tc : Thread Cert.ExpertsReference2Ideal.nD Cert.ExpertsReference2Ideal.τ).loc Cert.ExpertsReference2Ideal.main_arg0) = m' ((c.tc : Thread Cert.ExpertsReference2Ideal.nD Cert.ExpertsReference2Ideal.τ).loc Cert.ExpertsReference2Ideal.main_arg0)
          ∧ r.2.mem ((c.tc : Thread Cert.ExpertsReference2Ideal.nD Cert.ExpertsReference2Ideal.τ).loc Cert.ExpertsReference2Ideal.main_arg1) = m' ((c.tc : Thread Cert.ExpertsReference2Ideal.nD Cert.ExpertsReference2Ideal.τ).loc Cert.ExpertsReference2Ideal.main_arg1)
          ∧ r.2.mem ((c.tc : Thread Cert.ExpertsReference2Ideal.nD Cert.ExpertsReference2Ideal.τ).loc Cert.ExpertsReference2Ideal.main_arg2) = m' ((c.tc : Thread Cert.ExpertsReference2Ideal.nD Cert.ExpertsReference2Ideal.τ).loc Cert.ExpertsReference2Ideal.main_arg2)
          ∧ r.2.mem ((c.tc : Thread Cert.ExpertsReference2Ideal.nD Cert.ExpertsReference2Ideal.τ).loc Cert.ExpertsReference2Ideal.main_arg3) = m' ((c.tc : Thread Cert.ExpertsReference2Ideal.nD Cert.ExpertsReference2Ideal.τ).loc Cert.ExpertsReference2Ideal.main_arg3)
          ∧ r.2.mem ((c.tc : Thread Cert.ExpertsReference2Ideal.nD Cert.ExpertsReference2Ideal.τ).loc Cert.ExpertsReference2Ideal.main_arg4) = m' ((c.tc : Thread Cert.ExpertsReference2Ideal.nD Cert.ExpertsReference2Ideal.τ).loc Cert.ExpertsReference2Ideal.main_arg4)
          ∧ r.2.mem ((c.tc : Thread Cert.ExpertsReference2Ideal.nD Cert.ExpertsReference2Ideal.τ).loc Cert.ExpertsReference2Ideal.main_arg5) = m' ((c.tc : Thread Cert.ExpertsReference2Ideal.nD Cert.ExpertsReference2Ideal.τ).loc Cert.ExpertsReference2Ideal.main_arg5)
          ∧ r.2.mem ((c.tc : Thread Cert.ExpertsReference2Ideal.nD Cert.ExpertsReference2Ideal.τ).loc Cert.ExpertsReference2Ideal.main_arg6) = m' ((c.tc : Thread Cert.ExpertsReference2Ideal.nD Cert.ExpertsReference2Ideal.τ).loc Cert.ExpertsReference2Ideal.main_arg6)
          ∧ r.2.mem ((c.tc : Thread Cert.ExpertsReference2Ideal.nD Cert.ExpertsReference2Ideal.τ).loc Cert.ExpertsReference2Ideal.main_arg7) = m' ((c.tc : Thread Cert.ExpertsReference2Ideal.nD Cert.ExpertsReference2Ideal.τ).loc Cert.ExpertsReference2Ideal.main_arg7))

def preserves_Experts3_Experts3Ideal : Prop :=
  True

def algebraic_Experts3Ideal_ExpertsReference3Ideal [hExperts3Ideal : Cert.Experts3Ideal.Facts] [hExpertsReference3Ideal : Cert.ExpertsReference3Ideal.Facts] [hPre_tables : Cert.Pre_tables.Facts] : Prop :=
  ∀ (m : (ℓ : Loc Cert.Experts3Ideal.nD Cert.Experts3Ideal.τ Cert.Experts3Ideal.sig) → Buf (Elt Ideal) ℓ) (g : Dev Cert.Experts3Ideal.nD → PrngReg)
    (m' : (ℓ : Loc Cert.ExpertsReference3Ideal.nD Cert.ExpertsReference3Ideal.τ Cert.ExpertsReference3Ideal.sig) → Buf (Elt Ideal) ℓ) (g' : Dev Cert.ExpertsReference3Ideal.nD → PrngReg), Pre_Experts3Ideal m →
    (∀ c : Dev Cert.Experts3Ideal.nD,
      m' ((c.tc : Thread Cert.ExpertsReference3Ideal.nD Cert.ExpertsReference3Ideal.τ).loc Cert.ExpertsReference3Ideal.main_arg0) = m ((c.tc : Thread Cert.Experts3Ideal.nD Cert.Experts3Ideal.τ).loc Cert.Experts3Ideal.main_arg0)
      ∧ m' ((c.tc : Thread Cert.ExpertsReference3Ideal.nD Cert.ExpertsReference3Ideal.τ).loc Cert.ExpertsReference3Ideal.main_arg1) = m ((c.tc : Thread Cert.Experts3Ideal.nD Cert.Experts3Ideal.τ).loc Cert.Experts3Ideal.main_arg1)
      ∧ m' ((c.tc : Thread Cert.ExpertsReference3Ideal.nD Cert.ExpertsReference3Ideal.τ).loc Cert.ExpertsReference3Ideal.main_arg2) = m ((c.tc : Thread Cert.Experts3Ideal.nD Cert.Experts3Ideal.τ).loc Cert.Experts3Ideal.main_arg2)
      ∧ m' ((c.tc : Thread Cert.ExpertsReference3Ideal.nD Cert.ExpertsReference3Ideal.τ).loc Cert.ExpertsReference3Ideal.main_arg3) = m ((c.tc : Thread Cert.Experts3Ideal.nD Cert.Experts3Ideal.τ).loc Cert.Experts3Ideal.main_arg3)
      ∧ m' ((c.tc : Thread Cert.ExpertsReference3Ideal.nD Cert.ExpertsReference3Ideal.τ).loc Cert.ExpertsReference3Ideal.main_arg4) = m ((c.tc : Thread Cert.Experts3Ideal.nD Cert.Experts3Ideal.τ).loc Cert.Experts3Ideal.main_arg4)
      ∧ m' ((c.tc : Thread Cert.ExpertsReference3Ideal.nD Cert.ExpertsReference3Ideal.τ).loc Cert.ExpertsReference3Ideal.main_arg5) = m ((c.tc : Thread Cert.Experts3Ideal.nD Cert.Experts3Ideal.τ).loc Cert.Experts3Ideal.main_arg5)
      ∧ m' ((c.tc : Thread Cert.ExpertsReference3Ideal.nD Cert.ExpertsReference3Ideal.τ).loc Cert.ExpertsReference3Ideal.main_arg6) = m ((c.tc : Thread Cert.Experts3Ideal.nD Cert.Experts3Ideal.τ).loc Cert.Experts3Ideal.main_arg6)
      ∧ m' ((c.tc : Thread Cert.ExpertsReference3Ideal.nD Cert.ExpertsReference3Ideal.τ).loc Cert.ExpertsReference3Ideal.main_arg7) = m ((c.tc : Thread Cert.Experts3Ideal.nD Cert.Experts3Ideal.τ).loc Cert.Experts3Ideal.main_arg7)) →
    ∃ (v0 : (c : Dev Cert.Experts3Ideal.nD) → Buf (Elt Ideal) ((c.tc : Thread Cert.Experts3Ideal.nD Cert.Experts3Ideal.τ).loc Cert.Experts3Ideal.main_v0)),
      θ_run (Cert.Experts3Ideal.defs (F := Ideal)) (onTc (τ := Cert.Experts3Ideal.τ) (Cert.Experts3Ideal.main (F := Ideal))) ⟨m, fun _ => 0, g⟩ (fun r => ∀ c : Dev Cert.Experts3Ideal.nD,
          r.2.mem ((c.tc : Thread Cert.Experts3Ideal.nD Cert.Experts3Ideal.τ).loc Cert.Experts3Ideal.main_v0) = v0 c
          ∧ r.2.mem ((c.tc : Thread Cert.Experts3Ideal.nD Cert.Experts3Ideal.τ).loc Cert.Experts3Ideal.main_arg0) = m ((c.tc : Thread Cert.Experts3Ideal.nD Cert.Experts3Ideal.τ).loc Cert.Experts3Ideal.main_arg0)
          ∧ r.2.mem ((c.tc : Thread Cert.Experts3Ideal.nD Cert.Experts3Ideal.τ).loc Cert.Experts3Ideal.main_arg1) = m ((c.tc : Thread Cert.Experts3Ideal.nD Cert.Experts3Ideal.τ).loc Cert.Experts3Ideal.main_arg1)
          ∧ r.2.mem ((c.tc : Thread Cert.Experts3Ideal.nD Cert.Experts3Ideal.τ).loc Cert.Experts3Ideal.main_arg2) = m ((c.tc : Thread Cert.Experts3Ideal.nD Cert.Experts3Ideal.τ).loc Cert.Experts3Ideal.main_arg2)
          ∧ r.2.mem ((c.tc : Thread Cert.Experts3Ideal.nD Cert.Experts3Ideal.τ).loc Cert.Experts3Ideal.main_arg3) = m ((c.tc : Thread Cert.Experts3Ideal.nD Cert.Experts3Ideal.τ).loc Cert.Experts3Ideal.main_arg3)
          ∧ r.2.mem ((c.tc : Thread Cert.Experts3Ideal.nD Cert.Experts3Ideal.τ).loc Cert.Experts3Ideal.main_arg4) = m ((c.tc : Thread Cert.Experts3Ideal.nD Cert.Experts3Ideal.τ).loc Cert.Experts3Ideal.main_arg4)
          ∧ r.2.mem ((c.tc : Thread Cert.Experts3Ideal.nD Cert.Experts3Ideal.τ).loc Cert.Experts3Ideal.main_arg5) = m ((c.tc : Thread Cert.Experts3Ideal.nD Cert.Experts3Ideal.τ).loc Cert.Experts3Ideal.main_arg5)
          ∧ r.2.mem ((c.tc : Thread Cert.Experts3Ideal.nD Cert.Experts3Ideal.τ).loc Cert.Experts3Ideal.main_arg6) = m ((c.tc : Thread Cert.Experts3Ideal.nD Cert.Experts3Ideal.τ).loc Cert.Experts3Ideal.main_arg6)
          ∧ r.2.mem ((c.tc : Thread Cert.Experts3Ideal.nD Cert.Experts3Ideal.τ).loc Cert.Experts3Ideal.main_arg7) = m ((c.tc : Thread Cert.Experts3Ideal.nD Cert.Experts3Ideal.τ).loc Cert.Experts3Ideal.main_arg7))
      ∧ θ_run (Cert.ExpertsReference3Ideal.defs (F := Ideal)) (onTc (τ := Cert.ExpertsReference3Ideal.τ) (Cert.ExpertsReference3Ideal.main (F := Ideal))) ⟨m', fun _ => 0, g'⟩ (fun r => ∀ c : Dev Cert.ExpertsReference3Ideal.nD,
          r.2.mem ((c.tc : Thread Cert.ExpertsReference3Ideal.nD Cert.ExpertsReference3Ideal.τ).loc Cert.ExpertsReference3Ideal.main_v49) = v0 c
          ∧ r.2.mem ((c.tc : Thread Cert.ExpertsReference3Ideal.nD Cert.ExpertsReference3Ideal.τ).loc Cert.ExpertsReference3Ideal.main_arg0) = m' ((c.tc : Thread Cert.ExpertsReference3Ideal.nD Cert.ExpertsReference3Ideal.τ).loc Cert.ExpertsReference3Ideal.main_arg0)
          ∧ r.2.mem ((c.tc : Thread Cert.ExpertsReference3Ideal.nD Cert.ExpertsReference3Ideal.τ).loc Cert.ExpertsReference3Ideal.main_arg1) = m' ((c.tc : Thread Cert.ExpertsReference3Ideal.nD Cert.ExpertsReference3Ideal.τ).loc Cert.ExpertsReference3Ideal.main_arg1)
          ∧ r.2.mem ((c.tc : Thread Cert.ExpertsReference3Ideal.nD Cert.ExpertsReference3Ideal.τ).loc Cert.ExpertsReference3Ideal.main_arg2) = m' ((c.tc : Thread Cert.ExpertsReference3Ideal.nD Cert.ExpertsReference3Ideal.τ).loc Cert.ExpertsReference3Ideal.main_arg2)
          ∧ r.2.mem ((c.tc : Thread Cert.ExpertsReference3Ideal.nD Cert.ExpertsReference3Ideal.τ).loc Cert.ExpertsReference3Ideal.main_arg3) = m' ((c.tc : Thread Cert.ExpertsReference3Ideal.nD Cert.ExpertsReference3Ideal.τ).loc Cert.ExpertsReference3Ideal.main_arg3)
          ∧ r.2.mem ((c.tc : Thread Cert.ExpertsReference3Ideal.nD Cert.ExpertsReference3Ideal.τ).loc Cert.ExpertsReference3Ideal.main_arg4) = m' ((c.tc : Thread Cert.ExpertsReference3Ideal.nD Cert.ExpertsReference3Ideal.τ).loc Cert.ExpertsReference3Ideal.main_arg4)
          ∧ r.2.mem ((c.tc : Thread Cert.ExpertsReference3Ideal.nD Cert.ExpertsReference3Ideal.τ).loc Cert.ExpertsReference3Ideal.main_arg5) = m' ((c.tc : Thread Cert.ExpertsReference3Ideal.nD Cert.ExpertsReference3Ideal.τ).loc Cert.ExpertsReference3Ideal.main_arg5)
          ∧ r.2.mem ((c.tc : Thread Cert.ExpertsReference3Ideal.nD Cert.ExpertsReference3Ideal.τ).loc Cert.ExpertsReference3Ideal.main_arg6) = m' ((c.tc : Thread Cert.ExpertsReference3Ideal.nD Cert.ExpertsReference3Ideal.τ).loc Cert.ExpertsReference3Ideal.main_arg6)
          ∧ r.2.mem ((c.tc : Thread Cert.ExpertsReference3Ideal.nD Cert.ExpertsReference3Ideal.τ).loc Cert.ExpertsReference3Ideal.main_arg7) = m' ((c.tc : Thread Cert.ExpertsReference3Ideal.nD Cert.ExpertsReference3Ideal.τ).loc Cert.ExpertsReference3Ideal.main_arg7))

def preserves_ProjectAB_ProjectABIdeal : Prop :=
  True

def algebraic_ProjectABIdeal_ProjectABReferenceIdeal [hProjectABIdeal : Cert.ProjectABIdeal.Facts] [hProjectABReferenceIdeal : Cert.ProjectABReferenceIdeal.Facts] : Prop :=
  ∀ (m : (ℓ : Loc Cert.ProjectABIdeal.nD Cert.ProjectABIdeal.τ Cert.ProjectABIdeal.sig) → Buf (Elt Ideal) ℓ) (g : Dev Cert.ProjectABIdeal.nD → PrngReg)
    (m' : (ℓ : Loc Cert.ProjectABReferenceIdeal.nD Cert.ProjectABReferenceIdeal.τ Cert.ProjectABReferenceIdeal.sig) → Buf (Elt Ideal) ℓ) (g' : Dev Cert.ProjectABReferenceIdeal.nD → PrngReg), Pre_ProjectABIdeal m →
    (∀ c : Dev Cert.ProjectABIdeal.nD,
      m' ((c.tc : Thread Cert.ProjectABReferenceIdeal.nD Cert.ProjectABReferenceIdeal.τ).loc Cert.ProjectABReferenceIdeal.main_arg0) = m ((c.tc : Thread Cert.ProjectABIdeal.nD Cert.ProjectABIdeal.τ).loc Cert.ProjectABIdeal.main_arg0)
      ∧ m' ((c.tc : Thread Cert.ProjectABReferenceIdeal.nD Cert.ProjectABReferenceIdeal.τ).loc Cert.ProjectABReferenceIdeal.main_arg1) = m ((c.tc : Thread Cert.ProjectABIdeal.nD Cert.ProjectABIdeal.τ).loc Cert.ProjectABIdeal.main_arg1)
      ∧ m' ((c.tc : Thread Cert.ProjectABReferenceIdeal.nD Cert.ProjectABReferenceIdeal.τ).loc Cert.ProjectABReferenceIdeal.main_arg2) = m ((c.tc : Thread Cert.ProjectABIdeal.nD Cert.ProjectABIdeal.τ).loc Cert.ProjectABIdeal.main_arg2)
      ∧ m' ((c.tc : Thread Cert.ProjectABReferenceIdeal.nD Cert.ProjectABReferenceIdeal.τ).loc Cert.ProjectABReferenceIdeal.main_arg3) = m ((c.tc : Thread Cert.ProjectABIdeal.nD Cert.ProjectABIdeal.τ).loc Cert.ProjectABIdeal.main_arg3)
      ∧ m' ((c.tc : Thread Cert.ProjectABReferenceIdeal.nD Cert.ProjectABReferenceIdeal.τ).loc Cert.ProjectABReferenceIdeal.main_arg4) = m ((c.tc : Thread Cert.ProjectABIdeal.nD Cert.ProjectABIdeal.τ).loc Cert.ProjectABIdeal.main_arg4)
      ∧ m' ((c.tc : Thread Cert.ProjectABReferenceIdeal.nD Cert.ProjectABReferenceIdeal.τ).loc Cert.ProjectABReferenceIdeal.main_arg5) = m ((c.tc : Thread Cert.ProjectABIdeal.nD Cert.ProjectABIdeal.τ).loc Cert.ProjectABIdeal.main_arg5)) →
    ∃ (v0 : (c : Dev Cert.ProjectABIdeal.nD) → Buf (Elt Ideal) ((c.tc : Thread Cert.ProjectABIdeal.nD Cert.ProjectABIdeal.τ).loc Cert.ProjectABIdeal.main_v0)),
      θ_run (Cert.ProjectABIdeal.defs (F := Ideal)) (onTc (τ := Cert.ProjectABIdeal.τ) (Cert.ProjectABIdeal.main (F := Ideal))) ⟨m, fun _ => 0, g⟩ (fun r => ∀ c : Dev Cert.ProjectABIdeal.nD,
          r.2.mem ((c.tc : Thread Cert.ProjectABIdeal.nD Cert.ProjectABIdeal.τ).loc Cert.ProjectABIdeal.main_v0) = v0 c
          ∧ r.2.mem ((c.tc : Thread Cert.ProjectABIdeal.nD Cert.ProjectABIdeal.τ).loc Cert.ProjectABIdeal.main_arg0) = m ((c.tc : Thread Cert.ProjectABIdeal.nD Cert.ProjectABIdeal.τ).loc Cert.ProjectABIdeal.main_arg0)
          ∧ r.2.mem ((c.tc : Thread Cert.ProjectABIdeal.nD Cert.ProjectABIdeal.τ).loc Cert.ProjectABIdeal.main_arg1) = m ((c.tc : Thread Cert.ProjectABIdeal.nD Cert.ProjectABIdeal.τ).loc Cert.ProjectABIdeal.main_arg1)
          ∧ r.2.mem ((c.tc : Thread Cert.ProjectABIdeal.nD Cert.ProjectABIdeal.τ).loc Cert.ProjectABIdeal.main_arg2) = m ((c.tc : Thread Cert.ProjectABIdeal.nD Cert.ProjectABIdeal.τ).loc Cert.ProjectABIdeal.main_arg2)
          ∧ r.2.mem ((c.tc : Thread Cert.ProjectABIdeal.nD Cert.ProjectABIdeal.τ).loc Cert.ProjectABIdeal.main_arg3) = m ((c.tc : Thread Cert.ProjectABIdeal.nD Cert.ProjectABIdeal.τ).loc Cert.ProjectABIdeal.main_arg3)
          ∧ r.2.mem ((c.tc : Thread Cert.ProjectABIdeal.nD Cert.ProjectABIdeal.τ).loc Cert.ProjectABIdeal.main_arg4) = m ((c.tc : Thread Cert.ProjectABIdeal.nD Cert.ProjectABIdeal.τ).loc Cert.ProjectABIdeal.main_arg4)
          ∧ r.2.mem ((c.tc : Thread Cert.ProjectABIdeal.nD Cert.ProjectABIdeal.τ).loc Cert.ProjectABIdeal.main_arg5) = m ((c.tc : Thread Cert.ProjectABIdeal.nD Cert.ProjectABIdeal.τ).loc Cert.ProjectABIdeal.main_arg5))
      ∧ θ_run (Cert.ProjectABReferenceIdeal.defs (F := Ideal)) (onTc (τ := Cert.ProjectABReferenceIdeal.τ) (Cert.ProjectABReferenceIdeal.main (F := Ideal))) ⟨m', fun _ => 0, g'⟩ (fun r => ∀ c : Dev Cert.ProjectABReferenceIdeal.nD,
          r.2.mem ((c.tc : Thread Cert.ProjectABReferenceIdeal.nD Cert.ProjectABReferenceIdeal.τ).loc Cert.ProjectABReferenceIdeal.main_v10) = v0 c
          ∧ r.2.mem ((c.tc : Thread Cert.ProjectABReferenceIdeal.nD Cert.ProjectABReferenceIdeal.τ).loc Cert.ProjectABReferenceIdeal.main_arg0) = m' ((c.tc : Thread Cert.ProjectABReferenceIdeal.nD Cert.ProjectABReferenceIdeal.τ).loc Cert.ProjectABReferenceIdeal.main_arg0)
          ∧ r.2.mem ((c.tc : Thread Cert.ProjectABReferenceIdeal.nD Cert.ProjectABReferenceIdeal.τ).loc Cert.ProjectABReferenceIdeal.main_arg1) = m' ((c.tc : Thread Cert.ProjectABReferenceIdeal.nD Cert.ProjectABReferenceIdeal.τ).loc Cert.ProjectABReferenceIdeal.main_arg1)
          ∧ r.2.mem ((c.tc : Thread Cert.ProjectABReferenceIdeal.nD Cert.ProjectABReferenceIdeal.τ).loc Cert.ProjectABReferenceIdeal.main_arg2) = m' ((c.tc : Thread Cert.ProjectABReferenceIdeal.nD Cert.ProjectABReferenceIdeal.τ).loc Cert.ProjectABReferenceIdeal.main_arg2)
          ∧ r.2.mem ((c.tc : Thread Cert.ProjectABReferenceIdeal.nD Cert.ProjectABReferenceIdeal.τ).loc Cert.ProjectABReferenceIdeal.main_arg3) = m' ((c.tc : Thread Cert.ProjectABReferenceIdeal.nD Cert.ProjectABReferenceIdeal.τ).loc Cert.ProjectABReferenceIdeal.main_arg3)
          ∧ r.2.mem ((c.tc : Thread Cert.ProjectABReferenceIdeal.nD Cert.ProjectABReferenceIdeal.τ).loc Cert.ProjectABReferenceIdeal.main_arg4) = m' ((c.tc : Thread Cert.ProjectABReferenceIdeal.nD Cert.ProjectABReferenceIdeal.τ).loc Cert.ProjectABReferenceIdeal.main_arg4)
          ∧ r.2.mem ((c.tc : Thread Cert.ProjectABReferenceIdeal.nD Cert.ProjectABReferenceIdeal.τ).loc Cert.ProjectABReferenceIdeal.main_arg5) = m' ((c.tc : Thread Cert.ProjectABReferenceIdeal.nD Cert.ProjectABReferenceIdeal.τ).loc Cert.ProjectABReferenceIdeal.main_arg5))

def preserves_ProjectDil_ProjectDilIdeal : Prop :=
  True

def algebraic_ProjectDilIdeal_ProjectDilReferenceIdeal [hProjectDilIdeal : Cert.ProjectDilIdeal.Facts] [hProjectDilReferenceIdeal : Cert.ProjectDilReferenceIdeal.Facts] : Prop :=
  ∀ (m : (ℓ : Loc Cert.ProjectDilIdeal.nD Cert.ProjectDilIdeal.τ Cert.ProjectDilIdeal.sig) → Buf (Elt Ideal) ℓ) (g : Dev Cert.ProjectDilIdeal.nD → PrngReg)
    (m' : (ℓ : Loc Cert.ProjectDilReferenceIdeal.nD Cert.ProjectDilReferenceIdeal.τ Cert.ProjectDilReferenceIdeal.sig) → Buf (Elt Ideal) ℓ) (g' : Dev Cert.ProjectDilReferenceIdeal.nD → PrngReg), Pre_ProjectDilIdeal m →
    (∀ c : Dev Cert.ProjectDilIdeal.nD,
      m' ((c.tc : Thread Cert.ProjectDilReferenceIdeal.nD Cert.ProjectDilReferenceIdeal.τ).loc Cert.ProjectDilReferenceIdeal.main_arg0) = m ((c.tc : Thread Cert.ProjectDilIdeal.nD Cert.ProjectDilIdeal.τ).loc Cert.ProjectDilIdeal.main_arg0)
      ∧ m' ((c.tc : Thread Cert.ProjectDilReferenceIdeal.nD Cert.ProjectDilReferenceIdeal.τ).loc Cert.ProjectDilReferenceIdeal.main_arg1) = m ((c.tc : Thread Cert.ProjectDilIdeal.nD Cert.ProjectDilIdeal.τ).loc Cert.ProjectDilIdeal.main_arg1)
      ∧ m' ((c.tc : Thread Cert.ProjectDilReferenceIdeal.nD Cert.ProjectDilReferenceIdeal.τ).loc Cert.ProjectDilReferenceIdeal.main_arg2) = m ((c.tc : Thread Cert.ProjectDilIdeal.nD Cert.ProjectDilIdeal.τ).loc Cert.ProjectDilIdeal.main_arg2)
      ∧ m' ((c.tc : Thread Cert.ProjectDilReferenceIdeal.nD Cert.ProjectDilReferenceIdeal.τ).loc Cert.ProjectDilReferenceIdeal.main_arg3) = m ((c.tc : Thread Cert.ProjectDilIdeal.nD Cert.ProjectDilIdeal.τ).loc Cert.ProjectDilIdeal.main_arg3)
      ∧ m' ((c.tc : Thread Cert.ProjectDilReferenceIdeal.nD Cert.ProjectDilReferenceIdeal.τ).loc Cert.ProjectDilReferenceIdeal.main_arg4) = m ((c.tc : Thread Cert.ProjectDilIdeal.nD Cert.ProjectDilIdeal.τ).loc Cert.ProjectDilIdeal.main_arg4)
      ∧ m' ((c.tc : Thread Cert.ProjectDilReferenceIdeal.nD Cert.ProjectDilReferenceIdeal.τ).loc Cert.ProjectDilReferenceIdeal.main_arg5) = m ((c.tc : Thread Cert.ProjectDilIdeal.nD Cert.ProjectDilIdeal.τ).loc Cert.ProjectDilIdeal.main_arg5)
      ∧ m' ((c.tc : Thread Cert.ProjectDilReferenceIdeal.nD Cert.ProjectDilReferenceIdeal.τ).loc Cert.ProjectDilReferenceIdeal.main_arg6) = m ((c.tc : Thread Cert.ProjectDilIdeal.nD Cert.ProjectDilIdeal.τ).loc Cert.ProjectDilIdeal.main_arg6)) →
    ∃ (v0 : (c : Dev Cert.ProjectDilIdeal.nD) → Buf (Elt Ideal) ((c.tc : Thread Cert.ProjectDilIdeal.nD Cert.ProjectDilIdeal.τ).loc Cert.ProjectDilIdeal.main_v0_0)) (v1 : (c : Dev Cert.ProjectDilIdeal.nD) → Buf (Elt Ideal) ((c.tc : Thread Cert.ProjectDilIdeal.nD Cert.ProjectDilIdeal.τ).loc Cert.ProjectDilIdeal.main_v0_1)),
      θ_run (Cert.ProjectDilIdeal.defs (F := Ideal)) (onTc (τ := Cert.ProjectDilIdeal.τ) (Cert.ProjectDilIdeal.main (F := Ideal))) ⟨m, fun _ => 0, g⟩ (fun r => ∀ c : Dev Cert.ProjectDilIdeal.nD,
          r.2.mem ((c.tc : Thread Cert.ProjectDilIdeal.nD Cert.ProjectDilIdeal.τ).loc Cert.ProjectDilIdeal.main_v0_0) = v0 c
          ∧ r.2.mem ((c.tc : Thread Cert.ProjectDilIdeal.nD Cert.ProjectDilIdeal.τ).loc Cert.ProjectDilIdeal.main_v0_1) = v1 c
          ∧ r.2.mem ((c.tc : Thread Cert.ProjectDilIdeal.nD Cert.ProjectDilIdeal.τ).loc Cert.ProjectDilIdeal.main_arg0) = m ((c.tc : Thread Cert.ProjectDilIdeal.nD Cert.ProjectDilIdeal.τ).loc Cert.ProjectDilIdeal.main_arg0)
          ∧ r.2.mem ((c.tc : Thread Cert.ProjectDilIdeal.nD Cert.ProjectDilIdeal.τ).loc Cert.ProjectDilIdeal.main_arg1) = m ((c.tc : Thread Cert.ProjectDilIdeal.nD Cert.ProjectDilIdeal.τ).loc Cert.ProjectDilIdeal.main_arg1)
          ∧ r.2.mem ((c.tc : Thread Cert.ProjectDilIdeal.nD Cert.ProjectDilIdeal.τ).loc Cert.ProjectDilIdeal.main_arg2) = m ((c.tc : Thread Cert.ProjectDilIdeal.nD Cert.ProjectDilIdeal.τ).loc Cert.ProjectDilIdeal.main_arg2)
          ∧ r.2.mem ((c.tc : Thread Cert.ProjectDilIdeal.nD Cert.ProjectDilIdeal.τ).loc Cert.ProjectDilIdeal.main_arg3) = m ((c.tc : Thread Cert.ProjectDilIdeal.nD Cert.ProjectDilIdeal.τ).loc Cert.ProjectDilIdeal.main_arg3)
          ∧ r.2.mem ((c.tc : Thread Cert.ProjectDilIdeal.nD Cert.ProjectDilIdeal.τ).loc Cert.ProjectDilIdeal.main_arg4) = m ((c.tc : Thread Cert.ProjectDilIdeal.nD Cert.ProjectDilIdeal.τ).loc Cert.ProjectDilIdeal.main_arg4)
          ∧ r.2.mem ((c.tc : Thread Cert.ProjectDilIdeal.nD Cert.ProjectDilIdeal.τ).loc Cert.ProjectDilIdeal.main_arg5) = m ((c.tc : Thread Cert.ProjectDilIdeal.nD Cert.ProjectDilIdeal.τ).loc Cert.ProjectDilIdeal.main_arg5)
          ∧ r.2.mem ((c.tc : Thread Cert.ProjectDilIdeal.nD Cert.ProjectDilIdeal.τ).loc Cert.ProjectDilIdeal.main_arg6) = m ((c.tc : Thread Cert.ProjectDilIdeal.nD Cert.ProjectDilIdeal.τ).loc Cert.ProjectDilIdeal.main_arg6))
      ∧ θ_run (Cert.ProjectDilReferenceIdeal.defs (F := Ideal)) (onTc (τ := Cert.ProjectDilReferenceIdeal.τ) (Cert.ProjectDilReferenceIdeal.main (F := Ideal))) ⟨m', fun _ => 0, g'⟩ (fun r => ∀ c : Dev Cert.ProjectDilReferenceIdeal.nD,
          r.2.mem ((c.tc : Thread Cert.ProjectDilReferenceIdeal.nD Cert.ProjectDilReferenceIdeal.τ).loc Cert.ProjectDilReferenceIdeal.main_v51) = v0 c
          ∧ r.2.mem ((c.tc : Thread Cert.ProjectDilReferenceIdeal.nD Cert.ProjectDilReferenceIdeal.τ).loc Cert.ProjectDilReferenceIdeal.main_v52) = v1 c
          ∧ r.2.mem ((c.tc : Thread Cert.ProjectDilReferenceIdeal.nD Cert.ProjectDilReferenceIdeal.τ).loc Cert.ProjectDilReferenceIdeal.main_arg0) = m' ((c.tc : Thread Cert.ProjectDilReferenceIdeal.nD Cert.ProjectDilReferenceIdeal.τ).loc Cert.ProjectDilReferenceIdeal.main_arg0)
          ∧ r.2.mem ((c.tc : Thread Cert.ProjectDilReferenceIdeal.nD Cert.ProjectDilReferenceIdeal.τ).loc Cert.ProjectDilReferenceIdeal.main_arg1) = m' ((c.tc : Thread Cert.ProjectDilReferenceIdeal.nD Cert.ProjectDilReferenceIdeal.τ).loc Cert.ProjectDilReferenceIdeal.main_arg1)
          ∧ r.2.mem ((c.tc : Thread Cert.ProjectDilReferenceIdeal.nD Cert.ProjectDilReferenceIdeal.τ).loc Cert.ProjectDilReferenceIdeal.main_arg2) = m' ((c.tc : Thread Cert.ProjectDilReferenceIdeal.nD Cert.ProjectDilReferenceIdeal.τ).loc Cert.ProjectDilReferenceIdeal.main_arg2)
          ∧ r.2.mem ((c.tc : Thread Cert.ProjectDilReferenceIdeal.nD Cert.ProjectDilReferenceIdeal.τ).loc Cert.ProjectDilReferenceIdeal.main_arg3) = m' ((c.tc : Thread Cert.ProjectDilReferenceIdeal.nD Cert.ProjectDilReferenceIdeal.τ).loc Cert.ProjectDilReferenceIdeal.main_arg3)
          ∧ r.2.mem ((c.tc : Thread Cert.ProjectDilReferenceIdeal.nD Cert.ProjectDilReferenceIdeal.τ).loc Cert.ProjectDilReferenceIdeal.main_arg4) = m' ((c.tc : Thread Cert.ProjectDilReferenceIdeal.nD Cert.ProjectDilReferenceIdeal.τ).loc Cert.ProjectDilReferenceIdeal.main_arg4)
          ∧ r.2.mem ((c.tc : Thread Cert.ProjectDilReferenceIdeal.nD Cert.ProjectDilReferenceIdeal.τ).loc Cert.ProjectDilReferenceIdeal.main_arg5) = m' ((c.tc : Thread Cert.ProjectDilReferenceIdeal.nD Cert.ProjectDilReferenceIdeal.τ).loc Cert.ProjectDilReferenceIdeal.main_arg5)
          ∧ r.2.mem ((c.tc : Thread Cert.ProjectDilReferenceIdeal.nD Cert.ProjectDilReferenceIdeal.τ).loc Cert.ProjectDilReferenceIdeal.main_arg6) = m' ((c.tc : Thread Cert.ProjectDilReferenceIdeal.nD Cert.ProjectDilReferenceIdeal.τ).loc Cert.ProjectDilReferenceIdeal.main_arg6))

def preserves_ProjectLatent_ProjectLatentIdeal : Prop :=
  True

def algebraic_ProjectLatentIdeal_ProjectLatentReferenceIdeal [hProjectLatentIdeal : Cert.ProjectLatentIdeal.Facts] [hProjectLatentReferenceIdeal : Cert.ProjectLatentReferenceIdeal.Facts] : Prop :=
  ∀ (m : (ℓ : Loc Cert.ProjectLatentIdeal.nD Cert.ProjectLatentIdeal.τ Cert.ProjectLatentIdeal.sig) → Buf (Elt Ideal) ℓ) (g : Dev Cert.ProjectLatentIdeal.nD → PrngReg)
    (m' : (ℓ : Loc Cert.ProjectLatentReferenceIdeal.nD Cert.ProjectLatentReferenceIdeal.τ Cert.ProjectLatentReferenceIdeal.sig) → Buf (Elt Ideal) ℓ) (g' : Dev Cert.ProjectLatentReferenceIdeal.nD → PrngReg), Pre_ProjectLatentIdeal m →
    (∀ c : Dev Cert.ProjectLatentIdeal.nD,
      m' ((c.tc : Thread Cert.ProjectLatentReferenceIdeal.nD Cert.ProjectLatentReferenceIdeal.τ).loc Cert.ProjectLatentReferenceIdeal.main_arg0) = m ((c.tc : Thread Cert.ProjectLatentIdeal.nD Cert.ProjectLatentIdeal.τ).loc Cert.ProjectLatentIdeal.main_arg0)
      ∧ m' ((c.tc : Thread Cert.ProjectLatentReferenceIdeal.nD Cert.ProjectLatentReferenceIdeal.τ).loc Cert.ProjectLatentReferenceIdeal.main_arg1) = m ((c.tc : Thread Cert.ProjectLatentIdeal.nD Cert.ProjectLatentIdeal.τ).loc Cert.ProjectLatentIdeal.main_arg1)
      ∧ m' ((c.tc : Thread Cert.ProjectLatentReferenceIdeal.nD Cert.ProjectLatentReferenceIdeal.τ).loc Cert.ProjectLatentReferenceIdeal.main_arg2) = m ((c.tc : Thread Cert.ProjectLatentIdeal.nD Cert.ProjectLatentIdeal.τ).loc Cert.ProjectLatentIdeal.main_arg2)
      ∧ m' ((c.tc : Thread Cert.ProjectLatentReferenceIdeal.nD Cert.ProjectLatentReferenceIdeal.τ).loc Cert.ProjectLatentReferenceIdeal.main_arg3) = m ((c.tc : Thread Cert.ProjectLatentIdeal.nD Cert.ProjectLatentIdeal.τ).loc Cert.ProjectLatentIdeal.main_arg3)
      ∧ m' ((c.tc : Thread Cert.ProjectLatentReferenceIdeal.nD Cert.ProjectLatentReferenceIdeal.τ).loc Cert.ProjectLatentReferenceIdeal.main_arg4) = m ((c.tc : Thread Cert.ProjectLatentIdeal.nD Cert.ProjectLatentIdeal.τ).loc Cert.ProjectLatentIdeal.main_arg4)) →
    ∃ (v0 : (c : Dev Cert.ProjectLatentIdeal.nD) → Buf (Elt Ideal) ((c.tc : Thread Cert.ProjectLatentIdeal.nD Cert.ProjectLatentIdeal.τ).loc Cert.ProjectLatentIdeal.main_v0_0)) (v1 : (c : Dev Cert.ProjectLatentIdeal.nD) → Buf (Elt Ideal) ((c.tc : Thread Cert.ProjectLatentIdeal.nD Cert.ProjectLatentIdeal.τ).loc Cert.ProjectLatentIdeal.main_v0_1)),
      θ_run (Cert.ProjectLatentIdeal.defs (F := Ideal)) (onTc (τ := Cert.ProjectLatentIdeal.τ) (Cert.ProjectLatentIdeal.main (F := Ideal))) ⟨m, fun _ => 0, g⟩ (fun r => ∀ c : Dev Cert.ProjectLatentIdeal.nD,
          r.2.mem ((c.tc : Thread Cert.ProjectLatentIdeal.nD Cert.ProjectLatentIdeal.τ).loc Cert.ProjectLatentIdeal.main_v0_0) = v0 c
          ∧ r.2.mem ((c.tc : Thread Cert.ProjectLatentIdeal.nD Cert.ProjectLatentIdeal.τ).loc Cert.ProjectLatentIdeal.main_v0_1) = v1 c
          ∧ r.2.mem ((c.tc : Thread Cert.ProjectLatentIdeal.nD Cert.ProjectLatentIdeal.τ).loc Cert.ProjectLatentIdeal.main_arg0) = m ((c.tc : Thread Cert.ProjectLatentIdeal.nD Cert.ProjectLatentIdeal.τ).loc Cert.ProjectLatentIdeal.main_arg0)
          ∧ r.2.mem ((c.tc : Thread Cert.ProjectLatentIdeal.nD Cert.ProjectLatentIdeal.τ).loc Cert.ProjectLatentIdeal.main_arg1) = m ((c.tc : Thread Cert.ProjectLatentIdeal.nD Cert.ProjectLatentIdeal.τ).loc Cert.ProjectLatentIdeal.main_arg1)
          ∧ r.2.mem ((c.tc : Thread Cert.ProjectLatentIdeal.nD Cert.ProjectLatentIdeal.τ).loc Cert.ProjectLatentIdeal.main_arg2) = m ((c.tc : Thread Cert.ProjectLatentIdeal.nD Cert.ProjectLatentIdeal.τ).loc Cert.ProjectLatentIdeal.main_arg2)
          ∧ r.2.mem ((c.tc : Thread Cert.ProjectLatentIdeal.nD Cert.ProjectLatentIdeal.τ).loc Cert.ProjectLatentIdeal.main_arg3) = m ((c.tc : Thread Cert.ProjectLatentIdeal.nD Cert.ProjectLatentIdeal.τ).loc Cert.ProjectLatentIdeal.main_arg3)
          ∧ r.2.mem ((c.tc : Thread Cert.ProjectLatentIdeal.nD Cert.ProjectLatentIdeal.τ).loc Cert.ProjectLatentIdeal.main_arg4) = m ((c.tc : Thread Cert.ProjectLatentIdeal.nD Cert.ProjectLatentIdeal.τ).loc Cert.ProjectLatentIdeal.main_arg4))
      ∧ θ_run (Cert.ProjectLatentReferenceIdeal.defs (F := Ideal)) (onTc (τ := Cert.ProjectLatentReferenceIdeal.τ) (Cert.ProjectLatentReferenceIdeal.main (F := Ideal))) ⟨m', fun _ => 0, g'⟩ (fun r => ∀ c : Dev Cert.ProjectLatentReferenceIdeal.nD,
          r.2.mem ((c.tc : Thread Cert.ProjectLatentReferenceIdeal.nD Cert.ProjectLatentReferenceIdeal.τ).loc Cert.ProjectLatentReferenceIdeal.main_v21) = v0 c
          ∧ r.2.mem ((c.tc : Thread Cert.ProjectLatentReferenceIdeal.nD Cert.ProjectLatentReferenceIdeal.τ).loc Cert.ProjectLatentReferenceIdeal.main_v22) = v1 c
          ∧ r.2.mem ((c.tc : Thread Cert.ProjectLatentReferenceIdeal.nD Cert.ProjectLatentReferenceIdeal.τ).loc Cert.ProjectLatentReferenceIdeal.main_arg0) = m' ((c.tc : Thread Cert.ProjectLatentReferenceIdeal.nD Cert.ProjectLatentReferenceIdeal.τ).loc Cert.ProjectLatentReferenceIdeal.main_arg0)
          ∧ r.2.mem ((c.tc : Thread Cert.ProjectLatentReferenceIdeal.nD Cert.ProjectLatentReferenceIdeal.τ).loc Cert.ProjectLatentReferenceIdeal.main_arg1) = m' ((c.tc : Thread Cert.ProjectLatentReferenceIdeal.nD Cert.ProjectLatentReferenceIdeal.τ).loc Cert.ProjectLatentReferenceIdeal.main_arg1)
          ∧ r.2.mem ((c.tc : Thread Cert.ProjectLatentReferenceIdeal.nD Cert.ProjectLatentReferenceIdeal.τ).loc Cert.ProjectLatentReferenceIdeal.main_arg2) = m' ((c.tc : Thread Cert.ProjectLatentReferenceIdeal.nD Cert.ProjectLatentReferenceIdeal.τ).loc Cert.ProjectLatentReferenceIdeal.main_arg2)
          ∧ r.2.mem ((c.tc : Thread Cert.ProjectLatentReferenceIdeal.nD Cert.ProjectLatentReferenceIdeal.τ).loc Cert.ProjectLatentReferenceIdeal.main_arg3) = m' ((c.tc : Thread Cert.ProjectLatentReferenceIdeal.nD Cert.ProjectLatentReferenceIdeal.τ).loc Cert.ProjectLatentReferenceIdeal.main_arg3)
          ∧ r.2.mem ((c.tc : Thread Cert.ProjectLatentReferenceIdeal.nD Cert.ProjectLatentReferenceIdeal.τ).loc Cert.ProjectLatentReferenceIdeal.main_arg4) = m' ((c.tc : Thread Cert.ProjectLatentReferenceIdeal.nD Cert.ProjectLatentReferenceIdeal.τ).loc Cert.ProjectLatentReferenceIdeal.main_arg4))

def preserves_ProjectKV_ProjectKVIdeal : Prop :=
  True

def algebraic_ProjectKVIdeal_ProjectKVReferenceIdeal [hProjectKVIdeal : Cert.ProjectKVIdeal.Facts] [hProjectKVReferenceIdeal : Cert.ProjectKVReferenceIdeal.Facts] : Prop :=
  ∀ (m : (ℓ : Loc Cert.ProjectKVIdeal.nD Cert.ProjectKVIdeal.τ Cert.ProjectKVIdeal.sig) → Buf (Elt Ideal) ℓ) (g : Dev Cert.ProjectKVIdeal.nD → PrngReg)
    (m' : (ℓ : Loc Cert.ProjectKVReferenceIdeal.nD Cert.ProjectKVReferenceIdeal.τ Cert.ProjectKVReferenceIdeal.sig) → Buf (Elt Ideal) ℓ) (g' : Dev Cert.ProjectKVReferenceIdeal.nD → PrngReg), Pre_ProjectKVIdeal m →
    (∀ c : Dev Cert.ProjectKVIdeal.nD,
      m' ((c.tc : Thread Cert.ProjectKVReferenceIdeal.nD Cert.ProjectKVReferenceIdeal.τ).loc Cert.ProjectKVReferenceIdeal.main_arg0) = m ((c.tc : Thread Cert.ProjectKVIdeal.nD Cert.ProjectKVIdeal.τ).loc Cert.ProjectKVIdeal.main_arg0)
      ∧ m' ((c.tc : Thread Cert.ProjectKVReferenceIdeal.nD Cert.ProjectKVReferenceIdeal.τ).loc Cert.ProjectKVReferenceIdeal.main_arg1) = m ((c.tc : Thread Cert.ProjectKVIdeal.nD Cert.ProjectKVIdeal.τ).loc Cert.ProjectKVIdeal.main_arg1)
      ∧ m' ((c.tc : Thread Cert.ProjectKVReferenceIdeal.nD Cert.ProjectKVReferenceIdeal.τ).loc Cert.ProjectKVReferenceIdeal.main_arg2) = m ((c.tc : Thread Cert.ProjectKVIdeal.nD Cert.ProjectKVIdeal.τ).loc Cert.ProjectKVIdeal.main_arg2)) →
    ∃ (v0 : (c : Dev Cert.ProjectKVIdeal.nD) → Buf (Elt Ideal) ((c.tc : Thread Cert.ProjectKVIdeal.nD Cert.ProjectKVIdeal.τ).loc Cert.ProjectKVIdeal.main_v0)),
      θ_run (Cert.ProjectKVIdeal.defs (F := Ideal)) (onTc (τ := Cert.ProjectKVIdeal.τ) (Cert.ProjectKVIdeal.main (F := Ideal))) ⟨m, fun _ => 0, g⟩ (fun r => ∀ c : Dev Cert.ProjectKVIdeal.nD,
          r.2.mem ((c.tc : Thread Cert.ProjectKVIdeal.nD Cert.ProjectKVIdeal.τ).loc Cert.ProjectKVIdeal.main_v0) = v0 c
          ∧ r.2.mem ((c.tc : Thread Cert.ProjectKVIdeal.nD Cert.ProjectKVIdeal.τ).loc Cert.ProjectKVIdeal.main_arg0) = m ((c.tc : Thread Cert.ProjectKVIdeal.nD Cert.ProjectKVIdeal.τ).loc Cert.ProjectKVIdeal.main_arg0)
          ∧ r.2.mem ((c.tc : Thread Cert.ProjectKVIdeal.nD Cert.ProjectKVIdeal.τ).loc Cert.ProjectKVIdeal.main_arg1) = m ((c.tc : Thread Cert.ProjectKVIdeal.nD Cert.ProjectKVIdeal.τ).loc Cert.ProjectKVIdeal.main_arg1)
          ∧ r.2.mem ((c.tc : Thread Cert.ProjectKVIdeal.nD Cert.ProjectKVIdeal.τ).loc Cert.ProjectKVIdeal.main_arg2) = m ((c.tc : Thread Cert.ProjectKVIdeal.nD Cert.ProjectKVIdeal.τ).loc Cert.ProjectKVIdeal.main_arg2))
      ∧ θ_run (Cert.ProjectKVReferenceIdeal.defs (F := Ideal)) (onTc (τ := Cert.ProjectKVReferenceIdeal.τ) (Cert.ProjectKVReferenceIdeal.main (F := Ideal))) ⟨m', fun _ => 0, g'⟩ (fun r => ∀ c : Dev Cert.ProjectKVReferenceIdeal.nD,
          r.2.mem ((c.tc : Thread Cert.ProjectKVReferenceIdeal.nD Cert.ProjectKVReferenceIdeal.τ).loc Cert.ProjectKVReferenceIdeal.main_v15) = v0 c
          ∧ r.2.mem ((c.tc : Thread Cert.ProjectKVReferenceIdeal.nD Cert.ProjectKVReferenceIdeal.τ).loc Cert.ProjectKVReferenceIdeal.main_arg0) = m' ((c.tc : Thread Cert.ProjectKVReferenceIdeal.nD Cert.ProjectKVReferenceIdeal.τ).loc Cert.ProjectKVReferenceIdeal.main_arg0)
          ∧ r.2.mem ((c.tc : Thread Cert.ProjectKVReferenceIdeal.nD Cert.ProjectKVReferenceIdeal.τ).loc Cert.ProjectKVReferenceIdeal.main_arg1) = m' ((c.tc : Thread Cert.ProjectKVReferenceIdeal.nD Cert.ProjectKVReferenceIdeal.τ).loc Cert.ProjectKVReferenceIdeal.main_arg1)
          ∧ r.2.mem ((c.tc : Thread Cert.ProjectKVReferenceIdeal.nD Cert.ProjectKVReferenceIdeal.τ).loc Cert.ProjectKVReferenceIdeal.main_arg2) = m' ((c.tc : Thread Cert.ProjectKVReferenceIdeal.nD Cert.ProjectKVReferenceIdeal.τ).loc Cert.ProjectKVReferenceIdeal.main_arg2))

def preserves_Combine_CombineIdeal : Prop :=
  True

def algebraic_CombineIdeal_CombineReferenceIdeal [hCombineIdeal : Cert.CombineIdeal.Facts] [hCombineReferenceIdeal : Cert.CombineReferenceIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)) →
    ∃ (v0 : (c : Dev Cert.CombineIdeal.nD) → Buf (Elt Ideal) ((c.tc : Thread Cert.CombineIdeal.nD Cert.CombineIdeal.τ).loc Cert.CombineIdeal.main_v0)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v18) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3))

def preserves_CombineLast_CombineLastIdeal : Prop :=
  True

def algebraic_CombineLastIdeal_CombineLastReferenceIdeal [hCombineLastIdeal : Cert.CombineLastIdeal.Facts] [hCombineLastReferenceIdeal : Cert.CombineLastReferenceIdeal.Facts] : Prop :=
  ∀ (m : (ℓ : Loc Cert.CombineLastIdeal.nD Cert.CombineLastIdeal.τ Cert.CombineLastIdeal.sig) → Buf (Elt Ideal) ℓ) (g : Dev Cert.CombineLastIdeal.nD → PrngReg)
    (m' : (ℓ : Loc Cert.CombineLastReferenceIdeal.nD Cert.CombineLastReferenceIdeal.τ Cert.CombineLastReferenceIdeal.sig) → Buf (Elt Ideal) ℓ) (g' : Dev Cert.CombineLastReferenceIdeal.nD → PrngReg), Pre_CombineLastIdeal m →
    (∀ c : Dev Cert.CombineLastIdeal.nD,
      m' ((c.tc : Thread Cert.CombineLastReferenceIdeal.nD Cert.CombineLastReferenceIdeal.τ).loc Cert.CombineLastReferenceIdeal.main_arg0) = m ((c.tc : Thread Cert.CombineLastIdeal.nD Cert.CombineLastIdeal.τ).loc Cert.CombineLastIdeal.main_arg0)
      ∧ m' ((c.tc : Thread Cert.CombineLastReferenceIdeal.nD Cert.CombineLastReferenceIdeal.τ).loc Cert.CombineLastReferenceIdeal.main_arg1) = m ((c.tc : Thread Cert.CombineLastIdeal.nD Cert.CombineLastIdeal.τ).loc Cert.CombineLastIdeal.main_arg1)
      ∧ m' ((c.tc : Thread Cert.CombineLastReferenceIdeal.nD Cert.CombineLastReferenceIdeal.τ).loc Cert.CombineLastReferenceIdeal.main_arg2) = m ((c.tc : Thread Cert.CombineLastIdeal.nD Cert.CombineLastIdeal.τ).loc Cert.CombineLastIdeal.main_arg2)
      ∧ m' ((c.tc : Thread Cert.CombineLastReferenceIdeal.nD Cert.CombineLastReferenceIdeal.τ).loc Cert.CombineLastReferenceIdeal.main_arg3) = m ((c.tc : Thread Cert.CombineLastIdeal.nD Cert.CombineLastIdeal.τ).loc Cert.CombineLastIdeal.main_arg3)
      ∧ m' ((c.tc : Thread Cert.CombineLastReferenceIdeal.nD Cert.CombineLastReferenceIdeal.τ).loc Cert.CombineLastReferenceIdeal.main_arg4) = m ((c.tc : Thread Cert.CombineLastIdeal.nD Cert.CombineLastIdeal.τ).loc Cert.CombineLastIdeal.main_arg4)) →
    ∃ (v0 : (c : Dev Cert.CombineLastIdeal.nD) → Buf (Elt Ideal) ((c.tc : Thread Cert.CombineLastIdeal.nD Cert.CombineLastIdeal.τ).loc Cert.CombineLastIdeal.main_v0)),
      θ_run (Cert.CombineLastIdeal.defs (F := Ideal)) (onTc (τ := Cert.CombineLastIdeal.τ) (Cert.CombineLastIdeal.main (F := Ideal))) ⟨m, fun _ => 0, g⟩ (fun r => ∀ c : Dev Cert.CombineLastIdeal.nD,
          r.2.mem ((c.tc : Thread Cert.CombineLastIdeal.nD Cert.CombineLastIdeal.τ).loc Cert.CombineLastIdeal.main_v0) = v0 c
          ∧ r.2.mem ((c.tc : Thread Cert.CombineLastIdeal.nD Cert.CombineLastIdeal.τ).loc Cert.CombineLastIdeal.main_arg0) = m ((c.tc : Thread Cert.CombineLastIdeal.nD Cert.CombineLastIdeal.τ).loc Cert.CombineLastIdeal.main_arg0)
          ∧ r.2.mem ((c.tc : Thread Cert.CombineLastIdeal.nD Cert.CombineLastIdeal.τ).loc Cert.CombineLastIdeal.main_arg1) = m ((c.tc : Thread Cert.CombineLastIdeal.nD Cert.CombineLastIdeal.τ).loc Cert.CombineLastIdeal.main_arg1)
          ∧ r.2.mem ((c.tc : Thread Cert.CombineLastIdeal.nD Cert.CombineLastIdeal.τ).loc Cert.CombineLastIdeal.main_arg2) = m ((c.tc : Thread Cert.CombineLastIdeal.nD Cert.CombineLastIdeal.τ).loc Cert.CombineLastIdeal.main_arg2)
          ∧ r.2.mem ((c.tc : Thread Cert.CombineLastIdeal.nD Cert.CombineLastIdeal.τ).loc Cert.CombineLastIdeal.main_arg3) = m ((c.tc : Thread Cert.CombineLastIdeal.nD Cert.CombineLastIdeal.τ).loc Cert.CombineLastIdeal.main_arg3)
          ∧ r.2.mem ((c.tc : Thread Cert.CombineLastIdeal.nD Cert.CombineLastIdeal.τ).loc Cert.CombineLastIdeal.main_arg4) = m ((c.tc : Thread Cert.CombineLastIdeal.nD Cert.CombineLastIdeal.τ).loc Cert.CombineLastIdeal.main_arg4))
      ∧ θ_run (Cert.CombineLastReferenceIdeal.defs (F := Ideal)) (onTc (τ := Cert.CombineLastReferenceIdeal.τ) (Cert.CombineLastReferenceIdeal.main (F := Ideal))) ⟨m', fun _ => 0, g'⟩ (fun r => ∀ c : Dev Cert.CombineLastReferenceIdeal.nD,
          r.2.mem ((c.tc : Thread Cert.CombineLastReferenceIdeal.nD Cert.CombineLastReferenceIdeal.τ).loc Cert.CombineLastReferenceIdeal.main_v30) = v0 c
          ∧ r.2.mem ((c.tc : Thread Cert.CombineLastReferenceIdeal.nD Cert.CombineLastReferenceIdeal.τ).loc Cert.CombineLastReferenceIdeal.main_arg0) = m' ((c.tc : Thread Cert.CombineLastReferenceIdeal.nD Cert.CombineLastReferenceIdeal.τ).loc Cert.CombineLastReferenceIdeal.main_arg0)
          ∧ r.2.mem ((c.tc : Thread Cert.CombineLastReferenceIdeal.nD Cert.CombineLastReferenceIdeal.τ).loc Cert.CombineLastReferenceIdeal.main_arg1) = m' ((c.tc : Thread Cert.CombineLastReferenceIdeal.nD Cert.CombineLastReferenceIdeal.τ).loc Cert.CombineLastReferenceIdeal.main_arg1)
          ∧ r.2.mem ((c.tc : Thread Cert.CombineLastReferenceIdeal.nD Cert.CombineLastReferenceIdeal.τ).loc Cert.CombineLastReferenceIdeal.main_arg2) = m' ((c.tc : Thread Cert.CombineLastReferenceIdeal.nD Cert.CombineLastReferenceIdeal.τ).loc Cert.CombineLastReferenceIdeal.main_arg2)
          ∧ r.2.mem ((c.tc : Thread Cert.CombineLastReferenceIdeal.nD Cert.CombineLastReferenceIdeal.τ).loc Cert.CombineLastReferenceIdeal.main_arg3) = m' ((c.tc : Thread Cert.CombineLastReferenceIdeal.nD Cert.CombineLastReferenceIdeal.τ).loc Cert.CombineLastReferenceIdeal.main_arg3)
          ∧ r.2.mem ((c.tc : Thread Cert.CombineLastReferenceIdeal.nD Cert.CombineLastReferenceIdeal.τ).loc Cert.CombineLastReferenceIdeal.main_arg4) = m' ((c.tc : Thread Cert.CombineLastReferenceIdeal.nD Cert.CombineLastReferenceIdeal.τ).loc Cert.CombineLastReferenceIdeal.main_arg4))

def Claim : Prop :=
  ∃ (hKernel : Cert.Kernel.Facts) (hKernelIdeal : Cert.KernelIdeal.Facts) (hReferenceIdeal : Cert.ReferenceIdeal.Facts) (hExperts0 : Cert.Experts0.Facts) (hExperts0Ideal : Cert.Experts0Ideal.Facts) (hExpertsReference0Ideal : Cert.ExpertsReference0Ideal.Facts) (hExperts1 : Cert.Experts1.Facts) (hExperts1Ideal : Cert.Experts1Ideal.Facts) (hExpertsReference1Ideal : Cert.ExpertsReference1Ideal.Facts) (hExperts2 : Cert.Experts2.Facts) (hExperts2Ideal : Cert.Experts2Ideal.Facts) (hExpertsReference2Ideal : Cert.ExpertsReference2Ideal.Facts) (hExperts3 : Cert.Experts3.Facts) (hExperts3Ideal : Cert.Experts3Ideal.Facts) (hExpertsReference3Ideal : Cert.ExpertsReference3Ideal.Facts) (hProjectAB : Cert.ProjectAB.Facts) (hProjectABIdeal : Cert.ProjectABIdeal.Facts) (hProjectABReferenceIdeal : Cert.ProjectABReferenceIdeal.Facts) (hProjectDil : Cert.ProjectDil.Facts) (hProjectDilIdeal : Cert.ProjectDilIdeal.Facts) (hProjectDilReferenceIdeal : Cert.ProjectDilReferenceIdeal.Facts) (hProjectLatent : Cert.ProjectLatent.Facts) (hProjectLatentIdeal : Cert.ProjectLatentIdeal.Facts) (hProjectLatentReferenceIdeal : Cert.ProjectLatentReferenceIdeal.Facts) (hProjectKV : Cert.ProjectKV.Facts) (hProjectKVIdeal : Cert.ProjectKVIdeal.Facts) (hProjectKVReferenceIdeal : Cert.ProjectKVReferenceIdeal.Facts) (hCombine : Cert.Combine.Facts) (hCombineIdeal : Cert.CombineIdeal.Facts) (hCombineReferenceIdeal : Cert.CombineReferenceIdeal.Facts) (hCombineLast : Cert.CombineLast.Facts) (hCombineLastIdeal : Cert.CombineLastIdeal.Facts) (hCombineLastReferenceIdeal : Cert.CombineLastReferenceIdeal.Facts) (hPre_finite_keys : Cert.Pre_finite_keys.Facts) (hPre_tables : Cert.Pre_tables.Facts),
    quiescent_Kernel (hKernel := hKernel)
    ∧ quiescent_KernelIdeal (hKernelIdeal := hKernelIdeal)
    ∧ quiescent_KernelIdeal_pre_finite_keys (hKernelIdeal := hKernelIdeal) (hPre_finite_keys := hPre_finite_keys)
    ∧ quiescent_ReferenceIdeal (hReferenceIdeal := hReferenceIdeal)
    ∧ quiescent_ReferenceIdeal_pre_finite_keys (hReferenceIdeal := hReferenceIdeal) (hPre_finite_keys := hPre_finite_keys)
    ∧ quiescent_Experts0 (hExperts0 := hExperts0) (hPre_tables := hPre_tables)
    ∧ quiescent_Experts0Ideal (hExperts0Ideal := hExperts0Ideal) (hPre_tables := hPre_tables)
    ∧ quiescent_ExpertsReference0Ideal (hExpertsReference0Ideal := hExpertsReference0Ideal)
    ∧ quiescent_ExpertsReference0Ideal_pre_tables (hExpertsReference0Ideal := hExpertsReference0Ideal) (hPre_tables := hPre_tables)
    ∧ quiescent_Experts1 (hExperts1 := hExperts1) (hPre_tables := hPre_tables)
    ∧ quiescent_Experts1Ideal (hExperts1Ideal := hExperts1Ideal) (hPre_tables := hPre_tables)
    ∧ quiescent_ExpertsReference1Ideal (hExpertsReference1Ideal := hExpertsReference1Ideal)
    ∧ quiescent_ExpertsReference1Ideal_pre_tables (hExpertsReference1Ideal := hExpertsReference1Ideal) (hPre_tables := hPre_tables)
    ∧ quiescent_Experts2 (hExperts2 := hExperts2) (hPre_tables := hPre_tables)
    ∧ quiescent_Experts2Ideal (hExperts2Ideal := hExperts2Ideal) (hPre_tables := hPre_tables)
    ∧ quiescent_ExpertsReference2Ideal (hExpertsReference2Ideal := hExpertsReference2Ideal)
    ∧ quiescent_ExpertsReference2Ideal_pre_tables (hExpertsReference2Ideal := hExpertsReference2Ideal) (hPre_tables := hPre_tables)
    ∧ quiescent_Experts3 (hExperts3 := hExperts3) (hPre_tables := hPre_tables)
    ∧ quiescent_Experts3Ideal (hExperts3Ideal := hExperts3Ideal) (hPre_tables := hPre_tables)
    ∧ quiescent_ExpertsReference3Ideal (hExpertsReference3Ideal := hExpertsReference3Ideal)
    ∧ quiescent_ExpertsReference3Ideal_pre_tables (hExpertsReference3Ideal := hExpertsReference3Ideal) (hPre_tables := hPre_tables)
    ∧ quiescent_ProjectAB (hProjectAB := hProjectAB)
    ∧ quiescent_ProjectABIdeal (hProjectABIdeal := hProjectABIdeal)
    ∧ quiescent_ProjectABReferenceIdeal (hProjectABReferenceIdeal := hProjectABReferenceIdeal)
    ∧ quiescent_ProjectDil (hProjectDil := hProjectDil)
    ∧ quiescent_ProjectDilIdeal (hProjectDilIdeal := hProjectDilIdeal)
    ∧ quiescent_ProjectDilReferenceIdeal (hProjectDilReferenceIdeal := hProjectDilReferenceIdeal)
    ∧ quiescent_ProjectLatent (hProjectLatent := hProjectLatent)
    ∧ quiescent_ProjectLatentIdeal (hProjectLatentIdeal := hProjectLatentIdeal)
    ∧ quiescent_ProjectLatentReferenceIdeal (hProjectLatentReferenceIdeal := hProjectLatentReferenceIdeal)
    ∧ quiescent_ProjectKV (hProjectKV := hProjectKV)
    ∧ quiescent_ProjectKVIdeal (hProjectKVIdeal := hProjectKVIdeal)
    ∧ quiescent_ProjectKVReferenceIdeal (hProjectKVReferenceIdeal := hProjectKVReferenceIdeal)
    ∧ quiescent_Combine (hCombine := hCombine)
    ∧ quiescent_CombineIdeal (hCombineIdeal := hCombineIdeal)
    ∧ quiescent_CombineReferenceIdeal (hCombineReferenceIdeal := hCombineReferenceIdeal)
    ∧ quiescent_CombineLast (hCombineLast := hCombineLast)
    ∧ quiescent_CombineLastIdeal (hCombineLastIdeal := hCombineLastIdeal)
    ∧ quiescent_CombineLastReferenceIdeal (hCombineLastReferenceIdeal := hCombineLastReferenceIdeal)
    ∧ preserves_Kernel_KernelIdeal
    ∧ algebraic_KernelIdeal_ReferenceIdeal_pre_finite_keys (hKernelIdeal := hKernelIdeal) (hReferenceIdeal := hReferenceIdeal) (hPre_finite_keys := hPre_finite_keys)
    ∧ preserves_Experts0_Experts0Ideal
    ∧ algebraic_Experts0Ideal_ExpertsReference0Ideal (hExperts0Ideal := hExperts0Ideal) (hExpertsReference0Ideal := hExpertsReference0Ideal) (hPre_tables := hPre_tables)
    ∧ preserves_Experts1_Experts1Ideal
    ∧ algebraic_Experts1Ideal_ExpertsReference1Ideal (hExperts1Ideal := hExperts1Ideal) (hExpertsReference1Ideal := hExpertsReference1Ideal) (hPre_tables := hPre_tables)
    ∧ preserves_Experts2_Experts2Ideal
    ∧ algebraic_Experts2Ideal_ExpertsReference2Ideal (hExperts2Ideal := hExperts2Ideal) (hExpertsReference2Ideal := hExpertsReference2Ideal) (hPre_tables := hPre_tables)
    ∧ preserves_Experts3_Experts3Ideal
    ∧ algebraic_Experts3Ideal_ExpertsReference3Ideal (hExperts3Ideal := hExperts3Ideal) (hExpertsReference3Ideal := hExpertsReference3Ideal) (hPre_tables := hPre_tables)
    ∧ preserves_ProjectAB_ProjectABIdeal
    ∧ algebraic_ProjectABIdeal_ProjectABReferenceIdeal (hProjectABIdeal := hProjectABIdeal) (hProjectABReferenceIdeal := hProjectABReferenceIdeal)
    ∧ preserves_ProjectDil_ProjectDilIdeal
    ∧ algebraic_ProjectDilIdeal_ProjectDilReferenceIdeal (hProjectDilIdeal := hProjectDilIdeal) (hProjectDilReferenceIdeal := hProjectDilReferenceIdeal)
    ∧ preserves_ProjectLatent_ProjectLatentIdeal
    ∧ algebraic_ProjectLatentIdeal_ProjectLatentReferenceIdeal (hProjectLatentIdeal := hProjectLatentIdeal) (hProjectLatentReferenceIdeal := hProjectLatentReferenceIdeal)
    ∧ preserves_ProjectKV_ProjectKVIdeal
    ∧ algebraic_ProjectKVIdeal_ProjectKVReferenceIdeal (hProjectKVIdeal := hProjectKVIdeal) (hProjectKVReferenceIdeal := hProjectKVReferenceIdeal)
    ∧ preserves_Combine_CombineIdeal
    ∧ algebraic_CombineIdeal_CombineReferenceIdeal (hCombineIdeal := hCombineIdeal) (hCombineReferenceIdeal := hCombineReferenceIdeal)
    ∧ preserves_CombineLast_CombineLastIdeal
    ∧ algebraic_CombineLastIdeal_CombineLastReferenceIdeal (hCombineLastIdeal := hCombineLastIdeal) (hCombineLastReferenceIdeal := hCombineLastReferenceIdeal)
-- ==== Pre_finite_keys.lean ====
abbrev S32768x2048 : Shape := ⟨2, ![32768, 2048]⟩
abbrev S32768x1664 : Shape := ⟨2, ![32768, 1664]⟩
abbrev S_ : Shape := ⟨0, ![]⟩
abbrev S32768x1024 : Shape := ⟨2, ![32768, 1024]⟩
abbrev S32768x128 : Shape := ⟨2, ![32768, 128]⟩

class Facts : Prop where
  bitsLt_bf16_f32 : FTy.bits .bf16 < FTy.bits .f32
  bcast_S_S32768x2048 : S_.BroadcastsInDim S32768x2048 (![] : Fin 0 → Fin S32768x2048.rank)
  reducesTo_S32768x2048_S_d0_1 : S32768x2048.ReducesTo [0, 1] S_
  h_S_ : 0 < S_.numel
  slices_S32768x2048_S32768x1024_0_0 : S32768x2048.Slices ![0, 0] S32768x1024
  bcast_S_S32768x1024 : S_.BroadcastsInDim S32768x1024 (![] : Fin 0 → Fin S32768x1024.rank)
  reducesTo_S32768x1024_S_d0_1 : S32768x1024.ReducesTo [0, 1] S_
  slices_S32768x1664_S32768x128_0_1536 : S32768x1664.Slices ![0, 1536] S32768x128
  bcast_S_S32768x128 : S_.BroadcastsInDim S32768x128 (![] : Fin 0 → Fin S32768x128.rank)
  reducesTo_S32768x128_S_d0_1 : S32768x128.ReducesTo [0, 1] S_

variable [Facts]

def fn_part1 {F : FTy → Type} [FloatOps F] (main_v11 : IVec S_ 1) (main_v17 : IVec S_ 1) : IVec S_ 1 :=
  let main_v18 : IVec S_ 1 := andi main_v11 main_v17
  main_v18

def fn {F : FTy → Type} [FloatOps F] (main_arg0 : FVec F S32768x2048 .bf16) (main_arg1 : FVec F S32768x2048 .bf16) (main_arg2 : FVec F S32768x1664 .bf16) : IVec S_ 1 :=
  let main_v0 : FVec F S32768x2048 .f32 := (extf .f32 · bitsLt_bf16_f32) main_arg0
  let main_v1 : FVec F S32768x2048 .f32 := Host.absf main_v0
  let main_cst : FVec F S_ .f32 := constant S_ .f32 0x7F800000#32
  let main_v2 : FVec F S32768x2048 .f32 := broadcastInDim S32768x2048 ![] bcast_S_S32768x2048 main_cst
  let main_v3 : IVec S32768x2048 1 := cmpf .olt main_v1 main_v2
  let main_c : IVec S_ 1 := constantI S_ 1 1#1
  let main_v4 : IVec S_ 1 := (fun x v => Host.reduce IntOp.andi x v reducesTo_S32768x2048_S_d0_1 h_S_) main_v3 main_c
  let main_v5 : FVec F S32768x1024 .bf16 := (extractStridedSlice S32768x1024 ![0, 0] · slices_S32768x2048_S32768x1024_0_0) main_arg1
  let main_v6 : FVec F S32768x1024 .f32 := (extf .f32 · bitsLt_bf16_f32) main_v5
  let main_v7 : FVec F S32768x1024 .f32 := Host.absf main_v6
  let main_cst_0 : FVec F S_ .f32 := constant S_ .f32 0x7F800000#32
  let main_v8 : FVec F S32768x1024 .f32 := broadcastInDim S32768x1024 ![] bcast_S_S32768x1024 main_cst_0
  let main_v9 : IVec S32768x1024 1 := cmpf .olt main_v7 main_v8
  let main_c_1 : IVec S_ 1 := constantI S_ 1 1#1
  let main_v10 : IVec S_ 1 := (fun x v => Host.reduce IntOp.andi x v reducesTo_S32768x1024_S_d0_1 h_S_) main_v9 main_c_1
  let main_v11 : IVec S_ 1 := andi main_v4 main_v10
  let main_v12 : FVec F S32768x128 .bf16 := (extractStridedSlice S32768x128 ![0, 1536] · slices_S32768x1664_S32768x128_0_1536) main_arg2
  let main_v13 : FVec F S32768x128 .f32 := (extf .f32 · bitsLt_bf16_f32) main_v12
  let main_v14 : FVec F S32768x128 .f32 := Host.absf main_v13
  let main_cst_2 : FVec F S_ .f32 := constant S_ .f32 0x7F800000#32
  let main_v15 : FVec F S32768x128 .f32 := broadcastInDim S32768x128 ![] bcast_S_S32768x128 main_cst_2
  let main_v16 : IVec S32768x128 1 := cmpf .olt main_v14 main_v15
  let main_c_3 : IVec S_ 1 := constantI S_ 1 1#1
  let main_v17 : IVec S_ 1 := (fun x v => Host.reduce IntOp.andi x v reducesTo_S32768x128_S_d0_1 h_S_) main_v16 main_c_3
  fn_part1 (F := F) main_v11 main_v17
-- ==== Pre_tables.lean ====
abbrev S288 : Shape := ⟨1, ![288]⟩
abbrev S147456x512 : Shape := ⟨2, ![147456, 512]⟩
abbrev S4x32x1024x2048 : Shape := ⟨4, ![4, 32, 1024, 2048]⟩
abbrev S4x32x1x2048 : Shape := ⟨4, ![4, 32, 1, 2048]⟩
abbrev S4x32x1024x1024 : Shape := ⟨4, ![4, 32, 1024, 1024]⟩
abbrev S4x32x1x1024 : Shape := ⟨4, ![4, 32, 1, 1024]⟩
abbrev S_ : Shape := ⟨0, ![]⟩
abbrev S287 : Shape := ⟨1, ![287]⟩

class Facts : Prop where
  bcast_S_S288 : S_.BroadcastsInDim S288 (![] : Fin 0 → Fin S288.rank)
  reducesTo_S288_S_d0 : S288.ReducesTo [0] S_
  h_S_ : 0 < S_.numel
  slices_S288_S287_1 : S288.Slices ![1] S287
  bcast_S_S287 : S_.BroadcastsInDim S287 (![] : Fin 0 → Fin S287.rank)
  slices_S288_S287_0 : S288.Slices ![0] S287
  reducesTo_S287_S_d0 : S287.ReducesTo [0] S_

variable [Facts]

def fn_part1 {F : FTy → Type} [FloatOps F] (main_arg0 : IVec S288 32) (main_arg1 : IVec S288 32) (main_v12 : IVec S_ 1) (main_v15 : IVec S287 1) (main_v16 : IVec S287 32) : IVec S_ 1 :=
  let main_v17 : IVec S287 32 := (extractStridedSlice S287 ![0] · slices_S288_S287_0) main_arg0
  let main_v18 : IVec S287 1 := cmpi .ne main_v16 main_v17
  let main_v19 : IVec S287 1 := ori main_v15 main_v18
  let main_v20 : IVec S287 32 := (extractStridedSlice S287 ![0] · slices_S288_S287_0) main_arg1
  let main_c_6 : IVec S_ 32 := constantI S_ 32 0#32
  let main_v21 : IVec S287 32 := broadcastInDim S287 ![] bcast_S_S287 main_c_6
  let main_v22 : IVec S287 1 := cmpi .sgt main_v20 main_v21
  let main_v23 : IVec S287 1 := ori main_v19 main_v22
  let main_c_7 : IVec S_ 1 := constantI S_ 1 1#1
  let main_v24 : IVec S_ 1 := (fun x v => Host.reduce IntOp.andi x v reducesTo_S287_S_d0 h_S_) main_v23 main_c_7
  let main_v25 : IVec S_ 1 := andi main_v12 main_v24
  main_v25

def fn {F : FTy → Type} [FloatOps F] (main_arg0 : IVec S288 32) (main_arg1 : IVec S288 32) (main_arg2 : IVec S288 32) (main_arg3 : IVec S147456x512 32) (main_arg4 : FVec F S4x32x1024x2048 .f32) (main_arg5 : FVec F S4x32x1x2048 .f32) (main_arg6 : FVec F S4x32x1024x1024 .f32) (main_arg7 : FVec F S4x32x1x1024 .f32) : IVec S_ 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  let main_c_2 : IVec S_ 32 := constantI S_ 32 0#32
  let main_v6 : IVec S288 32 := broadcastInDim S288 ![] bcast_S_S288 main_c_2
  let main_v7 : IVec S288 1 := cmpi .sge main_arg2 main_v6
  let main_c_3 : IVec S_ 32 := constantI S_ 32 288#32
  let main_v8 : IVec S288 32 := broadcastInDim S288 ![] bcast_S_S288 main_c_3
  let main_v9 : IVec S288 1 := cmpi .slt main_arg2 main_v8
  let main_v10 : IVec S288 1 := andi main_v7 main_v9
  let main_c_4 : IVec S_ 1 := constantI S_ 1 1#1
  let main_v11 : IVec S_ 1 := (fun x v => Host.reduce IntOp.andi x v reducesTo_S288_S_d0 h_S_) main_v10 main_c_4
  let main_v12 : IVec S_ 1 := andi main_v5 main_v11
  let main_v13 : IVec S287 32 := (extractStridedSlice S287 ![1] · slices_S288_S287_1) main_arg1
  let main_c_5 : IVec S_ 32 := constantI S_ 32 0#32
  let main_v14 : IVec S287 32 := broadcastInDim S287 ![] bcast_S_S287 main_c_5
  let main_v15 : IVec S287 1 := cmpi .sle main_v13 main_v14
  let main_v16 : IVec S287 32 := (extractStridedSlice S287 ![1] · slices_S288_S287_1) main_arg0
  fn_part1 (F := F) main_arg0 main_arg1 main_v12 main_v15 main_v16
-- ==== Kernel.lean ====
abbrev S32768x2048 : Shape := ⟨2, ![32768, 2048]⟩
abbrev S32768x1664 : Shape := ⟨2, ![32768, 1664]⟩
abbrev S32768x1024 : Shape := ⟨2, ![32768, 1024]⟩
abbrev S512x1024 : Shape := ⟨2, ![512, 1024]⟩
abbrev S4096x512 : Shape := ⟨2, ![4096, 512]⟩
abbrev S4096x128 : Shape := ⟨2, ![4096, 128]⟩
abbrev S512x512 : Shape := ⟨2, ![512, 512]⟩
abbrev S4096x256 : Shape := ⟨2, ![4096, 256]⟩
abbrev S512x256 : Shape := ⟨2, ![512, 256]⟩
abbrev S512x4096 : Shape := ⟨2, ![512, 4096]⟩
abbrev S512 : Shape := ⟨1, ![512]⟩
abbrev S512x1 : Shape := ⟨2, ![512, 1]⟩
abbrev S512x128 : Shape := ⟨2, ![512, 128]⟩

abbrev nBuf : Space → Nat
  | .hbm => 4
  | .vmem => 10
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x1664, .bf16⟩
  | .hbm, ⟨3, _⟩ => ⟨S32768x1024, .bf16⟩
  | .local _ .vmem, ⟨0, _⟩ => ⟨S512x1024, .bf16⟩
  | .local _ .vmem, ⟨1, _⟩ => ⟨S512x1024, .bf16⟩
  | .local _ .vmem, ⟨2, _⟩ => ⟨S4096x512, .bf16⟩
  | .local _ .vmem, ⟨3, _⟩ => ⟨S4096x512, .bf16⟩
  | .local _ .vmem, ⟨4, _⟩ => ⟨S4096x128, .bf16⟩
  | .local _ .vmem, ⟨5, _⟩ => ⟨S4096x128, .bf16⟩
  | .local _ .vmem, ⟨6, _⟩ => ⟨S4096x512, .bf16⟩
  | .local _ .vmem, ⟨7, _⟩ => ⟨S4096x512, .bf16⟩
  | .local _ .vmem, ⟨8, _⟩ => ⟨S512x512, .bf16⟩
  | .local _ .vmem, ⟨9, _⟩ => ⟨S512x512, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let c0_i32 : BitVec 32 := 0#32
  ![arg0.toNat, c12_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
abbrev S32768x2048 : Shape := ⟨2, ![32768, 2048]⟩
abbrev S32768x1664 : Shape := ⟨2, ![32768, 1664]⟩
abbrev S32768x1024 : Shape := ⟨2, ![32768, 1024]⟩
abbrev S512x1024 : Shape := ⟨2, ![512, 1024]⟩
abbrev S4096x512 : Shape := ⟨2, ![4096, 512]⟩
abbrev S4096x128 : Shape := ⟨2, ![4096, 128]⟩
abbrev S512x512 : Shape := ⟨2, ![512, 512]⟩
abbrev S4096x256 : Shape := ⟨2, ![4096, 256]⟩
abbrev S512x256 : Shape := ⟨2, ![512, 256]⟩
abbrev S512x4096 : Shape := ⟨2, ![512, 4096]⟩
abbrev S512 : Shape := ⟨1, ![512]⟩
abbrev S512x1 : Shape := ⟨2, ![512, 1]⟩
abbrev S512x128 : Shape := ⟨2, ![512, 128]⟩

abbrev nBuf : Space → Nat
  | .hbm => 4
  | .vmem => 10
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x1664, .bf16⟩
  | .hbm, ⟨3, _⟩ => ⟨S32768x1024, .bf16⟩
  | .local _ .vmem, ⟨0, _⟩ => ⟨S512x1024, .bf16⟩
  | .local _ .vmem, ⟨1, _⟩ => ⟨S512x1024, .bf16⟩
  | .local _ .vmem, ⟨2, _⟩ => ⟨S4096x512, .bf16⟩
  | .local _ .vmem, ⟨3, _⟩ => ⟨S4096x512, .bf16⟩
  | .local _ .vmem, ⟨4, _⟩ => ⟨S4096x128, .bf16⟩
  | .local _ .vmem, ⟨5, _⟩ => ⟨S4096x128, .bf16⟩
  | .local _ .vmem, ⟨6, _⟩ => ⟨S4096x512, .bf16⟩
  | .local _ .vmem, ⟨7, _⟩ => ⟨S4096x512, .bf16⟩
  | .local _ .vmem, ⟨8, _⟩ => ⟨S512x512, .bf16⟩
  | .local _ .vmem, ⟨9, _⟩ => ⟨S512x512, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let c0_i32 : BitVec 32 := 0#32
  ![arg0.toNat, c12_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S32768x2048 : Shape := ⟨2, ![32768, 2048]⟩
abbrev S32768x1664 : Shape := ⟨2, ![32768, 1664]⟩
abbrev S8x4096x8x256 : Shape := ⟨4, ![8, 4096, 8, 256]⟩
abbrev S32768x1024 : Shape := ⟨2, ![32768, 1024]⟩
abbrev S8x4096x8x128 : Shape := ⟨4, ![8, 4096, 8, 128]⟩
abbrev S32768x128 : Shape := ⟨2, ![32768, 128]⟩
abbrev S8x4096x1x128 : Shape := ⟨4, ![8, 4096, 1, 128]⟩
abbrev S8x8x4096x4096 : Shape := ⟨4, ![8, 8, 4096, 4096]⟩
abbrev S_ : Shape := ⟨0, ![]⟩
abbrev S8x8x4096 : Shape := ⟨3, ![8, 8, 4096]⟩
abbrev S8x8x4096x1 : Shape := ⟨4, ![8, 8, 4096, 1]⟩
abbrev S8x8x128x4096 : Shape := ⟨4, ![8, 8, 128, 4096]⟩

abbrev nBuf : Space → Nat
  | .hbm => 35
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x1664, .bf16⟩
  | .hbm, ⟨3, _⟩ => ⟨S32768x2048, .f32⟩
  | .hbm, ⟨4, _⟩ => ⟨S8x4096x8x256, .f32⟩
  | .hbm, ⟨5, _⟩ => ⟨S32768x2048, .f32⟩
  | .hbm, ⟨6, _⟩ => ⟨S32768x1024, .f32⟩
  | .hbm, ⟨7, _⟩ => ⟨S8x4096x8x128, .f32⟩
  | .hbm, ⟨8, _⟩ => ⟨S32768x2048, .f32⟩
  | .hbm, ⟨9, _⟩ => ⟨S32768x1024, .f32⟩
  | .hbm, ⟨10, _⟩ => ⟨S8x4096x8x128, .f32⟩
  | .hbm, ⟨11, _⟩ => ⟨S32768x1664, .f32⟩
  | .hbm, ⟨12, _⟩ => ⟨S32768x128, .f32⟩
  | .hbm, ⟨13, _⟩ => ⟨S8x4096x1x128, .f32⟩
  | .hbm, ⟨14, _⟩ => ⟨S8x4096x8x128, .f32⟩
  | .hbm, ⟨15, _⟩ => ⟨S8x4096x8x256, .f32⟩
  | .hbm, ⟨16, _⟩ => ⟨S8x8x4096x4096, .f32⟩
  | .hbm, ⟨17, _⟩ => ⟨S_, .f32⟩
  | .hbm, ⟨18, _⟩ => ⟨S8x8x4096, .f32⟩
  | .hbm, ⟨19, _⟩ => ⟨S_, .f32⟩
  | .hbm, ⟨20, _⟩ => ⟨S8x8x4096, .f32⟩
  | .hbm, ⟨21, _⟩ => ⟨S8x8x4096, .f32⟩
  | .hbm, ⟨22, _⟩ => ⟨S8x8x4096x1, .f32⟩
  | .hbm, ⟨23, _⟩ => ⟨S8x8x4096x4096, .f32⟩
  | .hbm, ⟨24, _⟩ => ⟨S8x8x4096x4096, .f32⟩
  | .hbm, ⟨25, _⟩ => ⟨S8x8x4096x4096, .f32⟩
  | .hbm, ⟨26, _⟩ => ⟨S_, .f32⟩
  | .hbm, ⟨27, _⟩ => ⟨S8x8x4096, .f32⟩
  | .hbm, ⟨28, _⟩ => ⟨S8x8x4096x1, .f32⟩
  | .hbm, ⟨29, _⟩ => ⟨S8x8x4096x4096, .f32⟩
  | .hbm, ⟨30, _⟩ => ⟨S8x8x4096x4096, .f32⟩
  | .hbm, ⟨31, _⟩ => ⟨S8x8x128x4096, .f32⟩
  | .hbm, ⟨32, _⟩ => ⟨S8x4096x8x128, .f32⟩
  | .hbm, ⟨33, _⟩ => ⟨S32768x1024, .f32⟩
  | .hbm, ⟨34, _⟩ => ⟨S32768x1024, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]
-- ==== Experts0.lean ====
abbrev S288 : Shape := ⟨1, ![288]⟩
abbrev S147456x512 : Shape := ⟨2, ![147456, 512]⟩
abbrev S4x32x1024x2048 : Shape := ⟨4, ![4, 32, 1024, 2048]⟩
abbrev S4x32x1x2048 : Shape := ⟨4, ![4, 32, 1, 2048]⟩
abbrev S4x32x1024x1024 : Shape := ⟨4, ![4, 32, 1024, 1024]⟩
abbrev S4x32x1x1024 : Shape := ⟨4, ![4, 32, 1, 1024]⟩
abbrev S147456x1024 : Shape := ⟨2, ![147456, 1024]⟩
abbrev S512x512 : Shape := ⟨2, ![512, 512]⟩
abbrev S1 : Shape := ⟨1, ![1]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S512x1024 : Shape := ⟨2, ![512, 1024]⟩
abbrev S1024x2048 : Shape := ⟨2, ![1024, 2048]⟩
abbrev S1024x1024 : Shape := ⟨2, ![1024, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 6
  | .vmem => 14
  | .smem => 3
  | _ => 0

abbrev bufTy : (tb : Table) → Fin (tcTables nBuf tb) → BufTy
  | .hbm, ⟨0, _⟩ => ⟨S147456x512, .i32⟩
  | .hbm, ⟨1, _⟩ => ⟨S4x32x1024x2048, .f32⟩
  | .hbm, ⟨2, _⟩ => ⟨S4x32x1x2048, .f32⟩
  | .hbm, ⟨3, _⟩ => ⟨S4x32x1024x1024, .f32⟩
  | .hbm, ⟨4, _⟩ => ⟨S4x32x1x1024, .f32⟩
  | .hbm, ⟨5, _⟩ => ⟨S147456x1024, .bf16⟩
  | .local _ .vmem, ⟨0, _⟩ => ⟨S512x512, .i32⟩
  | .local _ .vmem, ⟨1, _⟩ => ⟨S512x512, .i32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S512x1024, .bf16⟩
  | .local _ .vmem, ⟨11, _⟩ => ⟨S512x1024, .bf16⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S288, .i32⟩
  | .local _ .smem, ⟨2, _⟩ => ⟨S288, .i32⟩
  | _, _ => ⟨S147456x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v6 : BitVec 32 := Scalar.subi arg0 c1_i32
  let c0_i32_1 : BitVec 32 := 0#32
  let v7 : BitVec 32 := Scalar.maxsi v6 c0_i32_1
  let v8 : Index := Scalar.indexCast v7
  ![v8.toNat]
def k0_cond2 (v1 : BitVec 32) : BitVec 1 :=
  let c0_i32 : BitVec 32 := 0#32
  let v2 : BitVec 1 := Scalar.cmpi .sgt v1 c0_i32
  let v15 : BitVec 32 := Scalar.extui v2
  let c0_i32_3 : BitVec 32 := 0#32
  let v16 : BitVec 1 := Scalar.cmpi .ne v15 c0_i32_3
  v16

def k0_cond3 (v1 : BitVec 32) : BitVec 1 :=
  let c0_i32 : BitVec 32 := 0#32
  let v2 : BitVec 1 := Scalar.cmpi .sgt v1 c0_i32
  let v_true : BitVec 1 := 1#1
  let v17 : BitVec 1 := Scalar.xori v2 v_true
  let v18 : BitVec 32 := Scalar.extui v17
  let c0_i32_4 : BitVec 32 := 0#32
  let v19 : BitVec 1 := Scalar.cmpi .ne v18 c0_i32_4
  v19

def cc0_transform_0 (k0_off1_inb : ∀ i : grid0.Coords, ∀ a, (k0_off1 i) a + S1.size a ≤ S288.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 2 (Rect.unit (s := S288) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Experts0Ideal.lean ====
abbrev S288 : Shape := ⟨1, ![288]⟩
abbrev S147456x512 : Shape := ⟨2, ![147456, 512]⟩
abbrev S4x32x1024x2048 : Shape := ⟨4, ![4, 32, 1024, 2048]⟩
abbrev S4x32x1x2048 : Shape := ⟨4, ![4, 32, 1, 2048]⟩
abbrev S4x32x1024x1024 : Shape := ⟨4, ![4, 32, 1024, 1024]⟩
abbrev S4x32x1x1024 : Shape := ⟨4, ![4, 32, 1, 1024]⟩
abbrev S147456x1024 : Shape := ⟨2, ![147456, 1024]⟩
abbrev S512x512 : Shape := ⟨2, ![512, 512]⟩
abbrev S1 : Shape := ⟨1, ![1]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S512x1024 : Shape := ⟨2, ![512, 1024]⟩
abbrev S1024x2048 : Shape := ⟨2, ![1024, 2048]⟩
abbrev S1024x1024 : Shape := ⟨2, ![1024, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 6
  | .vmem => 14
  | .smem => 3
  | _ => 0

abbrev bufTy : (tb : Table) → Fin (tcTables nBuf tb) → BufTy
  | .hbm, ⟨0, _⟩ => ⟨S147456x512, .i32⟩
  | .hbm, ⟨1, _⟩ => ⟨S4x32x1024x2048, .f32⟩
  | .hbm, ⟨2, _⟩ => ⟨S4x32x1x2048, .f32⟩
  | .hbm, ⟨3, _⟩ => ⟨S4x32x1024x1024, .f32⟩
  | .hbm, ⟨4, _⟩ => ⟨S4x32x1x1024, .f32⟩
  | .hbm, ⟨5, _⟩ => ⟨S147456x1024, .bf16⟩
  | .local _ .vmem, ⟨0, _⟩ => ⟨S512x512, .i32⟩
  | .local _ .vmem, ⟨1, _⟩ => ⟨S512x512, .i32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S512x1024, .bf16⟩
  | .local _ .vmem, ⟨11, _⟩ => ⟨S512x1024, .bf16⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S288, .i32⟩
  | .local _ .smem, ⟨2, _⟩ => ⟨S288, .i32⟩
  | _, _ => ⟨S147456x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v6 : BitVec 32 := Scalar.subi arg0 c1_i32
  let c0_i32_1 : BitVec 32 := 0#32
  let v7 : BitVec 32 := Scalar.maxsi v6 c0_i32_1
  let v8 : Index := Scalar.indexCast v7
  ![v8.toNat]
def k0_cond2 (v1 : BitVec 32) : BitVec 1 :=
  let c0_i32 : BitVec 32 := 0#32
  let v2 : BitVec 1 := Scalar.cmpi .sgt v1 c0_i32
  let v15 : BitVec 32 := Scalar.extui v2
  let c0_i32_3 : BitVec 32 := 0#32
  let v16 : BitVec 1 := Scalar.cmpi .ne v15 c0_i32_3
  v16

def k0_cond3 (v1 : BitVec 32) : BitVec 1 :=
  let c0_i32 : BitVec 32 := 0#32
  let v2 : BitVec 1 := Scalar.cmpi .sgt v1 c0_i32
  let v_true : BitVec 1 := 1#1
  let v17 : BitVec 1 := Scalar.xori v2 v_true
  let v18 : BitVec 32 := Scalar.extui v17
  let c0_i32_4 : BitVec 32 := 0#32
  let v19 : BitVec 1 := Scalar.cmpi .ne v18 c0_i32_4
  v19

def cc0_transform_0 (k0_off1_inb : ∀ i : grid0.Coords, ∀ a, (k0_off1 i) a + S1.size a ≤ S288.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 2 (Rect.unit (s := S288) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsReference0Ideal.lean ====
abbrev S288 : Shape := ⟨1, ![288]⟩
abbrev S147456x512 : Shape := ⟨2, ![147456, 512]⟩
abbrev S4x32x1024x2048 : Shape := ⟨4, ![4, 32, 1024, 2048]⟩
abbrev S4x32x1x2048 : Shape := ⟨4, ![4, 32, 1, 2048]⟩
abbrev S4x32x1024x1024 : Shape := ⟨4, ![4, 32, 1024, 1024]⟩
abbrev S4x32x1x1024 : Shape := ⟨4, ![4, 32, 1, 1024]⟩
abbrev S288x512x512 : Shape := ⟨3, ![288, 512, 512]⟩
abbrev S288x1 : Shape := ⟨2, ![288, 1]⟩
abbrev S_ : Shape := ⟨0, ![]⟩
abbrev S288x512x1024 : Shape := ⟨3, ![288, 512, 1024]⟩
abbrev S1x32x1024x2048 : Shape := ⟨4, ![1, 32, 1024, 2048]⟩
abbrev S32x1024x2048 : Shape := ⟨3, ![32, 1024, 2048]⟩
abbrev S288x1024x2048 : Shape := ⟨3, ![288, 1024, 2048]⟩
abbrev S1x32x1x2048 : Shape := ⟨4, ![1, 32, 1, 2048]⟩
abbrev S32x1x2048 : Shape := ⟨3, ![32, 1, 2048]⟩
abbrev S288x1x2048 : Shape := ⟨3, ![288, 1, 2048]⟩
abbrev S1x32x1024x1024 : Shape := ⟨4, ![1, 32, 1024, 1024]⟩
abbrev S32x1024x1024 : Shape := ⟨3, ![32, 1024, 1024]⟩
abbrev S288x1024x1024 : Shape := ⟨3, ![288, 1024, 1024]⟩
abbrev S1x32x1x1024 : Shape := ⟨4, ![1, 32, 1, 1024]⟩
abbrev S32x1x1024 : Shape := ⟨3, ![32, 1, 1024]⟩
abbrev S288x1x1024 : Shape := ⟨3, ![288, 1, 1024]⟩
abbrev S288x512x2048 : Shape := ⟨3, ![288, 512, 2048]⟩
abbrev S288x1x1 : Shape := ⟨3, ![288, 1, 1]⟩
abbrev S147456x1024 : Shape := ⟨2, ![147456, 1024]⟩

abbrev nBuf : Space → Nat
  | .hbm => 82
  | .vmem => 0
  | .smem => 0
  | _ => 0

abbrev bufTy : (tb : Table) → Fin (tcTables nBuf tb) → BufTy
  | .hbm, ⟨0, _⟩ => ⟨S288, .i32⟩
  | .hbm, ⟨1, _⟩ => ⟨S288, .i32⟩
  | .hbm, ⟨2, _⟩ => ⟨S288, .i32⟩
  | .hbm, ⟨3, _⟩ => ⟨S147456x512, .i32⟩
  | .hbm, ⟨4, _⟩ => ⟨S4x32x1024x2048, .f32⟩
  | .hbm, ⟨5, _⟩ => ⟨S4x32x1x2048, .f32⟩
  | .hbm, ⟨6, _⟩ => ⟨S4x32x1024x1024, .f32⟩
  | .hbm, ⟨7, _⟩ => ⟨S4x32x1x1024, .f32⟩
  | .hbm, ⟨8, _⟩ => ⟨S288x512x512, .i32⟩
  | .hbm, ⟨9, _⟩ => ⟨S288x1, .i32⟩
  | .hbm, ⟨10, _⟩ => ⟨S288x512x512, .i32⟩
  | .hbm, ⟨11, _⟩ => ⟨S_, .i32⟩
  | .hbm, ⟨12, _⟩ => ⟨S288x512x512, .i32⟩
  | .hbm, ⟨13, _⟩ => ⟨S288x512x512, .i32⟩
  | .hbm, ⟨14, _⟩ => ⟨S288x512x512, .f32⟩
  | .hbm, ⟨15, _⟩ => ⟨S_, .i32⟩
  | .hbm, ⟨16, _⟩ => ⟨S288x512x512, .i32⟩
  | .hbm, ⟨17, _⟩ => ⟨S288x512x512, .i32⟩
  | .hbm, ⟨18, _⟩ => ⟨S288x512x512, .f32⟩
  | .hbm, ⟨19, _⟩ => ⟨S288x512x1024, .f32⟩
  | .hbm, ⟨20, _⟩ => ⟨S1x32x1024x2048, .f32⟩
  | .hbm, ⟨21, _⟩ => ⟨S32x1024x2048, .f32⟩
  | .hbm, ⟨22, _⟩ => ⟨S288x1, .i32⟩
  | .hbm, ⟨23, _⟩ => ⟨S288x1024x2048, .f32⟩
  | .hbm, ⟨24, _⟩ => ⟨S1x32x1x2048, .f32⟩
  | .hbm, ⟨25, _⟩ => ⟨S32x1x2048, .f32⟩
  | .hbm, ⟨26, _⟩ => ⟨S288x1, .i32⟩
  | .hbm, ⟨27, _⟩ => ⟨S288x1x2048, .f32⟩
  | .hbm, ⟨28, _⟩ => ⟨S1x32x1024x1024, .f32⟩
  | .hbm, ⟨29, _⟩ => ⟨S32x1024x1024, .f32⟩
  | .hbm, ⟨30, _⟩ => ⟨S288x1, .i32⟩
  | .hbm, ⟨31, _⟩ => ⟨S288x1024x1024, .f32⟩
  | .hbm, ⟨32, _⟩ => ⟨S1x32x1x1024, .f32⟩
  | .hbm, ⟨33, _⟩ => ⟨S32x1x1024, .f32⟩
  | .hbm, ⟨34, _⟩ => ⟨S288x1, .i32⟩
  | .hbm, ⟨35, _⟩ => ⟨S288x1x1024, .f32⟩
  | .hbm, ⟨36, _⟩ => ⟨S288x512x2048, .f32⟩
  | .hbm, ⟨37, _⟩ => ⟨S288x512x2048, .f32⟩
  | .hbm, ⟨38, _⟩ => ⟨S288x512x2048, .f32⟩
  | .hbm, ⟨39, _⟩ => ⟨S288x512x1024, .f32⟩
  | .hbm, ⟨40, _⟩ => ⟨S_, .f32⟩
  | .hbm, ⟨41, _⟩ => ⟨S288x512x1024, .f32⟩
  | .hbm, ⟨42, _⟩ => ⟨S288x512x1024, .f32⟩
  | .hbm, ⟨43, _⟩ => ⟨S288x512x1024, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S288x512x1024, .f32⟩
  | .hbm, ⟨48, _⟩ => ⟨S288x512x1024, .f32⟩
  | .hbm, ⟨49, _⟩ => ⟨S_, .f32⟩
  | .hbm, ⟨50, _⟩ => ⟨S288x512x1024, .f32⟩
  | .hbm, ⟨51, _⟩ => ⟨S288x512x1024, .f32⟩
  | .hbm, ⟨52, _⟩ => ⟨S_, .f32⟩
  | .hbm, ⟨53, _⟩ => ⟨S288x512x1024, .f32⟩
  | .hbm, ⟨54, _⟩ => ⟨S288x512x1024, .f32⟩
  | .hbm, ⟨55, _⟩ => ⟨S288x512x1024, .f32⟩
  | .hbm, ⟨56, _⟩ => ⟨S288x512x1024, .f32⟩
  | .hbm, ⟨57, _⟩ => ⟨S_, .f32⟩
  | .hbm, ⟨58, _⟩ => ⟨S288x512x1024, .f32⟩
  | .hbm, ⟨59, _⟩ => ⟨S288x512x1024, .f32⟩
  | .hbm, ⟨60, _⟩ => ⟨S_, .f32⟩
  | .hbm, ⟨61, _⟩ => ⟨S288x512x1024, .f32⟩
  | .hbm, ⟨62, _⟩ => ⟨S288x512x1024, .f32⟩
  | .hbm, ⟨63, _⟩ => ⟨S288x512x1024, .f32⟩
  | .hbm, ⟨64, _⟩ => ⟨S_, .f32⟩
  | .hbm, ⟨65, _⟩ => ⟨S288x512x1024, .f32⟩
  | .hbm, ⟨66, _⟩ => ⟨S288x512x1024, .f32⟩
  | .hbm, ⟨67, _⟩ => ⟨S288x512x1024, .f32⟩
  | .hbm, ⟨68, _⟩ => ⟨S288x512x1024, .f32⟩
  | .hbm, ⟨69, _⟩ => ⟨S288x512x1024, .f32⟩
  | .hbm, ⟨70, _⟩ => ⟨S288x512x1024, .f32⟩
  | .hbm, ⟨71, _⟩ => ⟨S_, .i32⟩
  | .hbm, ⟨72, _⟩ => ⟨S288, .i32⟩
  | .hbm, ⟨73, _⟩ => ⟨S288, .i1⟩
  | .hbm, ⟨74, _⟩ => ⟨S288x1x1, .i1⟩
  | .hbm, ⟨75, _⟩ => ⟨S_, .f32⟩
  | .hbm, ⟨76, _⟩ => ⟨S_, .f32⟩
  | .hbm, ⟨77, _⟩ => ⟨S288x512x1024, .i1⟩
  | .hbm, ⟨78, _⟩ => ⟨S288x512x1024, .f32⟩
  | .hbm, ⟨79, _⟩ => ⟨S288x512x1024, .f32⟩
  | .hbm, ⟨80, _⟩ => ⟨S147456x1024, .f32⟩
  | .hbm, ⟨81, _⟩ => ⟨S147456x1024, .bf16⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call2_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call3_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call4_v0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_1 : Ref sig .tc := ⟨.hbm, 44, rfl⟩
abbrev main_cst_2 : Ref sig .tc := ⟨.hbm, 45, rfl⟩
abbrev main_call5_v0 : Ref sig .tc := ⟨.hbm, 46, rfl⟩
abbrev main_call5_v1 : Ref sig .tc := ⟨.hbm, 47, rfl⟩
abbrev main_call5_v2 : Ref sig .tc := ⟨.hbm, 48, rfl⟩
abbrev main_call5_v3 : Ref sig .tc := ⟨.hbm, 49, rfl⟩
abbrev main_call5_v4 : Ref sig .tc := ⟨.hbm, 50, rfl⟩
abbrev main_v28 : Ref sig .tc := ⟨.hbm, 51, rfl⟩
abbrev main_cst_3 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_4 : Ref sig .tc := ⟨.hbm, 57, rfl⟩
abbrev main_v33 : Ref sig .tc := ⟨.hbm, 58, rfl⟩
abbrev main_v34 : Ref sig .tc := ⟨.hbm, 59, rfl⟩
abbrev main_cst_5 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_6 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_7 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_8 : Ref sig .tc := ⟨.hbm, 75, rfl⟩
abbrev main_call6_v0 : Ref sig .tc := ⟨.hbm, 76, rfl⟩
abbrev main_call6_v1 : Ref sig .tc := ⟨.hbm, 77, rfl⟩
abbrev main_call6_v2 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩

abbrev nD : Nat := 1
abbrev τ : Topo := Topo.v7x

variable {F : FTy → Type} [FloatOps F]
-- ==== Experts1.lean ====
abbrev S288 : Shape := ⟨1, ![288]⟩
abbrev S147456x512 : Shape := ⟨2, ![147456, 512]⟩
abbrev S4x32x1024x2048 : Shape := ⟨4, ![4, 32, 1024, 2048]⟩
abbrev S4x32x1x2048 : Shape := ⟨4, ![4, 32, 1, 2048]⟩
abbrev S4x32x1024x1024 : Shape := ⟨4, ![4, 32, 1024, 1024]⟩
abbrev S4x32x1x1024 : Shape := ⟨4, ![4, 32, 1, 1024]⟩
abbrev S147456x1024 : Shape := ⟨2, ![147456, 1024]⟩
abbrev S512x512 : Shape := ⟨2, ![512, 512]⟩
abbrev S1 : Shape := ⟨1, ![1]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S512x1024 : Shape := ⟨2, ![512, 1024]⟩
abbrev S1024x2048 : Shape := ⟨2, ![1024, 2048]⟩
abbrev S1024x1024 : Shape := ⟨2, ![1024, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 6
  | .vmem => 14
  | .smem => 3
  | _ => 0

abbrev bufTy : (tb : Table) → Fin (tcTables nBuf tb) → BufTy
  | .hbm, ⟨0, _⟩ => ⟨S147456x512, .i32⟩
  | .hbm, ⟨1, _⟩ => ⟨S4x32x1024x2048, .f32⟩
  | .hbm, ⟨2, _⟩ => ⟨S4x32x1x2048, .f32⟩
  | .hbm, ⟨3, _⟩ => ⟨S4x32x1024x1024, .f32⟩
  | .hbm, ⟨4, _⟩ => ⟨S4x32x1x1024, .f32⟩
  | .hbm, ⟨5, _⟩ => ⟨S147456x1024, .bf16⟩
  | .local _ .vmem, ⟨0, _⟩ => ⟨S512x512, .i32⟩
  | .local _ .vmem, ⟨1, _⟩ => ⟨S512x512, .i32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S512x1024, .bf16⟩
  | .local _ .vmem, ⟨11, _⟩ => ⟨S512x1024, .bf16⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S288, .i32⟩
  | .local _ .smem, ⟨2, _⟩ => ⟨S288, .i32⟩
  | _, _ => ⟨S147456x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v6 : BitVec 32 := Scalar.subi arg0 c1_i32
  let c0_i32_1 : BitVec 32 := 0#32
  let v7 : BitVec 32 := Scalar.maxsi v6 c0_i32_1
  let v8 : Index := Scalar.indexCast v7
  ![v8.toNat]
def k0_cond2 (v1 : BitVec 32) : BitVec 1 :=
  let c0_i32 : BitVec 32 := 0#32
  let v2 : BitVec 1 := Scalar.cmpi .sgt v1 c0_i32
  let v15 : BitVec 32 := Scalar.extui v2
  let c0_i32_3 : BitVec 32 := 0#32
  let v16 : BitVec 1 := Scalar.cmpi .ne v15 c0_i32_3
  v16

def k0_cond3 (v1 : BitVec 32) : BitVec 1 :=
  let c0_i32 : BitVec 32 := 0#32
  let v2 : BitVec 1 := Scalar.cmpi .sgt v1 c0_i32
  let v_true : BitVec 1 := 1#1
  let v17 : BitVec 1 := Scalar.xori v2 v_true
  let v18 : BitVec 32 := Scalar.extui v17
  let c0_i32_4 : BitVec 32 := 0#32
  let v19 : BitVec 1 := Scalar.cmpi .ne v18 c0_i32_4
  v19

def cc0_transform_0 (k0_off1_inb : ∀ i : grid0.Coords, ∀ a, (k0_off1 i) a + S1.size a ≤ S288.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 2 (Rect.unit (s := S288) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Experts1Ideal.lean ====
abbrev S288 : Shape := ⟨1, ![288]⟩
abbrev S147456x512 : Shape := ⟨2, ![147456, 512]⟩
abbrev S4x32x1024x2048 : Shape := ⟨4, ![4, 32, 1024, 2048]⟩
abbrev S4x32x1x2048 : Shape := ⟨4, ![4, 32, 1, 2048]⟩
abbrev S4x32x1024x1024 : Shape := ⟨4, ![4, 32, 1024, 1024]⟩
abbrev S4x32x1x1024 : Shape := ⟨4, ![4, 32, 1, 1024]⟩
abbrev S147456x1024 : Shape := ⟨2, ![147456, 1024]⟩
abbrev S512x512 : Shape := ⟨2, ![512, 512]⟩
abbrev S1 : Shape := ⟨1, ![1]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S512x1024 : Shape := ⟨2, ![512, 1024]⟩
abbrev S1024x2048 : Shape := ⟨2, ![1024, 2048]⟩
abbrev S1024x1024 : Shape := ⟨2, ![1024, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 6
  | .vmem => 14
  | .smem => 3
  | _ => 0

abbrev bufTy : (tb : Table) → Fin (tcTables nBuf tb) → BufTy
  | .hbm, ⟨0, _⟩ => ⟨S147456x512, .i32⟩
  | .hbm, ⟨1, _⟩ => ⟨S4x32x1024x2048, .f32⟩
  | .hbm, ⟨2, _⟩ => ⟨S4x32x1x2048, .f32⟩
  | .hbm, ⟨3, _⟩ => ⟨S4x32x1024x1024, .f32⟩
  | .hbm, ⟨4, _⟩ => ⟨S4x32x1x1024, .f32⟩
  | .hbm, ⟨5, _⟩ => ⟨S147456x1024, .bf16⟩
  | .local _ .vmem, ⟨0, _⟩ => ⟨S512x512, .i32⟩
  | .local _ .vmem, ⟨1, _⟩ => ⟨S512x512, .i32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S512x1024, .bf16⟩
  | .local _ .vmem, ⟨11, _⟩ => ⟨S512x1024, .bf16⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S288, .i32⟩
  | .local _ .smem, ⟨2, _⟩ => ⟨S288, .i32⟩
  | _, _ => ⟨S147456x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v6 : BitVec 32 := Scalar.subi arg0 c1_i32
  let c0_i32_1 : BitVec 32 := 0#32
  let v7 : BitVec 32 := Scalar.maxsi v6 c0_i32_1
  let v8 : Index := Scalar.indexCast v7
  ![v8.toNat]
def k0_cond2 (v1 : BitVec 32) : BitVec 1 :=
  let c0_i32 : BitVec 32 := 0#32
  let v2 : BitVec 1 := Scalar.cmpi .sgt v1 c0_i32
  let v15 : BitVec 32 := Scalar.extui v2
  let c0_i32_3 : BitVec 32 := 0#32
  let v16 : BitVec 1 := Scalar.cmpi .ne v15 c0_i32_3
  v16

def k0_cond3 (v1 : BitVec 32) : BitVec 1 :=
  let c0_i32 : BitVec 32 := 0#32
  let v2 : BitVec 1 := Scalar.cmpi .sgt v1 c0_i32
  let v_true : BitVec 1 := 1#1
  let v17 : BitVec 1 := Scalar.xori v2 v_true
  let v18 : BitVec 32 := Scalar.extui v17
  let c0_i32_4 : BitVec 32 := 0#32
  let v19 : BitVec 1 := Scalar.cmpi .ne v18 c0_i32_4
  v19

def cc0_transform_0 (k0_off1_inb : ∀ i : grid0.Coords, ∀ a, (k0_off1 i) a + S1.size a ≤ S288.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 2 (Rect.unit (s := S288) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsReference1Ideal.lean ====
abbrev S288 : Shape := ⟨1, ![288]⟩
abbrev S147456x512 : Shape := ⟨2, ![147456, 512]⟩
abbrev S4x32x1024x2048 : Shape := ⟨4, ![4, 32, 1024, 2048]⟩
abbrev S4x32x1x2048 : Shape := ⟨4, ![4, 32, 1, 2048]⟩
abbrev S4x32x1024x1024 : Shape := ⟨4, ![4, 32, 1024, 1024]⟩
abbrev S4x32x1x1024 : Shape := ⟨4, ![4, 32, 1, 1024]⟩
abbrev S288x512x512 : Shape := ⟨3, ![288, 512, 512]⟩
abbrev S288x1 : Shape := ⟨2, ![288, 1]⟩
abbrev S_ : Shape := ⟨0, ![]⟩
abbrev S288x512x1024 : Shape := ⟨3, ![288, 512, 1024]⟩
abbrev S1x32x1024x2048 : Shape := ⟨4, ![1, 32, 1024, 2048]⟩
abbrev S32x1024x2048 : Shape := ⟨3, ![32, 1024, 2048]⟩
abbrev S288x1024x2048 : Shape := ⟨3, ![288, 1024, 2048]⟩
abbrev S1x32x1x2048 : Shape := ⟨4, ![1, 32, 1, 2048]⟩
abbrev S32x1x2048 : Shape := ⟨3, ![32, 1, 2048]⟩
abbrev S288x1x2048 : Shape := ⟨3, ![288, 1, 2048]⟩
abbrev S1x32x1024x1024 : Shape := ⟨4, ![1, 32, 1024, 1024]⟩
abbrev S32x1024x1024 : Shape := ⟨3, ![32, 1024, 1024]⟩
abbrev S288x1024x1024 : Shape := ⟨3, ![288, 1024, 1024]⟩
abbrev S1x32x1x1024 : Shape := ⟨4, ![1, 32, 1, 1024]⟩
abbrev S32x1x1024 : Shape := ⟨3, ![32, 1, 1024]⟩
abbrev S288x1x1024 : Shape := ⟨3, ![288, 1, 1024]⟩
abbrev S288x512x2048 : Shape := ⟨3, ![288, 512, 2048]⟩
abbrev S288x1x1 : Shape := ⟨3, ![288, 1, 1]⟩
abbrev S147456x1024 : Shape := ⟨2, ![147456, 1024]⟩

abbrev nBuf : Space → Nat
  | .hbm => 82
  | .vmem => 0
  | .smem => 0
  | _ => 0

abbrev bufTy : (tb : Table) → Fin (tcTables nBuf tb) → BufTy
  | .hbm, ⟨0, _⟩ => ⟨S288, .i32⟩
  | .hbm, ⟨1, _⟩ => ⟨S288, .i32⟩
  | .hbm, ⟨2, _⟩ => ⟨S288, .i32⟩
  | .hbm, ⟨3, _⟩ => ⟨S147456x512, .i32⟩
  | .hbm, ⟨4, _⟩ => ⟨S4x32x1024x2048, .f32⟩
  | .hbm, ⟨5, _⟩ => ⟨S4x32x1x2048, .f32⟩
  | .hbm, ⟨6, _⟩ => ⟨S4x32x1024x1024, .f32⟩
  | .hbm, ⟨7, _⟩ => ⟨S4x32x1x1024, .f32⟩
  | .hbm, ⟨8, _⟩ => ⟨S288x512x512, .i32⟩
  | .hbm, ⟨9, _⟩ => ⟨S288x1, .i32⟩
  | .hbm, ⟨10, _⟩ => ⟨S288x512x512, .i32⟩
  | .hbm, ⟨11, _⟩ => ⟨S_, .i32⟩
  | .hbm, ⟨12, _⟩ => ⟨S288x512x512, .i32⟩
  | .hbm, ⟨13, _⟩ => ⟨S288x512x512, .i32⟩
  | .hbm, ⟨14, _⟩ => ⟨S288x512x512, .f32⟩
  | .hbm, ⟨15, _⟩ => ⟨S_, .i32⟩
  | .hbm, ⟨16, _⟩ => ⟨S288x512x512, .i32⟩
  | .hbm, ⟨17, _⟩ => ⟨S288x512x512, .i32⟩
  | .hbm, ⟨18, _⟩ => ⟨S288x512x512, .f32⟩
  | .hbm, ⟨19, _⟩ => ⟨S288x512x1024, .f32⟩
  | .hbm, ⟨20, _⟩ => ⟨S1x32x1024x2048, .f32⟩
  | .hbm, ⟨21, _⟩ => ⟨S32x1024x2048, .f32⟩
  | .hbm, ⟨22, _⟩ => ⟨S288x1, .i32⟩
  | .hbm, ⟨23, _⟩ => ⟨S288x1024x2048, .f32⟩
  | .hbm, ⟨24, _⟩ => ⟨S1x32x1x2048, .f32⟩
  | .hbm, ⟨25, _⟩ => ⟨S32x1x2048, .f32⟩
  | .hbm, ⟨26, _⟩ => ⟨S288x1, .i32⟩
  | .hbm, ⟨27, _⟩ => ⟨S288x1x2048, .f32⟩
  | .hbm, ⟨28, _⟩ => ⟨S1x32x1024x1024, .f32⟩
  | .hbm, ⟨29, _⟩ => ⟨S32x1024x1024, .f32⟩
  | .hbm, ⟨30, _⟩ => ⟨S288x1, .i32⟩
  | .hbm, ⟨31, _⟩ => ⟨S288x1024x1024, .f32⟩
  | .hbm, ⟨32, _⟩ => ⟨S1x32x1x1024, .f32⟩
  | .hbm, ⟨33, _⟩ => ⟨S32x1x1024, .f32⟩
  | .hbm, ⟨34, _⟩ => ⟨S288x1, .i32⟩
  | .hbm, ⟨35, _⟩ => ⟨S288x1x1024, .f32⟩
  | .hbm, ⟨36, _⟩ => ⟨S288x512x2048, .f32⟩
  | .hbm, ⟨37, _⟩ => ⟨S288x512x2048, .f32⟩
  | .hbm, ⟨38, _⟩ => ⟨S288x512x2048, .f32⟩
  | .hbm, ⟨39, _⟩ => ⟨S288x512x1024, .f32⟩
  | .hbm, ⟨40, _⟩ => ⟨S_, .f32⟩
  | .hbm, ⟨41, _⟩ => ⟨S288x512x1024, .f32⟩
  | .hbm, ⟨42, _⟩ => ⟨S288x512x1024, .f32⟩
  | .hbm, ⟨43, _⟩ => ⟨S288x512x1024, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S288x512x1024, .f32⟩
  | .hbm, ⟨48, _⟩ => ⟨S288x512x1024, .f32⟩
  | .hbm, ⟨49, _⟩ => ⟨S_, .f32⟩
  | .hbm, ⟨50, _⟩ => ⟨S288x512x1024, .f32⟩
  | .hbm, ⟨51, _⟩ => ⟨S288x512x1024, .f32⟩
  | .hbm, ⟨52, _⟩ => ⟨S_, .f32⟩
  | .hbm, ⟨53, _⟩ => ⟨S288x512x1024, .f32⟩
  | .hbm, ⟨54, _⟩ => ⟨S288x512x1024, .f32⟩
  | .hbm, ⟨55, _⟩ => ⟨S288x512x1024, .f32⟩
  | .hbm, ⟨56, _⟩ => ⟨S288x512x1024, .f32⟩
  | .hbm, ⟨57, _⟩ => ⟨S_, .f32⟩
  | .hbm, ⟨58, _⟩ => ⟨S288x512x1024, .f32⟩
  | .hbm, ⟨59, _⟩ => ⟨S288x512x1024, .f32⟩
  | .hbm, ⟨60, _⟩ => ⟨S_, .f32⟩
  | .hbm, ⟨61, _⟩ => ⟨S288x512x1024, .f32⟩
  | .hbm, ⟨62, _⟩ => ⟨S288x512x1024, .f32⟩
  | .hbm, ⟨63, _⟩ => ⟨S288x512x1024, .f32⟩
  | .hbm, ⟨64, _⟩ => ⟨S_, .f32⟩
  | .hbm, ⟨65, _⟩ => ⟨S288x512x1024, .f32⟩
  | .hbm, ⟨66, _⟩ => ⟨S288x512x1024, .f32⟩
  | .hbm, ⟨67, _⟩ => ⟨S288x512x1024, .f32⟩
  | .hbm, ⟨68, _⟩ => ⟨S288x512x1024, .f32⟩
  | .hbm, ⟨69, _⟩ => ⟨S288x512x1024, .f32⟩
  | .hbm, ⟨70, _⟩ => ⟨S288x512x1024, .f32⟩
  | .hbm, ⟨71, _⟩ => ⟨S_, .i32⟩
  | .hbm, ⟨72, _⟩ => ⟨S288, .i32⟩
  | .hbm, ⟨73, _⟩ => ⟨S288, .i1⟩
  | .hbm, ⟨74, _⟩ => ⟨S288x1x1, .i1⟩
  | .hbm, ⟨75, _⟩ => ⟨S_, .f32⟩
  | .hbm, ⟨76, _⟩ => ⟨S_, .f32⟩
  | .hbm, ⟨77, _⟩ => ⟨S288x512x1024, .i1⟩
  | .hbm, ⟨78, _⟩ => ⟨S288x512x1024, .f32⟩
  | .hbm, ⟨79, _⟩ => ⟨S288x512x1024, .f32⟩
  | .hbm, ⟨80, _⟩ => ⟨S147456x1024, .f32⟩
  | .hbm, ⟨81, _⟩ => ⟨S147456x1024, .bf16⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call2_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call3_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call4_v0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_1 : Ref sig .tc := ⟨.hbm, 44, rfl⟩
abbrev main_cst_2 : Ref sig .tc := ⟨.hbm, 45, rfl⟩
abbrev main_call5_v0 : Ref sig .tc := ⟨.hbm, 46, rfl⟩
abbrev main_call5_v1 : Ref sig .tc := ⟨.hbm, 47, rfl⟩
abbrev main_call5_v2 : Ref sig .tc := ⟨.hbm, 48, rfl⟩
abbrev main_call5_v3 : Ref sig .tc := ⟨.hbm, 49, rfl⟩
abbrev main_call5_v4 : Ref sig .tc := ⟨.hbm, 50, rfl⟩
abbrev main_v28 : Ref sig .tc := ⟨.hbm, 51, rfl⟩
abbrev main_cst_3 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_4 : Ref sig .tc := ⟨.hbm, 57, rfl⟩
abbrev main_v33 : Ref sig .tc := ⟨.hbm, 58, rfl⟩
abbrev main_v34 : Ref sig .tc := ⟨.hbm, 59, rfl⟩
abbrev main_cst_5 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_6 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_7 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_8 : Ref sig .tc := ⟨.hbm, 75, rfl⟩
abbrev main_call6_v0 : Ref sig .tc := ⟨.hbm, 76, rfl⟩
abbrev main_call6_v1 : Ref sig .tc := ⟨.hbm, 77, rfl⟩
abbrev main_call6_v2 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩

abbrev nD : Nat := 1
abbrev τ : Topo := Topo.v7x

variable {F : FTy → Type} [FloatOps F]
-- ==== Experts2.lean ====
abbrev S288 : Shape := ⟨1, ![288]⟩
abbrev S147456x512 : Shape := ⟨2, ![147456, 512]⟩
abbrev S4x32x1024x2048 : Shape := ⟨4, ![4, 32, 1024, 2048]⟩
abbrev S4x32x1x2048 : Shape := ⟨4, ![4, 32, 1, 2048]⟩
abbrev S4x32x1024x1024 : Shape := ⟨4, ![4, 32, 1024, 1024]⟩
abbrev S4x32x1x1024 : Shape := ⟨4, ![4, 32, 1, 1024]⟩
abbrev S147456x1024 : Shape := ⟨2, ![147456, 1024]⟩
abbrev S512x512 : Shape := ⟨2, ![512, 512]⟩
abbrev S1 : Shape := ⟨1, ![1]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S512x1024 : Shape := ⟨2, ![512, 1024]⟩
abbrev S1024x2048 : Shape := ⟨2, ![1024, 2048]⟩
abbrev S1024x1024 : Shape := ⟨2, ![1024, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 6
  | .vmem => 14
  | .smem => 3
  | _ => 0

abbrev bufTy : (tb : Table) → Fin (tcTables nBuf tb) → BufTy
  | .hbm, ⟨0, _⟩ => ⟨S147456x512, .i32⟩
  | .hbm, ⟨1, _⟩ => ⟨S4x32x1024x2048, .f32⟩
  | .hbm, ⟨2, _⟩ => ⟨S4x32x1x2048, .f32⟩
  | .hbm, ⟨3, _⟩ => ⟨S4x32x1024x1024, .f32⟩
  | .hbm, ⟨4, _⟩ => ⟨S4x32x1x1024, .f32⟩
  | .hbm, ⟨5, _⟩ => ⟨S147456x1024, .bf16⟩
  | .local _ .vmem, ⟨0, _⟩ => ⟨S512x512, .i32⟩
  | .local _ .vmem, ⟨1, _⟩ => ⟨S512x512, .i32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S512x1024, .bf16⟩
  | .local _ .vmem, ⟨11, _⟩ => ⟨S512x1024, .bf16⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S288, .i32⟩
  | .local _ .smem, ⟨2, _⟩ => ⟨S288, .i32⟩
  | _, _ => ⟨S147456x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v6 : BitVec 32 := Scalar.subi arg0 c1_i32
  let c0_i32_1 : BitVec 32 := 0#32
  let v7 : BitVec 32 := Scalar.maxsi v6 c0_i32_1
  let v8 : Index := Scalar.indexCast v7
  ![v8.toNat]
def k0_cond2 (v1 : BitVec 32) : BitVec 1 :=
  let c0_i32 : BitVec 32 := 0#32
  let v2 : BitVec 1 := Scalar.cmpi .sgt v1 c0_i32
  let v15 : BitVec 32 := Scalar.extui v2
  let c0_i32_3 : BitVec 32 := 0#32
  let v16 : BitVec 1 := Scalar.cmpi .ne v15 c0_i32_3
  v16

def k0_cond3 (v1 : BitVec 32) : BitVec 1 :=
  let c0_i32 : BitVec 32 := 0#32
  let v2 : BitVec 1 := Scalar.cmpi .sgt v1 c0_i32
  let v_true : BitVec 1 := 1#1
  let v17 : BitVec 1 := Scalar.xori v2 v_true
  let v18 : BitVec 32 := Scalar.extui v17
  let c0_i32_4 : BitVec 32 := 0#32
  let v19 : BitVec 1 := Scalar.cmpi .ne v18 c0_i32_4
  v19

def cc0_transform_0 (k0_off1_inb : ∀ i : grid0.Coords, ∀ a, (k0_off1 i) a + S1.size a ≤ S288.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 2 (Rect.unit (s := S288) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c2_i32 : BitVec 32 := 2#32
  let c0_i32 : BitVec 32 := 0#32
  let c0_i32_0 : BitVec 32 := 0#32
  let c0_i32_1 : BitVec 32 := 0#32
  ![c2_i32.toNat, v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c2_i32 : BitVec 32 := 2#32
  let c0_i32 : BitVec 32 := 0#32
  let c0_i32_0 : BitVec 32 := 0#32
  let c0_i32_1 : BitVec 32 := 0#32
  ![c2_i32.toNat, v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c2_i32 : BitVec 32 := 2#32
  let c0_i32 : BitVec 32 := 0#32
  let c0_i32_0 : BitVec 32 := 0#32
  let c0_i32_1 : BitVec 32 := 0#32
  ![c2_i32.toNat, v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c2_i32 : BitVec 32 := 2#32
  let c0_i32 : BitVec 32 := 0#32
  let c0_i32_0 : BitVec 32 := 0#32
  let c0_i32_1 : BitVec 32 := 0#32
  ![c2_i32.toNat, v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Experts2Ideal.lean ====
abbrev S288 : Shape := ⟨1, ![288]⟩
abbrev S147456x512 : Shape := ⟨2, ![147456, 512]⟩
abbrev S4x32x1024x2048 : Shape := ⟨4, ![4, 32, 1024, 2048]⟩
abbrev S4x32x1x2048 : Shape := ⟨4, ![4, 32, 1, 2048]⟩
abbrev S4x32x1024x1024 : Shape := ⟨4, ![4, 32, 1024, 1024]⟩
abbrev S4x32x1x1024 : Shape := ⟨4, ![4, 32, 1, 1024]⟩
abbrev S147456x1024 : Shape := ⟨2, ![147456, 1024]⟩
abbrev S512x512 : Shape := ⟨2, ![512, 512]⟩
abbrev S1 : Shape := ⟨1, ![1]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S512x1024 : Shape := ⟨2, ![512, 1024]⟩
abbrev S1024x2048 : Shape := ⟨2, ![1024, 2048]⟩
abbrev S1024x1024 : Shape := ⟨2, ![1024, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 6
  | .vmem => 14
  | .smem => 3
  | _ => 0

abbrev bufTy : (tb : Table) → Fin (tcTables nBuf tb) → BufTy
  | .hbm, ⟨0, _⟩ => ⟨S147456x512, .i32⟩
  | .hbm, ⟨1, _⟩ => ⟨S4x32x1024x2048, .f32⟩
  | .hbm, ⟨2, _⟩ => ⟨S4x32x1x2048, .f32⟩
  | .hbm, ⟨3, _⟩ => ⟨S4x32x1024x1024, .f32⟩
  | .hbm, ⟨4, _⟩ => ⟨S4x32x1x1024, .f32⟩
  | .hbm, ⟨5, _⟩ => ⟨S147456x1024, .bf16⟩
  | .local _ .vmem, ⟨0, _⟩ => ⟨S512x512, .i32⟩
  | .local _ .vmem, ⟨1, _⟩ => ⟨S512x512, .i32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S512x1024, .bf16⟩
  | .local _ .vmem, ⟨11, _⟩ => ⟨S512x1024, .bf16⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S288, .i32⟩
  | .local _ .smem, ⟨2, _⟩ => ⟨S288, .i32⟩
  | _, _ => ⟨S147456x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v6 : BitVec 32 := Scalar.subi arg0 c1_i32
  let c0_i32_1 : BitVec 32 := 0#32
  let v7 : BitVec 32 := Scalar.maxsi v6 c0_i32_1
  let v8 : Index := Scalar.indexCast v7
  ![v8.toNat]
def k0_cond2 (v1 : BitVec 32) : BitVec 1 :=
  let c0_i32 : BitVec 32 := 0#32
  let v2 : BitVec 1 := Scalar.cmpi .sgt v1 c0_i32
  let v15 : BitVec 32 := Scalar.extui v2
  let c0_i32_3 : BitVec 32 := 0#32
  let v16 : BitVec 1 := Scalar.cmpi .ne v15 c0_i32_3
  v16

def k0_cond3 (v1 : BitVec 32) : BitVec 1 :=
  let c0_i32 : BitVec 32 := 0#32
  let v2 : BitVec 1 := Scalar.cmpi .sgt v1 c0_i32
  let v_true : BitVec 1 := 1#1
  let v17 : BitVec 1 := Scalar.xori v2 v_true
  let v18 : BitVec 32 := Scalar.extui v17
  let c0_i32_4 : BitVec 32 := 0#32
  let v19 : BitVec 1 := Scalar.cmpi .ne v18 c0_i32_4
  v19

def cc0_transform_0 (k0_off1_inb : ∀ i : grid0.Coords, ∀ a, (k0_off1 i) a + S1.size a ≤ S288.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 2 (Rect.unit (s := S288) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c2_i32 : BitVec 32 := 2#32
  let c0_i32 : BitVec 32 := 0#32
  let c0_i32_0 : BitVec 32 := 0#32
  let c0_i32_1 : BitVec 32 := 0#32
  ![c2_i32.toNat, v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c2_i32 : BitVec 32 := 2#32
  let c0_i32 : BitVec 32 := 0#32
  let c0_i32_0 : BitVec 32 := 0#32
  let c0_i32_1 : BitVec 32 := 0#32
  ![c2_i32.toNat, v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c2_i32 : BitVec 32 := 2#32
  let c0_i32 : BitVec 32 := 0#32
  let c0_i32_0 : BitVec 32 := 0#32
  let c0_i32_1 : BitVec 32 := 0#32
  ![c2_i32.toNat, v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c2_i32 : BitVec 32 := 2#32
  let c0_i32 : BitVec 32 := 0#32
  let c0_i32_0 : BitVec 32 := 0#32
  let c0_i32_1 : BitVec 32 := 0#32
  ![c2_i32.toNat, v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsReference2Ideal.lean ====
abbrev S288 : Shape := ⟨1, ![288]⟩
abbrev S147456x512 : Shape := ⟨2, ![147456, 512]⟩
abbrev S4x32x1024x2048 : Shape := ⟨4, ![4, 32, 1024, 2048]⟩
abbrev S4x32x1x2048 : Shape := ⟨4, ![4, 32, 1, 2048]⟩
abbrev S4x32x1024x1024 : Shape := ⟨4, ![4, 32, 1024, 1024]⟩
abbrev S4x32x1x1024 : Shape := ⟨4, ![4, 32, 1, 1024]⟩
abbrev S288x512x512 : Shape := ⟨3, ![288, 512, 512]⟩
abbrev S288x1 : Shape := ⟨2, ![288, 1]⟩
abbrev S_ : Shape := ⟨0, ![]⟩
abbrev S288x512x1024 : Shape := ⟨3, ![288, 512, 1024]⟩
abbrev S1x32x1024x2048 : Shape := ⟨4, ![1, 32, 1024, 2048]⟩
abbrev S32x1024x2048 : Shape := ⟨3, ![32, 1024, 2048]⟩
abbrev S288x1024x2048 : Shape := ⟨3, ![288, 1024, 2048]⟩
abbrev S1x32x1x2048 : Shape := ⟨4, ![1, 32, 1, 2048]⟩
abbrev S32x1x2048 : Shape := ⟨3, ![32, 1, 2048]⟩
abbrev S288x1x2048 : Shape := ⟨3, ![288, 1, 2048]⟩
abbrev S1x32x1024x1024 : Shape := ⟨4, ![1, 32, 1024, 1024]⟩
abbrev S32x1024x1024 : Shape := ⟨3, ![32, 1024, 1024]⟩
abbrev S288x1024x1024 : Shape := ⟨3, ![288, 1024, 1024]⟩
abbrev S1x32x1x1024 : Shape := ⟨4, ![1, 32, 1, 1024]⟩
abbrev S32x1x1024 : Shape := ⟨3, ![32, 1, 1024]⟩
abbrev S288x1x1024 : Shape := ⟨3, ![288, 1, 1024]⟩
abbrev S288x512x2048 : Shape := ⟨3, ![288, 512, 2048]⟩
abbrev S288x1x1 : Shape := ⟨3, ![288, 1, 1]⟩
abbrev S147456x1024 : Shape := ⟨2, ![147456, 1024]⟩

abbrev nBuf : Space → Nat
  | .hbm => 82
  | .vmem => 0
  | .smem => 0
  | _ => 0

abbrev bufTy : (tb : Table) → Fin (tcTables nBuf tb) → BufTy
  | .hbm, ⟨0, _⟩ => ⟨S288, .i32⟩
  | .hbm, ⟨1, _⟩ => ⟨S288, .i32⟩
  | .hbm, ⟨2, _⟩ => ⟨S288, .i32⟩
  | .hbm, ⟨3, _⟩ => ⟨S147456x512, .i32⟩
  | .hbm, ⟨4, _⟩ => ⟨S4x32x1024x2048, .f32⟩
  | .hbm, ⟨5, _⟩ => ⟨S4x32x1x2048, .f32⟩
  | .hbm, ⟨6, _⟩ => ⟨S4x32x1024x1024, .f32⟩
  | .hbm, ⟨7, _⟩ => ⟨S4x32x1x1024, .f32⟩
  | .hbm, ⟨8, _⟩ => ⟨S288x512x512, .i32⟩
  | .hbm, ⟨9, _⟩ => ⟨S288x1, .i32⟩
  | .hbm, ⟨10, _⟩ => ⟨S288x512x512, .i32⟩
  | .hbm, ⟨11, _⟩ => ⟨S_, .i32⟩
  | .hbm, ⟨12, _⟩ => ⟨S288x512x512, .i32⟩
  | .hbm, ⟨13, _⟩ => ⟨S288x512x512, .i32⟩
  | .hbm, ⟨14, _⟩ => ⟨S288x512x512, .f32⟩
  | .hbm, ⟨15, _⟩ => ⟨S_, .i32⟩
  | .hbm, ⟨16, _⟩ => ⟨S288x512x512, .i32⟩
  | .hbm, ⟨17, _⟩ => ⟨S288x512x512, .i32⟩
  | .hbm, ⟨18, _⟩ => ⟨S288x512x512, .f32⟩
  | .hbm, ⟨19, _⟩ => ⟨S288x512x1024, .f32⟩
  | .hbm, ⟨20, _⟩ => ⟨S1x32x1024x2048, .f32⟩
  | .hbm, ⟨21, _⟩ => ⟨S32x1024x2048, .f32⟩
  | .hbm, ⟨22, _⟩ => ⟨S288x1, .i32⟩
  | .hbm, ⟨23, _⟩ => ⟨S288x1024x2048, .f32⟩
  | .hbm, ⟨24, _⟩ => ⟨S1x32x1x2048, .f32⟩
  | .hbm, ⟨25, _⟩ => ⟨S32x1x2048, .f32⟩
  | .hbm, ⟨26, _⟩ => ⟨S288x1, .i32⟩
  | .hbm, ⟨27, _⟩ => ⟨S288x1x2048, .f32⟩
  | .hbm, ⟨28, _⟩ => ⟨S1x32x1024x1024, .f32⟩
  | .hbm, ⟨29, _⟩ => ⟨S32x1024x1024, .f32⟩
  | .hbm, ⟨30, _⟩ => ⟨S288x1, .i32⟩
  | .hbm, ⟨31, _⟩ => ⟨S288x1024x1024, .f32⟩
  | .hbm, ⟨32, _⟩ => ⟨S1x32x1x1024, .f32⟩
  | .hbm, ⟨33, _⟩ => ⟨S32x1x1024, .f32⟩
  | .hbm, ⟨34, _⟩ => ⟨S288x1, .i32⟩
  | .hbm, ⟨35, _⟩ => ⟨S288x1x1024, .f32⟩
  | .hbm, ⟨36, _⟩ => ⟨S288x512x2048, .f32⟩
  | .hbm, ⟨37, _⟩ => ⟨S288x512x2048, .f32⟩
  | .hbm, ⟨38, _⟩ => ⟨S288x512x2048, .f32⟩
  | .hbm, ⟨39, _⟩ => ⟨S288x512x1024, .f32⟩
  | .hbm, ⟨40, _⟩ => ⟨S_, .f32⟩
  | .hbm, ⟨41, _⟩ => ⟨S288x512x1024, .f32⟩
  | .hbm, ⟨42, _⟩ => ⟨S288x512x1024, .f32⟩
  | .hbm, ⟨43, _⟩ => ⟨S288x512x1024, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S288x512x1024, .f32⟩
  | .hbm, ⟨48, _⟩ => ⟨S288x512x1024, .f32⟩
  | .hbm, ⟨49, _⟩ => ⟨S_, .f32⟩
  | .hbm, ⟨50, _⟩ => ⟨S288x512x1024, .f32⟩
  | .hbm, ⟨51, _⟩ => ⟨S288x512x1024, .f32⟩
  | .hbm, ⟨52, _⟩ => ⟨S_, .f32⟩
  | .hbm, ⟨53, _⟩ => ⟨S288x512x1024, .f32⟩
  | .hbm, ⟨54, _⟩ => ⟨S288x512x1024, .f32⟩
  | .hbm, ⟨55, _⟩ => ⟨S288x512x1024, .f32⟩
  | .hbm, ⟨56, _⟩ => ⟨S288x512x1024, .f32⟩
  | .hbm, ⟨57, _⟩ => ⟨S_, .f32⟩
  | .hbm, ⟨58, _⟩ => ⟨S288x512x1024, .f32⟩
  | .hbm, ⟨59, _⟩ => ⟨S288x512x1024, .f32⟩
  | .hbm, ⟨60, _⟩ => ⟨S_, .f32⟩
  | .hbm, ⟨61, _⟩ => ⟨S288x512x1024, .f32⟩
  | .hbm, ⟨62, _⟩ => ⟨S288x512x1024, .f32⟩
  | .hbm, ⟨63, _⟩ => ⟨S288x512x1024, .f32⟩
  | .hbm, ⟨64, _⟩ => ⟨S_, .f32⟩
  | .hbm, ⟨65, _⟩ => ⟨S288x512x1024, .f32⟩
  | .hbm, ⟨66, _⟩ => ⟨S288x512x1024, .f32⟩
  | .hbm, ⟨67, _⟩ => ⟨S288x512x1024, .f32⟩
  | .hbm, ⟨68, _⟩ => ⟨S288x512x1024, .f32⟩
  | .hbm, ⟨69, _⟩ => ⟨S288x512x1024, .f32⟩
  | .hbm, ⟨70, _⟩ => ⟨S288x512x1024, .f32⟩
  | .hbm, ⟨71, _⟩ => ⟨S_, .i32⟩
  | .hbm, ⟨72, _⟩ => ⟨S288, .i32⟩
  | .hbm, ⟨73, _⟩ => ⟨S288, .i1⟩
  | .hbm, ⟨74, _⟩ => ⟨S288x1x1, .i1⟩
  | .hbm, ⟨75, _⟩ => ⟨S_, .f32⟩
  | .hbm, ⟨76, _⟩ => ⟨S_, .f32⟩
  | .hbm, ⟨77, _⟩ => ⟨S288x512x1024, .i1⟩
  | .hbm, ⟨78, _⟩ => ⟨S288x512x1024, .f32⟩
  | .hbm, ⟨79, _⟩ => ⟨S288x512x1024, .f32⟩
  | .hbm, ⟨80, _⟩ => ⟨S147456x1024, .f32⟩
  | .hbm, ⟨81, _⟩ => ⟨S147456x1024, .bf16⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call2_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call3_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call4_v0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_1 : Ref sig .tc := ⟨.hbm, 44, rfl⟩
abbrev main_cst_2 : Ref sig .tc := ⟨.hbm, 45, rfl⟩
abbrev main_call5_v0 : Ref sig .tc := ⟨.hbm, 46, rfl⟩
abbrev main_call5_v1 : Ref sig .tc := ⟨.hbm, 47, rfl⟩
abbrev main_call5_v2 : Ref sig .tc := ⟨.hbm, 48, rfl⟩
abbrev main_call5_v3 : Ref sig .tc := ⟨.hbm, 49, rfl⟩
abbrev main_call5_v4 : Ref sig .tc := ⟨.hbm, 50, rfl⟩
abbrev main_v28 : Ref sig .tc := ⟨.hbm, 51, rfl⟩
abbrev main_cst_3 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_4 : Ref sig .tc := ⟨.hbm, 57, rfl⟩
abbrev main_v33 : Ref sig .tc := ⟨.hbm, 58, rfl⟩
abbrev main_v34 : Ref sig .tc := ⟨.hbm, 59, rfl⟩
abbrev main_cst_5 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_6 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_7 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_8 : Ref sig .tc := ⟨.hbm, 75, rfl⟩
abbrev main_call6_v0 : Ref sig .tc := ⟨.hbm, 76, rfl⟩
abbrev main_call6_v1 : Ref sig .tc := ⟨.hbm, 77, rfl⟩
abbrev main_call6_v2 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩

abbrev nD : Nat := 1
abbrev τ : Topo := Topo.v7x

variable {F : FTy → Type} [FloatOps F]
-- ==== Experts3.lean ====
abbrev S288 : Shape := ⟨1, ![288]⟩
abbrev S147456x512 : Shape := ⟨2, ![147456, 512]⟩
abbrev S4x32x1024x2048 : Shape := ⟨4, ![4, 32, 1024, 2048]⟩
abbrev S4x32x1x2048 : Shape := ⟨4, ![4, 32, 1, 2048]⟩
abbrev S4x32x1024x1024 : Shape := ⟨4, ![4, 32, 1024, 1024]⟩
abbrev S4x32x1x1024 : Shape := ⟨4, ![4, 32, 1, 1024]⟩
abbrev S147456x1024 : Shape := ⟨2, ![147456, 1024]⟩
abbrev S512x512 : Shape := ⟨2, ![512, 512]⟩
abbrev S1 : Shape := ⟨1, ![1]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S512x1024 : Shape := ⟨2, ![512, 1024]⟩
abbrev S1024x2048 : Shape := ⟨2, ![1024, 2048]⟩
abbrev S1024x1024 : Shape := ⟨2, ![1024, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 6
  | .vmem => 14
  | .smem => 3
  | _ => 0

abbrev bufTy : (tb : Table) → Fin (tcTables nBuf tb) → BufTy
  | .hbm, ⟨0, _⟩ => ⟨S147456x512, .i32⟩
  | .hbm, ⟨1, _⟩ => ⟨S4x32x1024x2048, .f32⟩
  | .hbm, ⟨2, _⟩ => ⟨S4x32x1x2048, .f32⟩
  | .hbm, ⟨3, _⟩ => ⟨S4x32x1024x1024, .f32⟩
  | .hbm, ⟨4, _⟩ => ⟨S4x32x1x1024, .f32⟩
  | .hbm, ⟨5, _⟩ => ⟨S147456x1024, .bf16⟩
  | .local _ .vmem, ⟨0, _⟩ => ⟨S512x512, .i32⟩
  | .local _ .vmem, ⟨1, _⟩ => ⟨S512x512, .i32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S512x1024, .bf16⟩
  | .local _ .vmem, ⟨11, _⟩ => ⟨S512x1024, .bf16⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S288, .i32⟩
  | .local _ .smem, ⟨2, _⟩ => ⟨S288, .i32⟩
  | _, _ => ⟨S147456x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v6 : BitVec 32 := Scalar.subi arg0 c1_i32
  let c0_i32_1 : BitVec 32 := 0#32
  let v7 : BitVec 32 := Scalar.maxsi v6 c0_i32_1
  let v8 : Index := Scalar.indexCast v7
  ![v8.toNat]
def k0_cond2 (v1 : BitVec 32) : BitVec 1 :=
  let c0_i32 : BitVec 32 := 0#32
  let v2 : BitVec 1 := Scalar.cmpi .sgt v1 c0_i32
  let v15 : BitVec 32 := Scalar.extui v2
  let c0_i32_3 : BitVec 32 := 0#32
  let v16 : BitVec 1 := Scalar.cmpi .ne v15 c0_i32_3
  v16

def k0_cond3 (v1 : BitVec 32) : BitVec 1 :=
  let c0_i32 : BitVec 32 := 0#32
  let v2 : BitVec 1 := Scalar.cmpi .sgt v1 c0_i32
  let v_true : BitVec 1 := 1#1
  let v17 : BitVec 1 := Scalar.xori v2 v_true
  let v18 : BitVec 32 := Scalar.extui v17
  let c0_i32_4 : BitVec 32 := 0#32
  let v19 : BitVec 1 := Scalar.cmpi .ne v18 c0_i32_4
  v19

def cc0_transform_0 (k0_off1_inb : ∀ i : grid0.Coords, ∀ a, (k0_off1 i) a + S1.size a ≤ S288.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 2 (Rect.unit (s := S288) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c3_i32 : BitVec 32 := 3#32
  let c0_i32 : BitVec 32 := 0#32
  let c0_i32_0 : BitVec 32 := 0#32
  let c0_i32_1 : BitVec 32 := 0#32
  ![c3_i32.toNat, v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c3_i32 : BitVec 32 := 3#32
  let c0_i32 : BitVec 32 := 0#32
  let c0_i32_0 : BitVec 32 := 0#32
  let c0_i32_1 : BitVec 32 := 0#32
  ![c3_i32.toNat, v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c3_i32 : BitVec 32 := 3#32
  let c0_i32 : BitVec 32 := 0#32
  let c0_i32_0 : BitVec 32 := 0#32
  let c0_i32_1 : BitVec 32 := 0#32
  ![c3_i32.toNat, v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c3_i32 : BitVec 32 := 3#32
  let c0_i32 : BitVec 32 := 0#32
  let c0_i32_0 : BitVec 32 := 0#32
  let c0_i32_1 : BitVec 32 := 0#32
  ![c3_i32.toNat, v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsReference3Ideal.lean ====
abbrev S288 : Shape := ⟨1, ![288]⟩
abbrev S147456x512 : Shape := ⟨2, ![147456, 512]⟩
abbrev S4x32x1024x2048 : Shape := ⟨4, ![4, 32, 1024, 2048]⟩
abbrev S4x32x1x2048 : Shape := ⟨4, ![4, 32, 1, 2048]⟩
abbrev S4x32x1024x1024 : Shape := ⟨4, ![4, 32, 1024, 1024]⟩
abbrev S4x32x1x1024 : Shape := ⟨4, ![4, 32, 1, 1024]⟩
abbrev S288x512x512 : Shape := ⟨3, ![288, 512, 512]⟩
abbrev S288x1 : Shape := ⟨2, ![288, 1]⟩
abbrev S_ : Shape := ⟨0, ![]⟩
abbrev S288x512x1024 : Shape := ⟨3, ![288, 512, 1024]⟩
abbrev S1x32x1024x2048 : Shape := ⟨4, ![1, 32, 1024, 2048]⟩
abbrev S32x1024x2048 : Shape := ⟨3, ![32, 1024, 2048]⟩
abbrev S288x1024x2048 : Shape := ⟨3, ![288, 1024, 2048]⟩
abbrev S1x32x1x2048 : Shape := ⟨4, ![1, 32, 1, 2048]⟩
abbrev S32x1x2048 : Shape := ⟨3, ![32, 1, 2048]⟩
abbrev S288x1x2048 : Shape := ⟨3, ![288, 1, 2048]⟩
abbrev S1x32x1024x1024 : Shape := ⟨4, ![1, 32, 1024, 1024]⟩
abbrev S32x1024x1024 : Shape := ⟨3, ![32, 1024, 1024]⟩
abbrev S288x1024x1024 : Shape := ⟨3, ![288, 1024, 1024]⟩
abbrev S1x32x1x1024 : Shape := ⟨4, ![1, 32, 1, 1024]⟩
abbrev S32x1x1024 : Shape := ⟨3, ![32, 1, 1024]⟩
abbrev S288x1x1024 : Shape := ⟨3, ![288, 1, 1024]⟩
abbrev S288x512x2048 : Shape := ⟨3, ![288, 512, 2048]⟩
abbrev S288x1x1 : Shape := ⟨3, ![288, 1, 1]⟩
abbrev S147456x1024 : Shape := ⟨2, ![147456, 1024]⟩

abbrev nBuf : Space → Nat
  | .hbm => 82
  | .vmem => 0
  | .smem => 0
  | _ => 0

abbrev bufTy : (tb : Table) → Fin (tcTables nBuf tb) → BufTy
  | .hbm, ⟨0, _⟩ => ⟨S288, .i32⟩
  | .hbm, ⟨1, _⟩ => ⟨S288, .i32⟩
  | .hbm, ⟨2, _⟩ => ⟨S288, .i32⟩
  | .hbm, ⟨3, _⟩ => ⟨S147456x512, .i32⟩
  | .hbm, ⟨4, _⟩ => ⟨S4x32x1024x2048, .f32⟩
  | .hbm, ⟨5, _⟩ => ⟨S4x32x1x2048, .f32⟩
  | .hbm, ⟨6, _⟩ => ⟨S4x32x1024x1024, .f32⟩
  | .hbm, ⟨7, _⟩ => ⟨S4x32x1x1024, .f32⟩
  | .hbm, ⟨8, _⟩ => ⟨S288x512x512, .i32⟩
  | .hbm, ⟨9, _⟩ => ⟨S288x1, .i32⟩
  | .hbm, ⟨10, _⟩ => ⟨S288x512x512, .i32⟩
  | .hbm, ⟨11, _⟩ => ⟨S_, .i32⟩
  | .hbm, ⟨12, _⟩ => ⟨S288x512x512, .i32⟩
  | .hbm, ⟨13, _⟩ => ⟨S288x512x512, .i32⟩
  | .hbm, ⟨14, _⟩ => ⟨S288x512x512, .f32⟩
  | .hbm, ⟨15, _⟩ => ⟨S_, .i32⟩
  | .hbm, ⟨16, _⟩ => ⟨S288x512x512, .i32⟩
  | .hbm, ⟨17, _⟩ => ⟨S288x512x512, .i32⟩
  | .hbm, ⟨18, _⟩ => ⟨S288x512x512, .f32⟩
  | .hbm, ⟨19, _⟩ => ⟨S288x512x1024, .f32⟩
  | .hbm, ⟨20, _⟩ => ⟨S1x32x1024x2048, .f32⟩
  | .hbm, ⟨21, _⟩ => ⟨S32x1024x2048, .f32⟩
  | .hbm, ⟨22, _⟩ => ⟨S288x1, .i32⟩
  | .hbm, ⟨23, _⟩ => ⟨S288x1024x2048, .f32⟩
  | .hbm, ⟨24, _⟩ => ⟨S1x32x1x2048, .f32⟩
  | .hbm, ⟨25, _⟩ => ⟨S32x1x2048, .f32⟩
  | .hbm, ⟨26, _⟩ => ⟨S288x1, .i32⟩
  | .hbm, ⟨27, _⟩ => ⟨S288x1x2048, .f32⟩
  | .hbm, ⟨28, _⟩ => ⟨S1x32x1024x1024, .f32⟩
  | .hbm, ⟨29, _⟩ => ⟨S32x1024x1024, .f32⟩
  | .hbm, ⟨30, _⟩ => ⟨S288x1, .i32⟩
  | .hbm, ⟨31, _⟩ => ⟨S288x1024x1024, .f32⟩
  | .hbm, ⟨32, _⟩ => ⟨S1x32x1x1024, .f32⟩
  | .hbm, ⟨33, _⟩ => ⟨S32x1x1024, .f32⟩
  | .hbm, ⟨34, _⟩ => ⟨S288x1, .i32⟩
  | .hbm, ⟨35, _⟩ => ⟨S288x1x1024, .f32⟩
  | .hbm, ⟨36, _⟩ => ⟨S288x512x2048, .f32⟩
  | .hbm, ⟨37, _⟩ => ⟨S288x512x2048, .f32⟩
  | .hbm, ⟨38, _⟩ => ⟨S288x512x2048, .f32⟩
  | .hbm, ⟨39, _⟩ => ⟨S288x512x1024, .f32⟩
  | .hbm, ⟨40, _⟩ => ⟨S_, .f32⟩
  | .hbm, ⟨41, _⟩ => ⟨S288x512x1024, .f32⟩
  | .hbm, ⟨42, _⟩ => ⟨S288x512x1024, .f32⟩
  | .hbm, ⟨43, _⟩ => ⟨S288x512x1024, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S288x512x1024, .f32⟩
  | .hbm, ⟨48, _⟩ => ⟨S288x512x1024, .f32⟩
  | .hbm, ⟨49, _⟩ => ⟨S_, .f32⟩
  | .hbm, ⟨50, _⟩ => ⟨S288x512x1024, .f32⟩
  | .hbm, ⟨51, _⟩ => ⟨S288x512x1024, .f32⟩
  | .hbm, ⟨52, _⟩ => ⟨S_, .f32⟩
  | .hbm, ⟨53, _⟩ => ⟨S288x512x1024, .f32⟩
  | .hbm, ⟨54, _⟩ => ⟨S288x512x1024, .f32⟩
  | .hbm, ⟨55, _⟩ => ⟨S288x512x1024, .f32⟩
  | .hbm, ⟨56, _⟩ => ⟨S288x512x1024, .f32⟩
  | .hbm, ⟨57, _⟩ => ⟨S_, .f32⟩
  | .hbm, ⟨58, _⟩ => ⟨S288x512x1024, .f32⟩
  | .hbm, ⟨59, _⟩ => ⟨S288x512x1024, .f32⟩
  | .hbm, ⟨60, _⟩ => ⟨S_, .f32⟩
  | .hbm, ⟨61, _⟩ => ⟨S288x512x1024, .f32⟩
  | .hbm, ⟨62, _⟩ => ⟨S288x512x1024, .f32⟩
  | .hbm, ⟨63, _⟩ => ⟨S288x512x1024, .f32⟩
  | .hbm, ⟨64, _⟩ => ⟨S_, .f32⟩
  | .hbm, ⟨65, _⟩ => ⟨S288x512x1024, .f32⟩
  | .hbm, ⟨66, _⟩ => ⟨S288x512x1024, .f32⟩
  | .hbm, ⟨67, _⟩ => ⟨S288x512x1024, .f32⟩
  | .hbm, ⟨68, _⟩ => ⟨S288x512x1024, .f32⟩
  | .hbm, ⟨69, _⟩ => ⟨S288x512x1024, .f32⟩
  | .hbm, ⟨70, _⟩ => ⟨S288x512x1024, .f32⟩
  | .hbm, ⟨71, _⟩ => ⟨S_, .i32⟩
  | .hbm, ⟨72, _⟩ => ⟨S288, .i32⟩
  | .hbm, ⟨73, _⟩ => ⟨S288, .i1⟩
  | .hbm, ⟨74, _⟩ => ⟨S288x1x1, .i1⟩
  | .hbm, ⟨75, _⟩ => ⟨S_, .f32⟩
  | .hbm, ⟨76, _⟩ => ⟨S_, .f32⟩
  | .hbm, ⟨77, _⟩ => ⟨S288x512x1024, .i1⟩
  | .hbm, ⟨78, _⟩ => ⟨S288x512x1024, .f32⟩
  | .hbm, ⟨79, _⟩ => ⟨S288x512x1024, .f32⟩
  | .hbm, ⟨80, _⟩ => ⟨S147456x1024, .f32⟩
  | .hbm, ⟨81, _⟩ => ⟨S147456x1024, .bf16⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call2_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call3_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call4_v0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_1 : Ref sig .tc := ⟨.hbm, 44, rfl⟩
abbrev main_cst_2 : Ref sig .tc := ⟨.hbm, 45, rfl⟩
abbrev main_call5_v0 : Ref sig .tc := ⟨.hbm, 46, rfl⟩
abbrev main_call5_v1 : Ref sig .tc := ⟨.hbm, 47, rfl⟩
abbrev main_call5_v2 : Ref sig .tc := ⟨.hbm, 48, rfl⟩
abbrev main_call5_v3 : Ref sig .tc := ⟨.hbm, 49, rfl⟩
abbrev main_call5_v4 : Ref sig .tc := ⟨.hbm, 50, rfl⟩
abbrev main_v28 : Ref sig .tc := ⟨.hbm, 51, rfl⟩
abbrev main_cst_3 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_4 : Ref sig .tc := ⟨.hbm, 57, rfl⟩
abbrev main_v33 : Ref sig .tc := ⟨.hbm, 58, rfl⟩
abbrev main_v34 : Ref sig .tc := ⟨.hbm, 59, rfl⟩
abbrev main_cst_5 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_6 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_7 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_8 : Ref sig .tc := ⟨.hbm, 75, rfl⟩
abbrev main_call6_v0 : Ref sig .tc := ⟨.hbm, 76, rfl⟩
abbrev main_call6_v1 : Ref sig .tc := ⟨.hbm, 77, rfl⟩
abbrev main_call6_v2 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩

abbrev nD : Nat := 1
abbrev τ : Topo := Topo.v7x

variable {F : FTy → Type} [FloatOps F]
-- ==== ProjectAB.lean ====
abbrev S32768x1024 : Shape := ⟨2, ![32768, 1024]⟩
abbrev S1024x1024 : Shape := ⟨2, ![1024, 1024]⟩
abbrev S8x1x1024 : Shape := ⟨3, ![8, 1, 1024]⟩
abbrev S1x1x1024 : Shape := ⟨3, ![1, 1, 1024]⟩
abbrev S1x1024 : Shape := ⟨2, ![1, 1024]⟩

abbrev nBuf : Space → Nat
  | .hbm => 7
  | .vmem => 12
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S1024x1024, .bf16⟩
  | .hbm, ⟨3, _⟩ => ⟨S1024x1024, .bf16⟩
  | .hbm, ⟨4, _⟩ => ⟨S32768x1024, .f32⟩
  | .hbm, ⟨5, _⟩ => ⟨S8x1x1024, .f32⟩
  | .hbm, ⟨6, _⟩ => ⟨S32768x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S1024x1024, .f32⟩
  | .local _ .vmem, ⟨11, _⟩ => ⟨S1024x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ProjectABReferenceIdeal.lean ====
abbrev S32768x1024 : Shape := ⟨2, ![32768, 1024]⟩
abbrev S1024x1024 : Shape := ⟨2, ![1024, 1024]⟩
abbrev S8x1x1024 : Shape := ⟨3, ![8, 1, 1024]⟩
abbrev S32768x2048 : Shape := ⟨2, ![32768, 2048]⟩
abbrev S2048x1024 : Shape := ⟨2, ![2048, 1024]⟩
abbrev S8x4096x1024 : Shape := ⟨3, ![8, 4096, 1024]⟩

abbrev nBuf : Space → Nat
  | .hbm => 17
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S1024x1024, .bf16⟩
  | .hbm, ⟨3, _⟩ => ⟨S1024x1024, .bf16⟩
  | .hbm, ⟨4, _⟩ => ⟨S32768x1024, .f32⟩
  | .hbm, ⟨5, _⟩ => ⟨S8x1x1024, .f32⟩
  | .hbm, ⟨6, _⟩ => ⟨S32768x2048, .bf16⟩
  | .hbm, ⟨7, _⟩ => ⟨S32768x2048, .f32⟩
  | .hbm, ⟨8, _⟩ => ⟨S2048x1024, .bf16⟩
  | .hbm, ⟨9, _⟩ => ⟨S2048x1024, .f32⟩
  | .hbm, ⟨10, _⟩ => ⟨S32768x1024, .f32⟩
  | .hbm, ⟨11, _⟩ => ⟨S8x4096x1024, .f32⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== ProjectDil.lean ====
abbrev S32768x1024 : Shape := ⟨2, ![32768, 1024]⟩
abbrev S1x1024 : Shape := ⟨2, ![1, 1024]⟩
abbrev S8x1x1024 : Shape := ⟨3, ![8, 1, 1024]⟩
abbrev S1024x3072 : Shape := ⟨2, ![1024, 3072]⟩
abbrev S32768x128 : Shape := ⟨2, ![32768, 128]⟩
abbrev S32768x3072 : Shape := ⟨2, ![32768, 3072]⟩
abbrev S1024x1024 : Shape := ⟨2, ![1024, 1024]⟩
abbrev S1x1x1024 : Shape := ⟨3, ![1, 1, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 9
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S8x1x1024, .f32⟩
  | .hbm, ⟨3, _⟩ => ⟨S8x1x1024, .f32⟩
  | .hbm, ⟨4, _⟩ => ⟨S1024x3072, .bf16⟩
  | .hbm, ⟨5, _⟩ => ⟨S32768x128, .f32⟩
  | .hbm, ⟨6, _⟩ => ⟨S32768x128, .f32⟩
  | .hbm, ⟨7, _⟩ => ⟨S32768x3072, .bf16⟩
  | .hbm, ⟨8, _⟩ => ⟨S32768x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3072, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x3072, .bf16⟩
  | .local _ .vmem, ⟨13, _⟩ => ⟨S1024x3072, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ProjectDilReferenceIdeal.lean ====
abbrev S32768x1024 : Shape := ⟨2, ![32768, 1024]⟩
abbrev S1x1024 : Shape := ⟨2, ![1, 1024]⟩
abbrev S8x1x1024 : Shape := ⟨3, ![8, 1, 1024]⟩
abbrev S1024x3072 : Shape := ⟨2, ![1024, 3072]⟩
abbrev S32768x128 : Shape := ⟨2, ![32768, 128]⟩
abbrev S_ : Shape := ⟨0, ![]⟩
abbrev S32768 : Shape := ⟨1, ![32768]⟩
abbrev S32768x1 : Shape := ⟨2, ![32768, 1]⟩
abbrev S8x4096x1024 : Shape := ⟨3, ![8, 4096, 1024]⟩
abbrev S32768x3072 : Shape := ⟨2, ![32768, 3072]⟩
abbrev S128 : Shape := ⟨1, ![128]⟩
abbrev S32768x2048 : Shape := ⟨2, ![32768, 2048]⟩
abbrev S32768x16x2x64 : Shape := ⟨4, ![32768, 16, 2, 64]⟩
abbrev S32768x16x1x64 : Shape := ⟨4, ![32768, 16, 1, 64]⟩
abbrev S32768x1x2x64 : Shape := ⟨4, ![32768, 1, 2, 64]⟩
abbrev S32768x8x2x64 : Shape := ⟨4, ![32768, 8, 2, 64]⟩

abbrev nBuf : Space → Nat
  | .hbm => 88
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S8x1x1024, .f32⟩
  | .hbm, ⟨3, _⟩ => ⟨S8x1x1024, .f32⟩
  | .hbm, ⟨4, _⟩ => ⟨S1024x3072, .bf16⟩
  | .hbm, ⟨5, _⟩ => ⟨S32768x128, .f32⟩
  | .hbm, ⟨6, _⟩ => ⟨S32768x128, .f32⟩
  | .hbm, ⟨7, _⟩ => ⟨S32768x1024, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S8x4096x1024, .f32⟩
  | .hbm, ⟨23, _⟩ => ⟨S_, .f32⟩
  | .hbm, ⟨24, _⟩ => ⟨S8x1x1024, .f32⟩
  | .hbm, ⟨25, _⟩ => ⟨S8x1x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S32768x1024, .f32⟩
  | .hbm, ⟨31, _⟩ => ⟨S32768x1024, .bf16⟩
  | .hbm, ⟨32, _⟩ => ⟨S32768x1024, .f32⟩
  | .hbm, ⟨33, _⟩ => ⟨S1024x3072, .f32⟩
  | .hbm, ⟨34, _⟩ => ⟨S32768x3072, .f32⟩
  | .hbm, ⟨35, _⟩ => ⟨S128, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S128, .i32⟩
  | .hbm, ⟨43, _⟩ => ⟨S128, .i32⟩
  | .hbm, ⟨44, _⟩ => ⟨S_, .i32⟩
  | .hbm, ⟨45, _⟩ => ⟨S128, .i32⟩
  | .hbm, ⟨46, _⟩ => ⟨S128, .i1⟩
  | .hbm, ⟨47, _⟩ => ⟨S_, .i32⟩
  | .hbm, ⟨48, _⟩ => ⟨S128, .i32⟩
  | .hbm, ⟨49, _⟩ => ⟨S128, .i1⟩
  | .hbm, ⟨50, _⟩ => ⟨S_, .i32⟩
  | .hbm, ⟨51, _⟩ => ⟨S_, .i1⟩
  | .hbm, ⟨52, _⟩ => ⟨S128, .i1⟩
  | .hbm, ⟨53, _⟩ => ⟨S128, .i1⟩
  | .hbm, ⟨54, _⟩ => ⟨S128, .i1⟩
  | .hbm, ⟨55, _⟩ => ⟨S128, .i32⟩
  | .hbm, ⟨56, _⟩ => ⟨S128, .i32⟩
  | .hbm, ⟨57, _⟩ => ⟨S128, .i32⟩
  | .hbm, ⟨58, _⟩ => ⟨S_, .i32⟩
  | .hbm, ⟨59, _⟩ => ⟨S128, .i32⟩
  | .hbm, ⟨60, _⟩ => ⟨S128, .i1⟩
  | .hbm, ⟨61, _⟩ => ⟨S32768x128, .f32⟩
  | .hbm, ⟨62, _⟩ => ⟨S32768x128, .i1⟩
  | .hbm, ⟨63, _⟩ => ⟨S32768x128, .f32⟩
  | .hbm, ⟨64, _⟩ => ⟨S32768x2048, .f32⟩
  | .hbm, ⟨65, _⟩ => ⟨S32768x16x2x64, .f32⟩
  | .hbm, ⟨66, _⟩ => ⟨S32768x16x1x64, .f32⟩
  | .hbm, ⟨67, _⟩ => ⟨S32768x16x1x64, .f32⟩
  | .hbm, ⟨68, _⟩ => ⟨S32768x16x1x64, .f32⟩
  | .hbm, ⟨69, _⟩ => ⟨S32768x16x2x64, .f32⟩
  | .hbm, ⟨70, _⟩ => ⟨S32768x1x2x64, .f32⟩
  | .hbm, ⟨71, _⟩ => ⟨S32768x16x2x64, .f32⟩
  | .hbm, ⟨72, _⟩ => ⟨S32768x16x2x64, .f32⟩
  | .hbm, ⟨73, _⟩ => ⟨S32768x1x2x64, .f32⟩
  | .hbm, ⟨74, _⟩ => ⟨S32768x16x2x64, .f32⟩
  | .hbm, ⟨75, _⟩ => ⟨S32768x16x2x64, .f32⟩
  | .hbm, ⟨76, _⟩ => ⟨S32768x16x2x64, .f32⟩
  | .hbm, ⟨77, _⟩ => ⟨S32768x8x2x64, .f32⟩
  | .hbm, ⟨78, _⟩ => ⟨S_, .f32⟩
  | .hbm, ⟨79, _⟩ => ⟨S32768x8x2x64, .f32⟩
  | .hbm, ⟨80, _⟩ => ⟨S32768x8x2x64, .f32⟩
  | .hbm, ⟨81, _⟩ => ⟨S32768x1024, .f32⟩
  | .hbm, ⟨82, _⟩ => ⟨S32768x8x2x64, .f32⟩
  | .hbm, ⟨83, _⟩ => ⟨S32768x1024, .f32⟩
  | .hbm, ⟨84, _⟩ => ⟨S32768x1024, .f32⟩
  | .hbm, ⟨85, _⟩ => ⟨S32768x3072, .f32⟩
  | .hbm, ⟨86, _⟩ => ⟨S32768x3072, .bf16⟩
  | .hbm, ⟨87, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c : Ref sig .tc := ⟨.hbm, 36, rfl⟩
abbrev main_call0_v0 : Ref sig .tc := ⟨.hbm, 37, rfl⟩
abbrev main_call0_c : Ref sig .tc := ⟨.hbm, 38, rfl⟩
abbrev main_call0_v1 : Ref sig .tc := ⟨.hbm, 39, rfl⟩
abbrev main_call0_c_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_c_1 : Ref sig .tc := ⟨.hbm, 44, rfl⟩
abbrev main_call0_v5 : Ref sig .tc := ⟨.hbm, 45, rfl⟩
abbrev main_call0_v6 : Ref sig .tc := ⟨.hbm, 46, rfl⟩
abbrev main_call0_c_2 : Ref sig .tc := ⟨.hbm, 47, rfl⟩
abbrev main_call0_v7 : Ref sig .tc := ⟨.hbm, 48, rfl⟩
abbrev main_call0_v8 : Ref sig .tc := ⟨.hbm, 49, rfl⟩
abbrev main_call0_c_3 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_v12 : Ref sig .tc := ⟨.hbm, 54, rfl⟩
abbrev main_call0_v13 : Ref sig .tc := ⟨.hbm, 55, rfl⟩
abbrev main_call0_v14 : Ref sig .tc := ⟨.hbm, 56, rfl⟩
abbrev main_v25 : Ref sig .tc := ⟨.hbm, 57, rfl⟩
abbrev main_c_3 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_call1_v0 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_4 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩

abbrev nD : Nat := 1
abbrev τ : Topo := Topo.v7x

variable {F : FTy → Type} [FloatOps F]
-- ==== ProjectLatent.lean ====
abbrev S32768x1024 : Shape := ⟨2, ![32768, 1024]⟩
abbrev S1x1024 : Shape := ⟨2, ![1, 1024]⟩
abbrev S8x1x1024 : Shape := ⟨3, ![8, 1, 1024]⟩
abbrev S1024x768 : Shape := ⟨2, ![1024, 768]⟩
abbrev S32768x768 : Shape := ⟨2, ![32768, 768]⟩
abbrev S1024x1024 : Shape := ⟨2, ![1024, 1024]⟩
abbrev S1x1x1024 : Shape := ⟨3, ![1, 1, 1024]⟩
abbrev S1024 : Shape := ⟨1, ![1024]⟩
abbrev S1024x1 : Shape := ⟨2, ![1024, 1]⟩
abbrev S1024x128 : Shape := ⟨2, ![1024, 128]⟩

abbrev nBuf : Space → Nat
  | .hbm => 7
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S8x1x1024, .f32⟩
  | .hbm, ⟨3, _⟩ => ⟨S8x1x1024, .f32⟩
  | .hbm, ⟨4, _⟩ => ⟨S1024x768, .bf16⟩
  | .hbm, ⟨5, _⟩ => ⟨S32768x768, .f32⟩
  | .hbm, ⟨6, _⟩ => ⟨S32768x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x768, .bf16⟩
  | .local _ .vmem, ⟨8, _⟩ => ⟨S1024x768, .f32⟩
  | .local _ .vmem, ⟨9, _⟩ => ⟨S1024x768, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ProjectLatentReferenceIdeal.lean ====
abbrev S32768x1024 : Shape := ⟨2, ![32768, 1024]⟩
abbrev S1x1024 : Shape := ⟨2, ![1, 1024]⟩
abbrev S8x1x1024 : Shape := ⟨3, ![8, 1, 1024]⟩
abbrev S1024x768 : Shape := ⟨2, ![1024, 768]⟩
abbrev S_ : Shape := ⟨0, ![]⟩
abbrev S32768 : Shape := ⟨1, ![32768]⟩
abbrev S32768x1 : Shape := ⟨2, ![32768, 1]⟩
abbrev S8x4096x1024 : Shape := ⟨3, ![8, 4096, 1024]⟩
abbrev S32768x768 : Shape := ⟨2, ![32768, 768]⟩

abbrev nBuf : Space → Nat
  | .hbm => 32
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S8x1x1024, .f32⟩
  | .hbm, ⟨3, _⟩ => ⟨S8x1x1024, .f32⟩
  | .hbm, ⟨4, _⟩ => ⟨S1024x768, .bf16⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S8x4096x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S32768x1024, .f32⟩
  | .hbm, ⟨29, _⟩ => ⟨S1024x768, .f32⟩
  | .hbm, ⟨30, _⟩ => ⟨S32768x768, .f32⟩
  | .hbm, ⟨31, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== ProjectKV.lean ====
abbrev S32768x768 : Shape := ⟨2, ![32768, 768]⟩
abbrev S1x256 : Shape := ⟨2, ![1, 256]⟩
abbrev S256x2048 : Shape := ⟨2, ![256, 2048]⟩
abbrev S32768x2048 : Shape := ⟨2, ![32768, 2048]⟩
abbrev S1024x256 : Shape := ⟨2, ![1024, 256]⟩
abbrev S1024x2048 : Shape := ⟨2, ![1024, 2048]⟩
abbrev S1024 : Shape := ⟨1, ![1024]⟩
abbrev S1024x1 : Shape := ⟨2, ![1024, 1]⟩
abbrev S1024x128 : Shape := ⟨2, ![1024, 128]⟩

abbrev nBuf : Space → Nat
  | .hbm => 4
  | .vmem => 7
  | .smem => 0
  | _ => 0

abbrev bufTy : (tb : Table) → Fin (tcTables nBuf tb) → BufTy
  | .hbm, ⟨0, _⟩ => ⟨S32768x768, .f32⟩
  | .hbm, ⟨1, _⟩ => ⟨S1x256, .f32⟩
  | .hbm, ⟨2, _⟩ => ⟨S256x2048, .bf16⟩
  | .hbm, ⟨3, _⟩ => ⟨S32768x2048, .bf16⟩
  | .local _ .vmem, ⟨0, _⟩ => ⟨S1024x256, .f32⟩
  | .local _ .vmem, ⟨1, _⟩ => ⟨S1024x256, .f32⟩
  | .local _ .vmem, ⟨2, _⟩ => ⟨S1x256, .f32⟩
  | .local _ .vmem, ⟨3, _⟩ => ⟨S256x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x256, .bf16⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjectKVReferenceIdeal.lean ====
abbrev S32768x768 : Shape := ⟨2, ![32768, 768]⟩
abbrev S1x256 : Shape := ⟨2, ![1, 256]⟩
abbrev S256x2048 : Shape := ⟨2, ![256, 2048]⟩
abbrev S32768x256 : Shape := ⟨2, ![32768, 256]⟩
abbrev S_ : Shape := ⟨0, ![]⟩
abbrev S32768 : Shape := ⟨1, ![32768]⟩
abbrev S32768x1 : Shape := ⟨2, ![32768, 1]⟩
abbrev S32768x2048 : Shape := ⟨2, ![32768, 2048]⟩

abbrev nBuf : Space → Nat
  | .hbm => 22
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S1x256, .f32⟩
  | .hbm, ⟨2, _⟩ => ⟨S256x2048, .bf16⟩
  | .hbm, ⟨3, _⟩ => ⟨S32768x256, .f32⟩
  | .hbm, ⟨4, _⟩ => ⟨S32768x256, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x256, .f32⟩
  | .hbm, ⟨16, _⟩ => ⟨S32768x256, .f32⟩
  | .hbm, ⟨17, _⟩ => ⟨S32768x256, .f32⟩
  | .hbm, ⟨18, _⟩ => ⟨S32768x256, .f32⟩
  | .hbm, ⟨19, _⟩ => ⟨S256x2048, .f32⟩
  | .hbm, ⟨20, _⟩ => ⟨S32768x2048, .f32⟩
  | .hbm, ⟨21, _⟩ => ⟨S32768x2048, .bf16⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Combine.lean ====
abbrev S131072x512 : Shape := ⟨2, ![131072, 512]⟩
abbrev S32768x4 : Shape := ⟨2, ![32768, 4]⟩
abbrev S32768x1024 : Shape := ⟨2, ![32768, 1024]⟩
abbrev S8x1x1024 : Shape := ⟨3, ![8, 1, 1024]⟩
abbrev S1024x512 : Shape := ⟨2, ![1024, 512]⟩
abbrev S1024x4 : Shape := ⟨2, ![1024, 4]⟩
abbrev S1024x1024 : Shape := ⟨2, ![1024, 1024]⟩
abbrev S1x1x1024 : Shape := ⟨3, ![1, 1, 1024]⟩
abbrev S1024x1 : Shape := ⟨2, ![1024, 1]⟩
abbrev S1x1x512 : Shape := ⟨3, ![1, 1, 512]⟩
abbrev S1x512 : Shape := ⟨2, ![1, 512]⟩

abbrev nBuf : Space → Nat
  | .hbm => 5
  | .vmem => 16
  | .smem => 0
  | _ => 0

abbrev bufTy : (tb : Table) → Fin (tcTables nBuf tb) → BufTy
  | .hbm, ⟨0, _⟩ => ⟨S131072x512, .i32⟩
  | .hbm, ⟨1, _⟩ => ⟨S32768x4, .f32⟩
  | .hbm, ⟨2, _⟩ => ⟨S32768x1024, .f32⟩
  | .hbm, ⟨3, _⟩ => ⟨S8x1x1024, .f32⟩
  | .hbm, ⟨4, _⟩ => ⟨S32768x1024, .f32⟩
  | .local _ .vmem, ⟨0, _⟩ => ⟨S1024x512, .i32⟩
  | .local _ .vmem, ⟨1, _⟩ => ⟨S1024x512, .i32⟩
  | .local _ .vmem, ⟨2, _⟩ => ⟨S1024x512, .i32⟩
  | .local _ .vmem, ⟨3, _⟩ => ⟨S1024x512, .i32⟩
  | .local _ .vmem, ⟨4, _⟩ => ⟨S1024x512, .i32⟩
  | .local _ .vmem, ⟨5, _⟩ => ⟨S1024x512, .i32⟩
  | .local _ .vmem, ⟨6, _⟩ => ⟨S1024x512, .i32⟩
  | .local _ .vmem, ⟨7, _⟩ => ⟨S1024x512, .i32⟩
  | .local _ .vmem, ⟨8, _⟩ => ⟨S1024x4, .f32⟩
  | .local _ .vmem, ⟨9, _⟩ => ⟨S1024x4, .f32⟩
  | .local _ .vmem, ⟨10, _⟩ => ⟨S1024x1024, .f32⟩
  | .local _ .vmem, ⟨11, _⟩ => ⟨S1024x1024, .f32⟩
  | .local _ .vmem, ⟨12, _⟩ => ⟨S1x1x1024, .f32⟩
  | .local _ .vmem, ⟨13, _⟩ => ⟨S1x1x1024, .f32⟩
  | .local _ .vmem, ⟨14, _⟩ => ⟨S1024x1024, .f32⟩
  | .local _ .vmem, ⟨15, _⟩ => ⟨S1024x1024, .f32⟩
  | _, _ => ⟨S131072x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c96_i32 : BitVec 32 := 96#32
  let v0 : BitVec 32 := Scalar.addi c96_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== CombineReferenceIdeal.lean ====
abbrev S131072x512 : Shape := ⟨2, ![131072, 512]⟩
abbrev S32768x4 : Shape := ⟨2, ![32768, 4]⟩
abbrev S32768x1024 : Shape := ⟨2, ![32768, 1024]⟩
abbrev S8x1x1024 : Shape := ⟨3, ![8, 1, 1024]⟩
abbrev S_ : Shape := ⟨0, ![]⟩
abbrev S131072x1024 : Shape := ⟨2, ![131072, 1024]⟩
abbrev S4x32768x1024 : Shape := ⟨3, ![4, 32768, 1024]⟩
abbrev S4x32768 : Shape := ⟨2, ![4, 32768]⟩
abbrev S4x32768x1 : Shape := ⟨3, ![4, 32768, 1]⟩
abbrev S8x4096x1024 : Shape := ⟨3, ![8, 4096, 1024]⟩

abbrev nBuf : Space → Nat
  | .hbm => 26
  | .vmem => 0
  | .smem => 0
  | _ => 0

abbrev bufTy : (tb : Table) → Fin (tcTables nBuf tb) → BufTy
  | .hbm, ⟨0, _⟩ => ⟨S131072x512, .i32⟩
  | .hbm, ⟨1, _⟩ => ⟨S32768x4, .f32⟩
  | .hbm, ⟨2, _⟩ => ⟨S32768x1024, .f32⟩
  | .hbm, ⟨3, _⟩ => ⟨S8x1x1024, .f32⟩
  | .hbm, ⟨4, _⟩ => ⟨S_, .i32⟩
  | .hbm, ⟨5, _⟩ => ⟨S131072x512, .i32⟩
  | .hbm, ⟨6, _⟩ => ⟨S131072x512, .i32⟩
  | .hbm, ⟨7, _⟩ => ⟨S131072x512, .f32⟩
  | .hbm, ⟨8, _⟩ => ⟨S_, .i32⟩
  | .hbm, ⟨9, _⟩ => ⟨S131072x512, .i32⟩
  | .hbm, ⟨10, _⟩ => ⟨S131072x512, .i32⟩
  | .hbm, ⟨11, _⟩ => ⟨S131072x512, .f32⟩
  | .hbm, ⟨12, _⟩ => ⟨S131072x1024, .f32⟩
  | .hbm, ⟨13, _⟩ => ⟨S4x32768x1024, .f32⟩
  | .hbm, ⟨14, _⟩ => ⟨S4x32768, .f32⟩
  | .hbm, ⟨15, _⟩ => ⟨S4x32768x1, .f32⟩
  | .hbm, ⟨16, _⟩ => ⟨S4x32768x1024, .f32⟩
  | .hbm, ⟨17, _⟩ => ⟨S4x32768x1024, .f32⟩
  | .hbm, ⟨18, _⟩ => ⟨S_, .f32⟩
  | .hbm, ⟨19, _⟩ => ⟨S32768x1024, .f32⟩
  | .hbm, ⟨20, _⟩ => ⟨S8x4096x1024, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S32768x1024, .f32⟩
  | _, _ => ⟨S131072x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== CombineLast.lean ====
abbrev S131072x512 : Shape := ⟨2, ![131072, 512]⟩
abbrev S32768x4 : Shape := ⟨2, ![32768, 4]⟩
abbrev S32768x1024 : Shape := ⟨2, ![32768, 1024]⟩
abbrev S8x1x1024 : Shape := ⟨3, ![8, 1, 1024]⟩
abbrev S1x1024 : Shape := ⟨2, ![1, 1024]⟩
abbrev S1024x512 : Shape := ⟨2, ![1024, 512]⟩
abbrev S1024x4 : Shape := ⟨2, ![1024, 4]⟩
abbrev S1024x1024 : Shape := ⟨2, ![1024, 1024]⟩
abbrev S1x1x1024 : Shape := ⟨3, ![1, 1, 1024]⟩
abbrev S1024x1 : Shape := ⟨2, ![1024, 1]⟩
abbrev S1x1x512 : Shape := ⟨3, ![1, 1, 512]⟩
abbrev S1x512 : Shape := ⟨2, ![1, 512]⟩
abbrev S1024 : Shape := ⟨1, ![1024]⟩

abbrev nBuf : Space → Nat
  | .hbm => 6
  | .vmem => 17
  | .smem => 0
  | _ => 0

abbrev bufTy : (tb : Table) → Fin (tcTables nBuf tb) → BufTy
  | .hbm, ⟨0, _⟩ => ⟨S131072x512, .i32⟩
  | .hbm, ⟨1, _⟩ => ⟨S32768x4, .f32⟩
  | .hbm, ⟨2, _⟩ => ⟨S32768x1024, .f32⟩
  | .hbm, ⟨3, _⟩ => ⟨S8x1x1024, .f32⟩
  | .hbm, ⟨4, _⟩ => ⟨S1x1024, .f32⟩
  | .hbm, ⟨5, _⟩ => ⟨S32768x1024, .f32⟩
  | .local _ .vmem, ⟨0, _⟩ => ⟨S1024x512, .i32⟩
  | .local _ .vmem, ⟨1, _⟩ => ⟨S1024x512, .i32⟩
  | .local _ .vmem, ⟨2, _⟩ => ⟨S1024x512, .i32⟩
  | .local _ .vmem, ⟨3, _⟩ => ⟨S1024x512, .i32⟩
  | .local _ .vmem, ⟨4, _⟩ => ⟨S1024x512, .i32⟩
  | .local _ .vmem, ⟨5, _⟩ => ⟨S1024x512, .i32⟩
  | .local _ .vmem, ⟨6, _⟩ => ⟨S1024x512, .i32⟩
  | .local _ .vmem, ⟨7, _⟩ => ⟨S1024x512, .i32⟩
  | .local _ .vmem, ⟨8, _⟩ => ⟨S1024x4, .f32⟩
  | .local _ .vmem, ⟨9, _⟩ => ⟨S1024x4, .f32⟩
  | .local _ .vmem, ⟨10, _⟩ => ⟨S1024x1024, .f32⟩
  | .local _ .vmem, ⟨11, _⟩ => ⟨S1024x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | _, _ => ⟨S131072x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c96_i32 : BitVec 32 := 96#32
  let v0 : BitVec 32 := Scalar.addi c96_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== CombineLastReferenceIdeal.lean ====
abbrev S131072x512 : Shape := ⟨2, ![131072, 512]⟩
abbrev S32768x4 : Shape := ⟨2, ![32768, 4]⟩
abbrev S32768x1024 : Shape := ⟨2, ![32768, 1024]⟩
abbrev S8x1x1024 : Shape := ⟨3, ![8, 1, 1024]⟩
abbrev S1x1024 : Shape := ⟨2, ![1, 1024]⟩
abbrev S_ : Shape := ⟨0, ![]⟩
abbrev S131072x1024 : Shape := ⟨2, ![131072, 1024]⟩
abbrev S4x32768x1024 : Shape := ⟨3, ![4, 32768, 1024]⟩
abbrev S4x32768 : Shape := ⟨2, ![4, 32768]⟩
abbrev S4x32768x1 : Shape := ⟨3, ![4, 32768, 1]⟩
abbrev S8x4096x1024 : Shape := ⟨3, ![8, 4096, 1024]⟩
abbrev S32768 : Shape := ⟨1, ![32768]⟩
abbrev S32768x1 : Shape := ⟨2, ![32768, 1]⟩

abbrev nBuf : Space → Nat
  | .hbm => 42
  | .vmem => 0
  | .smem => 0
  | _ => 0

abbrev bufTy : (tb : Table) → Fin (tcTables nBuf tb) → BufTy
  | .hbm, ⟨0, _⟩ => ⟨S131072x512, .i32⟩
  | .hbm, ⟨1, _⟩ => ⟨S32768x4, .f32⟩
  | .hbm, ⟨2, _⟩ => ⟨S32768x1024, .f32⟩
  | .hbm, ⟨3, _⟩ => ⟨S8x1x1024, .f32⟩
  | .hbm, ⟨4, _⟩ => ⟨S1x1024, .f32⟩
  | .hbm, ⟨5, _⟩ => ⟨S_, .i32⟩
  | .hbm, ⟨6, _⟩ => ⟨S131072x512, .i32⟩
  | .hbm, ⟨7, _⟩ => ⟨S131072x512, .i32⟩
  | .hbm, ⟨8, _⟩ => ⟨S131072x512, .f32⟩
  | .hbm, ⟨9, _⟩ => ⟨S_, .i32⟩
  | .hbm, ⟨10, _⟩ => ⟨S131072x512, .i32⟩
  | .hbm, ⟨11, _⟩ => ⟨S131072x512, .i32⟩
  | .hbm, ⟨12, _⟩ => ⟨S131072x512, .f32⟩
  | .hbm, ⟨13, _⟩ => ⟨S131072x1024, .f32⟩
  | .hbm, ⟨14, _⟩ => ⟨S4x32768x1024, .f32⟩
  | .hbm, ⟨15, _⟩ => ⟨S4x32768, .f32⟩
  | .hbm, ⟨16, _⟩ => ⟨S4x32768x1, .f32⟩
  | .hbm, ⟨17, _⟩ => ⟨S4x32768x1024, .f32⟩
  | .hbm, ⟨18, _⟩ => ⟨S4x32768x1024, .f32⟩
  | .hbm, ⟨19, _⟩ => ⟨S_, .f32⟩
  | .hbm, ⟨20, _⟩ => ⟨S32768x1024, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S_, .f32⟩
  | .hbm, ⟨35, _⟩ => ⟨S32768x1, .f32⟩
  | .hbm, ⟨36, _⟩ => ⟨S32768x1, .f32⟩
  | .hbm, ⟨37, _⟩ => ⟨S32768x1, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S32768x1024, .f32⟩
  | _, _ => ⟨S131072x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Proof.Attention.Softmax.lean ====
/-
  Softmax attention on the extended reals, for one query: the scores `s`, their maximum, the weights `exp (s - max)`. Two
  ways to finish, and that they agree when the scores are finite: divide the weighted sum of the values by the sum of the
  weights (`attend`), or divide each weight first and sum afterwards (`attendNorm`).
-/
module

public import Idealize.ShloMosaic.PureOps.Ideal
public import Idealize.ShloMosaic.PureOps.Ideal.Laws

@[expose] public section

noncomputable section

namespace Cert.Attention

open Idealize.ShloMosaic

variable {n d : ℕ}

/-- The score of each key against the query: their dot product. -/
def score (q : Fin d → EReal) (k : Fin n → Fin d → EReal) (j : Fin n) : EReal := ∑ e, q e * k j e

/-- The largest score. -/
def top (s : Fin n → EReal) : EReal := Finset.univ.fold max ⊥ s

/-- The unnormalised weight of a key. -/
def weight (s : Fin n → EReal) (j : Fin n) : EReal := Ideal.exp (s j - top s)

/-- The weighted sum of the values over the sum of the weights. -/
def attend (s v : Fin n → EReal) : EReal := Ideal.div (∑ j, weight s j * v j) (∑ j, weight s j)

/-- The values weighed by the normalised weights. -/
def attendNorm (s v : Fin n → EReal) : EReal := ∑ j, v j * Ideal.div (weight s j) (∑ j, weight s j)

/-- A finite sum of reals, read in the extended reals. -/
theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A product with a nonnegative real goes inside a finite sum of extended reals. -/
theorem sum_mul_coe {ι : Type*} (t : Finset ι) (f : ι → EReal) (c : ℝ) (hc : 0 ≤ c) :
    (∑ i ∈ t, f i) * (c : EReal) = ∑ i ∈ t, f i * (c : EReal) := by
  classical
  induction t using Finset.induction_on with
  | empty => simp
  | insert a t ha ih =>
    rw [Finset.sum_insert ha, Finset.sum_insert ha,
      EReal.right_distrib_of_nonneg_of_ne_top (EReal.coe_nonneg.2 hc) (EReal.coe_ne_top c), ih]

/-- A finite extended real. -/
def IsReal (x : EReal) : Prop := x ≠ ⊤ ∧ x ≠ ⊥

theorem IsReal.mul {x y : EReal} (hx : IsReal x) (hy : IsReal y) : IsReal (x * y) := by
  lift x to ℝ using hx
  lift y to ℝ using hy
  exact ⟨by rw [← EReal.coe_mul]; exact EReal.coe_ne_top _, by rw [← EReal.coe_mul]; exact EReal.coe_ne_bot _⟩

theorem IsReal.sum {ι : Type*} (t : Finset ι) (f : ι → EReal) (hf : ∀ i, IsReal (f i)) : IsReal (∑ i ∈ t, f i) := by
  have : ∀ i, ∃ r : ℝ, f i = r := fun i => ⟨(f i).toReal, (EReal.coe_toReal (hf i).1 (hf i).2).symm⟩
  choose g hg using this
  simp only [hg, ← coe_sum]
  exact ⟨EReal.coe_ne_top _, EReal.coe_ne_bot _⟩

/-- Scores of a finite query against finite keys are finite. -/
theorem score_fin {q : Fin d → EReal} {k : Fin n → Fin d → EReal} (hq : ∀ e, IsReal (q e)) (hk : ∀ j e, IsReal (k j e)) (j : Fin n) :
    IsReal (score q k j) :=
  IsReal.sum _ _ fun e => (hq e).mul (hk j e)

/-- The two ways to finish agree on finite scores, whatever the values are: the sum of the weights is then a positive
    real, and a division by one is a product with one. -/
theorem attend_eq_attendNorm (hn : 0 < n) {s : Fin n → EReal} (hs : ∀ j, IsReal (s j)) (v : Fin n → EReal) :
    attend s v = attendNorm s v := by
  have hr : ∀ j, ∃ r : ℝ, s j = r := fun j => ⟨(s j).toReal, (EReal.coe_toReal (hs j).1 (hs j).2).symm⟩
  choose r hr using hr
  have htop : IsReal (top s) := by
    constructor
    · exact ne_of_lt ((Finset.fold_max_lt (s := Finset.univ) (f := s) (b := ⊥) ⊤).2
        ⟨bot_lt_top, fun j _ => lt_top_iff_ne_top.2 (hs j).1⟩)
    · refine ne_of_gt (lt_of_lt_of_le (bot_lt_iff_ne_bot.2 (hs ⟨0, hn⟩).2) ?_)
      exact (Finset.le_fold_max (s := Finset.univ) (f := s) (b := ⊥) _).2 (.inr ⟨⟨0, hn⟩, Finset.mem_univ _, le_rfl⟩)
  obtain ⟨M, hM⟩ : ∃ M : ℝ, top s = M := ⟨(top s).toReal, (EReal.coe_toReal htop.1 htop.2).symm⟩
  have hw : ∀ j, weight s j = ((Real.exp (r j - M) : ℝ) : EReal) := fun j => by
    unfold weight; rw [hM, hr j, ← EReal.coe_sub]; rfl
  have hden : ∑ j, weight s j = ((∑ j, Real.exp (r j - M) : ℝ) : EReal) := by rw [coe_sum]; exact Finset.sum_congr rfl fun j _ => hw j
  have hpos : 0 < ∑ j, Real.exp (r j - M) :=
    Finset.sum_pos (fun j _ => Real.exp_pos _) ⟨⟨0, hn⟩, Finset.mem_univ _⟩
  unfold attend attendNorm
  rw [hden, Ideal.div_coe hpos.ne', sum_mul_coe _ _ _ (one_div_pos.2 hpos).le]
  refine Finset.sum_congr rfl fun j _ => ?_
  rw [Ideal.div_coe hpos.ne', mul_comm (weight s j) (v j), mul_assoc]

/-- The −∞ a maximum starts from. -/
theorem ofBits_neg_inf : Ideal.ofBits .f32 0xFF800000#32 = ⊥ := by simp [Ideal.ofBits, Ideal.ieee]

/-- The one of the values' extra columns. -/
theorem ofBits_one_bf16 : Ideal.ofBits .bf16 0x3F80#16 = 1 := by simp [Ideal.ofBits, Ideal.ieee, -EReal.coe_mul]; norm_num

/-- +∞. -/
theorem ofBits_inf : Ideal.ofBits .f32 0x7F800000#32 = ⊤ := by simp [Ideal.ofBits, Ideal.ieee]

end Cert.Attention

end
-- ==== Proof.Attention.Block.lean ====
/-
  What the kernel's body computes for one head of one block of queries, read at an index: row `r` of the 512 queries
  attends over the 4096 keys, whose first 128 features come from one array and whose last 128 from another.
-/
module

public import proofs.«01_k».proof.Proof.Gen.KernelIdeal.Skeleton
public import proofs.«01_k».proof.Proof.Attention.Softmax
public import Idealize.ShloMosaic.Lib.Pointwise
public import Idealize.ShloMosaic.Lib.MatmulPlain
public import Idealize.ShloMosaic.Lib.ValueIdx
public import Idealize.ShloMosaic.Lib.Pipeline.Value

@[expose] public section

set_option maxRecDepth 16384

noncomputable section

namespace Cert.Attention.Block

open Cert.KernelIdeal Cert.KernelIdeal.Gen Idealize.ShloMosaic.ValueIdx
open Idealize.ShloMosaic hiding ix1 ix2 ix3 ix4

/-- The features of the keys of one head: the head's own columns, then the shared ones. -/
def keys (kr kn : Fin 4096 → Fin 128 → EReal) (j : Fin 4096) (e : Fin 256) : EReal :=
  if h : e.val < 128 then kn j ⟨e.val, h⟩ else kr j ⟨e.val - 128, by omega⟩

/-- Two arrays side by side, read at an index. -/
theorem beside_apply (x y : FVec Ideal S4096x128 .bf16) (j : Fin 4096) (c : Fin 256) :
    concatenate S4096x256 1 [⟨S4096x128, x⟩, ⟨S4096x128, y⟩] Facts₀.concatenates_S4096x128_S4096x128_S4096x256_d1 (ix2 j c)
      = if h : c.val < 128 then x (ix2 j ⟨c.val, h⟩) else y (ix2 j ⟨c.val - 128, by omega⟩) := by
  split_ifs with hc
  · exact concatenate_pair_apply_left (t := S4096x256) (s₁ := S4096x128) (s₂ := S4096x128) 1 x y _ (ix2 j c) rfl
      (ix2 j ⟨c.val, hc⟩) fun b => by match b with | ⟨0, _⟩ => rfl | ⟨1, _⟩ => rfl
  · exact concatenate_pair_apply_right (t := S4096x256) (s₁ := S4096x128) (s₂ := S4096x128) 1 x y _ (ix2 j c) rfl rfl
      (ix2 j ⟨c.val - 128, by omega⟩)
      (fun b hb => by match b with | ⟨0, _⟩ => rfl | ⟨1, _⟩ => exact absurd rfl hb)
      (show c.val - 128 + 128 = c.val by omega)

section

variable (kr kn : Vec Ideal S4096x128 .bf16) (q : Vec Ideal S512x256 .bf16) (v : Vec Ideal S4096x128 .bf16)

/-- The scores of a block of queries against all keys. -/
theorem scores_apply (r : Fin 512) (j : Fin 4096) :
    k0_pay2 (F := Ideal) kr kn q (ix2 r j)
      = score (fun e => q (ix2 r e)) (keys (fun j e => kr (ix2 j e)) (fun j e => kn (ix2 j e))) j := by
  have h := Ideal.matmul_transposedRhs_apply (M := 512) (K := 256) (N := 4096) (φ₁ := .bf16) (φ₂ := .bf16) none q
    (concatenate S4096x256 1 [⟨S4096x128, kn⟩, ⟨S4096x128, kr⟩] Facts₀.concatenates_S4096x128_S4096x128_S4096x256_d1)
    (constant S512x4096 .f32 0x00000000#32) r j
  refine Eq.trans (show _ = _ from h) ?_
  rw [constant_apply, Ideal.ofBits_zero_f32, zero_add]
  refine Finset.sum_congr rfl fun e _ => congrArg (q (ix2 r e) * ·) ?_
  exact beside_apply kn kr j e

/-- From scores `s` on: the weights, the products with the values and with ones, the quotient. -/
def finish (s : FVec Ideal S512x4096 .f32) : FVec Ideal S512x128 .bf16 := k0_pay7 (F := Ideal) s v

theorem pay7_eq : k0_pay7 (F := Ideal) (k0_pay4 (F := Ideal) kr kn q) v = finish v (k0_pay2 (F := Ideal) kr kn q) := rfl
theorem pay1_eq : k0_pay1 (F := Ideal) (k0_pay8 (F := Ideal) kr kn q) v = finish v (k0_pay2 (F := Ideal) kr kn q) := rfl
theorem pay6_eq : k0_pay6 (F := Ideal) (k0_pay2 (F := Ideal) kr kn q) (k0_pay5 (F := Ideal) kr kn q) v
    = finish v (k0_pay2 (F := Ideal) kr kn q) := rfl
theorem pay3_eq : k0_pay3 (F := Ideal) kr kn q v = finish v (k0_pay2 (F := Ideal) kr kn q) := rfl

/-- The block's weights times the values with 128 columns of ones appended, at an index. -/
theorem weighed_apply (w : FVec Ideal S512x4096 .bf16) (r : Fin 512) (c : Fin 256) :
    matmul (F := Ideal) dot_S512x4096_S4096x256_S512x256_1_0_0_1_n_n none w
        (concatenate S4096x256 1 [⟨S4096x128, v⟩, ⟨S4096x128, broadcast S4096x128 (Scalar.ofBits (F := Ideal) .bf16 0x3F80#16)⟩]
          Facts₀.concatenates_S4096x128_S4096x128_S4096x256_d1)
        (constant S512x256 .f32 0x00000000#32) (ix2 r c)
      = ∑ j : Fin 4096, w (ix2 r j) * (if h : c.val < 128 then v (ix2 j ⟨c.val, h⟩) else 1) := by
  have h := Ideal.matmul_plain_apply (M := 512) (K := 4096) (N := 256) (φ₁ := .bf16) (φ₂ := .bf16) none w
    (concatenate S4096x256 1 [⟨S4096x128, v⟩, ⟨S4096x128, broadcast S4096x128 (Scalar.ofBits (F := Ideal) .bf16 0x3F80#16)⟩]
      Facts₀.concatenates_S4096x128_S4096x128_S4096x256_d1)
    (constant S512x256 .f32 0x00000000#32) r c
  refine Eq.trans (show _ = _ from h) ?_
  rw [constant_apply, Ideal.ofBits_zero_f32, zero_add]
  refine Finset.sum_congr rfl fun j _ => congrArg (w (ix2 r j) * ·) ?_
  rw [beside_apply]
  split_ifs
  · rfl
  · exact ofBits_one_bf16

/-- The row maxima, spread along the rows. -/
theorem rowMax_apply (s : FVec Ideal S512x4096 .f32) (r : Fin 512) (j : Fin 4096) :
    broadcastTo S512x4096 (shapeCast S512x1
        (multiReduction (F := Ideal) .maximumf [1] S512 s 0xFF800000#32 Facts₀.reduces_S512x4096_S512 (.inl rfl) rfl)
        Facts₀.shapeCasts_S512_S512x1) Facts₀.broadcasts_S512x1_S512x4096 (ix2 r j)
      = top fun j => s (ix2 r j) := by
  simp only [pointwise]
  unfold top
  rw [← ofBits_neg_inf]
  rfl

/-- The kernel's head, at an index: the row's attention over the values' column. -/
theorem finish_apply (s : FVec Ideal S512x4096 .f32) (r : Fin 512) (c : Fin 128) :
    finish v s (ix2 r c) = attend (fun j => s (ix2 r j)) (fun j => v (ix2 j c)) := by
  have hw : ∀ j, exp (F := Ideal) (subf s (broadcastTo S512x4096 (shapeCast S512x1
        (multiReduction (F := Ideal) .maximumf [1] S512 s 0xFF800000#32 Facts₀.reduces_S512x4096_S512 (.inl rfl) rfl)
        Facts₀.shapeCasts_S512_S512x1) Facts₀.broadcasts_S512x1_S512x4096)) (ix2 r j) = weight (fun j => s (ix2 r j)) j := fun j =>
    congrArg (fun m => Ideal.exp (s (ix2 r j) - m)) (rowMax_apply s r j)
  unfold finish k0_pay7 attend
  refine congrArg₂ Ideal.div ?_ ?_
  · refine (extractStridedSlice_apply (s := S512x256) (t := S512x128) ![0, 0] _ _ (ix2 r c) (ix2 r (⟨c.val, by omega⟩ : Fin 256))
      (fun a => match a with | ⟨0, _⟩ => (Nat.zero_add _).symm | ⟨1, _⟩ => (Nat.zero_add _).symm)).trans ?_
    refine (weighed_apply v _ r _).trans (Finset.sum_congr rfl fun j _ => ?_)
    rw [dif_pos c.isLt]
    exact congrArg (· * _) (hw j)
  · refine (extractStridedSlice_apply (s := S512x256) (t := S512x128) ![0, 128] _ _ (ix2 r c) (ix2 r (⟨128 + c.val, by omega⟩ : Fin 256))
      (fun a => match a with | ⟨0, _⟩ => (Nat.zero_add _).symm | ⟨1, _⟩ => rfl)).trans ?_
    refine (weighed_apply v _ r _).trans (Finset.sum_congr rfl fun j _ => ?_)
    rw [dif_neg (by simp), mul_one]
    exact hw j

end

end Cert.Attention.Block

end
-- ==== Proof.Attention.Array.lean ====
/-
  The kernel's result array. A grid point leaves in its 512×512 block the attention of 512 queries in four heads; the
  blocks of the 128 points are one array, `result`: element (row, column) is the attention of the row's query, in the head
  the column belongs to, over the 4096 keys and values of the row's batch.
-/
module

public import proofs.«01_k».proof.Proof.Gen.KernelIdeal.Value
public import proofs.«01_k».proof.Proof.Attention.Block
public import Idealize.ShloMosaic.Lib.Pipeline.ValueKit

@[expose] public section

set_option maxRecDepth 16384

noncomputable section

namespace Cert.Attention

open Cert.KernelIdeal Cert.KernelIdeal.Gen Idealize.ShloMosaic.ValueIdx Idealize.ShloMosaic.TcCoe Idealize.SL.Sem
open Idealize.ShloMosaic hiding ix1 ix2 ix3 ix4

/-- What one grid point computes from its four blocks: queries, own key columns, shared key columns, values. -/
def blockOut (x0 : Vec Ideal S512x1024 .bf16) (x1 : Vec Ideal S4096x512 .bf16) (x2 : Vec Ideal S4096x128 .bf16)
    (x3 : Vec Ideal S4096x512 .bf16) (y : S512x512.Idx) : EReal :=
  attend
    (score (fun e : Fin 256 => x0 (ix2 (y 0) (⟨(y 1).val / 128 * 256 + e.val, by have := idx2_lt1 y; omega⟩ : Fin 1024)))
      (Block.keys (fun j e => x2 (ix2 j e))
        (fun j e => x1 (ix2 j (⟨(y 1).val / 128 * 128 + e.val, by have := idx2_lt1 y; omega⟩ : Fin 512)))))
    (fun j => x3 (ix2 j (y 1)))

theorem head_apply (k : ℕ) (hk : k < 4) (x0 : Vec Ideal S512x1024 .bf16) (x1 : Vec Ideal S4096x512 .bf16)
    (x2 : Vec Ideal S4096x128 .bf16) (x3 : Vec Ideal S4096x512 .bf16) (h0 h1 h2) (x : S512x128.Idx) :
    Block.finish (View.ld x3 (Rect.unit (s := S4096x512) ![0, 128 * k] S4096x128.size h1))
        (k0_pay2 (F := Ideal) (View.ld x2 r0_0) (View.ld x1 (Rect.unit (s := S4096x512) ![0, 128 * k] S4096x128.size h1))
          (View.ld x0 (Rect.unit (s := S512x1024) ![0, 256 * k] S512x256.size h0))) x
      = blockOut x0 x1 x2 x3 ((Rect.unit (s := S512x512) ![0, 128 * k] S512x128.size h2).emb x) := by
  have hx1 : (x 1).val < 128 := idx2_lt1 x
  have hy : (Rect.unit (s := S512x512) ![0, 128 * k] S512x128.size h2).emb x
      = ix2 (x 0 : Fin 512) (⟨128 * k + (x 1).val, by omega⟩ : Fin 512) := by
    funext a; apply Fin.ext
    refine (Rect.idx_unit_val _ _ _ x a).trans ?_
    match a with | ⟨0, _⟩ => exact Nat.zero_add _ | ⟨1, _⟩ => rfl
  refine Eq.trans ?_ (congrArg (blockOut x0 x1 x2 x3) hy).symm
  refine (congrArg _ (ValueIdx.eq_ix2 x)).trans ((Block.finish_apply _ _ (x 0) (x 1)).trans ?_)
  unfold blockOut
  refine congrArg₂ attend (funext fun j => ?_) (funext fun j => ?_)
  · refine (Block.scores_apply _ _ _ (x 0) j).trans ?_
    congr 1
    · funext e
      refine View.ld_unit_apply_of x0 _ _ _ _ _ fun a => ?_
      match a with
      | ⟨0, _⟩ => exact (Nat.zero_add _).symm
      | ⟨1, _⟩ => show (128 * k + (x 1).val) / 128 * 256 + e.val = 256 * k + e.val; omega
    · congr 1
      funext j e
      · refine View.ld_unit_apply_of x2 _ _ _ _ _ fun a => ?_
        match a with | ⟨0, _⟩ => exact (Nat.zero_add _).symm | ⟨1, _⟩ => exact (Nat.zero_add _).symm
      · funext j e
        refine View.ld_unit_apply_of x1 _ _ _ _ _ fun a => ?_
        match a with
        | ⟨0, _⟩ => exact (Nat.zero_add _).symm
        | ⟨1, _⟩ => show (128 * k + (x 1).val) / 128 * 128 + e.val = 128 * k + e.val; omega
  · refine View.ld_unit_apply_of x3 _ _ _ _ _ fun a => ?_
    match a with | ⟨0, _⟩ => exact (Nat.zero_add _).symm | ⟨1, _⟩ => rfl

theorem out_apply (x0 : Vec Ideal S512x1024 .bf16) (x1 : Vec Ideal S4096x512 .bf16) (x2 : Vec Ideal S4096x128 .bf16)
    (x3 : Vec Ideal S4096x512 .bf16) (y : S512x512.Idx) :
    out0_4 (F := Ideal) x0 x1 x2 x3 y = blockOut x0 x1 x2 x3 y := by
  unfold out0_4
  refine View.canon_apply_of_pieces (Val := Elt Ideal) (e := .bf16) (blockOut x0 x1 x2 x3) _ (fun p hp x => ?_) y (cover0_4 _ _ _ _ y)
  simp only [List.mem_cons, List.not_mem_nil, or_false] at hp
  rcases hp with rfl | rfl | rfl | rfl
  · exact head_apply 3 (by omega) x0 x1 x2 x3 _ _ (by decide) x
  · exact head_apply 2 (by omega) x0 x1 x2 x3 _ _ (by decide) x
  · exact head_apply 1 (by omega) x0 x1 x2 x3 _ _ (by decide) x
  · exact head_apply 0 (by omega) x0 x1 x2 x3 _ _ (by decide) x

/-- The whole result: for each query row and output column, the attention in the column's head over the row's batch. -/
def result (x0 x1 : Vec Ideal S32768x2048 .bf16) (x2 : Vec Ideal S32768x1664 .bf16) (i : S32768x1024.Idx) : EReal :=
  have h0 : (i 0).val < 32768 := idx2_lt0 i
  have h1 : (i 1).val < 1024 := idx2_lt1 i
  attend
    (score (fun e : Fin 256 => x0 (ix2 (i 0) (⟨(i 1).val / 128 * 256 + e.val, by omega⟩ : Fin 2048)))
      (Block.keys
        (fun j e => x2 (ix2 (⟨(i 0).val / 4096 * 4096 + j.val, by omega⟩ : Fin 32768) (⟨1536 + e.val, by omega⟩ : Fin 1664)))
        (fun j e => x1 (ix2 (⟨(i 0).val / 4096 * 4096 + j.val, by omega⟩ : Fin 32768) (⟨(i 1).val / 128 * 128 + e.val, by omega⟩ : Fin 2048)))))
    (fun j => x1 (ix2 (⟨(i 0).val / 4096 * 4096 + j.val, by omega⟩ : Fin 32768) (⟨1024 + (i 1).val, by omega⟩ : Fin 2048)))

variable (m : (ℓ : Loc nD τ sig) → Buf (Elt Ideal) ℓ) (c : Dev nD)

theorem index0 : ∀ t : Fin cfg0.N, win0_0.index t = ![t.val / 16 * 8 + t.val % 8, t.val / 8 % 2] :=
  (by decide +kernel : ∀ t : Fin grid0.N, win0_0.index t = ![t.val / 16 * 8 + t.val % 8, t.val / 8 % 2])
theorem index1 : ∀ t : Fin cfg0.N, win0_1.index t = ![t.val / 16, t.val / 8 % 2] :=
  (by decide +kernel : ∀ t : Fin grid0.N, win0_1.index t = ![t.val / 16, t.val / 8 % 2])
theorem index2 : ∀ t : Fin cfg0.N, win0_2.index t = ![t.val / 16, 12] :=
  (by decide +kernel : ∀ t : Fin grid0.N, win0_2.index t = ![t.val / 16, 12])
theorem index3 : ∀ t : Fin cfg0.N, win0_3.index t = ![t.val / 16, 2 + t.val / 8 % 2] :=
  (by decide +kernel : ∀ t : Fin grid0.N, win0_3.index t = ![t.val / 16, 2 + t.val / 8 % 2])
theorem index4 : ∀ t : Fin cfg0.N, win0_4.index t = ![t.val / 16 * 8 + t.val % 8, t.val / 8 % 2] :=
  (by decide +kernel : ∀ t : Fin grid0.N, win0_4.index t = ![t.val / 16 * 8 + t.val % 8, t.val / 8 % 2])

/-- The position of an element of a block in the array it is a block of, window by window. -/
theorem at0 (t : Fin cfg0.N) (y : S512x1024.Idx) (i : S32768x2048.Idx)
    (h0 : (i 0).val = (t.val / 16 * 8 + t.val % 8) * 512 + (y 0).val) (h1 : (i 1).val = t.val / 8 % 2 * 1024 + (y 1).val) :
    iblk m c 0 t y = m ((c : Thread nD τ).loc main_arg0) i := by
  show V m c main_arg0 ((win0_0.blk t).view.emb y) = _
  refine congrArg (m ((c : Thread nD τ).loc main_arg0)) (funext fun a => Fin.ext ?_)
  have e := index0 t
  match a with
  | ⟨0, _⟩ => blk_simp; rw [e]; exact h0.symm
  | ⟨1, _⟩ => blk_simp; rw [e]; exact h1.symm

theorem at1 (t : Fin cfg0.N) (y : S4096x512.Idx) (i : S32768x2048.Idx)
    (h0 : (i 0).val = t.val / 16 * 4096 + (y 0).val) (h1 : (i 1).val = t.val / 8 % 2 * 512 + (y 1).val) :
    iblk m c 1 t y = m ((c : Thread nD τ).loc main_arg1) i := by
  show V m c main_arg1 ((win0_1.blk t).view.emb y) = _
  refine congrArg (m ((c : Thread nD τ).loc main_arg1)) (funext fun a => Fin.ext ?_)
  have e := index1 t
  match a with
  | ⟨0, _⟩ => blk_simp; rw [e]; exact h0.symm
  | ⟨1, _⟩ => blk_simp; rw [e]; exact h1.symm

theorem at2 (t : Fin cfg0.N) (y : S4096x128.Idx) (i : S32768x1664.Idx)
    (h0 : (i 0).val = t.val / 16 * 4096 + (y 0).val) (h1 : (i 1).val = 12 * 128 + (y 1).val) :
    iblk m c 2 t y = m ((c : Thread nD τ).loc main_arg2) i := by
  show V m c main_arg2 ((win0_2.blk t).view.emb y) = _
  refine congrArg (m ((c : Thread nD τ).loc main_arg2)) (funext fun a => Fin.ext ?_)
  have e := index2 t
  match a with
  | ⟨0, _⟩ => blk_simp; rw [e]; exact h0.symm
  | ⟨1, _⟩ => blk_simp; rw [e]; exact h1.symm

theorem at3 (t : Fin cfg0.N) (y : S4096x512.Idx) (i : S32768x2048.Idx)
    (h0 : (i 0).val = t.val / 16 * 4096 + (y 0).val) (h1 : (i 1).val = (2 + t.val / 8 % 2) * 512 + (y 1).val) :
    iblk m c 3 t y = m ((c : Thread nD τ).loc main_arg1) i := by
  show V m c main_arg1 ((win0_3.blk t).view.emb y) = _
  refine congrArg (m ((c : Thread nD τ).loc main_arg1)) (funext fun a => Fin.ext ?_)
  have e := index3 t
  match a with
  | ⟨0, _⟩ => blk_simp; rw [e]; exact h0.symm
  | ⟨1, _⟩ => blk_simp; rw [e]; exact h1.symm

theorem at4 (t : Fin cfg0.N) (y : S512x512.Idx) :
    (((win0_4.blk t).view.emb y) 0).val = (t.val / 16 * 8 + t.val % 8) * 512 + (y 0).val
      ∧ (((win0_4.blk t).view.emb y) 1).val = t.val / 8 % 2 * 512 + (y 1).val := by
  have e := index4 t
  constructor
  · blk_simp; rw [e]; rfl
  · blk_simp; rw [e]; rfl

/-- Read at a block's element, `result` is what the block's grid point computes. -/
theorem blockOut_eq_result (t : Fin cfg0.N) (y : S512x512.Idx) :
    blockOut (iblk m c 0 t) (iblk m c 1 t) (iblk m c 2 t) (iblk m c 3 t) y
      = result (m ((c : Thread nD τ).loc main_arg0)) (m ((c : Thread nD τ).loc main_arg1))
          (m ((c : Thread nD τ).loc main_arg2)) ((win0_4.blk t).view.emb y) := by
  obtain ⟨r0, r1⟩ := at4 t y
  have ht : t.val < 128 := t.isLt
  have y0 : (y 0).val < 512 := idx2_lt0 y
  have y1 : (y 1).val < 512 := idx2_lt1 y
  unfold blockOut result
  refine congrArg₂ attend (funext fun j => ?_) (funext fun j => ?_)
  · congr 1
    · funext e
      refine at0 m c t _ _ ?_ ?_
      · exact r0
      · show (((win0_4.blk t).view.emb y) 1).val / 128 * 256 + e.val = t.val / 8 % 2 * 1024 + ((y 1).val / 128 * 256 + e.val)
        omega
    · congr 1
      · funext j e
        refine at2 m c t _ _ ?_ ?_
        · show (((win0_4.blk t).view.emb y) 0).val / 4096 * 4096 + j.val = t.val / 16 * 4096 + j.val
          omega
        · rfl
      · funext j e
        refine at1 m c t _ _ ?_ ?_
        · show (((win0_4.blk t).view.emb y) 0).val / 4096 * 4096 + j.val = t.val / 16 * 4096 + j.val
          omega
        · show (((win0_4.blk t).view.emb y) 1).val / 128 * 128 + e.val = t.val / 8 % 2 * 512 + ((y 1).val / 128 * 128 + e.val)
          omega
  · refine at3 m c t _ _ ?_ ?_
    · show (((win0_4.blk t).view.emb y) 0).val / 4096 * 4096 + j.val = t.val / 16 * 4096 + j.val
      omega
    · show 1024 + (((win0_4.blk t).view.emb y) 1).val = (2 + t.val / 8 % 2) * 512 + (y 1).val
      omega

theorem final : (dats m 0 c).arrAt 4 cfg0.N
    = result (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  exact (out_apply _ _ _ _ y).trans (blockOut_eq_result m c t y)

end Cert.Attention

end
-- ==== Proof.Attention.Reference.lean ====
/-
  The reference's result, element by element: it is the softmax average of the values, each weight divided by the sum before
  the average is taken (`attendNorm`), of the same scores and values the kernel's `result` is written with.
-/
module

public import proofs.«01_k».proof.Proof.Gen.ReferenceIdeal.Read
public import proofs.«01_k».proof.Proof.Attention.Array
public import Idealize.ShloMosaic.Lib.Pointwise

@[expose] public section

set_option maxRecDepth 16384

noncomputable section

namespace Cert.Attention

open Cert.ReferenceIdeal Cert.ReferenceIdeal.Gen Cert.ReferenceIdeal.Read Idealize.ShloMosaic.ValueIdx
open Idealize.ShloMosaic hiding ix1 ix2 ix3 ix4

variable (x0 x1 : Vec Ideal S32768x2048 .bf16) (x2 : Vec Ideal S32768x1664 .bf16)

/-- Row `j` of batch `b` in the flat arrays. -/
def row (b : Fin 8) (j : Fin 4096) : Fin 32768 := ⟨b.val * 4096 + j.val, by omega⟩

/-- The scores of query `i` of batch `b` in head `h` against the batch's keys. -/
def scoreOf (b h : Fin 8) (i : Fin 4096) : Fin 4096 → EReal :=
  score (fun e : Fin 256 => x0 (ix2 (row b i) (⟨h.val * 256 + e.val, by omega⟩ : Fin 2048)))
    (Block.keys (fun j e => x2 (ix2 (row b j) (⟨1536 + e.val, by omega⟩ : Fin 1664)))
      (fun j e => x1 (ix2 (row b j) (⟨h.val * 128 + e.val, by omega⟩ : Fin 2048))))

/-- Column `c` of head `h` of the batch's values. -/
def valueOf (b h : Fin 8) (c : Fin 128) (j : Fin 4096) : EReal :=
  x1 (ix2 (row b j) (⟨1024 + (h.val * 128 + c.val), by omega⟩ : Fin 2048))

/-- `result` over the batch, head, query and column of a flat position. -/
theorem result_eq (i : S32768x1024.Idx) (b h : Fin 8) (q : Fin 4096) (c : Fin 128)
    (e0 : (i 0).val = b.val * 4096 + q.val) (e1 : (i 1).val = h.val * 128 + c.val) :
    result x0 x1 x2 i = attend (scoreOf x0 x1 x2 b h q) (valueOf x1 b h c) := by
  unfold result scoreOf valueOf
  have hr (j : Fin 4096) (p) : (⟨(i 0).val / 4096 * 4096 + j.val, p⟩ : Fin 32768) = row b j :=
    Fin.ext (by show _ = b.val * 4096 + j.val; simp only; omega)
  have h0 : (i 0 : Fin 32768) = row b q := Fin.ext e0
  refine congrArg₂ attend (funext fun j => ?_) (funext fun j => ?_)
  · congr 1
    · funext e
      exact congrArg x0 (congrArg₂ ix2 h0 (Fin.ext (by show (i 1).val / 128 * 256 + e.val = h.val * 256 + e.val; omega)))
    · congr 1
      · funext j e
        exact congrArg x2 (congrArg₂ ix2 (hr j _) rfl)
      · funext j e
        exact congrArg x1 (congrArg₂ ix2 (hr j _) (Fin.ext (by show (i 1).val / 128 * 128 + e.val = h.val * 128 + e.val; omega)))
  · exact congrArg x1 (congrArg₂ ix2 (hr j _) (Fin.ext (by show 1024 + (i 1).val = 1024 + (h.val * 128 + c.val); omega)))

theorem ref_query (b : Fin 8) (j : Fin 4096) (h : Fin 8) (e : Fin 256) :
    val_main_v1 (F := Ideal) x0 (ix4 b j h e) = x0 (ix2 (row b j) (⟨h.val * 256 + e.val, by omega⟩ : Fin 2048)) := by
  refine (val_main_v1_apply x0 _).trans ?_
  refine congrArg x0 (funext fun a => Fin.ext ?_)
  match a with
  | ⟨0, _⟩ => show (((b.val * 4096 + j.val) * 8 + h.val) * 256 + e.val) / 2048 = b.val * 4096 + j.val; omega
  | ⟨1, _⟩ => show (((b.val * 4096 + j.val) * 8 + h.val) * 256 + e.val) % 2048 = h.val * 256 + e.val; omega

theorem ref_key (b : Fin 8) (j : Fin 4096) (h : Fin 8) (e : Fin 128) :
    val_main_v4 (F := Ideal) x1 (ix4 b j h e) = x1 (ix2 (row b j) (⟨h.val * 128 + e.val, by omega⟩ : Fin 2048)) := by
  refine (val_main_v4_apply x1 _).trans ((val_main_v3_apply x1 _).trans ?_)
  refine congrArg x1 (funext fun a => Fin.ext ?_)
  match a with
  | ⟨0, _⟩ => show (((b.val * 4096 + j.val) * 8 + h.val) * 128 + e.val) / 1024 = b.val * 4096 + j.val; omega
  | ⟨1, _⟩ => show (((b.val * 4096 + j.val) * 8 + h.val) * 128 + e.val) % 1024 = h.val * 128 + e.val; omega

theorem ref_value (b : Fin 8) (j : Fin 4096) (h : Fin 8) (c : Fin 128) :
    val_main_v7 (F := Ideal) x1 (ix4 b j h c) = valueOf x1 b h c j := by
  refine (val_main_v7_apply x1 _).trans ((val_main_v6_apply x1 _).trans ?_)
  refine congrArg x1 (funext fun a => Fin.ext ?_)
  match a with
  | ⟨0, _⟩ => show (((b.val * 4096 + j.val) * 8 + h.val) * 128 + c.val) / 1024 = b.val * 4096 + j.val; omega
  | ⟨1, _⟩ => show 1024 + (((b.val * 4096 + j.val) * 8 + h.val) * 128 + c.val) % 1024 = 1024 + (h.val * 128 + c.val); omega

theorem ref_shared (b : Fin 8) (j : Fin 4096) (h : Fin 8) (e : Fin 128) :
    val_main_v11 (F := Ideal) x2 (ix4 b j h e) = x2 (ix2 (row b j) (⟨1536 + e.val, by omega⟩ : Fin 1664)) := by
  refine (val_main_v11_apply x2 _).trans ((val_main_v10_apply x2 _).trans ((val_main_v9_apply x2 _).trans ?_))
  refine congrArg x2 (funext fun a => Fin.ext ?_)
  match a with
  | ⟨0, _⟩ => show (((b.val * 4096 + j.val) * 1 + 0) * 128 + e.val) / 128 = b.val * 4096 + j.val; omega
  | ⟨1, _⟩ => show 1536 + (((b.val * 4096 + j.val) * 1 + 0) * 128 + e.val) % 128 = 1536 + e.val; omega

theorem ref_keys (b : Fin 8) (j : Fin 4096) (h : Fin 8) (e : Fin 256) :
    val_main_v12 (F := Ideal) x1 x2 (ix4 b j h e)
      = Block.keys (fun j e => x2 (ix2 (row b j) (⟨1536 + e.val, by omega⟩ : Fin 1664)))
          (fun j e => x1 (ix2 (row b j) (⟨h.val * 128 + e.val, by omega⟩ : Fin 2048))) j e := by
  unfold val_main_v12 Block.keys
  by_cases he : e.val < 128
  · rw [dif_pos he]
    refine (concatenate_pair_apply_left (t := S8x4096x8x256) (s₁ := S8x4096x8x128) (s₂ := S8x4096x8x128) 3 _ _ _
      (ix4 b j h e) rfl (ix4 b j h (⟨e.val, he⟩ : Fin 128)) (fun a => ?_)).trans (ref_key x1 b j h ⟨e.val, he⟩)
    match a with | ⟨0, _⟩ => rfl | ⟨1, _⟩ => rfl | ⟨2, _⟩ => rfl | ⟨3, _⟩ => rfl
  · rw [dif_neg he]
    refine (concatenate_pair_apply_right (t := S8x4096x8x256) (s₁ := S8x4096x8x128) (s₂ := S8x4096x8x128) 3 _ _ _
      (ix4 b j h e) rfl rfl (ix4 b j h (⟨e.val - 128, by omega⟩ : Fin 128)) (fun a ha => ?_)
      (show e.val - 128 + 128 = e.val by omega)).trans (ref_shared x2 b j h ⟨e.val - 128, by omega⟩)
    match a with | ⟨0, _⟩ => rfl | ⟨1, _⟩ => rfl | ⟨2, _⟩ => rfl | ⟨3, _⟩ => exact absurd rfl ha

theorem ref_score (b h : Fin 8) (i j : Fin 4096) :
    val_main_v13 (F := Ideal) x0 x1 x2 (ix4 b h i j) = scoreOf x0 x1 x2 b h i j := by
  refine (val_main_v13_apply x0 x1 x2 _).trans ?_
  unfold scoreOf score
  refine Finset.sum_congr rfl fun e _ => ?_
  have hl : lidx_main_v13 (ix4 b h i j) e = ix4 b i h e := funext fun a => match a with
    | ⟨0, _⟩ => rfl | ⟨1, _⟩ => rfl | ⟨2, _⟩ => rfl | ⟨3, _⟩ => rfl
  have hr : ridx_main_v13 (ix4 b h i j) e = ix4 b j h e := funext fun a => match a with
    | ⟨0, _⟩ => rfl | ⟨1, _⟩ => rfl | ⟨2, _⟩ => rfl | ⟨3, _⟩ => rfl
  rw [hl, hr]
  exact congrArg₂ (· * ·) (ref_query x0 b i h e) (ref_keys x1 x2 b j h e)

theorem ref_top (b h : Fin 8) (i : Fin 4096) :
    val_main_v16 (F := Ideal) x0 x1 x2 (ix3 b h i) = top (scoreOf x0 x1 x2 b h i) := by
  refine (val_main_v16_apply x0 x1 x2 _).trans ?_
  have e15 : val_main_v15 (F := Ideal) (ix3 b h i) = (⊥ : EReal) := (val_main_v15_apply _).trans ofBits_neg_inf
  have e14 : val_main_v14 (F := Ideal) x0 x1 x2 (ix3 b h i) = top (scoreOf x0 x1 x2 b h i) := by
    unfold val_main_v14
    generalize hv : val_main_v13 (F := Ideal) x0 x1 x2 = v
    simp only [pointwise]
    unfold top
    refine congrArg₂ (fun (z : EReal) f => Finset.univ.fold max z f) ofBits_neg_inf (funext fun j => ?_)
    rw [← hv]
    exact ref_score x0 x1 x2 b h i j
  rw [e15, e14]
  exact max_eq_right bot_le

theorem ref_weight (b h : Fin 8) (i j : Fin 4096) :
    val_main_v20 (F := Ideal) x0 x1 x2 (ix4 b h i j) = weight (scoreOf x0 x1 x2 b h i) j := by
  have e18 : val_main_v18 (F := Ideal) x0 x1 x2 (ix4 b h i j) = top (scoreOf x0 x1 x2 b h i) := by
    refine (val_main_v18_apply x0 x1 x2 _).trans ((val_main_v17_apply x0 x1 x2 _).trans ?_)
    refine Eq.trans (congrArg _ ?_) (ref_top x0 x1 x2 b h i)
    exact funext fun a => match a with | ⟨0, _⟩ => rfl | ⟨1, _⟩ => rfl | ⟨2, _⟩ => rfl
  refine (val_main_v20_apply x0 x1 x2 _).trans ?_
  rw [val_main_v19_apply, e18, ref_score]
  rfl

theorem ref_weights (b h : Fin 8) (i j : Fin 4096) :
    val_main_v23 (F := Ideal) x0 x1 x2 (ix4 b h i j) = ∑ j, weight (scoreOf x0 x1 x2 b h i) j := by
  refine (val_main_v23_apply x0 x1 x2 _).trans ((val_main_v22_apply x0 x1 x2 _).trans ((val_main_v21_apply x0 x1 x2 _).trans ?_))
  have e0 : val_main_cst_1 (F := Ideal) (Shape.Idx.first h_S_) = (0 : EReal) := by
    rw [val_main_cst_1_apply]; exact Ideal.ofBits_zero _
  rw [e0, zero_add]
  refine Finset.sum_congr rfl fun k _ => ?_
  refine Eq.trans (congrArg _ ?_) (ref_weight x0 x1 x2 b h i k)
  exact funext fun a => match a with | ⟨0, _⟩ => rfl | ⟨1, _⟩ => rfl | ⟨2, _⟩ => rfl | ⟨3, _⟩ => rfl

theorem ref_average (b h : Fin 8) (i : Fin 4096) (c : Fin 128) :
    val_main_v26 (F := Ideal) x0 x1 x2 (ix4 b i h c) = attendNorm (scoreOf x0 x1 x2 b h i) (valueOf x1 b h c) := by
  refine (val_main_v26_apply x0 x1 x2 _).trans ((val_main_v25_apply x0 x1 x2 _).trans ?_)
  unfold attendNorm
  refine Finset.sum_congr rfl fun j _ => ?_
  refine congrArg₂ (· * ·) ?_ ?_
  · refine Eq.trans (congrArg _ ?_) (ref_value x1 b j h c)
    exact funext fun a => match a with | ⟨0, _⟩ => rfl | ⟨1, _⟩ => rfl | ⟨2, _⟩ => rfl | ⟨3, _⟩ => rfl
  · have hr : ridx_main_v25 (idx_main_v26 (ix4 b i h c)) j = ix4 b h i j := funext fun a => match a with
      | ⟨0, _⟩ => rfl | ⟨1, _⟩ => rfl | ⟨2, _⟩ => rfl | ⟨3, _⟩ => rfl
    rw [hr, val_main_v24_apply, ref_weight, ref_weights]
    rfl

/-- The reference's result at a flat position. -/
theorem ref_apply (i : S32768x1024.Idx) (b h : Fin 8) (q : Fin 4096) (c : Fin 128)
    (e0 : (i 0).val = b.val * 4096 + q.val) (e1 : (i 1).val = h.val * 128 + c.val) :
    val_main_v28 (F := Ideal) x0 x1 x2 i = attendNorm (scoreOf x0 x1 x2 b h q) (valueOf x1 b h c) := by
  refine Eq.trans ?_ (ref_average x0 x1 x2 b h q c)
  refine (val_main_v28_apply x0 x1 x2 i).trans ?_
  refine (val_main_v27_apply x0 x1 x2 i).trans (congrArg _ (funext fun a => Fin.ext ?_))
  match a with
  | ⟨0, _⟩ => show ((i 0).val * 1024 + (i 1).val) / 4194304 = b.val; omega
  | ⟨1, _⟩ => show ((i 0).val * 1024 + (i 1).val) / 1024 % 4096 = q.val; omega
  | ⟨2, _⟩ => show ((i 0).val * 1024 + (i 1).val) / 128 % 8 = h.val; omega
  | ⟨3, _⟩ => show ((i 0).val * 1024 + (i 1).val) % 128 = c.val; omega

end Cert.Attention

end
-- ==== Proof.Attention.Finite.lean ====
/-
  The precondition read back: the queries, the keys' own columns and the keys' shared columns hold real numbers, so every
  score is a real number and the two forms of the softmax average agree.
-/
module

public import proofs.«01_k».proof.Pre_finite_keys
public import proofs.«01_k».proof.Proof.Attention.Reference
public import Idealize.ShloMosaic.Lib.ReduceAll

@[expose] public section

set_option maxRecDepth 16384

noncomputable section

/-- The predicate's shape relations hold. -/
theorem Cert.Attention.preFacts : Cert.Pre_finite_keys.Facts where
  bitsLt_bf16_f32 := by decide
  bcast_S_S32768x2048 := by decide
  reducesTo_S32768x2048_S_d0_1 := by decide
  h_S_ := by decide
  slices_S32768x2048_S32768x1024_0_0 := by decide
  bcast_S_S32768x1024 := by decide
  reducesTo_S32768x1024_S_d0_1 := by decide
  slices_S32768x1664_S32768x128_0_1536 := by decide
  bcast_S_S32768x128 := by decide
  reducesTo_S32768x128_S_d0_1 := by decide

namespace Cert.Attention

open Idealize.ShloMosaic.ValueIdx
open Idealize.ShloMosaic hiding ix1 ix2 ix3 ix4

/-- A number of absolute value below infinity is real. -/
theorem isReal_of_abs_lt (x : EReal) (h : Ideal.cmp .olt (max x (-x)) ⊤ = 1#1) : IsReal x := by
  have hlt : max x (-x) < ⊤ := by
    by_contra hn
    simp [Ideal.cmp, hn] at h
  refine ⟨fun e => ?_, fun e => ?_⟩ <;> subst e <;> simp at hlt

/-- The same with the bound spelt as the predicate spells it. -/
theorem isReal_of_cmpf {s : Shape} (f : FTy.bits .bf16 < FTy.bits .f32) (b) (x : FVec Ideal s .bf16) (i : s.Idx)
    (h : cmpf (F := Ideal) .olt (Host.absf (extf .f32 x f))
      (broadcastInDim s ![] b (constant Cert.Pre_finite_keys.S_ .f32 0x7F800000#32)) i = 1#1) : IsReal (x i) :=
  isReal_of_abs_lt (x i) ((congrArg (Ideal.cmp .olt (max (x i) (-(x i)))) ofBits_inf.symm).trans h)

section

variable [Cert.Pre_finite_keys.Facts]
open Cert.Pre_finite_keys

variable (x0 x1 : Vec Ideal S32768x2048 .bf16) (x2 : Vec Ideal S32768x1664 .bf16)

instance : Subsingleton S_.Idx := ⟨fun _ _ => funext fun a => a.elim0⟩

theorem finite_of_pre (h : fn (F := Ideal) x0 x1 x2 = fun _ => 1#1) :
    (∀ i, IsReal (x0 i)) ∧ (∀ (r : Fin 32768) (c : Fin 1024), IsReal (x1 (ix2 r (⟨c.val, by omega⟩ : Fin 2048))))
      ∧ (∀ (r : Fin 32768) (c : Fin 128), IsReal (x2 (ix2 r (⟨1536 + c.val, by omega⟩ : Fin 1664)))) := by
  have e := congrFun h (fun a => a.elim0)
  dsimp only [fn, fn_part1] at e
  obtain ⟨e01, e2⟩ := IntOp.andi_eq_one.mp e
  obtain ⟨e0, e1⟩ := IntOp.andi_eq_one.mp e01
  refine ⟨fun i => isReal_of_cmpf _ _ x0 i (Host.reduce_andi_all _ _ _ _ _ e0 i), fun r c => ?_, fun r c => ?_⟩
  · have := isReal_of_cmpf _ _ _ (ix2 r c) (Host.reduce_andi_all _ _ _ _ _ e1 (ix2 r c))
    rwa [extractStridedSlice_apply (s := S32768x2048) (t := S32768x1024) ![0, 0] x1 _ (ix2 r c)
      (ix2 r (⟨c.val, by omega⟩ : Fin 2048)) (fun a => by
        match a with | ⟨0, _⟩ => exact (Nat.zero_add _).symm | ⟨1, _⟩ => exact (Nat.zero_add _).symm)] at this
  · have := isReal_of_cmpf _ _ _ (ix2 r c) (Host.reduce_andi_all _ _ _ _ _ e2 (ix2 r c))
    rwa [extractStridedSlice_apply (s := S32768x1664) (t := S32768x128) ![0, 1536] x2 _ (ix2 r c)
      (ix2 r (⟨1536 + c.val, by omega⟩ : Fin 1664)) (fun a => by
        match a with | ⟨0, _⟩ => exact (Nat.zero_add _).symm | ⟨1, _⟩ => rfl)] at this

/-- Under the precondition every score is a real number. -/
theorem scoreOf_real (h : fn (F := Ideal) x0 x1 x2 = fun _ => 1#1) (b hd : Fin 8) (q j : Fin 4096) :
    IsReal (scoreOf x0 x1 x2 b hd q j) := by
  obtain ⟨h0, h1, h2⟩ := finite_of_pre x0 x1 x2 h
  refine score_fin (fun e => h0 _) (fun j e => ?_) j
  unfold Block.keys
  split_ifs with he
  · exact h1 (row b j) ⟨hd.val * 128 + e.val, by omega⟩
  · exact h2 (row b j) ⟨e.val - 128, by omega⟩

/-- Under the precondition the kernel's result is the reference's. -/
theorem result_eq_reference (h : fn (F := Ideal) x0 x1 x2 = fun _ => 1#1) :
    Cert.ReferenceIdeal.Read.val_main_v28 (F := Ideal) x0 x1 x2 = result x0 x1 x2 := by
  funext i
  have h0 : (i 0).val < 32768 := idx2_lt0 i
  have h1 : (i 1).val < 1024 := idx2_lt1 i
  have e0 : (i 0).val = (⟨(i 0).val / 4096, by omega⟩ : Fin 8).val * 4096 + (⟨(i 0).val % 4096, by omega⟩ : Fin 4096).val := by
    show _ = (i 0).val / 4096 * 4096 + (i 0).val % 4096; omega
  have e1 : (i 1).val = (⟨(i 1).val / 128, by omega⟩ : Fin 8).val * 128 + (⟨(i 1).val % 128, by omega⟩ : Fin 128).val := by
    show _ = (i 1).val / 128 * 128 + (i 1).val % 128; omega
  rw [ref_apply x0 x1 x2 i _ _ _ _ e0 e1, result_eq x0 x1 x2 i _ _ _ _ e0 e1]
  exact (attend_eq_attendNorm (by omega) (scoreOf_real x0 x1 x2 h _ _ _) _).symm

end

end Cert.Attention

end
-- ==== Proof.Experts.Body.lean ====
module

public import proofs.«01_k».proof.Proof.Gen.Experts0.Launch
public import proofs.«01_k».proof.Proof.Gen.Experts0.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Value
public import Idealize.ShloMosaic.Lib.ValueIdxCore
public import Idealize.ShloMosaic.Lib.StableHlo.Predicate

@[expose] public section

set_option maxRecDepth 16384

noncomputable section

namespace Cert.Proof.Experts

open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Experts0 Cert.Experts0.Gen Cert.Experts0.Facts₀

variable {F : FTy → Type} [FloatOps F]

local notation "𝕄" => MT nD τ sig Unit (Elt F) ℕ (UR sig nD τ) ℕ

/-- The three tables as the body is handed them. -/
abbrev beM : Memref sig .tc .smem S288 .i32 := Memref.whole main_arg0
abbrev nvM : Memref sig .tc .smem S288 .i32 := Memref.whole main_arg1
abbrev sbM : Memref sig .tc .smem S288 .i32 := Memref.whole main_arg2

/-- Half of a table's buffer on core `c`, at contents `f`. -/
abbrev TabBuf (c : Dev nD) {S : Shape} {e : EltTy} (M : Memref sig .tc .smem S e) : Type := Buf (Elt F) (M.view.loc (c : Thread nD τ))
abbrev tabHalf (c : Dev nD) {S : Shape} {e : EltTy} (M : Memref sig .tc .smem S e) (f : TabBuf (F := F) c M) : sProp 𝕄 :=
  M.view.loc (c : Thread nD τ) ↦{fullShare.right} f

/-- The word a table holds at point `j`. -/
def word (c : Dev nD) (M : Memref sig .tc .smem S288 .i32) (f : TabBuf (F := F) c M) (j : Fin 288) : BitVec 32 :=
  M.view.read (Elt F) f (ix1 j)

/-- The grid point as a number, and the point before it. -/
abbrev pt (i : grid0.Coords) : Fin 288 := i 0
abbrev prev (i : grid0.Coords) : Fin 288 := ⟨(i 0).val - 1, lt_of_le_of_lt (Nat.sub_le _ _) (i 0).isLt⟩

/-- The block holds rows of its expert. -/
abbrev Used (n : BitVec 32) : Prop := 0 < n.toInt

/-- The point takes its expert's weights anew. -/
abbrev Fresh (i : grid0.Coords) (n b b' : BitVec 32) : Prop := Used n ∧ ((i 0).val = 0 ∨ b ≠ b')

theorem off_pt (i : grid0.Coords) : k0_off1 i 0 = (i 0).val := by
  have h : ∀ n : Fin 288, (Scalar.indexCast (BitVec.ofNat 32 n.val) : Index).toNat = n.val := by decide +kernel
  exact h (i 0)

theorem off_prev (i : grid0.Coords) : k0_off2 i 0 = (i 0).val - 1 := by
  have h : ∀ n : Fin 288, (Scalar.indexCast (Scalar.maxsi (Scalar.subi (BitVec.ofNat 32 n.val) 1#32) 0#32) : Index).toNat = n.val - 1 := by decide +kernel
  exact h (i 0)

/-- What the body's load of a table's word reads. -/
theorem load_word (c : Dev nD) (M : Memref sig .tc .smem S288 .i32) (f : TabBuf (F := F) c M) (off : Fin 1 → Nat)
    (h : ∀ a, off a + S1.size a ≤ S288.size a) (x : S1.Idx) (j : Fin 288) (e : off 0 = j.val) :
    M.view.readAt (Elt F) (Rect.unit (s := S288) off S1.size h).toLoadRect f x = word c M f j := by
  unfold word
  show M.view.read (Elt F) f _ = _
  refine congrArg (M.view.read (Elt F) f) (funext fun a => Fin.ext ?_)
  obtain rfl : a = 0 := Subsingleton.elim _ _
  have hx : (x 0).val = 0 := Nat.lt_one_iff.mp (x 0).isLt
  show off 0 + 1 * (x 0).val = j.val
  omega

theorem ne_zero_extui (b : BitVec 1) : (Scalar.cmpi .ne (Scalar.extui b : BitVec 32) 0#32 = 1#1) ↔ b = 1#1 := by
  revert b; decide

theorem sgt_zero (n : BitVec 32) : (Scalar.cmpi .sgt n 0#32 = 1#1) ↔ Used n := by
  show IntOp.cmpi .sgt n 0#32 = 1#1 ↔ _
  rw [WordCmp.cmpi_sgt_eq]; exact WordCmp.ofBool_decide_eq_one_iff _

theorem cond_used (n : BitVec 32) : (k0_cond2 n = 1#1) ↔ Used n :=
  (ne_zero_extui _).trans (sgt_zero n)

theorem cond_unused (n : BitVec 32) : (k0_cond3 n = 1#1) ↔ ¬ Used n := by
  refine (ne_zero_extui _).trans ?_
  rw [← sgt_zero n]
  have h : ∀ b : BitVec 1, (Scalar.xori b 1#1 = 1#1) ↔ ¬ b = 1#1 := by decide
  exact h _

theorem cond_fresh (i : grid0.Coords) (n b b' : BitVec 32) :
    (Scalar.cmpi .ne (Scalar.extui (Scalar.andi (Scalar.cmpi .sgt n 0#32)
      (Scalar.ori (Scalar.cmpi .eq (BitVec.ofNat 32 (i 0).val) 0#32) (Scalar.cmpi .ne b b'))) : BitVec 32) 0#32 = 1#1) ↔ Fresh i n b b' := by
  refine (ne_zero_extui _).trans ?_
  have h : ∀ p q r : BitVec 1, (Scalar.andi p (Scalar.ori q r) = 1#1) ↔ p = 1#1 ∧ (q = 1#1 ∨ r = 1#1) := by decide
  have hz : ∀ n : Fin 288, (Scalar.cmpi .eq (BitVec.ofNat 32 n.val) 0#32 = 1#1) ↔ n.val = 0 := by decide +kernel
  rw [h, sgt_zero, hz (i 0)]
  refine and_congr_right fun _ => or_congr_right ?_
  show IntOp.cmpi .ne b b' = 1#1 ↔ _
  simp only [IntOp.cmpi, StableHlo.Predicate.ofBool_eq_one_iff, bne_iff_ne]

theorem zero2 : (![0, 0] : Fin 2 → Nat) = fun _ => 0 := by decide
theorem zero4 : (![0, 0, 0, 0] : Fin 4 → Nat) = fun _ => 0 := by decide

/-- A store of the whole buffer leaves its payload. -/
theorem read_store {κ : Kind} {sp : Space} {S : Shape} {e : EltTy} [∀ e, Nonempty (Elt F e)] (v : View sig κ sp S e) (f : v.ty.Contents (Elt F)) {off : Fin S.rank → Nat}
    (h : off = fun _ => 0) (inb : ∀ a, off a + S.size a ≤ S.size a) (w : S.Idx → Elt F e) :
    v.read (Elt F) (v.writes (Elt F) f [⟨Rect.unit off S.size inb, w⟩]) = w := by
  rw [View.read_writes_eq_canon, View.canon_unit_zero h]
  exact fun y => ⟨_, List.mem_singleton.mpr rfl, View.mem_set_unit_zero h inb y⟩

set_option maxHeartbeats 1000000 in
/-- The body at any grid point, on whole buffers: the scratch pair takes the weights of the point where they are taken anew,
    and the output block is the expert's rows through the scratch pair, or zero. -/
theorem body_run (c : Dev nD) (i : grid0.Coords) (arg4 : Memref sig .tc .vmem S512x512 .i32) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S512x1024 .bf16) (harg9 : arg9.IsWhole) (arg10 : Memref sig .tc .vmem S1024x2048 .bf16) (harg10 : arg10.IsWhole) (arg11 : Memref sig .tc .vmem S1024x1024 .bf16) (harg11 : arg11.IsWhole)
    (x0 : Vec F S512x512 .i32) (x1 : Vec F S1x1x1024x2048 .f32) (x2 : Vec F S1x1x1x2048 .f32) (x3 : Vec F S1x1x1024x1024 .f32) (x4 : Vec F S1x1x1x1024 .f32) (be : TabBuf (F := F) c beM) (nv : TabBuf (F := F) c nvM) (sb : TabBuf (F := F) c sbM)
    (w0 : Vec F S1024x2048 .bf16) (w1 : Vec F S1024x1024 .bf16)
    (E : Set ℕ) (K : PUnit → sProp 𝕄) :
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ owns (c : Thread nD τ) arg10 fullShare w0 ∗ owns (c : Thread nD τ) arg11 fullShare w1 ∗ tabHalf c beM be ∗ tabHalf c nvM nv ∗ tabHalf c sbM sb
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare (if Used (word c nvM nv (pt i)) then k0_pay3 (k0_pay5 x0 (if Fresh i (word c nvM nv (pt i)) (word c beM be (pt i)) (word c beM be (prev i)) then k0_pay1 x1 else w0) x2 (if Fresh i (word c nvM nv (pt i)) (word c beM be (pt i)) (word c beM be (prev i)) then k0_pay2 x3 else w1)) x4 else k0_pay4) ∗ owns (c : Thread nD τ) arg10 fullShare (if Fresh i (word c nvM nv (pt i)) (word c beM be (pt i)) (word c beM be (prev i)) then k0_pay1 x1 else w0) ∗ owns (c : Thread nD τ) arg11 fullShare (if Fresh i (word c nvM nv (pt i)) (word c beM be (pt i)) (word c beM be (prev i)) then k0_pay2 x3 else w1) ∗ tabHalf c beM be ∗ tabHalf c nvM nv ∗ tabHalf c sbM sb) -∗ K ⟨⟩))
          ⊢ wp frame (wpE (defs₀ (F := F)) Variants.none c none) E (cc0_moe_experts i beM (Memref.isWhole_whole _) nvM (Memref.isWhole_whole _) sbM (Memref.isWhole_whole _) arg4 harg4 arg5 harg5 arg6 harg6 arg7 harg7 arg8 harg8 arg9 harg9 arg10 harg10 arg11 harg11) K := by
    simp only [cc0_moe_experts_eq_skeleton]; unfold cc0_moe_experts_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, HT0, HT1, HT2, Hk⟩
    obtain rfl := harg4.eq_unread hf0; obtain rfl := harg5.eq_unread hf1; obtain rfl := harg6.eq_unread hf2; obtain rfl := harg7.eq_unread hf3; obtain rfl := harg8.eq_unread hf4
    sl_exec
    have hr : body_run.sl.r c i nv = word c nvM nv (pt i) := load_word c nvM nv (k0_off1 i) _ _ (pt i) (off_pt i)
    have hr1 : body_run.sl.r_1 c i be = word c beM be (pt i) := load_word c beM be (k0_off1 i) _ _ (pt i) (off_pt i)
    have hr2 : body_run.sl.r_2 c i be = word c beM be (prev i) := load_word c beM be (k0_off2 i) _ _ (prev i) (off_prev i)
    have e20 : body_run.sl.v20 c arg5 harg5 x1 = x1 := by
      unfold body_run.sl.v20
      rw [View.readAt_eq_ld, harg5.read_unread, View.ld_unit_zero zero4]
    have e26 : body_run.sl.v26 c arg7 harg7 x3 = x3 := by
      unfold body_run.sl.v26
      rw [View.readAt_eq_ld, harg7.read_unread, View.ld_unit_zero zero4]
    have e58 : body_run.sl.v58 c arg8 harg8 x4 = x4 := by
      unfold body_run.sl.v58
      rw [View.readAt_eq_ld, harg8.read_unread, View.ld_unit_zero zero4]
    have e30 : body_run.sl.v30 c i arg5 harg5 arg10 x1 be nv fs0 = if Fresh i (word c nvM nv (pt i)) (word c beM be (pt i)) (word c beM be (prev i)) then k0_pay1 x1 else w0 := by
      unfold body_run.sl.v30
      rw [View.readAt_eq_ld, View.ld_unit_zero zero2]
      simp only [hr, hr1, hr2, e20, cond_fresh, dite_eq_ite]
      split
      · exact read_store _ _ zero2 _ _
      · exact hfs0
    have e56 : body_run.sl.v56 c i arg7 harg7 arg11 x3 be nv fs1 = if Fresh i (word c nvM nv (pt i)) (word c beM be (pt i)) (word c beM be (prev i)) then k0_pay2 x3 else w1 := by
      unfold body_run.sl.v56
      rw [View.readAt_eq_ld, View.ld_unit_zero zero2]
      simp only [hr, hr1, hr2, e26, cond_fresh, dite_eq_ite]
      split
      · exact read_store _ _ zero2 _ _
      · exact hfs1
    have e3 : body_run.sl.r_3 c i arg4 harg4 arg5 harg5 arg6 harg6 arg7 harg7 arg10 arg11 x0 x1 x2 x3 be nv fs0 fs1 = k0_pay5 x0 (if Fresh i (word c nvM nv (pt i)) (word c beM be (pt i)) (word c beM be (prev i)) then k0_pay1 x1 else w0) x2 (if Fresh i (word c nvM nv (pt i)) (word c beM be (pt i)) (word c beM be (prev i)) then k0_pay2 x3 else w1) := by
      unfold body_run.sl.r_3
      rw [e30, e56, View.readAt_eq_ld, harg4.read_unread, View.ld_unit_zero zero2, View.readAt_eq_ld, harg6.read_unread, View.ld_unit_zero zero4]
    sl_step
    iapply Hk
    isplitl [H0]; · iexists _; isplitr; swap; · iexact H0
                    ipureintro; exact harg4.read_unread _
    isplitl [H1]; · iexists _; isplitr; swap; · iexact H1
                    ipureintro; exact harg5.read_unread _
    isplitl [H2]; · iexists _; isplitr; swap; · iexact H2
                    ipureintro; exact harg6.read_unread _
    isplitl [H3]; · iexists _; isplitr; swap; · iexact H3
                    ipureintro; exact harg7.read_unread _
    isplitl [H4]; · iexists _; isplitr; swap; · iexact H4
                    ipureintro; exact harg8.read_unread _
    isplitl [H5]
    · iexists _; isplitr; swap; · iexact H5
      · ipureintro
        simp only [hr, e58, e3, cond_used, cond_unused, dite_eq_ite]
        by_cases hu : Used (word c nvM nv (pt i))
        · rw [if_neg (not_not_intro hu), if_pos hu, if_pos hu]
          exact read_store (F := F) (S := S512x1024) arg9.view _ zero2 _ _
        · rw [if_pos hu, if_neg hu, if_neg hu]
          exact read_store (F := F) (S := S512x1024) arg9.view _ zero2 _ _
    isplitl [HS0]
    · iexists _; isplitr; swap; · iexact HS0
      · ipureintro
        simp only [hr, hr1, hr2, e20, cond_fresh, dite_eq_ite]
        split
        · exact read_store _ _ zero2 _ _
        · exact hfs0
    isplitl [HS1]
    · iexists _; isplitr; swap; · iexact HS1
      · ipureintro
        simp only [hr, hr1, hr2, e26, cond_fresh, dite_eq_ite]
        split
        · exact read_store _ _ zero2 _ _
        · exact hfs1
    iframe

end Cert.Proof.Experts

end
-- ==== Proof.Experts.Kit.lean ====
/- The expert layers' call as one program with the layer as a parameter: the four printed programs differ in one constant of
   four index maps (the layer's place in the stacked weights), so the pipeline is stated once at any layer `n`, with the
   printed vocabulary of the first. -/
module

public import proofs.«01_k».proof.Proof.Experts.Body
public import proofs.«01_k».proof.Proof.Gen.Experts0.Launch
public import Idealize.ShloMosaic.Lib.Pipeline.FrameBody
public import Idealize.ShloMosaic.Lib.Pipeline.Frame
public import Idealize.ShloMosaic.Lib.Ring
public import Idealize.ShloMosaic.Lib.Tactic

@[expose] public section

set_option maxRecDepth 16384

noncomputable section

namespace Cert.Proof.Experts

open Cert.Experts0 Cert.Experts0.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

local instance : Cert.Experts0.Facts := Cert.Experts0.Gen.facts

variable {F : FTy → Type} [FloatOps F]

local notation "𝕄" => MT nD τ sig Unit (Elt F) ℕ (UR sig nD τ) ℕ

/-- The weights' block at a grid point: of layer `n`, the point's expert. -/
def wmap (n : Fin 4) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  ![n.val, v1.toNat, 0, 0]

theorem wmap_reads (n : Fin 4) (pf : pre0.Contents (Elt F)) (i i' : grid0.Coords) (h : i 0 = i' 0) : wmap n pf i = wmap n pf i' := by
  unfold wmap; simp only [h]

/-- The windows' index maps at layer `n`. -/
abbrev ixL (n : Fin 4) (pf : pre0.Contents (Elt F)) : (w : Fin 6) → grid0.Coords → Fin (spec0 w).shape.rank → Nat := fun | 0 => cc0_transform_0 k0_off1_inb numel1_S1 pf | 1 => wmap n pf | 2 => wmap n pf | 3 => wmap n pf | 4 => wmap n pf | 5 => cc0_transform_5 | ⟨_ + 6, h⟩ => absurd h (Nat.not_lt.2 (Nat.le_add_left _ _))

theorem hreadsL (n : Fin 4) : ∀ (pf : pre0.Contents (Elt F)) w (i i' : grid0.Coords), (∀ a, (spec0 w).reads a = true → i a = i' a) → ixL n pf w i = ixL n pf w i' :=
  fun pf => fun | 0 => hreads0_0 pf | 1 => fun i i' h => wmap_reads n pf i i' (h 0 rfl) | 2 => fun i i' h => wmap_reads n pf i i' (h 0 rfl) | 3 => fun i i' h => wmap_reads n pf i i' (h 0 rfl) | 4 => fun i i' h => wmap_reads n pf i i' (h 0 rfl) | 5 => hreads0_5 | ⟨_ + 6, h⟩ => absurd h (Nat.not_lt.2 (Nat.le_add_left _ _))

/-- Every block the index maps name lies in its array. -/
def okL (n : Fin 4) (pf : pre0.Contents (Elt F)) : Prop :=
  (∀ i : grid0.Coords, ∃ h : (∀ a, (cc0_transform_0 k0_off1_inb numel1_S1 pf i a + 1) * S512x512.size a ≤ S147456x512.size a), EltTy.bits .i32 = 32 ∨ (Rect.block (s := S147456x512) S512x512.size (cc0_transform_0 k0_off1_inb numel1_S1 pf i) h).WholeWords (EltTy.packing .i32)) ∧
  (∀ i : grid0.Coords, ∃ h : (∀ a, (wmap n pf i a + 1) * S1x1x1024x2048.size a ≤ S4x32x1024x2048.size a), EltTy.bits .f32 = 32 ∨ (Rect.block (s := S4x32x1024x2048) S1x1x1024x2048.size (wmap n pf i) h).WholeWords (EltTy.packing .f32)) ∧
  (∀ i : grid0.Coords, ∃ h : (∀ a, (wmap n pf i a + 1) * S1x1x1x2048.size a ≤ S4x32x1x2048.size a), EltTy.bits .f32 = 32 ∨ (Rect.block (s := S4x32x1x2048) S1x1x1x2048.size (wmap n pf i) h).WholeWords (EltTy.packing .f32)) ∧
  (∀ i : grid0.Coords, ∃ h : (∀ a, (wmap n pf i a + 1) * S1x1x1024x1024.size a ≤ S4x32x1024x1024.size a), EltTy.bits .f32 = 32 ∨ (Rect.block (s := S4x32x1024x1024) S1x1x1024x1024.size (wmap n pf i) h).WholeWords (EltTy.packing .f32)) ∧
  (∀ i : grid0.Coords, ∃ h : (∀ a, (wmap n pf i a + 1) * S1x1x1x1024.size a ≤ S4x32x1x1024.size a), EltTy.bits .f32 = 32 ∨ (Rect.block (s := S4x32x1x1024) S1x1x1x1024.size (wmap n pf i) h).WholeWords (EltTy.packing .f32))

instance (n : Fin 4) (pf : pre0.Contents (Elt F)) : Decidable (okL n pf) := decidable_of_iff' _ (Iff.of_eq (okL.eq_1 n pf))

theorem hinbL (n : Fin 4) : ∀ (pf : pre0.Contents (Elt F)), okL n pf → ∀ w (i : grid0.Coords) a, (ixL n pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2.1 i).elim fun h _ => h a | 4 => fun i a => (hok.2.2.2.2 i).elim fun h _ => h a | 5 => hinb0_5 | ⟨_ + 6, h⟩ => absurd h (Nat.not_lt.2 (Nat.le_add_left _ _))

theorem hwxL (n : Fin 4) : ∀ (pf : pre0.Contents (Elt F)) (hok : okL n pf) w (i : grid0.Coords), (spec0 w).elt.bits = 32 ∨ (Rect.block (spec0 w).size (ixL n pf w i) (hinbL n pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2.1 i).elim fun _ h => h | 4 => fun i => (hok.2.2.2.2 i).elim fun _ h => h | 5 => hwx0_5 | ⟨_ + 6, h⟩ => absurd h (Nat.not_lt.2 (Nat.le_add_left _ _))

/-- The pipeline at layer `n`. -/
abbrev pcfgL (n : Fin 4) : Pipeline.PCfg sig Λ₀ (Elt F) :=
  Pipeline.PCfg.ofSpecs pre0 grid0 hrank0 (fun _ => grid0.bound) (fun _ _ _ => rfl)
    6 spec0 hcount0 harr0 (ixL n) (hreadsL n) (okL n) (hinbL n) (hwxL n) 0 (fun _ _ t s => (t, s)) (fun pf => idle0 pf)

abbrev pcfgsL (n : Fin 4) : Fin 1 → Pipeline.PCfg sig Λ₀ (Elt F) := fun _ => pcfgL n

def defsL (n : Fin 4) : Defs nD τ sig (Elt F) (Pipeline.Sig Λ₀ (Fin 1) fun p => (pcfgsL (F := F) n p).Adm) := Pipeline.defs (pcfgsL n) defs₀

def mainL (n : Fin 4) : Dev nD → Prog (TpuEff nD τ sig (Elt F) (Pipeline.Sig Λ₀ (Fin 1) fun p => (pcfgsL (F := F) n p).Adm) .tc) PUnit := fun _ => do
  Prog.lift (.customCall (Pipeline.entry 0) ())
  pure ⟨⟩

variable (n : Fin 4) (m : (ℓ : Loc nD τ sig) → Buf (Elt F) ℓ) (ρ : Dev nD → PrngReg)

theorem launchL : Pipeline.PLaunchFacts (nD := nD) (τ := τ) (pcfgsL (F := F) n) 0 :=
  ⟨fun a => Pipeline.cellOf_injective_of_table (Pipeline.pin (pcfgsL (F := F) n) a) semTab (fun | 0 => rfl | ⟨_ + 1, h⟩ => absurd h (Nat.not_lt.2 (Nat.le_add_left _ _))) semsDistinct semsDisjoint,
    winFacts0, preFacts0, block_pos0, arr_whole0, stage_whole0⟩

theorem chainL (c : Dev nD) : mainL (F := F) n c = (Pipeline.chain
  [ Prog.lift (.customCall (Pipeline.entry 0) ()) ] : Prog (TpuEff nD τ sig (Elt F) (Pipeline.Sig Λ₀ (Fin 1) fun p => (pcfgsL (F := F) n p).Adm) .tc) PUnit) := by
  rewrite [Pipeline.chain_cons]
  chain_rfl

/-- The arrays as the call finds them. -/
abbrev V (c : Dev nD) (b : Ref sig .tc) : Buf (Elt F) ((c : Thread nD τ).loc b) := m ((c : Thread nD τ).loc b)

theorem hmainL (𝒱₀ : Variants) : Pipeline.HMainP (Ix := Unit) (Name := ℕ) (U := UR sig nD τ) (Lvl := ℕ) (pcfgsL n) 0 defs₀ 𝒱₀ m (mainL (F := F) n) (V m) :=
  Pipeline.hmainP_region (pcfgsL n) 0 defs₀ 𝒱₀ m (mainL n) fun c => (chainL n c).trans rfl

/-- The tables' words. -/
def tbl : pre0.Contents (Elt F) := fun j => V m (0 : Dev nD) (pre0.ref j)

theorem V_pre (c : Dev nD) (j : Fin 3) : V m c (pre0.ref j) = tbl m j := by
  obtain rfl : c = 0 := Subsingleton.elim _ _; rfl

abbrev Ok : Prop := okL (F := F) n (tbl m)
abbrev adm (hO : Ok n m) : (pcfgL (F := F) n).Adm := ⟨tbl m, hO⟩
abbrev cfgM (hO : Ok n m) : Pipeline.Cfg sig Λ₀ := (pcfgL n).at (adm n m hO)

/-- Window `w`'s block at a point, of its array as launched. -/
def iblk (hO : Ok n m) (c : Dev nD) (w : Fin (cfgM n m hO).W) (t : Fin (cfgM n m hO).N) : (((cfgM n m hO).win w).xblock ((cfgM n m hO).grid.coords t)).Idx → Elt F ((cfgM n m hO).win w).elt :=
  (((cfgM n m hO).win w).blk t).view.read (Elt F) (V m c (Pipeline.arrRef spec0 w))

/-- The three tables' words at a point: its expert, its count of rows, its source block. -/
abbrev beW (j : Fin 288) : BitVec 32 := word (F := F) (0 : Dev nD) beM (tbl m 0) j
abbrev nvW (j : Fin 288) : BitVec 32 := word (F := F) (0 : Dev nD) nvM (tbl m 1) j
abbrev sbW (j : Fin 288) : BitVec 32 := word (F := F) (0 : Dev nD) sbM (tbl m 2) j

theorem wmap_word (i : grid0.Coords) : wmap n (tbl (F := F) m) i = ![n.val, (beW m (pt i)).toNat, 0, 0] := by
  have e : (tbl (F := F) m).at 0 (Rect.unit (s := S288) (k0_off1 i) S1.size (k0_off1_inb i)) numel1_S1 = beW m (pt i) :=
    load_word (0 : Dev nD) beM (tbl m 0) (k0_off1 i) _ _ (pt i) (off_pt i)
  unfold wmap
  exact congrArg (fun v : BitVec 32 => ![n.val, v.toNat, 0, 0]) e

theorem src_word (i : grid0.Coords) : cc0_transform_0 k0_off1_inb numel1_S1 (tbl (F := F) m) i = ![(sbW m (pt i)).toNat, 0] := by
  have e : (tbl (F := F) m).at 2 (Rect.unit (s := S288) (k0_off1 i) S1.size (k0_off1_inb i)) numel1_S1 = sbW m (pt i) :=
    load_word (0 : Dev nD) sbM (tbl m 2) (k0_off1 i) _ _ (pt i) (off_pt i)
  unfold cc0_transform_0
  exact congrArg (fun v : BitVec 32 => ![v.toNat, 0]) e

/-- The blocks lie in their arrays when the words are in range. -/
theorem ok_of_range (hb : ∀ j, (beW m j).toNat < 32) (hs : ∀ j, (sbW m j).toNat < 288) : Ok n m := by
  have hn := n.isLt
  refine ⟨fun i => ⟨fun a => ?_, Or.inl rfl⟩, fun i => ⟨fun a => ?_, Or.inl rfl⟩, fun i => ⟨fun a => ?_, Or.inl rfl⟩, fun i => ⟨fun a => ?_, Or.inl rfl⟩, fun i => ⟨fun a => ?_, Or.inl rfl⟩⟩
  · rw [src_word]; have := hs (pt i)
    match a with
    | ⟨0, _⟩ => show ((sbW m (pt i)).toNat + 1) * 512 ≤ 147456; omega
    | ⟨1, _⟩ => show (0 + 1) * 512 ≤ 512; omega
  all_goals
    rw [wmap_word]; have := hb (pt i)
    match a with
    | ⟨0, _⟩ => show (n.val + 1) * 1 ≤ 4; omega
    | ⟨1, _⟩ => show ((beW m (pt i)).toNat + 1) * 1 ≤ 32; omega
    | ⟨2, _⟩ => exact le_refl _
    | ⟨3, _⟩ => exact le_refl _

end Cert.Proof.Experts

end
-- ==== Proof.Experts.Frame.lean ====
/- The expert layers' call terminates and leaves its arguments, for any values and any layer: the two scratch buffers hold
   between points the rounded weights of the last point's expert, which the next point reads when it keeps them. -/
module

public import proofs.«01_k».proof.Proof.Experts.Kit
public import Idealize.ShloMosaic.Lib.Pipeline.ValueKit

@[expose] public section

set_option maxRecDepth 16384

noncomputable section

namespace Cert.Proof.Experts

open Cert.Experts0 Cert.Experts0.Gen
open Idealize.ShloMosaic hiding ix1 ix2 ix3 ix4
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

local instance : Cert.Experts0.Facts := Cert.Experts0.Gen.facts

variable {F : FTy → Type} [FloatOps F]

local notation "𝕄" => MT nD τ sig Unit (Elt F) ℕ (UR sig nD τ) ℕ

variable (n : Fin 4) (m : (ℓ : Loc nD τ sig) → Buf (Elt F) ℓ) (ρ : Dev nD → PrngReg)

/-! ## The blocks -/

/-- A point's expert and source block. -/
def ex (j : Fin 288) : Fin 32 := ⟨(beW m j).toNat % 32, Nat.mod_lt _ (by decide)⟩

theorem ex_val (hO : Ok n m) (i : grid0.Coords) : (ex m (pt i)).val = (beW m (pt i)).toNat := by
  obtain ⟨h, -⟩ := hO.2.1 i
  have h1 := h 1
  rw [wmap_word] at h1
  have h2 : ((beW m (pt i)).toNat + 1) * 1 ≤ 32 := h1
  exact Nat.mod_eq_of_lt (by omega)

theorem src_lt (hO : Ok n m) (i : grid0.Coords) : (sbW m (pt i)).toNat < 288 := by
  obtain ⟨h, -⟩ := hO.1 i
  have h1 := h 0
  rw [src_word] at h1
  have h2 : ((sbW m (pt i)).toNat + 1) * 512 ≤ 147456 := h1
  omega

/-- Layer `n`'s weights and biases of expert `e`, as blocks. -/
def gateBlk (e : Fin 32) : Vec F S1x1x1024x2048 .f32 := fun y => m ((0 : Dev nD).tc.loc main_arg4) (ix4 (n0 := 4) (n1 := 32) n e (y 2) (y 3))
def gateBiasBlk (e : Fin 32) : Vec F S1x1x1x2048 .f32 := fun y => m ((0 : Dev nD).tc.loc main_arg5) (ix4 (n0 := 4) (n1 := 32) n e (y 2) (y 3))
def downBlk (e : Fin 32) : Vec F S1x1x1024x1024 .f32 := fun y => m ((0 : Dev nD).tc.loc main_arg6) (ix4 (n0 := 4) (n1 := 32) n e (y 2) (y 3))
def downBiasBlk (e : Fin 32) : Vec F S1x1x1x1024 .f32 := fun y => m ((0 : Dev nD).tc.loc main_arg7) (ix4 (n0 := 4) (n1 := 32) n e (y 2) (y 3))

theorem iblk_1 (hO : Ok n m) (t : Fin (cfgM n m hO).N) : iblk n m hO 0 1 t = gateBlk n m (ex m (pt (grid0.coords t))) := by
  refine funext fun (y : S1x1x1024x2048.Idx) => ?_
  show V m 0 main_arg4 ((((cfgM n m hO).win 1).blk t).view.emb y) = _
  unfold gateBlk
  have e : ((cfgM n m hO).win 1).index t = ![n.val, (beW m (pt (grid0.coords t))).toNat, 0, 0] :=
    wmap_word n m (grid0.coords t)
  have v := ex_val n m hO (grid0.coords t)
  have y0 : (y 0).val = 0 := Nat.lt_one_iff.mp (y 0).isLt
  have y1 : (y 1).val = 0 := Nat.lt_one_iff.mp (y 1).isLt
  refine congrArg (m _) (funext fun (a : Fin 4) => Fin.ext ?_)
  match a with
  | ⟨0, _⟩ => blk_simp; rw [e]; rfl
  | ⟨1, _⟩ => blk_simp; rw [e]; exact v.symm
  | ⟨2, _⟩ => blk_simp; rw [e]; first | exact Nat.zero_add _ | rfl | (have := (y 2).isLt; simp_all)
  | ⟨3, _⟩ => blk_simp; rw [e]; exact Nat.zero_add _

theorem iblk_2 (hO : Ok n m) (t : Fin (cfgM n m hO).N) : iblk n m hO 0 2 t = gateBiasBlk n m (ex m (pt (grid0.coords t))) := by
  refine funext fun (y : S1x1x1x2048.Idx) => ?_
  show V m 0 main_arg5 ((((cfgM n m hO).win 2).blk t).view.emb y) = _
  unfold gateBiasBlk
  have e : ((cfgM n m hO).win 2).index t = ![n.val, (beW m (pt (grid0.coords t))).toNat, 0, 0] :=
    wmap_word n m (grid0.coords t)
  have v := ex_val n m hO (grid0.coords t)
  have y0 : (y 0).val = 0 := Nat.lt_one_iff.mp (y 0).isLt
  have y1 : (y 1).val = 0 := Nat.lt_one_iff.mp (y 1).isLt
  refine congrArg (m _) (funext fun (a : Fin 4) => Fin.ext ?_)
  match a with
  | ⟨0, _⟩ => blk_simp; rw [e]; rfl
  | ⟨1, _⟩ => blk_simp; rw [e]; exact v.symm
  | ⟨2, _⟩ => blk_simp; rw [e]; first | exact Nat.zero_add _ | rfl | (have := (y 2).isLt; simp_all)
  | ⟨3, _⟩ => blk_simp; rw [e]; exact Nat.zero_add _

theorem iblk_3 (hO : Ok n m) (t : Fin (cfgM n m hO).N) : iblk n m hO 0 3 t = downBlk n m (ex m (pt (grid0.coords t))) := by
  refine funext fun (y : S1x1x1024x1024.Idx) => ?_
  show V m 0 main_arg6 ((((cfgM n m hO).win 3).blk t).view.emb y) = _
  unfold downBlk
  have e : ((cfgM n m hO).win 3).index t = ![n.val, (beW m (pt (grid0.coords t))).toNat, 0, 0] :=
    wmap_word n m (grid0.coords t)
  have v := ex_val n m hO (grid0.coords t)
  have y0 : (y 0).val = 0 := Nat.lt_one_iff.mp (y 0).isLt
  have y1 : (y 1).val = 0 := Nat.lt_one_iff.mp (y 1).isLt
  refine congrArg (m _) (funext fun (a : Fin 4) => Fin.ext ?_)
  match a with
  | ⟨0, _⟩ => blk_simp; rw [e]; rfl
  | ⟨1, _⟩ => blk_simp; rw [e]; exact v.symm
  | ⟨2, _⟩ => blk_simp; rw [e]; first | exact Nat.zero_add _ | rfl | (have := (y 2).isLt; simp_all)
  | ⟨3, _⟩ => blk_simp; rw [e]; exact Nat.zero_add _

theorem iblk_4 (hO : Ok n m) (t : Fin (cfgM n m hO).N) : iblk n m hO 0 4 t = downBiasBlk n m (ex m (pt (grid0.coords t))) := by
  refine funext fun (y : S1x1x1x1024.Idx) => ?_
  show V m 0 main_arg7 ((((cfgM n m hO).win 4).blk t).view.emb y) = _
  unfold downBiasBlk
  have e : ((cfgM n m hO).win 4).index t = ![n.val, (beW m (pt (grid0.coords t))).toNat, 0, 0] :=
    wmap_word n m (grid0.coords t)
  have v := ex_val n m hO (grid0.coords t)
  have y0 : (y 0).val = 0 := Nat.lt_one_iff.mp (y 0).isLt
  have y1 : (y 1).val = 0 := Nat.lt_one_iff.mp (y 1).isLt
  refine congrArg (m _) (funext fun (a : Fin 4) => Fin.ext ?_)
  match a with
  | ⟨0, _⟩ => blk_simp; rw [e]; rfl
  | ⟨1, _⟩ => blk_simp; rw [e]; exact v.symm
  | ⟨2, _⟩ => blk_simp; rw [e]; first | exact Nat.zero_add _ | rfl | (have := (y 2).isLt; simp_all)
  | ⟨3, _⟩ => blk_simp; rw [e]; exact Nat.zero_add _

/-! ## What is kept between points -/

/-- The tables keep the weights: a point that neither starts an expert nor is empty follows a point that is not empty. -/
abbrev Steps : Prop := ∀ i j : Fin 288, i.val + 1 = j.val → ¬ Used (nvW (F := F) m j) ∨ beW m j ≠ beW m i ∨ Used (nvW m i)

variable (hO : Ok n m)

abbrev wg0 : Memref sig .tc .vmem S1024x2048 .bf16 := Memref.whole cc0_scratch0
abbrev wd0 : Memref sig .tc .vmem S1024x1024 .bf16 := Memref.whole cc0_scratch1

/-- The tables' halves, table by table. -/
theorem tables_eq (c : Dev nD) : (Pipeline.ΦT pre0 (tbl m) c : sProp 𝕄) = iprop(tabHalf c beM (tbl m 0) ∗ tabHalf c nvM (tbl m 1) ∗ tabHalf c sbM (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- What the region hands the body besides: the two scratch buffers at some contents and the generator's register. -/
theorem scratch_eq (c : Dev nD) :
    (Pipeline.ΦA spec0 c : sProp 𝕄)
      = iprop(iprop((∃ d, owns (c : Thread nD τ) wg0 fullShare d) ∗ (∃ d, owns (c : Thread nD τ) wd0 fullShare d)) ∗ (∃ r, prngReg c r)) := by
  unfold Pipeline.ΦA; rw [scopedRest0_eq]; simp only [wg0, wd0, owns_whole]; try rfl

/-- After a point that is not empty the scratch holds its expert's rounded weights. -/
def Held (c : Dev nD) (t : Nat) (w0 : Vec F S1024x2048 .bf16) (w1 : Vec F S1024x1024 .bf16) : Prop :=
  ∀ s : Fin (cfgM n m hO).N, s.val + 1 = t → Used (nvW m (pt (grid0.coords s))) →
    w0 = k0_pay1 (iblk n m hO c 1 s) ∧ w1 = k0_pay2 (iblk n m hO c 3 s)

/-- What a point leaves of the output. -/
def outAt (c : Dev nD) (t : Fin (cfgM n m hO).N) : Vec F S512x1024 .bf16 :=
  if Used (nvW m (pt (grid0.coords t))) then
    k0_pay3 (k0_pay5 (iblk n m hO c 0 t) (k0_pay1 (iblk n m hO c 1 t)) (iblk n m hO c 2 t) (k0_pay2 (iblk n m hO c 3 t))) (iblk n m hO c 4 t)
  else k0_pay4

theorem pt_coords (t : Fin grid0.N) : (pt (grid0.coords t)).val = t.val := by
  revert t; decide +kernel

/-- The scratch at a point that is not empty, taken anew or kept. -/
theorem kept (hK : Steps (F := F) m) (c : Dev nD) (t : Fin (cfgM n m hO).N) (w0 : Vec F S1024x2048 .bf16) (w1 : Vec F S1024x1024 .bf16)
    (h : Held n m hO c t.val w0 w1) (hu : Used (nvW m (pt (grid0.coords t)))) :
    (if Fresh (grid0.coords t) (nvW m (pt (grid0.coords t))) (beW m (pt (grid0.coords t))) (beW m (prev (grid0.coords t))) then k0_pay1 (iblk n m hO c 1 t) else w0) = k0_pay1 (iblk n m hO c 1 t)
    ∧ (if Fresh (grid0.coords t) (nvW m (pt (grid0.coords t))) (beW m (pt (grid0.coords t))) (beW m (prev (grid0.coords t))) then k0_pay2 (iblk n m hO c 3 t) else w1) = k0_pay2 (iblk n m hO c 3 t) := by
  by_cases hf : Fresh (grid0.coords t) (nvW m (pt (grid0.coords t))) (beW m (pt (grid0.coords t))) (beW m (prev (grid0.coords t)))
  · rw [if_pos hf, if_pos hf]; exact ⟨rfl, rfl⟩
  rw [if_neg hf, if_neg hf]
  have hn : ¬ ((grid0.coords t 0).val = 0 ∨ beW m (pt (grid0.coords t)) ≠ beW m (prev (grid0.coords t))) := fun x => hf ⟨hu, x⟩
  have e := pt_coords t
  have e0 : (grid0.coords t 0).val = t.val := e
  have h0 : t.val ≠ 0 := fun x => hn (Or.inl (e0.trans x))
  have hb : beW m (pt (grid0.coords t)) = beW m (prev (grid0.coords t)) := by
    by_contra x; exact hn (Or.inr x)
  let s : Fin (cfgM n m hO).N := ⟨t.val - 1, lt_of_le_of_lt (Nat.sub_le _ _) t.isLt⟩
  have es : pt (grid0.coords s) = prev (grid0.coords t) :=
    Fin.ext ((pt_coords s).trans (show t.val - 1 = (grid0.coords t 0).val - 1 by rw [e0]))
  have hs : s.val + 1 = t.val := Nat.succ_pred_eq_of_ne_zero h0
  have hus : Used (nvW m (pt (grid0.coords s))) := by
    rcases hK (pt (grid0.coords s)) (pt (grid0.coords t)) (by rw [pt_coords, pt_coords]; exact hs) with x | x | x
    · exact absurd hu x
    · exact absurd (hb.trans (by rw [es])) x
    · exact x
  obtain ⟨a, b⟩ := h s hs hus
  obtain rfl : c = 0 := Subsingleton.elim _ _
  have ee : ex m (pt (grid0.coords s)) = ex m (pt (grid0.coords t)) := by
    unfold ex; exact Fin.ext (by show _ % 32 = _ % 32; rw [es, hb])
  rw [a, b, iblk_1, iblk_1, iblk_3, iblk_3, ee]
  exact ⟨rfl, rfl⟩

theorem body_out (hK : Steps (F := F) m) (c : Dev nD) (t : Fin (cfgM n m hO).N) (w0 : Vec F S1024x2048 .bf16) (w1 : Vec F S1024x1024 .bf16)
    (h : Held n m hO c t.val w0 w1) :
    (if Used (nvW m (pt (grid0.coords t))) then k0_pay3 (k0_pay5 (iblk n m hO c 0 t)
        (if Fresh (grid0.coords t) (nvW m (pt (grid0.coords t))) (beW m (pt (grid0.coords t))) (beW m (prev (grid0.coords t))) then k0_pay1 (iblk n m hO c 1 t) else w0) (iblk n m hO c 2 t)
        (if Fresh (grid0.coords t) (nvW m (pt (grid0.coords t))) (beW m (pt (grid0.coords t))) (beW m (prev (grid0.coords t))) then k0_pay2 (iblk n m hO c 3 t) else w1)) (iblk n m hO c 4 t)
      else k0_pay4) = outAt n m hO c t := by
  unfold outAt
  by_cases hu : Used (nvW m (pt (grid0.coords t)))
  · rw [if_pos hu, if_pos hu, (kept n m hO hK c t w0 w1 h hu).1, (kept n m hO hK c t w0 w1 h hu).2]
  · rw [if_neg hu, if_neg hu]

/-! ## The pipeline's proof data -/

def inv (c : Dev nD) (t : Nat) : sProp 𝕄 :=
  iprop((∃ w0 w1, ⌜Held n m hO c t w0 w1⌝ ∗ owns (c : Thread nD τ) wg0 fullShare w0 ∗ owns (c : Thread nD τ) wd0 fullShare w1)
    ∗ (∃ r, prngReg c r) ∗ Pipeline.ΦT pre0 (tbl m) c)

def dats (_ : Fin 1) (c : Dev nD) : Dat τ (Elt F) Unit ℕ (UR sig nD τ) ℕ (cfgM n m hO) c where
  A w := V m c (Pipeline.arrRef spec0 w)
  after w t := match w with
    | ⟨0, _⟩ => iblk n m hO c 0 t
    | ⟨1, _⟩ => iblk n m hO c 1 t
    | ⟨2, _⟩ => iblk n m hO c 2 t
    | ⟨3, _⟩ => iblk n m hO c 3 t
    | ⟨4, _⟩ => iblk n m hO c 4 t
    | ⟨5, _⟩ => outAt n m hO c t
  Φ t := inv n m hO c t.val
  q _ := fullShare
  owed _ := 0

theorem A_eq (c : Dev nD) (w : Fin (cfgM n m hO).W) : (dats n m hO 0 c).A w = V m c (Pipeline.arrRef spec0 w) := by
  dsimp only [dats]

theorem after_0 (c : Dev nD) (t : Fin (cfgM n m hO).N) : (dats n m hO 0 c).after 0 t = iblk n m hO c 0 t := by dsimp only [dats]; try rfl
theorem after_1 (c : Dev nD) (t : Fin (cfgM n m hO).N) : (dats n m hO 0 c).after 1 t = iblk n m hO c 1 t := by dsimp only [dats]; try rfl
theorem after_2 (c : Dev nD) (t : Fin (cfgM n m hO).N) : (dats n m hO 0 c).after 2 t = iblk n m hO c 2 t := by dsimp only [dats]; try rfl
theorem after_3 (c : Dev nD) (t : Fin (cfgM n m hO).N) : (dats n m hO 0 c).after 3 t = iblk n m hO c 3 t := by dsimp only [dats]; try rfl
theorem after_4 (c : Dev nD) (t : Fin (cfgM n m hO).N) : (dats n m hO 0 c).after 4 t = iblk n m hO c 4 t := by dsimp only [dats]; try rfl
theorem after_5 (c : Dev nD) (t : Fin (cfgM n m hO).N) : (dats n m hO 0 c).after 5 t = outAt n m hO c t := by dsimp only [dats]; try rfl

theorem before_0 (c : Dev nD) (t : Fin (cfgM n m hO).N) (d) : (dats n m hO 0 c).before 0 t d = iblk n m hO c 0 t :=
  ((dats n m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgM n m hO).N) (d) : (dats n m hO 0 c).before 1 t d = iblk n m hO c 1 t :=
  ((dats n m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfgM n m hO).N) (d) : (dats n m hO 0 c).before 2 t d = iblk n m hO c 2 t :=
  ((dats n m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfgM n m hO).N) (d) : (dats n m hO 0 c).before 3 t d = iblk n m hO c 3 t :=
  ((dats n m hO 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin (cfgM n m hO).N) (d) : (dats n m hO 0 c).before 4 t d = iblk n m hO c 4 t :=
  ((dats n m hO 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

abbrev ms0 (t : Fin (cfgM n m hO).N) : Memref sig .tc .vmem S512x512 .i32 := spec0_0.stage ((cfgM n m hO).slots t 0)
abbrev hs0 (t : Fin (cfgM n m hO).N) : (ms0 n m hO t).IsWhole := hstage0_0 (((cfgM n m hO).slots t 0).cast nbuf0_0)
abbrev ms1 (t : Fin (cfgM n m hO).N) : Memref sig .tc .vmem S1x1x1024x2048 .f32 := spec0_1.stage ((cfgM n m hO).slots t 1)
abbrev hs1 (t : Fin (cfgM n m hO).N) : (ms1 n m hO t).IsWhole := hstage0_1 (((cfgM n m hO).slots t 1).cast nbuf0_1)
abbrev ms2 (t : Fin (cfgM n m hO).N) : Memref sig .tc .vmem S1x1x1x2048 .f32 := spec0_2.stage ((cfgM n m hO).slots t 2)
abbrev hs2 (t : Fin (cfgM n m hO).N) : (ms2 n m hO t).IsWhole := hstage0_2 (((cfgM n m hO).slots t 2).cast nbuf0_2)
abbrev ms3 (t : Fin (cfgM n m hO).N) : Memref sig .tc .vmem S1x1x1024x1024 .f32 := spec0_3.stage ((cfgM n m hO).slots t 3)
abbrev hs3 (t : Fin (cfgM n m hO).N) : (ms3 n m hO t).IsWhole := hstage0_3 (((cfgM n m hO).slots t 3).cast nbuf0_3)
abbrev ms4 (t : Fin (cfgM n m hO).N) : Memref sig .tc .vmem S1x1x1x1024 .f32 := spec0_4.stage ((cfgM n m hO).slots t 4)
abbrev hs4 (t : Fin (cfgM n m hO).N) : (ms4 n m hO t).IsWhole := hstage0_4 (((cfgM n m hO).slots t 4).cast nbuf0_4)
abbrev ms5 (t : Fin (cfgM n m hO).N) : Memref sig .tc .vmem S512x1024 .bf16 := spec0_5.stage ((cfgM n m hO).slots t 5)
abbrev hs5 (t : Fin (cfgM n m hO).N) : (ms5 n m hO t).IsWhole := hstage0_5 (((cfgM n m hO).slots t 5).cast nbuf0_5)

def bodyPre (c : Dev nD) (t : Fin (cfgM n m hO).N) : sProp 𝕄 :=
  iprop((dats n m hO 0 c).Φ t.castSucc ∗ (dats n m hO 0 c).owesAt () t.castSucc
    ∗ (∃ d, owns (c : Thread nD τ) (ms0 n m hO t) fullShare ((dats n m hO 0 c).before 0 t d))
    ∗ (∃ d, owns (c : Thread nD τ) (ms1 n m hO t) fullShare ((dats n m hO 0 c).before 1 t d))
    ∗ (∃ d, owns (c : Thread nD τ) (ms2 n m hO t) fullShare ((dats n m hO 0 c).before 2 t d))
    ∗ (∃ d, owns (c : Thread nD τ) (ms3 n m hO t) fullShare ((dats n m hO 0 c).before 3 t d))
    ∗ (∃ d, owns (c : Thread nD τ) (ms4 n m hO t) fullShare ((dats n m hO 0 c).before 4 t d))
    ∗ (∃ d, owns (c : Thread nD τ) (ms5 n m hO t) fullShare ((dats n m hO 0 c).before 5 t d)))

def bodyPost (c : Dev nD) (t : Fin (cfgM n m hO).N) : sProp 𝕄 :=
  iprop((dats n m hO 0 c).Φ t.succ ∗ (dats n m hO 0 c).owesAt () t.succ
    ∗ owns (c : Thread nD τ) (ms0 n m hO t) fullShare ((dats n m hO 0 c).after 0 t)
    ∗ owns (c : Thread nD τ) (ms1 n m hO t) fullShare ((dats n m hO 0 c).after 1 t)
    ∗ owns (c : Thread nD τ) (ms2 n m hO t) fullShare ((dats n m hO 0 c).after 2 t)
    ∗ owns (c : Thread nD τ) (ms3 n m hO t) fullShare ((dats n m hO 0 c).after 3 t)
    ∗ owns (c : Thread nD τ) (ms4 n m hO t) fullShare ((dats n m hO 0 c).after 4 t)
    ∗ owns (c : Thread nD τ) (ms5 n m hO t) fullShare ((dats n m hO 0 c).after 5 t))

/-- The body as the pipeline calls it at a point. -/
abbrev bodyAt (t : Fin (cfgM n m hO).N) : Prog (TpuEff nD τ sig (Elt F) Λ₀ .tc) PUnit :=
  cc0_moe_experts (grid0.coords t) beM (Memref.isWhole_whole _) nvM (Memref.isWhole_whole _) sbM (Memref.isWhole_whole _) (ms0 n m hO t) (hs0 n m hO t) (ms1 n m hO t) (hs1 n m hO t) (ms2 n m hO t) (hs2 n m hO t) (ms3 n m hO t) (hs3 n m hO t) (ms4 n m hO t) (hs4 n m hO t) (ms5 n m hO t) (hs5 n m hO t) wg0 (Memref.isWhole_whole _) wd0 (Memref.isWhole_whole _)

set_option maxHeartbeats 800000 in
theorem sound_body (hK : Steps (F := F) m) (c : Dev nD) (t : Fin (cfgM n m hO).N) :
    bodyPre n m hO c t ⊢ wp frame (wpE (defs₀ (F := F)) Variants.none c none) Set.univ (bodyAt n m hO t) (fun _ => bodyPost n m hO c t) := by
  obtain rfl : c = 0 := Subsingleton.elim _ _
  unfold bodyPre bodyPost bodyAt
  simp only [before_0, before_1, before_2, before_3, before_4]
  rw [show (dats n m hO 0 0).owesAt () t.succ = (dats n m hO 0 0).owesAt () t.castSucc from rfl,
    after_0, after_1, after_2, after_3, after_4, after_5]
  rw [show (dats n m hO 0 0).Φ t.castSucc = inv n m hO 0 t.val from rfl, show (dats n m hO 0 0).Φ t.succ = inv n m hO 0 (t.val + 1) from rfl]
  unfold inv
  rw [tables_eq]
  iintro ⟨⟨⟨%w0, %w1, %hw, HS0, HS1⟩, Hg, HT0, HT1, HT2⟩, Ho, ⟨%d0, H0⟩, ⟨%d1, H1⟩, ⟨%d2, H2⟩, ⟨%d3, H3⟩, ⟨%d4, H4⟩, ⟨%d5, H5⟩⟩
  iapply (body_run (0 : Dev nD) (grid0.coords t) _ _ _ _ _ _ _ _ _ _ _ _ _ _ _ _ (iblk n m hO 0 0 t) (iblk n m hO 0 1 t) (iblk n m hO 0 2 t) (iblk n m hO 0 3 t) (iblk n m hO 0 4 t) (tbl m 0) (tbl m 1) (tbl m 2) w0 w1 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HT0]; · iexact HT0
  isplitl [HT1]; · iexact HT1
  isplitl [HT2]; · iexact HT2
  iintro ⟨H0, H1, H2, H3, H4, H5, HS0, HS1, HT0, HT1, HT2⟩
  isplitl [HS0 HS1 Hg HT0 HT1 HT2]
  · isplitl [HS0 HS1]
    · iexists _, _
      isplitr
      swap
      · isplitl [HS0]; · iexact HS0
        iexact HS1
      ipureintro
      intro s hs hu
      obtain rfl : s = t := Fin.ext (Nat.succ.inj hs)
      exact kept n m hO hK 0 s w0 w1 hw hu
    isplitl [Hg]; · iexact Hg
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  rw [← body_out n m hO hK 0 t w0 w1 hw]; iexact H5

/-- The body table's row at point `t`'s slots is the body there. -/
theorem row_body (t : Fin (cfgM n m hO).N) :
    defs₀ (F := F) .tc (cfgM n m hO).body ((cfgM n m hO).bodyArgs t ((cfgM n m hO).slots t)) = bodyAt n m hO t := by
  unfold defs₀; rw [Defs.onTc_tc]

/-- Whether the point is empty or not, one of the body's two stores of the output runs. -/
theorem never_idle (t : Fin (cfgM n m hO).N) : (cfgM n m hO).idle 5 ((cfgM n m hO).grid.coords t) = false := by
  show idle0 (tbl m) 5 (grid0.coords t) = false
  show (!(k0_cond2 ((tbl m).atD 1 (k0_off1 (grid0.coords t))) == 1#1) && !(k0_cond3 ((tbl m).atD 1 (k0_off1 (grid0.coords t))) == 1#1)) = false
  generalize (tbl m).atD 1 (k0_off1 (grid0.coords t)) = v
  by_cases h : Used v
  · rw [(cond_used v).mpr h]; rfl
  · rw [(cond_unused v).mpr h]; simp

theorem body_obligation (hK : Steps (F := F) m) (c : Dev nD) : BodyObligation (dats (F := F) n m hO 0 c) (defs₀ (F := F)) Variants.none () Set.univ := fun t => by
  rw [bigSep_W0, bigSep_W0, row_body n m hO]
  refine triple_restated (sound_body n m hO hK c t) rfl .rfl fun _ => ?_
  have e : (dats n m hO 0 c).leavesExact 5 t = owns (c : Thread nD τ) (ms5 n m hO t) fullShare ((dats n m hO 0 c).after 5 t) := by
    unfold Dat.leavesExact; rw [never_idle]; rfl
  have e' : bodyPost n m hO c t = iprop((dats n m hO 0 c).Φ t.succ ∗ (dats n m hO 0 c).owesAt () t.succ
      ∗ (dats n m hO 0 c).leavesExact 0 t ∗ (dats n m hO 0 c).leavesExact 1 t ∗ (dats n m hO 0 c).leavesExact 2 t
      ∗ (dats n m hO 0 c).leavesExact 3 t ∗ (dats n m hO 0 c).leavesExact 4 t ∗ (dats n m hO 0 c).leavesExact 5 t) := by
    rw [e]; rfl
  rw [e']
  exact .rfl

/-! ## The run -/

theorem inv_in (c : Dev nD) : iprop(Pipeline.ΦA spec0 c ∗ Pipeline.ΦT pre0 (tbl m) c) ⊢ (dats n m hO 0 c).Φ 0 := by
  rw [show (dats n m hO 0 c).Φ 0 = inv n m hO c 0 from rfl, scratch_eq]
  unfold inv
  iintro ⟨⟨⟨⟨%w0, H0⟩, ⟨%w1, H1⟩⟩, Hg⟩, HT⟩
  isplitl [H0 H1]
  · iexists _, _
    isplitr
    swap
    · isplitl [H0]; · iexact H0
      iexact H1
    ipureintro
    exact fun s hs => absurd hs (Nat.succ_ne_zero _)
  isplitl [Hg]; · iexact Hg
  iexact HT

theorem inv_out (c : Dev nD) : (dats n m hO 0 c).Φ (Fin.last (cfgM n m hO).N) ⊢ Pipeline.ΦA spec0 c := by
  rw [show (dats n m hO 0 c).Φ (Fin.last (cfgM n m hO).N) = inv n m hO c (cfgM n m hO).N from rfl, scratch_eq]
  unfold inv
  iintro ⟨⟨%w0, %w1, %hw, H0, H1⟩, Hg, HT⟩
  isplitl [H0 H1]
  · isplitl [H0]
    · iexists _; iexact H0
    iexists _; iexact H1
  iexact Hg

set_option backward.isDefEq.respectTransparency.types false in
theorem run (hK : Steps (F := F) m) : θ_run (defsL n) (onTc (τ := τ) (mainL (F := F) n)) (s₀ m ρ)
    (fun r => (Pipeline.FramePost (Pipeline.pin (pcfgsL n) fun _ => adm n m hO) (dats n m hO) 0 (V m)) r ∧ r.2.sem = fun _ => 0) :=
  Pipeline.θ_run_frameP_track (Q' := _) (pcfgsL n) (fun _ => adm n m hO) (dats n m hO) (0 : Fin 1) (launchL n) defs₀ Variants.none m ρ (mainL n)
    (hbody := fun c => (body_obligation n m hO hK c).loose) (hshare := fun c => (dats n m hO 0 c).share_full fun _ => rfl)
    (howed := fun _ _ => rfl) (V := V m) (hmain := hmainL n m Variants.none) (hA := A_eq n m hO) (hpf := V_pre m)
    (hin := inv_in n m hO) (hout := inv_out n m hO)

theorem unchanged (hO : Ok n m) (hK : Steps (F := F) m) : θ_run (defsL n) (onTc (τ := τ) (mainL (F := F) n)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run (defsL n) _ _).mono (fun r h => ⟨fun c => ⟨((h.1 c).2 main_arg0 (by decide : main_arg0 ∈ Pipeline.restRefs sig spec0)),
      ((h.1 c).2 main_arg1 (by decide : main_arg1 ∈ Pipeline.restRefs sig spec0)),
      ((h.1 c).2 main_arg2 (by decide : main_arg2 ∈ Pipeline.restRefs sig spec0)),
      ((h.1 c).1 0).trans (((dats n m hO 0 c).arrAt_in 0 rfl _).trans (A_eq n m hO c 0)),
      ((h.1 c).1 1).trans (((dats n m hO 0 c).arrAt_in 1 rfl _).trans (A_eq n m hO c 1)),
      ((h.1 c).1 2).trans (((dats n m hO 0 c).arrAt_in 2 rfl _).trans (A_eq n m hO c 2)),
      ((h.1 c).1 3).trans (((dats n m hO 0 c).arrAt_in 3 rfl _).trans (A_eq n m hO c 3)),
      ((h.1 c).1 4).trans (((dats n m hO 0 c).arrAt_in 4 rfl _).trans (A_eq n m hO c 4))⟩, h.2⟩) (run n m ρ hO hK)

end Cert.Proof.Experts

end
-- ==== Proof.Experts.Tables.lean ====
/-
  The precondition on the tables read back: every expert and every source block is in range, and a block that has rows
  and continues its predecessor's expert follows one that had rows too.
-/
module

public import proofs.«01_k».proof.Pre_tables
public import proofs.«01_k».proof.Proof.Gen.Pre_tables
public import proofs.«01_k».proof.Proof.Experts.Frame
public import Idealize.ShloMosaic.Lib.ReduceAll
public import Idealize.ShloMosaic.Lib.WordCmp

@[expose] public section

set_option maxRecDepth 16384

noncomputable section

namespace Cert.Proof.Experts

open Cert.Pre_tables
open Idealize.ShloMosaic.ValueIdx
open Idealize.ShloMosaic hiding ix1 ix2 ix3 ix4

variable {F : FTy → Type} [FloatOps F] [Cert.Pre_tables.Facts]

theorem range_of (n : Nat) (hn : n < 2 ^ 31) (w : BitVec 32)
    (h : IntOp.andi (IntOp.cmpi .sge w 0#32) (IntOp.cmpi .slt w (BitVec.ofNat 32 n)) = 1#1) : w.toNat < n := by
  obtain ⟨h0, h1⟩ := IntOp.andi_eq_one.mp h
  rw [WordCmp.cmpi_sge_eq, WordCmp.ofBool_decide_eq_one_iff] at h0
  rw [WordCmp.cmpi_slt_eq, WordCmp.ofBool_decide_eq_one_iff] at h1
  have hw : w.toNat < 2 ^ (32 - 1) := (WordCmp.toInt_nonneg_iff_lt_half w).mp (by simpa using h0)
  have hn' : (BitVec.ofNat 32 n).toNat = n := by rw [BitVec.toNat_ofNat]; omega
  rw [WordCmp.toInt_eq_toNat_of_lt_half hw, WordCmp.toInt_eq_toNat_of_lt_half (by rw [hn']; exact hn), hn'] at h1
  exact_mod_cast h1

theorem step_of (a b c d : BitVec 32)
    (h : IntOp.ori (IntOp.ori (IntOp.cmpi .sle a 0#32) (IntOp.cmpi .ne b c)) (IntOp.cmpi .sgt d 0#32) = 1#1) :
    ¬ Used a ∨ b ≠ c ∨ Used d := by
  have split : ∀ x y : BitVec 1, IntOp.ori x y = 1#1 → x = 1#1 ∨ y = 1#1 := by decide
  rcases split _ _ h with h | h
  · rcases split _ _ h with h | h
    · rw [WordCmp.cmpi_sle_eq, WordCmp.ofBool_decide_eq_one_iff] at h
      exact Or.inl (not_lt.mpr (by simpa using h))
    · rw [WordCmp.cmpi_ne_eq, WordCmp.ofBool_decide_eq_one_iff] at h
      exact Or.inr (Or.inl h)
  · rw [WordCmp.cmpi_sgt_eq, WordCmp.ofBool_decide_eq_one_iff] at h
    exact Or.inr (Or.inr (by simpa using h))

theorem scalar_idx_subsingleton : Subsingleton S_.Idx := ⟨fun _ _ => funext fun a => a.elim0⟩
attribute [local instance] scalar_idx_subsingleton

theorem of_tables (x0 x1 x2 : IVec S288 32) (x3 : IVec S147456x512 32) (x4 : FVec F S4x32x1024x2048 .f32)
    (x5 : FVec F S4x32x1x2048 .f32) (x6 : FVec F S4x32x1024x1024 .f32) (x7 : FVec F S4x32x1x1024 .f32)
    (h : fn (F := F) x0 x1 x2 x3 x4 x5 x6 x7 = fun _ => 1#1) :
    (∀ j : Fin 288, (x0 (ix1 j)).toNat < 32) ∧ (∀ j : Fin 288, (x2 (ix1 j)).toNat < 288)
      ∧ ∀ i j : Fin 288, i.val + 1 = j.val → ¬ Used (x1 (ix1 j)) ∨ x0 (ix1 j) ≠ x0 (ix1 i) ∨ Used (x1 (ix1 i)) := by
  have e := congrFun h (fun a => a.elim0)
  dsimp only [fn, fn_part1] at e
  obtain ⟨e01, e2⟩ := IntOp.andi_eq_one.mp e
  obtain ⟨e0, e1⟩ := IntOp.andi_eq_one.mp e01
  refine ⟨fun j => range_of 32 (by decide) _ (Host.reduce_andi_all _ _ _ _ _ e0 (ix1 j)),
    fun j => range_of 288 (by decide) _ (Host.reduce_andi_all _ _ _ _ _ e1 (ix1 j)), fun i j hij => ?_⟩
  have hi : i.val < 287 := by omega
  have key := step_of _ _ _ _ (Host.reduce_andi_all _ _ _ _ _ e2 (ix1 (⟨i.val, hi⟩ : Fin 287)))
  have low : ∀ x : IVec S288 32, extractStridedSlice S287 ![0] x Facts.slices_S288_S287_0 (ix1 (⟨i.val, hi⟩ : Fin 287)) = x (ix1 i) := fun x =>
    extractStridedSlice_apply (s := S288) (t := S287) ![0] x _ _ (ix1 i) (fun a => by
      match a with | ⟨0, _⟩ => exact (Nat.zero_add _).symm)
  have high : ∀ x : IVec S288 32, extractStridedSlice S287 ![1] x Facts.slices_S288_S287_1 (ix1 (⟨i.val, hi⟩ : Fin 287)) = x (ix1 j) := fun x =>
    extractStridedSlice_apply (s := S288) (t := S287) ![1] x _ _ (ix1 j) (fun a => by
      match a with | ⟨0, _⟩ => show j.val = 1 + i.val; omega)
  rwa [low, low, high, high] at key

end Cert.Proof.Experts

end
-- ==== Proof.Experts.Block.lean ====
/-
  What one block of rows becomes under one expert: the rows' packed halves unpacked, the gate-and-up product with its bias,
  the clipped gated unit, the product down with its bias — as functions of an index, and the kernel's body read as them.
-/
module

public import proofs.«01_k».proof.Proof.Gen.Experts0.Skeleton
public import Idealize.ShloMosaic.Lib.Pointwise
public import Idealize.ShloMosaic.Lib.MatmulPlain
public import Idealize.ShloMosaic.Lib.ValueIdx
public import Idealize.ShloMosaic.Lib.Pipeline.Value

@[expose] public section

set_option maxRecDepth 16384

noncomputable section

namespace Cert.Proof.Experts

open Cert.Experts0 Cert.Experts0.Gen Idealize.ShloMosaic.ValueIdx
open Idealize.ShloMosaic hiding ix1 ix2 ix3 ix4

local instance : Cert.Experts0.Facts := Cert.Experts0.Gen.facts

/-! ## One row under one expert -/

/-- The two features a word holds: its upper half, and its lower half moved up. -/
def upper (w : BitVec 32) : EReal := Ideal.ofBits .f32 (w &&& 4294901760#32)
def lower (w : BitVec 32) : EReal := Ideal.ofBits .f32 (w <<< 16)

/-- A row's 1024 features: the upper halves of its 512 words, then the lower ones. -/
def features (x : Fin 512 → BitVec 32) (k : Fin 1024) : EReal :=
  if h : k.val < 512 then upper (x ⟨k.val, h⟩) else lower (x ⟨k.val - 512, by omega⟩)

/-- A row of features through the gate-and-up weights and their bias. -/
def gateUp (x : Fin 1024 → EReal) (W : Fin 1024 → Fin 2048 → EReal) (b : Fin 2048 → EReal) (f : Fin 2048) : EReal :=
  (∑ k, x k * W k f) + b f

/-- The gate, clipped above. -/
def clipped (g : EReal) : EReal := min g (Ideal.ofBits .f32 0x40E00000#32)

/-- The clipped gated unit of a gate `g` and a linear part `u`. -/
def unit (g u : EReal) : EReal :=
  clipped g * Ideal.div 1 (1 + Ideal.exp (Ideal.ofBits .f32 0xBFD9DB23#32 * clipped g))
    * (min (Ideal.ofBits .f32 0x40E00000#32) (max (Ideal.ofBits .f32 0xC0E00000#32) u) + 1)

/-- The hidden activations of a row. -/
def hidden (x : Fin 1024 → EReal) (W : Fin 1024 → Fin 2048 → EReal) (b : Fin 2048 → EReal) (k : Fin 1024) : EReal :=
  unit (gateUp x W b ⟨k.val, by omega⟩) (gateUp x W b ⟨1024 + k.val, by omega⟩)

/-- A row under an expert. -/
def expert (x : Fin 1024 → EReal) (W : Fin 1024 → Fin 2048 → EReal) (b : Fin 2048 → EReal) (D : Fin 1024 → Fin 1024 → EReal)
    (d : Fin 1024 → EReal) (j : Fin 1024) : EReal :=
  (∑ k, hidden x W b k * D k j) + d j

/-- The factor of the gate is the negative of 1.702. -/
theorem negated_alpha (g : EReal) : Ideal.ofBits .f32 0xBFD9DB23#32 * g = -(Ideal.ofBits .f32 0x3FD9DB23#32 * g) := by
  have h : Ideal.ofBits .f32 0xBFD9DB23#32 = -Ideal.ofBits .f32 0x3FD9DB23#32 := by
    simp [Ideal.ofBits, Ideal.ieee, -EReal.coe_mul]
  rw [h, EReal.neg_mul]

/-! ## The body, read at an index -/

/-- The rows of a block, unpacked. -/
theorem beside_apply (x y : FVec Ideal S512x512 .bf16) (r : Fin 512) (k : Fin 1024) :
    concatenate S512x1024 1 [⟨S512x512, x⟩, ⟨S512x512, y⟩] Facts₀.concatenates_S512x512_S512x512_S512x1024_d1 (ix2 r k)
      = if h : k.val < 512 then x (ix2 r ⟨k.val, h⟩) else y (ix2 r ⟨k.val - 512, by omega⟩) := by
  split_ifs with hc
  · exact concatenate_pair_apply_left (t := S512x1024) (s₁ := S512x512) (s₂ := S512x512) 1 x y _ (ix2 r k) rfl
      (ix2 r ⟨k.val, hc⟩) fun b => by match b with | ⟨0, _⟩ => rfl | ⟨1, _⟩ => rfl
  · exact concatenate_pair_apply_right (t := S512x1024) (s₁ := S512x512) (s₂ := S512x512) 1 x y _ (ix2 r k) rfl rfl
      (ix2 r ⟨k.val - 512, by omega⟩)
      (fun b hb => by match b with | ⟨0, _⟩ => rfl | ⟨1, _⟩ => exact absurd rfl hb)
      (show k.val - 512 + 512 = k.val by omega)

/-- The gate-and-up products of a block of packed rows. -/
def gates (xs : Vec Ideal S512x512 .i32) (W : Vec Ideal S1024x2048 .bf16) (b : Vec Ideal S1x1x1x2048 .f32) : FVec Ideal S512x2048 .f32 :=
  addf (matmul dot_S512x1024_S1024x2048_S512x2048_1_0_0_1_n_n (φ₁ := .bf16) (φ₂ := .bf16) none
      (concatenate S512x1024 1 [⟨S512x512, truncf .bf16 (bitcastToFloat (F := Ideal) .f32 (andi xs (broadcast S512x512 4294901760#32))) bitsLt_bf16_f32⟩,
        ⟨S512x512, truncf .bf16 (bitcastToFloat (F := Ideal) .f32 (shli xs (broadcast S512x512 16#32))) bitsLt_bf16_f32⟩]
        Facts₀.concatenates_S512x512_S512x512_S512x1024_d1) W (constant S512x2048 .f32 0x00000000#32))
    (broadcastTo S512x2048 (shapeCast S1x2048 b Facts₀.shapeCasts_S1x1x1x2048_S1x2048) Facts₀.broadcasts_S1x2048_S512x2048)

theorem gates_apply (xs : Vec Ideal S512x512 .i32) (W : Vec Ideal S1024x2048 .bf16) (b : Vec Ideal S1x1x1x2048 .f32)
    (r : Fin 512) (f : Fin 2048) :
    gates xs W b (ix2 r f) = gateUp (features fun k => xs (ix2 r k)) (fun k f => W (ix2 k f))
      (fun f => b (ix4 (0 : Fin 1) (0 : Fin 1) (0 : Fin 1) f)) f := by
  unfold gates gateUp
  refine congrArg₂ (fun a b : EReal => a + b) ?_ ?_
  · refine (Ideal.matmul_plain_apply (M := 512) (K := 1024) (N := 2048) (φ₁ := .bf16) (φ₂ := .bf16) none _ W
      (constant S512x2048 .f32 0x00000000#32) r f).trans ?_
    rw [ValueIdx.constant_apply, Ideal.ofBits_zero_f32, zero_add]
    refine Finset.sum_congr rfl fun k _ => congrArg (· * W (ix2 k f)) ?_
    rw [beside_apply]
    rfl
  · simp only [pointwise]
    exact congrArg b (by funext a; match a with | ⟨0, _⟩ => rfl | ⟨1, _⟩ => rfl | ⟨2, _⟩ => rfl | ⟨3, _⟩ => rfl)

/-- The hidden activations from the products `gu`. -/
def acts (gu : FVec Ideal S512x2048 .f32) : FVec Ideal S512x1024 .f32 :=
  have g : FVec Ideal S512x1024 .f32 := minimumf (extractStridedSlice S512x1024 ![0, 0] gu Facts₀.slices_S512x2048_o0_0_S512x1024)
    (broadcast S512x1024 (Scalar.ofBits (F := Ideal) .f32 0x40E00000#32))
  mulf (mulf g (divf (broadcast S512x1024 (Scalar.ofBits (F := Ideal) .f32 0x3F800000#32))
      (addf (broadcast S512x1024 (Scalar.ofBits (F := Ideal) .f32 0x3F800000#32))
        (exp (mulf (broadcast S512x1024 (Scalar.ofBits (F := Ideal) .f32 0xBFD9DB23#32)) g)))))
    (addf (minimumf (broadcast S512x1024 (Scalar.ofBits (F := Ideal) .f32 0x40E00000#32))
        (maximumf (broadcast S512x1024 (Scalar.ofBits (F := Ideal) .f32 0xC0E00000#32))
          (extractStridedSlice S512x1024 ![0, 1024] gu Facts₀.slices_S512x2048_o0_1024_S512x1024)))
      (broadcast S512x1024 (Scalar.ofBits (F := Ideal) .f32 0x3F800000#32)))

theorem acts_apply (gu : FVec Ideal S512x2048 .f32) (r : Fin 512) (k : Fin 1024) :
    acts gu (ix2 r k) = unit (gu (ix2 r ⟨k.val, by omega⟩)) (gu (ix2 r ⟨1024 + k.val, by omega⟩)) := by
  have h0 : extractStridedSlice S512x1024 ![0, 0] gu Facts₀.slices_S512x2048_o0_0_S512x1024 (ix2 r k) = gu (ix2 r ⟨k.val, by omega⟩) :=
    extractStridedSlice_apply (s := S512x2048) (t := S512x1024) ![0, 0] gu _ (ix2 r k) (ix2 r (⟨k.val, by omega⟩ : Fin 2048))
      (fun a => match a with | ⟨0, _⟩ => (Nat.zero_add _).symm | ⟨1, _⟩ => (Nat.zero_add _).symm)
  have h1 : extractStridedSlice S512x1024 ![0, 1024] gu Facts₀.slices_S512x2048_o0_1024_S512x1024 (ix2 r k) = gu (ix2 r ⟨1024 + k.val, by omega⟩) :=
    extractStridedSlice_apply (s := S512x2048) (t := S512x1024) ![0, 1024] gu _ (ix2 r k) (ix2 r (⟨1024 + k.val, by omega⟩ : Fin 2048))
      (fun a => match a with | ⟨0, _⟩ => (Nat.zero_add _).symm | ⟨1, _⟩ => rfl)
  rw [← h0, ← h1]
  unfold unit clipped
  rw [← Ideal.ofBits_one_f32]
  rfl

theorem pay5_eq (xs : Vec Ideal S512x512 .i32) (W : Vec Ideal S1024x2048 .bf16) (b : Vec Ideal S1x1x1x2048 .f32) (D : Vec Ideal S1024x1024 .bf16) :
    k0_pay5 (F := Ideal) xs W b D = matmul dot_S512x1024_S1024x1024_S512x1024_1_0_0_1_n_n (φ₁ := .bf16) (φ₂ := .bf16) none
      (truncf .bf16 (acts (gates xs W b)) bitsLt_bf16_f32) D (constant S512x1024 .f32 0x00000000#32) := rfl

/-- The body's block, at an index. -/
theorem block_apply (xs : Vec Ideal S512x512 .i32) (W : Vec Ideal S1x1x1024x2048 .f32) (b : Vec Ideal S1x1x1x2048 .f32)
    (D : Vec Ideal S1x1x1024x1024 .f32) (d : Vec Ideal S1x1x1x1024 .f32) (r : Fin 512) (j : Fin 1024) :
    k0_pay3 (F := Ideal) (k0_pay5 (F := Ideal) xs (k0_pay1 (F := Ideal) W) b (k0_pay2 (F := Ideal) D)) d (ix2 r j)
      = expert (features fun k => xs (ix2 r k)) (fun k f => W (ix4 (0 : Fin 1) (0 : Fin 1) k f))
          (fun f => b (ix4 (0 : Fin 1) (0 : Fin 1) (0 : Fin 1) f)) (fun k f => D (ix4 (0 : Fin 1) (0 : Fin 1) k f))
          (fun f => d (ix4 (0 : Fin 1) (0 : Fin 1) (0 : Fin 1) f)) j := by
  have e1 (k : Fin 1024) (f : Fin 2048) : k0_pay1 (F := Ideal) W (ix2 k f) = W (ix4 (0 : Fin 1) (0 : Fin 1) k f) := by
    unfold k0_pay1
    simp only [pointwise]
    exact congrArg W (by funext a; match a with | ⟨0, _⟩ => rfl | ⟨1, _⟩ => rfl | ⟨2, _⟩ => rfl | ⟨3, _⟩ => rfl)
  have e2 (k f : Fin 1024) : k0_pay2 (F := Ideal) D (ix2 k f) = D (ix4 (0 : Fin 1) (0 : Fin 1) k f) := by
    unfold k0_pay2
    simp only [pointwise]
    exact congrArg D (by funext a; match a with | ⟨0, _⟩ => rfl | ⟨1, _⟩ => rfl | ⟨2, _⟩ => rfl | ⟨3, _⟩ => rfl)
  unfold expert
  rw [pay5_eq]
  refine congrArg₂ (fun a b : EReal => a + b) ?_ ?_
  · refine (Ideal.matmul_plain_apply (M := 512) (K := 1024) (N := 1024) (φ₁ := .bf16) (φ₂ := .bf16) none _ _
      (constant S512x1024 .f32 0x00000000#32) r j).trans ?_
    rw [ValueIdx.constant_apply, Ideal.ofBits_zero_f32, zero_add]
    refine Finset.sum_congr rfl fun k _ => congrArg₂ (· * ·) ?_ (e2 k j)
    refine (acts_apply _ r k).trans ?_
    rw [gates_apply, gates_apply]
    simp only [e1]
    rfl
  · simp only [pointwise]
    exact congrArg d (by funext a; match a with | ⟨0, _⟩ => rfl | ⟨1, _⟩ => rfl | ⟨2, _⟩ => rfl | ⟨3, _⟩ => rfl)

end Cert.Proof.Experts

end
-- ==== Proof.Experts.Array.lean ====
/-
  The experts' result array: row `512 j + r` is row `r` of the source block of point `j` under the point's expert when the
  point has rows at all, and zero otherwise.
-/
module

public import proofs.«01_k».proof.Proof.Experts.Frame
public import proofs.«01_k».proof.Proof.Experts.Block
public import Idealize.ShloMosaic.Lib.Pipeline.Covers

@[expose] public section

set_option maxRecDepth 16384

noncomputable section

namespace Cert.Proof.Experts

open Cert.Experts0 Cert.Experts0.Gen
open Idealize.ShloMosaic hiding ix1 ix2 ix3 ix4
open Idealize.ShloMosaic.TcCoe
open Idealize.SL.Sem
open Idealize.ShloMosaic.Pipeline (Dat Cfg Window)
open Idealize.ShloMosaic.ValueIdx

local instance : Cert.Experts0.Facts := Cert.Experts0.Gen.facts

/-- Row `r` of block `j` of the layer's result, of its three tables (a block's expert, its count of rows, its source
    block), the packed rows and the experts' weights. -/
def row (n : Fin 4) (be nv sb : Vec Ideal S288 .i32) (xs : Vec Ideal S147456x512 .i32) (wg : Vec Ideal S4x32x1024x2048 .f32)
    (bg : Vec Ideal S4x32x1x2048 .f32) (wd : Vec Ideal S4x32x1024x1024 .f32) (bd : Vec Ideal S4x32x1x1024 .f32)
    (j : Fin 288) (r : Fin 512) (c : Fin 1024) : EReal :=
  let e : Fin 32 := ⟨(be (ix1 j)).toNat % 32, Nat.mod_lt _ (by decide)⟩
  let s : Fin 288 := ⟨(sb (ix1 j)).toNat % 288, Nat.mod_lt _ (by decide)⟩
  if Used (nv (ix1 j)) then
    expert (features fun k => xs (ix2 (⟨s.val * 512 + r.val, by omega⟩ : Fin 147456) k)) (fun k f => wg (ix4 n e k f))
      (fun f => bg (ix4 n e (0 : Fin 1) f)) (fun k f => wd (ix4 n e k f)) (fun f => bd (ix4 n e (0 : Fin 1) f)) c
  else 0

/-- The whole result. -/
def result (n : Fin 4) (be nv sb : Vec Ideal S288 .i32) (xs : Vec Ideal S147456x512 .i32) (wg : Vec Ideal S4x32x1024x2048 .f32)
    (bg : Vec Ideal S4x32x1x2048 .f32) (wd : Vec Ideal S4x32x1024x1024 .f32) (bd : Vec Ideal S4x32x1x1024 .f32)
    (i : S147456x1024.Idx) : EReal :=
  row n be nv sb xs wg bg wd bd ⟨(i 0).val / 512, by have : (i 0).val < 147456 := idx2_lt0 i; omega⟩
    ⟨(i 0).val % 512, Nat.mod_lt _ (by decide)⟩ (i 1)

variable (n : Fin 4) (m : (ℓ : Loc nD τ sig) → Buf (Elt Ideal) ℓ)

theorem src_lt' (hO : Ok n m) (i : grid0.Coords) : (sbW m (pt i)).toNat < 288 := by
  obtain ⟨h, -⟩ := hO.1 i
  have h1 := h 0
  rw [src_word] at h1
  have h2 : ((sbW m (pt i)).toNat + 1) * 512 ≤ 147456 := h1
  omega

theorem iblk_0 (hO : Ok n m) (t : Fin (cfgM n m hO).N) (r k : Fin 512) :
    iblk n m hO 0 0 t (ix2 r k : S512x512.Idx) = m ((0 : Dev nD).tc.loc main_arg3)
      (ix2 (⟨(sbW m (pt (grid0.coords t))).toNat % 288 * 512 + r.val, by have := Nat.mod_lt (sbW m (pt (grid0.coords t))).toNat (show 288 > 0 by decide); omega⟩ : Fin 147456) k) := by
  show V m 0 main_arg3 ((((cfgM n m hO).win 0).blk t).view.emb (ix2 r k : S512x512.Idx)) = _
  have e : ((cfgM n m hO).win 0).index t = ![(sbW m (pt (grid0.coords t))).toNat, 0] := src_word m (grid0.coords t)
  have v := Nat.mod_eq_of_lt (src_lt' n m hO (grid0.coords t))
  refine congrArg (m _) (funext fun (a : Fin 2) => Fin.ext ?_)
  match a with
  | ⟨0, _⟩ => blk_simp; rw [e]; exact congrArg (· * 512 + r.val) v.symm
  | ⟨1, _⟩ => blk_simp; rw [e]; exact Nat.zero_add _

theorem at_5 (hO : Ok n m) (t : Fin (cfgM n m hO).N) (y : S512x1024.Idx) :
    (((((cfgM n m hO).win 5).blk t).view.emb y) (0 : Fin 2)).val = t.val * 512 + (y 0).val
      ∧ (((((cfgM n m hO).win 5).blk t).view.emb y) (1 : Fin 2)).val = (y 1).val := by
  have e : ((cfgM n m hO).win 5).index t = ![t.val, 0] :=
    (by decide +kernel : ∀ t : Fin grid0.N, cc0_transform_5 (grid0.coords t) = ![t.val, 0]) t
  constructor
  · blk_simp; rw [e]; rfl
  · blk_simp; rw [e]; exact Nat.zero_add _

theorem covers_5 (hO : Ok n m) : ((cfgM n m hO).win 5).Covers := by
  refine Pipeline.Window.covers_of_index_surj _ rfl (fun a => by revert a; exact (by decide : ∀ a : Fin S512x1024.rank, 0 < S512x1024.size a)) fun β => ?_
  have h0 : (β (0 : Fin 2)).val < 288 := lt_of_lt_of_eq (β (0 : Fin 2)).isLt (by show (147456 + 512 - 1) / 512 = 288; norm_num)
  have h1 : (β (1 : Fin 2)).val < 1 := lt_of_lt_of_eq (β (1 : Fin 2)).isLt (by show (1024 + 1024 - 1) / 1024 = 1; norm_num)
  refine ⟨⟨(β (0 : Fin 2)).val, h0⟩, fun (a : Fin 2) => ?_⟩
  have e : ((cfgM n m hO).win 5).index ⟨(β (0 : Fin 2)).val, h0⟩ = ![(β (0 : Fin 2)).val, 0] :=
    (by decide +kernel : ∀ t : Fin grid0.N, cc0_transform_5 (grid0.coords t) = ![t.val, 0]) ⟨(β (0 : Fin 2)).val, h0⟩
  match a with
  | ⟨0, _⟩ => exact congrFun e (0 : Fin 2)
  | ⟨1, _⟩ => exact (congrFun e (1 : Fin 2)).trans (by show 0 = (β (1 : Fin 2)).val; omega)

theorem outAt_eq (hO : Ok n m) (t : Fin (cfgM n m hO).N) (y : S512x1024.Idx) (i : S147456x1024.Idx)
    (r0 : (i 0).val = t.val * 512 + (y 0).val) (r1 : (i 1).val = (y 1).val) :
    outAt n m hO 0 t y = result n (m ((0 : Dev nD).tc.loc main_arg0)) (m ((0 : Dev nD).tc.loc main_arg1)) (m ((0 : Dev nD).tc.loc main_arg2))
      (m ((0 : Dev nD).tc.loc main_arg3)) (m ((0 : Dev nD).tc.loc main_arg4)) (m ((0 : Dev nD).tc.loc main_arg5))
      (m ((0 : Dev nD).tc.loc main_arg6)) (m ((0 : Dev nD).tc.loc main_arg7)) i := by
  have y0 : (y 0).val < 512 := idx2_lt0 y
  have ht : t.val < 288 := t.isLt
  have h0 : (i 0).val < 147456 := idx2_lt0 i
  have hp : (⟨(i 0).val / 512, by omega⟩ : Fin 288) = pt (grid0.coords t) := Fin.ext (by
    refine Eq.trans ?_ (pt_coords t).symm; show (i 0).val / 512 = t.val; omega)
  have hr : (⟨(i 0).val % 512, Nat.mod_lt _ (by decide)⟩ : Fin 512) = y 0 := Fin.ext (by
    show (i 0).val % 512 = (y 0).val; omega)
  have h1 : (i 1 : Fin 1024) = y 1 := Fin.ext r1
  unfold result
  rw [hp, hr, h1]
  unfold row outAt
  show (ite (Used (nvW m (pt (grid0.coords t)))) _ _ : FVec Ideal S512x1024 .bf16) y = ite (Used (nvW m (pt (grid0.coords t)))) _ _
  split_ifs
  · rw [iblk_1, iblk_2, iblk_3, iblk_4]
    refine (congrArg _ (ValueIdx.eq_ix2 y)).trans ((block_apply _ _ _ _ _ (y 0) (y 1)).trans ?_)
    have hx : (fun k : Fin 512 => iblk n m hO 0 0 t (ix2 (y 0 : Fin 512) k : S512x512.Idx)) = _ := funext fun k => iblk_0 n m hO t (y 0) k
    exact congrArg (fun x => expert (features x) _ _ _ _ (y 1)) hx
  · exact Ideal.ofBits_zero_bf16

theorem final (hO : Ok n m) : (dats n m hO 0 0).arrAt 5 (cfgM n m hO).N
    = result n (m ((0 : Dev nD).tc.loc main_arg0)) (m ((0 : Dev nD).tc.loc main_arg1)) (m ((0 : Dev nD).tc.loc main_arg2))
      (m ((0 : Dev nD).tc.loc main_arg3)) (m ((0 : Dev nD).tc.loc main_arg4)) (m ((0 : Dev nD).tc.loc main_arg5))
      (m ((0 : Dev nD).tc.loc main_arg6)) (m ((0 : Dev nD).tc.loc main_arg7)) := by
  refine (dats n m hO 0 0).arrAt_eq_of_covers 5 _ (covers_5 n m hO) fun t hf y => ?_
  blk_simp
  rw [after_5]
  exact outAt_eq n m hO t y _ (at_5 n m hO t y).1 (at_5 n m hO t y).2

end Cert.Proof.Experts

end
-- ==== Proof.Experts.Runs.lean ====
/-
  The call at any layer under the precondition on its tables: it runs, leaves its arguments and its semaphores as they were,
  and over the reals ends with the layer's result.
-/
module

public import proofs.«01_k».proof.Proof.Experts.Tables
public import proofs.«01_k».proof.Proof.Experts.Array

@[expose] public section

set_option maxRecDepth 16384

noncomputable section

namespace Cert.Proof.Experts

open Cert.Experts0 Cert.Experts0.Gen
open Idealize.ShloMosaic hiding ix1 ix2 ix3 ix4
open Idealize.ShloMosaic.TcCoe
open Idealize.SL.Sem
open Idealize.ShloMosaic.ValueIdx

local instance : Cert.Experts0.Facts := Cert.Experts0.Gen.facts

section

variable {F : FTy → Type} [FloatOps F]
variable (n : Fin 4) (m : (ℓ : Loc nD τ sig) → Buf (Elt F) ℓ) (ρ : Dev nD → PrngReg)

/-- The precondition on a memory's arguments. -/
abbrev Tables : Prop := ∀ c : Dev nD, Cert.Pre_tables.fn (F := F) (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5)) (m ((c.tc : Thread nD τ).loc main_arg6)) (m ((c.tc : Thread nD τ).loc main_arg7)) = fun _ => 1#1

variable {m}

theorem ok_of_tables (h : Tables (F := F) m) : Ok n m :=
  ok_of_range n m (of_tables _ _ _ _ _ _ _ _ (h 0)).1 (of_tables _ _ _ _ _ _ _ _ (h 0)).2.1

theorem steps_of_tables (h : Tables (F := F) m) : Steps (F := F) m := (of_tables _ _ _ _ _ _ _ _ (h 0)).2.2

theorem layer_frame (h : Tables (F := F) m) : θ_run (defsL n) (onTc (τ := τ) (mainL (F := F) n)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  unchanged n m ρ (ok_of_tables n h) (steps_of_tables h)

end

variable (n : Fin 4) (m : (ℓ : Loc nD τ sig) → Buf (Elt Ideal) ℓ) (ρ : Dev nD → PrngReg)

/-- The layer's result, of a memory's arguments on a device. -/
abbrev resultOf (c : Dev nD) : Vec Ideal S147456x1024 .bf16 :=
  result n (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

theorem layer_value (h : Tables (F := Ideal) m) : θ_run (defsL n) (onTc (τ := τ) (mainL (F := Ideal) n)) ⟨m, fun _ => 0, ρ⟩ (fun r => ∀ c : Dev nD,
      r.2.mem ((c.tc : Thread nD τ).loc main_v0) = resultOf n m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  have hO := ok_of_tables n h
  refine (θ_run (defsL n) _ _).mono (fun r h => ?_) (run n m ρ hO (steps_of_tables h))
  refine fun c => ⟨?_, ((h.1 c).2 main_arg0 (by decide : main_arg0 ∈ Pipeline.restRefs sig spec0)),
      ((h.1 c).2 main_arg1 (by decide : main_arg1 ∈ Pipeline.restRefs sig spec0)),
      ((h.1 c).2 main_arg2 (by decide : main_arg2 ∈ Pipeline.restRefs sig spec0)),
      ((h.1 c).1 0).trans (((dats n m hO 0 c).arrAt_in 0 rfl _).trans (A_eq n m hO c 0)),
      ((h.1 c).1 1).trans (((dats n m hO 0 c).arrAt_in 1 rfl _).trans (A_eq n m hO c 1)),
      ((h.1 c).1 2).trans (((dats n m hO 0 c).arrAt_in 2 rfl _).trans (A_eq n m hO c 2)),
      ((h.1 c).1 3).trans (((dats n m hO 0 c).arrAt_in 3 rfl _).trans (A_eq n m hO c 3)),
      ((h.1 c).1 4).trans (((dats n m hO 0 c).arrAt_in 4 rfl _).trans (A_eq n m hO c 4))⟩
  obtain rfl : c = 0 := Subsingleton.elim _ _
  exact ((h.1 0).1 5).trans (final n m hO)

end Cert.Proof.Experts

end
-- ==== Proof.Experts.Take.lean ====
/-
  Blocks of an array picked by a table of words (`jnp.take` along the first of three axes), read at an index.
-/
module

public import Idealize.ShloMosaic.Lib.ValueIdx
public import Idealize.ShloMosaic.Lib.Pipeline.Value

@[expose] public section

noncomputable section

namespace Cert.Proof.Experts

open Idealize.ShloMosaic.ValueIdx
open Idealize.ShloMosaic

variable {α : Type}

/-- The dimension numbers of picking `M` of the `N` blocks of shape `[A, B]`. -/
abbrev pickDims (N A B M : Nat)
    (wf : GatherDims.WF ⟨3, ![N, A, B]⟩ ⟨2, ![M, 1]⟩ ⟨3, ![M, A, B]⟩ [1, 2] [0] [] [0] [] 1 ![1, A, B]) :
    GatherDims ⟨3, ![N, A, B]⟩ ⟨2, ![M, 1]⟩ ⟨3, ![M, A, B]⟩ where
  offsetDims := [1, 2]
  collapsedSliceDims := [0]
  operandBatchingDims := []
  startIndicesBatchingDims := []
  startIndexMap := [0]
  indexVectorDim := 1
  sliceSizes := ![1, A, B]
  wf := wf

/-- Block `j` of the pick is the block its word names, when that is a block. -/
theorem pick_apply {N A B M : Nat}
    (wf : GatherDims.WF ⟨3, ![N, A, B]⟩ ⟨2, ![M, 1]⟩ ⟨3, ![M, A, B]⟩ [1, 2] [0] [] [0] [] 1 ![1, A, B])
    (x : (⟨3, ![N, A, B]⟩ : Shape).Idx → α) (w : IVec ⟨2, ![M, 1]⟩ 32) (j : Fin M) (a : Fin A) (b : Fin B) (e : Fin N)
    (hN : N ≤ 2 ^ 31) (he : (w (ix2 j (0 : Fin 1))).toNat = e.val) :
    Host.gather (pickDims N A B M wf) x w (ix3 j a b) = x (ix3 e a b) := by
  unfold Host.gather
  congr 1
  funext q
  refine Fin.ext ?_
  show (pickDims N A B M wf).start (ix3 j a b) w q + (pickDims N A B M wf).batchCoord (ix3 j a b) q
    + (pickDims N A B M wf).offCoord (ix3 j a b) q = _
  rw [GatherDims.batchCoord_eq_zero _ _ _ List.not_mem_nil]
  have hq : q = 0 ∨ q = 1 ∨ q = 2 := by
    match q with
    | ⟨0, _⟩ => exact Or.inl rfl
    | ⟨1, _⟩ => exact Or.inr (Or.inl rfl)
    | ⟨2, _⟩ => exact Or.inr (Or.inr rfl)
  rcases hq with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ (pickDims N A B M wf).startIndexMap from List.mem_singleton.mpr rfl)]
    have hsi : (pickDims N A B M wf).siIdx (ix3 j a b) ⟨List.idxOf (0 : Fin 3) (pickDims N A B M wf).startIndexMap,
        List.idxOf_lt_length_iff.2 (List.mem_singleton.mpr rfl)⟩ = ix2 j (0 : Fin 1) := by
      funext c; refine Fin.ext ?_
      match c with
      | ⟨0, _⟩ => rfl
      | ⟨1, _⟩ => rfl
    rw [hsi]
    have hlt := e.isLt
    have hi : (w (ix2 j (0 : Fin 1))).toInt.toNat = e.val := by
      rw [BitVec.toInt_eq_toNat_of_lt (by omega)]; omega
    rw [hi]
    show min e.val (N - 1) + 0 + 0 = e.val
    omega
  · unfold GatherDims.start GatherDims.offCoord
    rw [dif_neg (show (1 : Fin 3) ∉ (pickDims N A B M wf).startIndexMap from (by decide : (1 : Fin 3) ∉ ([0] : List (Fin 3)))),
      dif_pos (show (1 : Fin 3) ∈ (pickDims N A B M wf).sKept from (GatherDims.mem_sKept _ _).mpr ⟨(by decide : (1 : Fin 3) ∉ ([0] : List (Fin 3))), List.not_mem_nil⟩)]
    exact (Nat.zero_add _).trans rfl
  · unfold GatherDims.start GatherDims.offCoord
    rw [dif_neg (show (2 : Fin 3) ∉ (pickDims N A B M wf).startIndexMap from (by decide : (2 : Fin 3) ∉ ([0] : List (Fin 3)))),
      dif_pos (show (2 : Fin 3) ∈ (pickDims N A B M wf).sKept from (GatherDims.mem_sKept _ _).mpr ⟨(by decide : (2 : Fin 3) ∉ ([0] : List (Fin 3))), List.not_mem_nil⟩)]
    exact (Nat.zero_add _).trans rfl

end Cert.Proof.Experts

end
-- ==== Proof.Experts.Reference.lean ====
/-
  The reference's result at layer 0, element by element: block `j` of the picked rows under the picked expert, kept where
  the block has rows at all — the same `row` the kernel's array is written with.
-/
module

public import proofs.«01_k».proof.Proof.Gen.ExpertsReference0Ideal.Read
public import proofs.«01_k».proof.Proof.Experts.Array
public import proofs.«01_k».proof.Proof.Experts.Take
public import Idealize.ShloMosaic.Lib.Pointwise

@[expose] public section

set_option maxRecDepth 16384

noncomputable section

namespace Cert.Proof.Experts

open Cert.ExpertsReference0Ideal Cert.ExpertsReference0Ideal.Gen Cert.ExpertsReference0Ideal.Read
open Idealize.ShloMosaic.ValueIdx
open Idealize.ShloMosaic hiding ix1 ix2 ix3 ix4

/-- Row `r` of the source block, its words. -/
abbrev words (x3 : Vec Ideal S147456x512 .i32) (s : Fin 288) (r : Fin 512) : Fin 512 → BitVec 32 := fun k => x3 (ix2 (⟨s.val * 512 + r.val, by omega⟩ : Fin 147456) k)

variable (x0 x1 x2 : Vec Ideal S288 .i32) (x3 : Vec Ideal S147456x512 .i32) (x4 : Vec Ideal S4x32x1024x2048 .f32)
  (x5 : Vec Ideal S4x32x1x2048 .f32) (x6 : Vec Ideal S4x32x1024x1024 .f32) (x7 : Vec Ideal S4x32x1x1024 .f32)

section

variable (j : Fin 288) (e : Fin 32) (s : Fin 288)

/-! ## The picked blocks -/

theorem at_column : idx_main_call0_v0 (ix2 j (0 : Fin 1)) = ix1 j :=
  funext fun (a : Fin 1) => match a with | ⟨0, _⟩ => rfl

theorem ref_rows (r k : Fin 512) : val_main_v0 (F := Ideal) x3 (ix3 s r k) = x3 (ix2 (⟨s.val * 512 + r.val, by omega⟩ : Fin 147456) k) := by
  rw [val_main_v0_apply]
  refine congrArg x3 (funext fun (a : Fin 2) => Fin.ext ?_)
  match a with
  | ⟨0, _⟩ => show ((s.val * 512 + r.val) * 512 + k.val) / 512 = s.val * 512 + r.val; omega
  | ⟨1, _⟩ => show ((s.val * 512 + r.val) * 512 + k.val) % 512 = k.val; omega

theorem ref_packed (hs : (x2 (ix1 j)).toNat = s.val) (r k : Fin 512) :
    val_main_v1 (F := Ideal) x2 x3 (ix3 j r k) = x3 (ix2 (⟨s.val * 512 + r.val, by omega⟩ : Fin 147456) k) := by
  unfold val_main_v1
  refine (pick_apply (N := 288) (A := 512) (B := 512) (M := 288) _ (val_main_v0 (F := Ideal) x3) (val_main_call0_v0 (F := Ideal) x2) j r k s (by decide) ?_).trans (ref_rows x3 s r k)
  rw [val_main_call0_v0_apply]
  exact (congrArg (fun i => (x2 i).toNat) (at_column j)).trans hs

theorem ref_gate (he : (x0 (ix1 j)).toNat = e.val) (k : Fin 1024) (f : Fin 2048) : val_main_v11 (F := Ideal) x0 x4 (ix3 j k f) = x4 (ix4 (0 : Fin 4) e k f) := by
  unfold val_main_v11
  refine (pick_apply (N := 32) (A := 1024) (B := 2048) (M := 288) _ (val_main_v10 (F := Ideal) x4) (val_main_call1_v0 (F := Ideal) x0) j k f e (by decide) ?_).trans ?_
  · rw [val_main_call1_v0_apply]
    exact (congrArg (fun i => (x0 i).toNat) (at_column j)).trans he
  · rw [val_main_v10_apply, val_main_v9_apply]
    refine congrArg x4 (funext fun (a : Fin 4) => Fin.ext ?_)
    match a with
    | ⟨0, _⟩ => rfl
    | ⟨1, _⟩ => show ((e.val * 1024 + k.val) * 2048 + f.val) / 2097152 % 32 = e.val; omega
    | ⟨2, _⟩ => show ((e.val * 1024 + k.val) * 2048 + f.val) / 2048 % 1024 = k.val; omega
    | ⟨3, _⟩ => show ((e.val * 1024 + k.val) * 2048 + f.val) % 2048 = f.val; omega

theorem ref_gateBias (he : (x0 (ix1 j)).toNat = e.val) (f : Fin 2048) : val_main_v14 (F := Ideal) x0 x5 (ix3 j (0 : Fin 1) f) = x5 (ix4 (0 : Fin 4) e (0 : Fin 1) f) := by
  unfold val_main_v14
  refine (pick_apply (N := 32) (A := 1) (B := 2048) (M := 288) _ (val_main_v13 (F := Ideal) x5) (val_main_call2_v0 (F := Ideal) x0) j 0 f e (by decide) ?_).trans ?_
  · rw [val_main_call2_v0_apply]
    exact (congrArg (fun i => (x0 i).toNat) (at_column j)).trans he
  · rw [val_main_v13_apply, val_main_v12_apply]
    refine congrArg x5 (funext fun (a : Fin 4) => Fin.ext ?_)
    match a with
    | ⟨0, _⟩ => rfl
    | ⟨1, _⟩ => show ((e.val * 1 + 0) * 2048 + f.val) / 2048 % 32 = e.val; omega
    | ⟨2, _⟩ => rfl
    | ⟨3, _⟩ => show ((e.val * 1 + 0) * 2048 + f.val) % 2048 = f.val; omega

theorem ref_down (he : (x0 (ix1 j)).toNat = e.val) (k f : Fin 1024) : val_main_v17 (F := Ideal) x0 x6 (ix3 j k f) = x6 (ix4 (0 : Fin 4) e k f) := by
  unfold val_main_v17
  refine (pick_apply (N := 32) (A := 1024) (B := 1024) (M := 288) _ (val_main_v16 (F := Ideal) x6) (val_main_call3_v0 (F := Ideal) x0) j k f e (by decide) ?_).trans ?_
  · rw [val_main_call3_v0_apply]
    exact (congrArg (fun i => (x0 i).toNat) (at_column j)).trans he
  · rw [val_main_v16_apply, val_main_v15_apply]
    refine congrArg x6 (funext fun (a : Fin 4) => Fin.ext ?_)
    match a with
    | ⟨0, _⟩ => rfl
    | ⟨1, _⟩ => show ((e.val * 1024 + k.val) * 1024 + f.val) / 1048576 % 32 = e.val; omega
    | ⟨2, _⟩ => show ((e.val * 1024 + k.val) * 1024 + f.val) / 1024 % 1024 = k.val; omega
    | ⟨3, _⟩ => show ((e.val * 1024 + k.val) * 1024 + f.val) % 1024 = f.val; omega

theorem ref_downBias (he : (x0 (ix1 j)).toNat = e.val) (f : Fin 1024) : val_main_v20 (F := Ideal) x0 x7 (ix3 j (0 : Fin 1) f) = x7 (ix4 (0 : Fin 4) e (0 : Fin 1) f) := by
  unfold val_main_v20
  refine (pick_apply (N := 32) (A := 1) (B := 1024) (M := 288) _ (val_main_v19 (F := Ideal) x7) (val_main_call4_v0 (F := Ideal) x0) j 0 f e (by decide) ?_).trans ?_
  · rw [val_main_call4_v0_apply]
    exact (congrArg (fun i => (x0 i).toNat) (at_column j)).trans he
  · rw [val_main_v19_apply, val_main_v18_apply]
    refine congrArg x7 (funext fun (a : Fin 4) => Fin.ext ?_)
    match a with
    | ⟨0, _⟩ => rfl
    | ⟨1, _⟩ => show ((e.val * 1 + 0) * 1024 + f.val) / 1024 % 32 = e.val; omega
    | ⟨2, _⟩ => rfl
    | ⟨3, _⟩ => show ((e.val * 1 + 0) * 1024 + f.val) % 1024 = f.val; omega

/-! ## The stages -/

theorem ref_features (hs : (x2 (ix1 j)).toNat = s.val) (r : Fin 512) (k : Fin 1024) : val_main_v8 (F := Ideal) x2 x3 (ix3 j r k) = features (words x3 s r) k := by
  unfold val_main_v8 features
  split_ifs with hc
  · refine (concatenate_pair_apply_left (t := S288x512x1024) (s₁ := S288x512x512) (s₂ := S288x512x512) 2 _ _ _ (ix3 j r k) rfl
      (ix3 j r (⟨k.val, hc⟩ : Fin 512)) fun b => by match b with | ⟨0, _⟩ => rfl | ⟨1, _⟩ => rfl | ⟨2, _⟩ => rfl).trans ?_
    rw [val_main_v4_apply, val_main_v3_apply, val_main_v2_apply, val_main_c_apply, ref_packed x2 x3 j s hs]
    rfl
  · refine (concatenate_pair_apply_right (t := S288x512x1024) (s₁ := S288x512x512) (s₂ := S288x512x512) 2 _ _ _ (ix3 j r k) rfl rfl
      (ix3 j r (⟨k.val - 512, by omega⟩ : Fin 512))
      (fun b hb => by match b with | ⟨0, _⟩ => rfl | ⟨1, _⟩ => rfl | ⟨2, _⟩ => exact absurd rfl hb)
      (show k.val - 512 + 512 = k.val by omega)).trans ?_
    rw [val_main_v7_apply, val_main_v6_apply, val_main_v5_apply, val_main_c_0_apply, ref_packed x2 x3 j s hs]
    rfl

theorem ref_gates (he : (x0 (ix1 j)).toNat = e.val) (hs : (x2 (ix1 j)).toNat = s.val) (r : Fin 512) (f : Fin 2048) : val_main_v23 (F := Ideal) x0 x2 x3 x4 x5 (ix3 j r f)
    = gateUp (features (words x3 s r)) (fun k f => x4 (ix4 (0 : Fin 4) e k f)) (fun f => x5 (ix4 (0 : Fin 4) e (0 : Fin 1) f)) f := by
  rw [val_main_v23_apply, val_main_v21_apply, val_main_v22_apply]
  unfold gateUp
  refine congrArg₂ (fun a b : EReal => a + b) (Finset.sum_congr rfl fun k _ => congrArg₂ (fun a b : EReal => a * b) ?_ ?_) ?_
  · exact (congrArg _ (ValueIdx.eq_ix3 _)).trans (ref_features x2 x3 j s hs r k)
  · exact (congrArg _ (ValueIdx.eq_ix3 _)).trans (ref_gate x0 x4 j e he k f)
  · exact (congrArg _ (ValueIdx.eq_ix3 _)).trans (ref_gateBias x0 x5 j e he f)

theorem ref_hidden (he : (x0 (ix1 j)).toNat = e.val) (hs : (x2 (ix1 j)).toNat = s.val) (r : Fin 512) (k : Fin 1024) : val_main_v40 (F := Ideal) x0 x2 x3 x4 x5 (ix3 j r k)
    = hidden (features (words x3 s r)) (fun k f => x4 (ix4 (0 : Fin 4) e k f)) (fun f => x5 (ix4 (0 : Fin 4) e (0 : Fin 1) f)) k := by
  unfold hidden
  rw [← ref_gates x0 x2 x3 x4 x5 j e s he hs r, ← ref_gates x0 x2 x3 x4 x5 j e s he hs r]
  have h24 : val_main_v24 (F := Ideal) x0 x2 x3 x4 x5 (ix3 j r k) = val_main_v23 (F := Ideal) x0 x2 x3 x4 x5 (ix3 j r (⟨k.val, by omega⟩ : Fin 2048)) :=
    (val_main_v24_apply x0 x2 x3 x4 x5 _).trans (congrArg _ (ValueIdx.eq_ix3 _))
  have h27 : val_main_v27 (F := Ideal) x0 x2 x3 x4 x5 (ix3 j r k) = val_main_v23 (F := Ideal) x0 x2 x3 x4 x5 (ix3 j r (⟨1024 + k.val, by omega⟩ : Fin 2048)) :=
    (val_main_v27_apply x0 x2 x3 x4 x5 _).trans (congrArg _ (ValueIdx.eq_ix3 _))
  rw [← h24, ← h27]
  unfold unit clipped
  rw [negated_alpha, ← Ideal.ofBits_one_f32]
  simp only [val_main_v40_apply, val_main_v39_apply, val_main_v38_apply, val_main_v37_apply, val_main_v36_apply, val_main_v35_apply,
    val_main_v34_apply, val_main_v33_apply, val_main_v32_apply, val_main_v31_apply, val_main_v30_apply, val_main_v29_apply,
    val_main_v28_apply, val_main_v26_apply, val_main_v25_apply, val_main_call5_v4_apply, val_main_call5_v3_apply,
    val_main_call5_v2_apply, val_main_call5_v1_apply, val_main_call5_v0_apply, val_main_cst_apply, val_main_cst_1_apply,
    val_main_cst_2_apply, val_main_cst_3_apply, val_main_cst_4_apply, val_main_cst_5_apply, val_main_cst_6_apply]
  rfl

theorem ref_expert (he : (x0 (ix1 j)).toNat = e.val) (hs : (x2 (ix1 j)).toNat = s.val) (r : Fin 512) (c : Fin 1024) : val_main_v43 (F := Ideal) x0 x2 x3 x4 x5 x6 x7 (ix3 j r c)
    = expert (features (words x3 s r)) (fun k f => x4 (ix4 (0 : Fin 4) e k f)) (fun f => x5 (ix4 (0 : Fin 4) e (0 : Fin 1) f))
        (fun k f => x6 (ix4 (0 : Fin 4) e k f)) (fun f => x7 (ix4 (0 : Fin 4) e (0 : Fin 1) f)) c := by
  rw [val_main_v43_apply, val_main_v41_apply, val_main_v42_apply]
  unfold expert
  refine congrArg₂ (fun a b : EReal => a + b) (Finset.sum_congr rfl fun k _ => congrArg₂ (fun a b : EReal => a * b) ?_ ?_) ?_
  · exact (congrArg _ (ValueIdx.eq_ix3 _)).trans (ref_hidden x0 x2 x3 x4 x5 j e s he hs r k)
  · exact (congrArg _ (ValueIdx.eq_ix3 _)).trans (ref_down x0 x6 j e he k c)
  · exact (congrArg _ (ValueIdx.eq_ix3 _)).trans (ref_downBias x0 x7 j e he c)

end

theorem ref_row (hb : ∀ j : Fin 288, (x0 (ix1 j)).toNat < 32) (hs : ∀ j : Fin 288, (x2 (ix1 j)).toNat < 288)
    (j : Fin 288) (r : Fin 512) (c : Fin 1024) :
    val_main_v47 (F := Ideal) x0 x1 x2 x3 x4 x5 x6 x7 (ix3 j r c) = row 0 x0 x1 x2 x3 x4 x5 x6 x7 j r c := by
  rw [val_main_v47_apply, ref_expert x0 x2 x3 x4 x5 x6 x7 j ⟨(x0 (ix1 j)).toNat % 32, Nat.mod_lt _ (by decide)⟩
    ⟨(x2 (ix1 j)).toNat % 288, Nat.mod_lt _ (by decide)⟩ (Nat.mod_eq_of_lt (hb j)).symm (Nat.mod_eq_of_lt (hs j)).symm]
  rw [val_main_call6_v1_apply, val_main_v46_apply, val_main_v45_apply, val_main_v44_apply, val_main_c_7_apply,
    val_main_call6_v2_apply, val_main_call6_v0_apply, val_main_cst_8_apply]
  unfold row
  have hj : idx_main_v46 (idx_main_call6_v1 (ix3 j r c)) = ix1 j := funext fun a => match a with | ⟨0, _⟩ => rfl
  rw [hj]
  by_cases hu : Used (x1 (ix1 j))
  · exact (if_pos ((sgt_zero _).mpr hu)).trans (if_pos hu).symm
  · exact (if_neg (fun h => hu ((sgt_zero _).mp h))).trans ((Ideal.ofBits_zero_f32).trans (if_neg hu).symm)

/-- The reference's result at layer 0. -/
theorem ref_result (hb : ∀ j : Fin 288, (x0 (ix1 j)).toNat < 32) (hs : ∀ j : Fin 288, (x2 (ix1 j)).toNat < 288) :
    val_main_v49 (F := Ideal) x0 x1 x2 x3 x4 x5 x6 x7 = result 0 x0 x1 x2 x3 x4 x5 x6 x7 := by
  refine funext fun (i : S147456x1024.Idx) => ?_
  have h0 : (i 0).val < 147456 := idx2_lt0 i
  have h1 : (i 1).val < 1024 := idx2_lt1 i
  rw [val_main_v49_apply, val_main_v48_apply]
  unfold result
  have hi : idx_main_v48 i = ix3 (⟨(i 0).val / 512, by omega⟩ : Fin 288) (⟨(i 0).val % 512, Nat.mod_lt _ (by decide)⟩ : Fin 512) (i 1 : Fin 1024) :=
    funext fun (a : Fin 3) => Fin.ext (by
      match a with
      | ⟨0, _⟩ => show ((i 0).val * 1024 + (i 1).val) / 524288 = (i 0).val / 512; omega
      | ⟨1, _⟩ => show ((i 0).val * 1024 + (i 1).val) / 1024 % 512 = (i 0).val % 512; omega
      | ⟨2, _⟩ => show ((i 0).val * 1024 + (i 1).val) % 1024 = (i 1).val; omega)
  rw [hi]
  exact ref_row x0 x1 x2 x3 x4 x5 x6 x7 hb hs _ _ _

end Cert.Proof.Experts

end
-- ==== Proof.Experts.Layer0.lean ====
/-
  The experts' call of layer 0: its three frames, and its array against the reference's.
-/
module

public import proofs.«01_k».proof.Defs
public import proofs.«01_k».proof.Proof.Gen.Experts0.Launch
public import proofs.«01_k».proof.Proof.Gen.Experts0Ideal.Launch
public import proofs.«01_k».proof.Proof.Gen.ExpertsReference0Ideal.Run
public import proofs.«01_k».proof.Proof.Gen.ExpertsReference0Ideal.Read
public import proofs.«01_k».proof.Proof.Experts.Runs
public import proofs.«01_k».proof.Proof.Experts.Reference
public import Idealize.ShloMosaic.Adequacy
public import Idealize.ShloMosaic.Init

@[expose] public section

set_option maxRecDepth 100000

noncomputable section

namespace Cert.Proof.Experts.Layer0

open Idealize.ShloMosaic Idealize.ShloMosaic.TcCoe Idealize.ShloMosaic.Tactic Idealize.SL.Sem

local instance : Cert.Experts0.Facts := Cert.Experts0.Gen.facts
local instance : Cert.Experts0.Facts := Cert.Experts0.Gen.facts
local instance : Cert.Experts0Ideal.Facts := Cert.Experts0Ideal.Gen.facts
local instance : Cert.ExpertsReference0Ideal.Facts := Cert.ExpertsReference0Ideal.Gen.facts

/-- The printed program's calls and its main are those of the pipeline stated at layer 0. -/
theorem defs_eq : Cert.Experts0.defs (F := Bits) = defsL (F := Bits) 0 := by sl_kernel_rfl
theorem defs_eq_ideal : Cert.Experts0Ideal.defs (F := Ideal) = defsL (F := Ideal) 0 := by sl_kernel_rfl
theorem main_eq : Cert.Experts0.main (F := Bits) = mainL (F := Bits) 0 := by sl_kernel_rfl
theorem main_eq_ideal : Cert.Experts0Ideal.main (F := Ideal) = mainL (F := Ideal) 0 := by sl_kernel_rfl

theorem frame_bits : Cert.quiescent_Experts0 := fun m g h => by
  rw [defs_eq, main_eq]; exact layer_frame (F := Bits) 0 g h

theorem frame_ideal : Cert.quiescent_Experts0Ideal := fun m g h => by
  rw [defs_eq_ideal, main_eq_ideal]; exact layer_frame (F := Ideal) 0 g h

/-! ## The claims -/

theorem frame_reference : Cert.quiescent_ExpertsReference0Ideal := fun m g _ =>
  (θ_run Cert.ExpertsReference0Ideal.defs _ _).mono (fun r h => ⟨fun c => (h c).2, sem_eq_zero_of_no_sems (by decide) r.2⟩)
    (Cert.ExpertsReference0Ideal.Value.run (F := Ideal) m g)

theorem frame_reference_tables : Cert.quiescent_ExpertsReference0Ideal_pre_tables := fun m g _ => frame_reference m g trivial

/-- The kernel's array and the reference's, on arguments that agree and satisfy the precondition. -/
theorem algebraic : Cert.algebraic_Experts0Ideal_ExpertsReference0Ideal := by
  intro m g m' g' hpre hagree
  refine ⟨fun c => resultOf 0 m c, ?_, ?_⟩
  · rw [defs_eq_ideal, main_eq_ideal]; exact layer_value 0 m g hpre
  · refine (θ_run Cert.ExpertsReference0Ideal.defs _ _).mono (fun _ h c => ⟨(h c).1.trans ?_, (h c).2⟩)
      (Cert.ExpertsReference0Ideal.Value.run (F := Ideal) m' g')
    obtain ⟨a0, a1, a2, a3, a4, a5, a6, a7⟩ := hagree c
    refine (Cert.ExpertsReference0Ideal.Read.val_main_v49_eq m' c).trans ?_
    rw [a0, a1, a2, a3, a4, a5, a6, a7]
    obtain ⟨hb, hs, _⟩ := of_tables _ _ _ _ _ _ _ _ (hpre c)
    exact Experts.ref_result _ _ _ _ _ _ _ _ hb hs

end Cert.Proof.Experts.Layer0

end
-- ==== Proof.Experts.Layer1.lean ====
/-
  The experts' call of layer 1: its three frames, and its array against the reference's.
-/
module

public import proofs.«01_k».proof.Defs
public import proofs.«01_k».proof.Proof.Gen.Experts1.Launch
public import proofs.«01_k».proof.Proof.Gen.Experts1Ideal.Launch
public import proofs.«01_k».proof.Proof.Gen.ExpertsReference1Ideal.Run
public import proofs.«01_k».proof.Proof.Gen.ExpertsReference1Ideal.Read
public import proofs.«01_k».proof.Proof.Experts.Runs
public import proofs.«01_k».proof.Proof.Experts.Reference
public import Idealize.ShloMosaic.Adequacy
public import Idealize.ShloMosaic.Init

@[expose] public section

set_option maxRecDepth 100000

noncomputable section

namespace Cert.Proof.Experts.Layer1

open Idealize.ShloMosaic Idealize.ShloMosaic.TcCoe Idealize.ShloMosaic.Tactic Idealize.SL.Sem

local instance : Cert.Experts0.Facts := Cert.Experts0.Gen.facts
local instance : Cert.Experts1.Facts := Cert.Experts1.Gen.facts
local instance : Cert.Experts1Ideal.Facts := Cert.Experts1Ideal.Gen.facts
local instance : Cert.ExpertsReference1Ideal.Facts := Cert.ExpertsReference1Ideal.Gen.facts

/-- The printed program's calls and its main are those of the pipeline stated at layer 1. -/
theorem defs_eq : Cert.Experts1.defs (F := Bits) = defsL (F := Bits) 1 := by sl_kernel_rfl
theorem defs_eq_ideal : Cert.Experts1Ideal.defs (F := Ideal) = defsL (F := Ideal) 1 := by sl_kernel_rfl
theorem main_eq : Cert.Experts1.main (F := Bits) = mainL (F := Bits) 1 := by sl_kernel_rfl
theorem main_eq_ideal : Cert.Experts1Ideal.main (F := Ideal) = mainL (F := Ideal) 1 := by sl_kernel_rfl

theorem frame_bits : Cert.quiescent_Experts1 := fun m g h => by
  rw [defs_eq, main_eq]; exact layer_frame (F := Bits) 1 g h

theorem frame_ideal : Cert.quiescent_Experts1Ideal := fun m g h => by
  rw [defs_eq_ideal, main_eq_ideal]; exact layer_frame (F := Ideal) 1 g h

/-! ## The reference -/

section

open Cert.ExpertsReference0Ideal (S288 S147456x512 S4x32x1024x2048 S4x32x1x2048 S4x32x1024x1024 S4x32x1x1024)

variable (x0 x1 x2 : Vec Ideal S288 .i32) (x3 : Vec Ideal S147456x512 .i32) (x4 : Vec Ideal S4x32x1024x2048 .f32)
  (x5 : Vec Ideal S4x32x1x2048 .f32) (x6 : Vec Ideal S4x32x1024x1024 .f32) (x7 : Vec Ideal S4x32x1x1024 .f32)

/-- Layer 1 of a stack of weights, at every place of the stack. -/
abbrev here {A B C : Nat} (x : Vec Ideal (⟨4, ![4, A, B, C]⟩ : Shape) .f32) : Vec Ideal (⟨4, ![4, A, B, C]⟩ : Shape) .f32 :=
  fun i => x (ValueIdx.ix4 (1 : Fin 4) (i 1 : Fin A) (i 2 : Fin B) (i 3 : Fin C))

theorem slice_gate : Cert.ExpertsReference1Ideal.Read.val_main_v9 (F := Ideal) x4 = Cert.ExpertsReference0Ideal.Read.val_main_v9 (F := Ideal) (here x4) := funext fun i => by
  rw [Cert.ExpertsReference1Ideal.Read.val_main_v9_apply, Cert.ExpertsReference0Ideal.Read.val_main_v9_apply]
  exact congrArg x4 (funext fun (a : Fin 4) => Fin.ext (by
    have h0 : (i 0).val < 1 := (i 0).isLt
    match a with
    | ⟨0, _⟩ => show 1 + (i 0).val = 1; omega
    | ⟨1, _⟩ => rfl
    | ⟨2, _⟩ => rfl
    | ⟨3, _⟩ => rfl))

theorem slice_gateBias : Cert.ExpertsReference1Ideal.Read.val_main_v12 (F := Ideal) x5 = Cert.ExpertsReference0Ideal.Read.val_main_v12 (F := Ideal) (here x5) := funext fun i => by
  rw [Cert.ExpertsReference1Ideal.Read.val_main_v12_apply, Cert.ExpertsReference0Ideal.Read.val_main_v12_apply]
  exact congrArg x5 (funext fun (a : Fin 4) => Fin.ext (by
    have h0 : (i 0).val < 1 := (i 0).isLt
    match a with
    | ⟨0, _⟩ => show 1 + (i 0).val = 1; omega
    | ⟨1, _⟩ => rfl
    | ⟨2, _⟩ => rfl
    | ⟨3, _⟩ => rfl))

theorem slice_down : Cert.ExpertsReference1Ideal.Read.val_main_v15 (F := Ideal) x6 = Cert.ExpertsReference0Ideal.Read.val_main_v15 (F := Ideal) (here x6) := funext fun i => by
  rw [Cert.ExpertsReference1Ideal.Read.val_main_v15_apply, Cert.ExpertsReference0Ideal.Read.val_main_v15_apply]
  exact congrArg x6 (funext fun (a : Fin 4) => Fin.ext (by
    have h0 : (i 0).val < 1 := (i 0).isLt
    match a with
    | ⟨0, _⟩ => show 1 + (i 0).val = 1; omega
    | ⟨1, _⟩ => rfl
    | ⟨2, _⟩ => rfl
    | ⟨3, _⟩ => rfl))

theorem slice_downBias : Cert.ExpertsReference1Ideal.Read.val_main_v18 (F := Ideal) x7 = Cert.ExpertsReference0Ideal.Read.val_main_v18 (F := Ideal) (here x7) := funext fun i => by
  rw [Cert.ExpertsReference1Ideal.Read.val_main_v18_apply, Cert.ExpertsReference0Ideal.Read.val_main_v18_apply]
  exact congrArg x7 (funext fun (a : Fin 4) => Fin.ext (by
    have h0 : (i 0).val < 1 := (i 0).isLt
    match a with
    | ⟨0, _⟩ => show 1 + (i 0).val = 1; omega
    | ⟨1, _⟩ => rfl
    | ⟨2, _⟩ => rfl
    | ⟨3, _⟩ => rfl))

theorem ref_gates : Cert.ExpertsReference1Ideal.Read.val_main_v23 (F := Ideal) x0 x2 x3 x4 x5 = Cert.ExpertsReference0Ideal.Read.val_main_v23 (F := Ideal) x0 x2 x3 (here x4) (here x5) := by
  unfold Cert.ExpertsReference1Ideal.Read.val_main_v23 Cert.ExpertsReference1Ideal.Read.val_main_v22 Cert.ExpertsReference1Ideal.Read.val_main_v21 Cert.ExpertsReference1Ideal.Read.val_main_v14 Cert.ExpertsReference1Ideal.Read.val_main_v13 Cert.ExpertsReference1Ideal.Read.val_main_v11 Cert.ExpertsReference1Ideal.Read.val_main_v10
  rw [slice_gate, slice_gateBias]
  rfl

theorem ref_hidden : Cert.ExpertsReference1Ideal.Read.val_main_v40 (F := Ideal) x0 x2 x3 x4 x5 = Cert.ExpertsReference0Ideal.Read.val_main_v40 (F := Ideal) x0 x2 x3 (here x4) (here x5) := by
  unfold Cert.ExpertsReference1Ideal.Read.val_main_v40 Cert.ExpertsReference1Ideal.Read.val_main_v39 Cert.ExpertsReference1Ideal.Read.val_main_v37 Cert.ExpertsReference1Ideal.Read.val_main_v36 Cert.ExpertsReference1Ideal.Read.val_main_v34 Cert.ExpertsReference1Ideal.Read.val_main_v32 Cert.ExpertsReference1Ideal.Read.val_main_v31 Cert.ExpertsReference1Ideal.Read.val_main_v30
    Cert.ExpertsReference1Ideal.Read.val_main_v28 Cert.ExpertsReference1Ideal.Read.val_main_call5_v2 Cert.ExpertsReference1Ideal.Read.val_main_v27 Cert.ExpertsReference1Ideal.Read.val_main_v26 Cert.ExpertsReference1Ideal.Read.val_main_v24
  rw [ref_gates]
  rfl

theorem ref_layer : Cert.ExpertsReference1Ideal.Read.val_main_v49 (F := Ideal) x0 x1 x2 x3 x4 x5 x6 x7
    = Cert.ExpertsReference0Ideal.Read.val_main_v49 (F := Ideal) x0 x1 x2 x3 (here x4) (here x5) (here x6) (here x7) := by
  unfold Cert.ExpertsReference1Ideal.Read.val_main_v49 Cert.ExpertsReference1Ideal.Read.val_main_v48 Cert.ExpertsReference1Ideal.Read.val_main_v47 Cert.ExpertsReference1Ideal.Read.val_main_v43 Cert.ExpertsReference1Ideal.Read.val_main_v42 Cert.ExpertsReference1Ideal.Read.val_main_v41 Cert.ExpertsReference1Ideal.Read.val_main_v20 Cert.ExpertsReference1Ideal.Read.val_main_v19
    Cert.ExpertsReference1Ideal.Read.val_main_v17 Cert.ExpertsReference1Ideal.Read.val_main_v16
  rw [ref_hidden, slice_down, slice_downBias]
  rfl

theorem ref_result (hb : ∀ j : Fin 288, (x0 (ValueIdx.ix1 j)).toNat < 32) (hs : ∀ j : Fin 288, (x2 (ValueIdx.ix1 j)).toNat < 288) :
    Cert.ExpertsReference1Ideal.Read.val_main_v49 (F := Ideal) x0 x1 x2 x3 x4 x5 x6 x7 = result 1 x0 x1 x2 x3 x4 x5 x6 x7 :=
  (ref_layer x0 x1 x2 x3 x4 x5 x6 x7).trans
    ((Experts.ref_result x0 x1 x2 x3 (here x4) (here x5) (here x6) (here x7) hb hs).trans rfl)

end

/-! ## The claims -/

theorem frame_reference : Cert.quiescent_ExpertsReference1Ideal := fun m g _ =>
  (θ_run Cert.ExpertsReference1Ideal.defs _ _).mono (fun r h => ⟨fun c => (h c).2, sem_eq_zero_of_no_sems (by decide) r.2⟩)
    (Cert.ExpertsReference1Ideal.Value.run (F := Ideal) m g)

theorem frame_reference_tables : Cert.quiescent_ExpertsReference1Ideal_pre_tables := fun m g _ => frame_reference m g trivial

/-- The kernel's array and the reference's, on arguments that agree and satisfy the precondition. -/
theorem algebraic : Cert.algebraic_Experts1Ideal_ExpertsReference1Ideal := by
  intro m g m' g' hpre hagree
  refine ⟨fun c => resultOf 1 m c, ?_, ?_⟩
  · rw [defs_eq_ideal, main_eq_ideal]; exact layer_value 1 m g hpre
  · refine (θ_run Cert.ExpertsReference1Ideal.defs _ _).mono (fun _ h c => ⟨(h c).1.trans ?_, (h c).2⟩)
      (Cert.ExpertsReference1Ideal.Value.run (F := Ideal) m' g')
    obtain ⟨a0, a1, a2, a3, a4, a5, a6, a7⟩ := hagree c
    refine (Cert.ExpertsReference1Ideal.Read.val_main_v49_eq m' c).trans ?_
    rw [a0, a1, a2, a3, a4, a5, a6, a7]
    obtain ⟨hb, hs, _⟩ := of_tables _ _ _ _ _ _ _ _ (hpre c)
    exact ref_result _ _ _ _ _ _ _ _ hb hs

end Cert.Proof.Experts.Layer1

end
-- ==== Proof.Experts.Layer2.lean ====
/-
  The experts' call of layer 2: its three frames, and its array against the reference's.
-/
module

public import proofs.«01_k».proof.Defs
public import proofs.«01_k».proof.Proof.Gen.Experts2.Launch
public import proofs.«01_k».proof.Proof.Gen.Experts2Ideal.Launch
public import proofs.«01_k».proof.Proof.Gen.ExpertsReference2Ideal.Run
public import proofs.«01_k».proof.Proof.Gen.ExpertsReference2Ideal.Read
public import proofs.«01_k».proof.Proof.Experts.Runs
public import proofs.«01_k».proof.Proof.Experts.Reference
public import Idealize.ShloMosaic.Adequacy
public import Idealize.ShloMosaic.Init

@[expose] public section

set_option maxRecDepth 100000

noncomputable section

namespace Cert.Proof.Experts.Layer2

open Idealize.ShloMosaic Idealize.ShloMosaic.TcCoe Idealize.ShloMosaic.Tactic Idealize.SL.Sem

local instance : Cert.Experts0.Facts := Cert.Experts0.Gen.facts
local instance : Cert.Experts2.Facts := Cert.Experts2.Gen.facts
local instance : Cert.Experts2Ideal.Facts := Cert.Experts2Ideal.Gen.facts
local instance : Cert.ExpertsReference2Ideal.Facts := Cert.ExpertsReference2Ideal.Gen.facts

/-- The printed program's calls and its main are those of the pipeline stated at layer 2. -/
theorem defs_eq : Cert.Experts2.defs (F := Bits) = defsL (F := Bits) 2 := by sl_kernel_rfl
theorem defs_eq_ideal : Cert.Experts2Ideal.defs (F := Ideal) = defsL (F := Ideal) 2 := by sl_kernel_rfl
theorem main_eq : Cert.Experts2.main (F := Bits) = mainL (F := Bits) 2 := by sl_kernel_rfl
theorem main_eq_ideal : Cert.Experts2Ideal.main (F := Ideal) = mainL (F := Ideal) 2 := by sl_kernel_rfl

theorem frame_bits : Cert.quiescent_Experts2 := fun m g h => by
  rw [defs_eq, main_eq]; exact layer_frame (F := Bits) 2 g h

theorem frame_ideal : Cert.quiescent_Experts2Ideal := fun m g h => by
  rw [defs_eq_ideal, main_eq_ideal]; exact layer_frame (F := Ideal) 2 g h

/-! ## The reference -/

section

open Cert.ExpertsReference0Ideal (S288 S147456x512 S4x32x1024x2048 S4x32x1x2048 S4x32x1024x1024 S4x32x1x1024)

variable (x0 x1 x2 : Vec Ideal S288 .i32) (x3 : Vec Ideal S147456x512 .i32) (x4 : Vec Ideal S4x32x1024x2048 .f32)
  (x5 : Vec Ideal S4x32x1x2048 .f32) (x6 : Vec Ideal S4x32x1024x1024 .f32) (x7 : Vec Ideal S4x32x1x1024 .f32)

/-- Layer 2 of a stack of weights, at every place of the stack. -/
abbrev here {A B C : Nat} (x : Vec Ideal (⟨4, ![4, A, B, C]⟩ : Shape) .f32) : Vec Ideal (⟨4, ![4, A, B, C]⟩ : Shape) .f32 :=
  fun i => x (ValueIdx.ix4 (2 : Fin 4) (i 1 : Fin A) (i 2 : Fin B) (i 3 : Fin C))

theorem slice_gate : Cert.ExpertsReference2Ideal.Read.val_main_v9 (F := Ideal) x4 = Cert.ExpertsReference0Ideal.Read.val_main_v9 (F := Ideal) (here x4) := funext fun i => by
  rw [Cert.ExpertsReference2Ideal.Read.val_main_v9_apply, Cert.ExpertsReference0Ideal.Read.val_main_v9_apply]
  exact congrArg x4 (funext fun (a : Fin 4) => Fin.ext (by
    have h0 : (i 0).val < 1 := (i 0).isLt
    match a with
    | ⟨0, _⟩ => show 2 + (i 0).val = 2; omega
    | ⟨1, _⟩ => rfl
    | ⟨2, _⟩ => rfl
    | ⟨3, _⟩ => rfl))

theorem slice_gateBias : Cert.ExpertsReference2Ideal.Read.val_main_v12 (F := Ideal) x5 = Cert.ExpertsReference0Ideal.Read.val_main_v12 (F := Ideal) (here x5) := funext fun i => by
  rw [Cert.ExpertsReference2Ideal.Read.val_main_v12_apply, Cert.ExpertsReference0Ideal.Read.val_main_v12_apply]
  exact congrArg x5 (funext fun (a : Fin 4) => Fin.ext (by
    have h0 : (i 0).val < 1 := (i 0).isLt
    match a with
    | ⟨0, _⟩ => show 2 + (i 0).val = 2; omega
    | ⟨1, _⟩ => rfl
    | ⟨2, _⟩ => rfl
    | ⟨3, _⟩ => rfl))

theorem slice_down : Cert.ExpertsReference2Ideal.Read.val_main_v15 (F := Ideal) x6 = Cert.ExpertsReference0Ideal.Read.val_main_v15 (F := Ideal) (here x6) := funext fun i => by
  rw [Cert.ExpertsReference2Ideal.Read.val_main_v15_apply, Cert.ExpertsReference0Ideal.Read.val_main_v15_apply]
  exact congrArg x6 (funext fun (a : Fin 4) => Fin.ext (by
    have h0 : (i 0).val < 1 := (i 0).isLt
    match a with
    | ⟨0, _⟩ => show 2 + (i 0).val = 2; omega
    | ⟨1, _⟩ => rfl
    | ⟨2, _⟩ => rfl
    | ⟨3, _⟩ => rfl))

theorem slice_downBias : Cert.ExpertsReference2Ideal.Read.val_main_v18 (F := Ideal) x7 = Cert.ExpertsReference0Ideal.Read.val_main_v18 (F := Ideal) (here x7) := funext fun i => by
  rw [Cert.ExpertsReference2Ideal.Read.val_main_v18_apply, Cert.ExpertsReference0Ideal.Read.val_main_v18_apply]
  exact congrArg x7 (funext fun (a : Fin 4) => Fin.ext (by
    have h0 : (i 0).val < 1 := (i 0).isLt
    match a with
    | ⟨0, _⟩ => show 2 + (i 0).val = 2; omega
    | ⟨1, _⟩ => rfl
    | ⟨2, _⟩ => rfl
    | ⟨3, _⟩ => rfl))

theorem ref_gates : Cert.ExpertsReference2Ideal.Read.val_main_v23 (F := Ideal) x0 x2 x3 x4 x5 = Cert.ExpertsReference0Ideal.Read.val_main_v23 (F := Ideal) x0 x2 x3 (here x4) (here x5) := by
  unfold Cert.ExpertsReference2Ideal.Read.val_main_v23 Cert.ExpertsReference2Ideal.Read.val_main_v22 Cert.ExpertsReference2Ideal.Read.val_main_v21 Cert.ExpertsReference2Ideal.Read.val_main_v14 Cert.ExpertsReference2Ideal.Read.val_main_v13 Cert.ExpertsReference2Ideal.Read.val_main_v11 Cert.ExpertsReference2Ideal.Read.val_main_v10
  rw [slice_gate, slice_gateBias]
  rfl

theorem ref_hidden : Cert.ExpertsReference2Ideal.Read.val_main_v40 (F := Ideal) x0 x2 x3 x4 x5 = Cert.ExpertsReference0Ideal.Read.val_main_v40 (F := Ideal) x0 x2 x3 (here x4) (here x5) := by
  unfold Cert.ExpertsReference2Ideal.Read.val_main_v40 Cert.ExpertsReference2Ideal.Read.val_main_v39 Cert.ExpertsReference2Ideal.Read.val_main_v37 Cert.ExpertsReference2Ideal.Read.val_main_v36 Cert.ExpertsReference2Ideal.Read.val_main_v34 Cert.ExpertsReference2Ideal.Read.val_main_v32 Cert.ExpertsReference2Ideal.Read.val_main_v31 Cert.ExpertsReference2Ideal.Read.val_main_v30
    Cert.ExpertsReference2Ideal.Read.val_main_v28 Cert.ExpertsReference2Ideal.Read.val_main_call5_v2 Cert.ExpertsReference2Ideal.Read.val_main_v27 Cert.ExpertsReference2Ideal.Read.val_main_v26 Cert.ExpertsReference2Ideal.Read.val_main_v24
  rw [ref_gates]
  rfl

theorem ref_layer : Cert.ExpertsReference2Ideal.Read.val_main_v49 (F := Ideal) x0 x1 x2 x3 x4 x5 x6 x7
    = Cert.ExpertsReference0Ideal.Read.val_main_v49 (F := Ideal) x0 x1 x2 x3 (here x4) (here x5) (here x6) (here x7) := by
  unfold Cert.ExpertsReference2Ideal.Read.val_main_v49 Cert.ExpertsReference2Ideal.Read.val_main_v48 Cert.ExpertsReference2Ideal.Read.val_main_v47 Cert.ExpertsReference2Ideal.Read.val_main_v43 Cert.ExpertsReference2Ideal.Read.val_main_v42 Cert.ExpertsReference2Ideal.Read.val_main_v41 Cert.ExpertsReference2Ideal.Read.val_main_v20 Cert.ExpertsReference2Ideal.Read.val_main_v19
    Cert.ExpertsReference2Ideal.Read.val_main_v17 Cert.ExpertsReference2Ideal.Read.val_main_v16
  rw [ref_hidden, slice_down, slice_downBias]
  rfl

theorem ref_result (hb : ∀ j : Fin 288, (x0 (ValueIdx.ix1 j)).toNat < 32) (hs : ∀ j : Fin 288, (x2 (ValueIdx.ix1 j)).toNat < 288) :
    Cert.ExpertsReference2Ideal.Read.val_main_v49 (F := Ideal) x0 x1 x2 x3 x4 x5 x6 x7 = result 2 x0 x1 x2 x3 x4 x5 x6 x7 :=
  (ref_layer x0 x1 x2 x3 x4 x5 x6 x7).trans
    ((Experts.ref_result x0 x1 x2 x3 (here x4) (here x5) (here x6) (here x7) hb hs).trans rfl)

end

/-! ## The claims -/

theorem frame_reference : Cert.quiescent_ExpertsReference2Ideal := fun m g _ =>
  (θ_run Cert.ExpertsReference2Ideal.defs _ _).mono (fun r h => ⟨fun c => (h c).2, sem_eq_zero_of_no_sems (by decide) r.2⟩)
    (Cert.ExpertsReference2Ideal.Value.run (F := Ideal) m g)

theorem frame_reference_tables : Cert.quiescent_ExpertsReference2Ideal_pre_tables := fun m g _ => frame_reference m g trivial

/-- The kernel's array and the reference's, on arguments that agree and satisfy the precondition. -/
theorem algebraic : Cert.algebraic_Experts2Ideal_ExpertsReference2Ideal := by
  intro m g m' g' hpre hagree
  refine ⟨fun c => resultOf 2 m c, ?_, ?_⟩
  · rw [defs_eq_ideal, main_eq_ideal]; exact layer_value 2 m g hpre
  · refine (θ_run Cert.ExpertsReference2Ideal.defs _ _).mono (fun _ h c => ⟨(h c).1.trans ?_, (h c).2⟩)
      (Cert.ExpertsReference2Ideal.Value.run (F := Ideal) m' g')
    obtain ⟨a0, a1, a2, a3, a4, a5, a6, a7⟩ := hagree c
    refine (Cert.ExpertsReference2Ideal.Read.val_main_v49_eq m' c).trans ?_
    rw [a0, a1, a2, a3, a4, a5, a6, a7]
    obtain ⟨hb, hs, _⟩ := of_tables _ _ _ _ _ _ _ _ (hpre c)
    exact ref_result _ _ _ _ _ _ _ _ hb hs

end Cert.Proof.Experts.Layer2

end
-- ==== Proof.Experts.Layer3.lean ====
/-
  The experts' call of layer 3: its three frames, and its array against the reference's.
-/
module

public import proofs.«01_k».proof.Defs
public import proofs.«01_k».proof.Proof.Gen.Experts3.Launch
public import proofs.«01_k».proof.Proof.Gen.Experts3Ideal.Launch
public import proofs.«01_k».proof.Proof.Gen.ExpertsReference3Ideal.Run
public import proofs.«01_k».proof.Proof.Gen.ExpertsReference3Ideal.Read
public import proofs.«01_k».proof.Proof.Experts.Runs
public import proofs.«01_k».proof.Proof.Experts.Reference
public import Idealize.ShloMosaic.Adequacy
public import Idealize.ShloMosaic.Init

@[expose] public section

set_option maxRecDepth 100000

noncomputable section

namespace Cert.Proof.Experts.Layer3

open Idealize.ShloMosaic Idealize.ShloMosaic.TcCoe Idealize.ShloMosaic.Tactic Idealize.SL.Sem

local instance : Cert.Experts0.Facts := Cert.Experts0.Gen.facts
local instance : Cert.Experts3.Facts := Cert.Experts3.Gen.facts
local instance : Cert.Experts3Ideal.Facts := Cert.Experts3Ideal.Gen.facts
local instance : Cert.ExpertsReference3Ideal.Facts := Cert.ExpertsReference3Ideal.Gen.facts

/-- The printed program's calls and its main are those of the pipeline stated at layer 3. -/
theorem defs_eq : Cert.Experts3.defs (F := Bits) = defsL (F := Bits) 3 := by sl_kernel_rfl
theorem defs_eq_ideal : Cert.Experts3Ideal.defs (F := Ideal) = defsL (F := Ideal) 3 := by sl_kernel_rfl
theorem main_eq : Cert.Experts3.main (F := Bits) = mainL (F := Bits) 3 := by sl_kernel_rfl
theorem main_eq_ideal : Cert.Experts3Ideal.main (F := Ideal) = mainL (F := Ideal) 3 := by sl_kernel_rfl

theorem frame_bits : Cert.quiescent_Experts3 := fun m g h => by
  rw [defs_eq, main_eq]; exact layer_frame (F := Bits) 3 g h

theorem frame_ideal : Cert.quiescent_Experts3Ideal := fun m g h => by
  rw [defs_eq_ideal, main_eq_ideal]; exact layer_frame (F := Ideal) 3 g h

/-! ## The reference -/

section

open Cert.ExpertsReference0Ideal (S288 S147456x512 S4x32x1024x2048 S4x32x1x2048 S4x32x1024x1024 S4x32x1x1024)

variable (x0 x1 x2 : Vec Ideal S288 .i32) (x3 : Vec Ideal S147456x512 .i32) (x4 : Vec Ideal S4x32x1024x2048 .f32)
  (x5 : Vec Ideal S4x32x1x2048 .f32) (x6 : Vec Ideal S4x32x1024x1024 .f32) (x7 : Vec Ideal S4x32x1x1024 .f32)

/-- Layer 3 of a stack of weights, at every place of the stack. -/
abbrev here {A B C : Nat} (x : Vec Ideal (⟨4, ![4, A, B, C]⟩ : Shape) .f32) : Vec Ideal (⟨4, ![4, A, B, C]⟩ : Shape) .f32 :=
  fun i => x (ValueIdx.ix4 (3 : Fin 4) (i 1 : Fin A) (i 2 : Fin B) (i 3 : Fin C))

theorem slice_gate : Cert.ExpertsReference3Ideal.Read.val_main_v9 (F := Ideal) x4 = Cert.ExpertsReference0Ideal.Read.val_main_v9 (F := Ideal) (here x4) := funext fun i => by
  rw [Cert.ExpertsReference3Ideal.Read.val_main_v9_apply, Cert.ExpertsReference0Ideal.Read.val_main_v9_apply]
  exact congrArg x4 (funext fun (a : Fin 4) => Fin.ext (by
    have h0 : (i 0).val < 1 := (i 0).isLt
    match a with
    | ⟨0, _⟩ => show 3 + (i 0).val = 3; omega
    | ⟨1, _⟩ => rfl
    | ⟨2, _⟩ => rfl
    | ⟨3, _⟩ => rfl))

theorem slice_gateBias : Cert.ExpertsReference3Ideal.Read.val_main_v12 (F := Ideal) x5 = Cert.ExpertsReference0Ideal.Read.val_main_v12 (F := Ideal) (here x5) := funext fun i => by
  rw [Cert.ExpertsReference3Ideal.Read.val_main_v12_apply, Cert.ExpertsReference0Ideal.Read.val_main_v12_apply]
  exact congrArg x5 (funext fun (a : Fin 4) => Fin.ext (by
    have h0 : (i 0).val < 1 := (i 0).isLt
    match a with
    | ⟨0, _⟩ => show 3 + (i 0).val = 3; omega
    | ⟨1, _⟩ => rfl
    | ⟨2, _⟩ => rfl
    | ⟨3, _⟩ => rfl))

theorem slice_down : Cert.ExpertsReference3Ideal.Read.val_main_v15 (F := Ideal) x6 = Cert.ExpertsReference0Ideal.Read.val_main_v15 (F := Ideal) (here x6) := funext fun i => by
  rw [Cert.ExpertsReference3Ideal.Read.val_main_v15_apply, Cert.ExpertsReference0Ideal.Read.val_main_v15_apply]
  exact congrArg x6 (funext fun (a : Fin 4) => Fin.ext (by
    have h0 : (i 0).val < 1 := (i 0).isLt
    match a with
    | ⟨0, _⟩ => show 3 + (i 0).val = 3; omega
    | ⟨1, _⟩ => rfl
    | ⟨2, _⟩ => rfl
    | ⟨3, _⟩ => rfl))

theorem slice_downBias : Cert.ExpertsReference3Ideal.Read.val_main_v18 (F := Ideal) x7 = Cert.ExpertsReference0Ideal.Read.val_main_v18 (F := Ideal) (here x7) := funext fun i => by
  rw [Cert.ExpertsReference3Ideal.Read.val_main_v18_apply, Cert.ExpertsReference0Ideal.Read.val_main_v18_apply]
  exact congrArg x7 (funext fun (a : Fin 4) => Fin.ext (by
    have h0 : (i 0).val < 1 := (i 0).isLt
    match a with
    | ⟨0, _⟩ => show 3 + (i 0).val = 3; omega
    | ⟨1, _⟩ => rfl
    | ⟨2, _⟩ => rfl
    | ⟨3, _⟩ => rfl))

theorem ref_gates : Cert.ExpertsReference3Ideal.Read.val_main_v23 (F := Ideal) x0 x2 x3 x4 x5 = Cert.ExpertsReference0Ideal.Read.val_main_v23 (F := Ideal) x0 x2 x3 (here x4) (here x5) := by
  unfold Cert.ExpertsReference3Ideal.Read.val_main_v23 Cert.ExpertsReference3Ideal.Read.val_main_v22 Cert.ExpertsReference3Ideal.Read.val_main_v21 Cert.ExpertsReference3Ideal.Read.val_main_v14 Cert.ExpertsReference3Ideal.Read.val_main_v13 Cert.ExpertsReference3Ideal.Read.val_main_v11 Cert.ExpertsReference3Ideal.Read.val_main_v10
  rw [slice_gate, slice_gateBias]
  rfl

theorem ref_hidden : Cert.ExpertsReference3Ideal.Read.val_main_v40 (F := Ideal) x0 x2 x3 x4 x5 = Cert.ExpertsReference0Ideal.Read.val_main_v40 (F := Ideal) x0 x2 x3 (here x4) (here x5) := by
  unfold Cert.ExpertsReference3Ideal.Read.val_main_v40 Cert.ExpertsReference3Ideal.Read.val_main_v39 Cert.ExpertsReference3Ideal.Read.val_main_v37 Cert.ExpertsReference3Ideal.Read.val_main_v36 Cert.ExpertsReference3Ideal.Read.val_main_v34 Cert.ExpertsReference3Ideal.Read.val_main_v32 Cert.ExpertsReference3Ideal.Read.val_main_v31 Cert.ExpertsReference3Ideal.Read.val_main_v30
    Cert.ExpertsReference3Ideal.Read.val_main_v28 Cert.ExpertsReference3Ideal.Read.val_main_call5_v2 Cert.ExpertsReference3Ideal.Read.val_main_v27 Cert.ExpertsReference3Ideal.Read.val_main_v26 Cert.ExpertsReference3Ideal.Read.val_main_v24
  rw [ref_gates]
  rfl

theorem ref_layer : Cert.ExpertsReference3Ideal.Read.val_main_v49 (F := Ideal) x0 x1 x2 x3 x4 x5 x6 x7
    = Cert.ExpertsReference0Ideal.Read.val_main_v49 (F := Ideal) x0 x1 x2 x3 (here x4) (here x5) (here x6) (here x7) := by
  unfold Cert.ExpertsReference3Ideal.Read.val_main_v49 Cert.ExpertsReference3Ideal.Read.val_main_v48 Cert.ExpertsReference3Ideal.Read.val_main_v47 Cert.ExpertsReference3Ideal.Read.val_main_v43 Cert.ExpertsReference3Ideal.Read.val_main_v42 Cert.ExpertsReference3Ideal.Read.val_main_v41 Cert.ExpertsReference3Ideal.Read.val_main_v20 Cert.ExpertsReference3Ideal.Read.val_main_v19
    Cert.ExpertsReference3Ideal.Read.val_main_v17 Cert.ExpertsReference3Ideal.Read.val_main_v16
  rw [ref_hidden, slice_down, slice_downBias]
  rfl

theorem ref_result (hb : ∀ j : Fin 288, (x0 (ValueIdx.ix1 j)).toNat < 32) (hs : ∀ j : Fin 288, (x2 (ValueIdx.ix1 j)).toNat < 288) :
    Cert.ExpertsReference3Ideal.Read.val_main_v49 (F := Ideal) x0 x1 x2 x3 x4 x5 x6 x7 = result 3 x0 x1 x2 x3 x4 x5 x6 x7 :=
  (ref_layer x0 x1 x2 x3 x4 x5 x6 x7).trans
    ((Experts.ref_result x0 x1 x2 x3 (here x4) (here x5) (here x6) (here x7) hb hs).trans rfl)

end

/-! ## The claims -/

theorem frame_reference : Cert.quiescent_ExpertsReference3Ideal := fun m g _ =>
  (θ_run Cert.ExpertsReference3Ideal.defs _ _).mono (fun r h => ⟨fun c => (h c).2, sem_eq_zero_of_no_sems (by decide) r.2⟩)
    (Cert.ExpertsReference3Ideal.Value.run (F := Ideal) m g)

theorem frame_reference_tables : Cert.quiescent_ExpertsReference3Ideal_pre_tables := fun m g _ => frame_reference m g trivial

/-- The kernel's array and the reference's, on arguments that agree and satisfy the precondition. -/
theorem algebraic : Cert.algebraic_Experts3Ideal_ExpertsReference3Ideal := by
  intro m g m' g' hpre hagree
  refine ⟨fun c => resultOf 3 m c, ?_, ?_⟩
  · rw [defs_eq_ideal, main_eq_ideal]; exact layer_value 3 m g hpre
  · refine (θ_run Cert.ExpertsReference3Ideal.defs _ _).mono (fun _ h c => ⟨(h c).1.trans ?_, (h c).2⟩)
      (Cert.ExpertsReference3Ideal.Value.run (F := Ideal) m' g')
    obtain ⟨a0, a1, a2, a3, a4, a5, a6, a7⟩ := hagree c
    refine (Cert.ExpertsReference3Ideal.Read.val_main_v49_eq m' c).trans ?_
    rw [a0, a1, a2, a3, a4, a5, a6, a7]
    obtain ⟨hb, hs, _⟩ := of_tables _ _ _ _ _ _ _ _ (hpre c)
    exact ref_result _ _ _ _ _ _ _ _ hb hs

end Cert.Proof.Experts.Layer3

end
-- ==== Proof.OutProjection.Array.lean ====
/-
  The output projection of the mixed layers. A grid point leaves in its block of 1024 rows the residual rows plus the gate
  times the sum of two products, one per attention branch; the blocks of the 32 points are one array, `result`. The
  reference joins the two branches and the two weights and takes one product over 2048 features: the same sum, split in two.
-/
module

public import proofs.«01_k».proof.Proof.Gen.ProjectABIdeal.Value
public import proofs.«01_k».proof.Proof.Gen.ProjectABReferenceIdeal.Read
public import Idealize.ShloMosaic.Lib.Pipeline.ValueKit
public import Idealize.ShloMosaic.Lib.Pointwise
public import Idealize.ShloMosaic.Lib.MatmulPlain

@[expose] public section

set_option maxRecDepth 16384

noncomputable section

namespace Cert.OutProjection

open Cert.ProjectABIdeal Cert.ProjectABIdeal.Gen Idealize.ShloMosaic.ValueIdx Idealize.ShloMosaic.TcCoe Idealize.SL.Sem
open Idealize.ShloMosaic hiding ix1 ix2 ix3 ix4

/-- A row of the first branch and a row of the second, each through its own weights, at one output column. -/
def twice (a b : Fin 1024 → EReal) (u v : Fin 1024 → EReal) : EReal := (∑ k, a k * u k) + ∑ k, b k * v k

/-- What one grid point computes from its six blocks. -/
def blockOut (x0 x1 x2 x3 : Vec Ideal S1024x1024 .bf16) (x4 : Vec Ideal S1024x1024 .f32) (x5 : Vec Ideal S1x1x1024 .f32)
    (y : S1024x1024.Idx) : EReal :=
  x4 y + x5 (ix3 (0 : Fin 1) (0 : Fin 1) (y 1 : Fin 1024))
    * twice (fun k => x0 (ix2 (y 0 : Fin 1024) k)) (fun k => x1 (ix2 (y 0 : Fin 1024) k))
        (fun k => x2 (ix2 k (y 1 : Fin 1024))) (fun k => x3 (ix2 k (y 1 : Fin 1024)))

theorem product_apply (a w : Vec Ideal S1024x1024 .bf16) (r c : Fin 1024) :
    matmul (F := Ideal) (φ₁ := .bf16) (φ₂ := .bf16) dot_S1024x1024_S1024x1024_S1024x1024_1_0_0_1_n_n none a w
      (constant S1024x1024 .f32 0x00000000#32) (ix2 r c) = ∑ k : Fin 1024, a (ix2 r k) * w (ix2 k c) := by
  refine (Ideal.matmul_plain_apply (M := 1024) (K := 1024) (N := 1024) (φ₁ := .bf16) (φ₂ := .bf16) none a w
    (constant S1024x1024 .f32 0x00000000#32) r c).trans ?_
  rw [ValueIdx.constant_apply, Ideal.ofBits_zero_f32, zero_add]

theorem body_apply (x0 x1 x2 x3 : Vec Ideal S1024x1024 .bf16) (x4 : Vec Ideal S1024x1024 .f32) (x5 : Vec Ideal S1x1x1024 .f32)
    (r c : Fin 1024) : k0_pay1 (F := Ideal) x4 x5 x0 x2 x1 x3 (ix2 r c) = blockOut x0 x1 x2 x3 x4 x5 (ix2 r c) := by
  unfold k0_pay1 blockOut twice
  refine congrArg (fun a : EReal => x4 (ix2 r c) + a) (congrArg₂ (fun a b : EReal => a * b) ?_
    (congrArg₂ (fun a b : EReal => a + b) (product_apply x0 x2 r c) (product_apply x1 x3 r c)))
  simp only [pointwise]
  exact congrArg x5 (by funext a; match a with | ⟨0, _⟩ => rfl | ⟨1, _⟩ => rfl | ⟨2, _⟩ => rfl)

theorem whole2 {e : EltTy} (x : Vec Ideal S1024x1024 e) : View.ld x r0_0 = x := by
  funext y
  exact View.ld_unit_apply_of x _ _ _ _ _ fun a => by match a with | ⟨0, _⟩ => exact (Nat.zero_add _).symm | ⟨1, _⟩ => exact (Nat.zero_add _).symm

theorem whole3 {e : EltTy} (x : Vec Ideal S1x1x1024 e) : View.ld x r0_1 = x := by
  funext y
  exact View.ld_unit_apply_of x _ _ _ _ _ fun a => by
    match a with | ⟨0, _⟩ => exact (Nat.zero_add _).symm | ⟨1, _⟩ => exact (Nat.zero_add _).symm | ⟨2, _⟩ => exact (Nat.zero_add _).symm

theorem out_apply (x0 x1 x2 x3 : Vec Ideal S1024x1024 .bf16) (x4 : Vec Ideal S1024x1024 .f32) (x5 : Vec Ideal S1x1x1024 .f32)
    (y : S1024x1024.Idx) : out0_6 (F := Ideal) x0 x1 x2 x3 x4 x5 y = blockOut x0 x1 x2 x3 x4 x5 y := by
  unfold out0_6
  refine View.canon_apply_of_pieces (Val := Elt Ideal) (e := .f32) (blockOut x0 x1 x2 x3 x4 x5) _ (fun p hp x => ?_) y (cover0_6 _ y)
  simp only [List.mem_cons, List.not_mem_nil, or_false] at hp
  rcases hp with rfl
  have hy : (r0_0 : Rect S1024x1024).emb x = x := by
    funext a; apply Fin.ext
    refine (Rect.idx_unit_val _ _ _ x a).trans ?_
    match a with | ⟨0, _⟩ => exact Nat.zero_add _ | ⟨1, _⟩ => exact Nat.zero_add _
  refine Eq.trans ?_ (congrArg (blockOut x0 x1 x2 x3 x4 x5) hy).symm
  show k0_pay1 (F := Ideal) (View.ld x4 r0_0) (View.ld x5 r0_1) (View.ld x0 r0_0) (View.ld x2 r0_0) (View.ld x1 r0_0) (View.ld x3 r0_0) x = _
  rw [whole2 x4, whole2 x0, whole2 x1, whole2 x2, whole2 x3, whole3 x5]
  have e := ValueIdx.eq_ix2 x
  refine (congrArg _ e).trans ((body_apply x0 x1 x2 x3 x4 x5 (x 0) (x 1)).trans (congrArg (blockOut x0 x1 x2 x3 x4 x5) e.symm))

/-- The whole result: the residual plus the gate of the row's batch times the two products. -/
def result (x0 x1 : Vec Ideal S32768x1024 .bf16) (x2 x3 : Vec Ideal S1024x1024 .bf16) (x4 : Vec Ideal S32768x1024 .f32)
    (x5 : Vec Ideal S8x1x1024 .f32) (i : S32768x1024.Idx) : EReal :=
  x4 i + x5 (ix3 (⟨(i 0).val / 4096, by have := idx2_lt0 i; omega⟩ : Fin 8) (0 : Fin 1) (i 1 : Fin 1024))
    * twice (fun k => x0 (ix2 (i 0 : Fin 32768) k)) (fun k => x1 (ix2 (i 0 : Fin 32768) k))
        (fun k => x2 (ix2 k (i 1 : Fin 1024))) (fun k => x3 (ix2 k (i 1 : Fin 1024)))

variable (m : (ℓ : Loc nD τ sig) → Buf (Elt Ideal) ℓ) (c : Dev nD)

theorem index0 : ∀ t : Fin cfg0.N, win0_0.index t = ![t.val, 0] :=
  (by decide +kernel : ∀ t : Fin grid0.N, win0_0.index t = ![t.val, 0])
theorem index1 : ∀ t : Fin cfg0.N, win0_1.index t = ![t.val, 0] :=
  (by decide +kernel : ∀ t : Fin grid0.N, win0_1.index t = ![t.val, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index4 : ∀ t : Fin cfg0.N, win0_4.index t = ![t.val, 0] :=
  (by decide +kernel : ∀ t : Fin grid0.N, win0_4.index t = ![t.val, 0])
theorem index5 : ∀ t : Fin cfg0.N, win0_5.index t = ![t.val / 4, 0, 0] :=
  (by decide +kernel : ∀ t : Fin grid0.N, win0_5.index t = ![t.val / 4, 0, 0])
theorem index6 : ∀ t : Fin cfg0.N, win0_6.index t = ![t.val, 0] :=
  (by decide +kernel : ∀ t : Fin grid0.N, win0_6.index t = ![t.val, 0])

/-- The position of an element of a block in the array it is a block of, window by window. -/
theorem at0 (t : Fin cfg0.N) (y : S1024x1024.Idx) (i : S32768x1024.Idx)
    (h0 : (i 0).val = t.val * 1024 + (y 0).val) (h1 : (i 1).val = 0 * 1024 + (y 1).val) :
    iblk m c 0 t y = m ((c : Thread nD τ).loc main_arg0) i := by
  show V m c main_arg0 ((win0_0.blk t).view.emb y) = _
  refine congrArg (m ((c : Thread nD τ).loc main_arg0)) (funext fun a => Fin.ext ?_)
  have e := index0 t
  match a with
  | ⟨0, _⟩ => blk_simp; rw [e]; exact h0.symm
  | ⟨1, _⟩ => blk_simp; rw [e]; exact h1.symm

theorem at1 (t : Fin cfg0.N) (y : S1024x1024.Idx) (i : S32768x1024.Idx)
    (h0 : (i 0).val = t.val * 1024 + (y 0).val) (h1 : (i 1).val = 0 * 1024 + (y 1).val) :
    iblk m c 1 t y = m ((c : Thread nD τ).loc main_arg1) i := by
  show V m c main_arg1 ((win0_1.blk t).view.emb y) = _
  refine congrArg (m ((c : Thread nD τ).loc main_arg1)) (funext fun a => Fin.ext ?_)
  have e := index1 t
  match a with
  | ⟨0, _⟩ => blk_simp; rw [e]; exact h0.symm
  | ⟨1, _⟩ => blk_simp; rw [e]; exact h1.symm

theorem at2 (t : Fin cfg0.N) (y i : S1024x1024.Idx)
    (h0 : (i 0).val = 0 * 1024 + (y 0).val) (h1 : (i 1).val = 0 * 1024 + (y 1).val) :
    iblk m c 2 t y = m ((c : Thread nD τ).loc main_arg2) i := by
  show V m c main_arg2 ((win0_2.blk t).view.emb y) = _
  refine congrArg (m ((c : Thread nD τ).loc main_arg2)) (funext fun a => Fin.ext ?_)
  have e := index2 t
  match a with
  | ⟨0, _⟩ => blk_simp; rw [e]; exact h0.symm
  | ⟨1, _⟩ => blk_simp; rw [e]; exact h1.symm

theorem at3 (t : Fin cfg0.N) (y i : S1024x1024.Idx)
    (h0 : (i 0).val = 0 * 1024 + (y 0).val) (h1 : (i 1).val = 0 * 1024 + (y 1).val) :
    iblk m c 3 t y = m ((c : Thread nD τ).loc main_arg3) i := by
  show V m c main_arg3 ((win0_3.blk t).view.emb y) = _
  refine congrArg (m ((c : Thread nD τ).loc main_arg3)) (funext fun a => Fin.ext ?_)
  have e := index3 t
  match a with
  | ⟨0, _⟩ => blk_simp; rw [e]; exact h0.symm
  | ⟨1, _⟩ => blk_simp; rw [e]; exact h1.symm

theorem at4 (t : Fin cfg0.N) (y : S1024x1024.Idx) (i : S32768x1024.Idx)
    (h0 : (i 0).val = t.val * 1024 + (y 0).val) (h1 : (i 1).val = 0 * 1024 + (y 1).val) :
    iblk m c 4 t y = m ((c : Thread nD τ).loc main_arg4) i := by
  show V m c main_arg4 ((win0_4.blk t).view.emb y) = _
  refine congrArg (m ((c : Thread nD τ).loc main_arg4)) (funext fun a => Fin.ext ?_)
  have e := index4 t
  match a with
  | ⟨0, _⟩ => blk_simp; rw [e]; exact h0.symm
  | ⟨1, _⟩ => blk_simp; rw [e]; exact h1.symm

theorem at5 (t : Fin cfg0.N) (y : S1x1x1024.Idx) (i : S8x1x1024.Idx)
    (h0 : (i 0).val = t.val / 4) (h2 : (i 2).val = 0 * 1024 + (y 2).val) :
    iblk m c 5 t y = m ((c : Thread nD τ).loc main_arg5) i := by
  show V m c main_arg5 ((win0_5.blk t).view.emb y) = _
  refine congrArg (m ((c : Thread nD τ).loc main_arg5)) (funext fun a => Fin.ext ?_)
  have e := index5 t
  match a with
  | ⟨0, _⟩ => blk_simp; rw [e]; exact h0.symm
  | ⟨1, _⟩ => blk_simp; rw [e]; rfl
  | ⟨2, _⟩ => blk_simp; rw [e]; exact h2.symm

theorem at6 (t : Fin cfg0.N) (y : S1024x1024.Idx) :
    (((win0_6.blk t).view.emb y) 0).val = t.val * 1024 + (y 0).val
      ∧ (((win0_6.blk t).view.emb y) 1).val = (y 1).val := by
  have e := index6 t
  constructor
  · blk_simp; rw [e]; rfl
  · blk_simp; rw [e]; show 0 * 1024 + (y 1).val = (y 1).val; omega

/-- Read at a block's element, `result` is what the block's grid point computes. -/
theorem blockOut_eq_result (t : Fin cfg0.N) (y : S1024x1024.Idx) :
    blockOut (iblk m c 0 t) (iblk m c 1 t) (iblk m c 2 t) (iblk m c 3 t) (iblk m c 4 t) (iblk m c 5 t) y
      = result (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) ((win0_6.blk t).view.emb y) := by
  obtain ⟨r0, r⟩ := at6 t y
  have r1 : (((win0_6.blk t).view.emb y) 1).val = 0 * 1024 + (y 1).val := by omega
  have ht : t.val < 32 := t.isLt
  have y0 : (y 0).val < 1024 := idx2_lt0 y
  unfold blockOut result twice
  refine congrArg₂ (fun a b : EReal => a + b) (at4 m c t _ _ r0 r1) (congrArg₂ (fun a b : EReal => a * b) ?_
    (congrArg₂ (fun a b : EReal => a + b) (Finset.sum_congr rfl fun k _ => congrArg₂ (fun a b : EReal => a * b) ?_ ?_)
      (Finset.sum_congr rfl fun k _ => congrArg₂ (fun a b : EReal => a * b) ?_ ?_)))
  · refine at5 m c t _ _ ?_ r1
    show (((win0_6.blk t).view.emb y) 0).val / 4096 = t.val / 4
    omega
  · exact at0 m c t _ _ r0 (Nat.zero_add _).symm
  · exact at2 m c t _ _ (Nat.zero_add _).symm r1
  · exact at1 m c t _ _ r0 (Nat.zero_add _).symm
  · exact at3 m c t _ _ (Nat.zero_add _).symm r1

theorem final : (dats m 0 c).arrAt 6 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  exact (out_apply _ _ _ _ _ _ y).trans (blockOut_eq_result m c t y)

/-! ## The reference -/

theorem joined_columns (x y : Vec Ideal S32768x1024 .bf16) (r : Fin 32768) (k : Fin (1024 + 1024)) (h) :
    concatenate Cert.ProjectABReferenceIdeal.S32768x2048 1 [⟨S32768x1024, x⟩, ⟨S32768x1024, y⟩] h (ix2 r k)
      = Fin.addCases (fun k => x (ix2 r k)) (fun k => y (ix2 r k)) k := by
  refine Fin.addCases (fun j => ?_) (fun j => ?_) k
  · rw [Fin.addCases_left]
    exact concatenate_pair_apply_left (t := Cert.ProjectABReferenceIdeal.S32768x2048) (s₁ := S32768x1024) (s₂ := S32768x1024) 1 x y h _ rfl
      (ix2 r j) fun b => by match b with | ⟨0, _⟩ => rfl | ⟨1, _⟩ => rfl
  · rw [Fin.addCases_right]
    exact concatenate_pair_apply_right (t := Cert.ProjectABReferenceIdeal.S32768x2048) (s₁ := S32768x1024) (s₂ := S32768x1024) 1 x y h _ rfl rfl
      (ix2 r j) (fun b hb => by match b with | ⟨0, _⟩ => rfl | ⟨1, _⟩ => exact absurd rfl hb) (Nat.add_comm _ _)

theorem joined_rows (x y : Vec Ideal S1024x1024 .bf16) (k : Fin (1024 + 1024)) (n : Fin 1024) (h) :
    concatenate Cert.ProjectABReferenceIdeal.S2048x1024 0 [⟨S1024x1024, x⟩, ⟨S1024x1024, y⟩] h (ix2 k n)
      = Fin.addCases (fun k => x (ix2 k n)) (fun k => y (ix2 k n)) k := by
  refine Fin.addCases (fun j => ?_) (fun j => ?_) k
  · rw [Fin.addCases_left]
    exact concatenate_pair_apply_left (t := Cert.ProjectABReferenceIdeal.S2048x1024) (s₁ := S1024x1024) (s₂ := S1024x1024) 0 x y h _ rfl
      (ix2 j n) fun b => by match b with | ⟨0, _⟩ => rfl | ⟨1, _⟩ => rfl
  · rw [Fin.addCases_right]
    exact concatenate_pair_apply_right (t := Cert.ProjectABReferenceIdeal.S2048x1024) (s₁ := S1024x1024) (s₂ := S1024x1024) 0 x y h _ rfl rfl
      (ix2 j n) (fun b hb => by match b with | ⟨0, _⟩ => exact absurd rfl hb | ⟨1, _⟩ => rfl) (Nat.add_comm _ _)

open Cert.ProjectABReferenceIdeal.Read in
theorem product_eq (x0 x1 : Vec Ideal S32768x1024 .bf16) (x2 x3 : Vec Ideal S1024x1024 .bf16) (r : Fin 32768) (n : Fin 1024) :
    val_main_v4 (F := Ideal) x0 x1 x2 x3 (ix2 r n)
      = twice (fun k => x0 (ix2 r k)) (fun k => x1 (ix2 r k)) (fun k => x2 (ix2 k n)) (fun k => x3 (ix2 k n)) := by
  refine (val_main_v4_apply x0 x1 x2 x3 (ix2 r n)).trans ?_
  refine (Finset.sum_congr rfl (g := fun k : Fin (1024 + 1024) =>
    (Fin.addCases (fun k => x0 (ix2 r k)) (fun k => x1 (ix2 r k)) k : EReal)
      * Fin.addCases (fun k => x2 (ix2 k n)) (fun k => x3 (ix2 k n)) k) fun k _ =>
    congrArg₂ (fun a b : EReal => a * b) ?_ ?_).trans ?_
  · refine Eq.trans ?_ (joined_columns x0 x1 r k Cert.ProjectABReferenceIdeal.Facts₀.concatenates_S32768x1024_S32768x1024_S32768x2048_d1)
    exact congrArg (val_main_v0 (F := Ideal) x0 x1) (by funext a; match a with | ⟨0, _⟩ => rfl | ⟨1, _⟩ => rfl)
  · refine Eq.trans ?_ (joined_rows x2 x3 k n Cert.ProjectABReferenceIdeal.Facts₀.concatenates_S1024x1024_S1024x1024_S2048x1024_d0)
    exact congrArg (val_main_v2 (F := Ideal) x2 x3) (by funext a; match a with | ⟨0, _⟩ => rfl | ⟨1, _⟩ => rfl)
  · refine (Fin.sum_univ_add (a := 1024) (b := 1024) (M := EReal) _).trans ?_
    simp only [Fin.addCases_left, Fin.addCases_right]
    rfl

open Cert.ProjectABReferenceIdeal.Read in
theorem result_eq_reference (x0 x1 : Vec Ideal S32768x1024 .bf16) (x2 x3 : Vec Ideal S1024x1024 .bf16) (x4 : Vec Ideal S32768x1024 .f32)
    (x5 : Vec Ideal S8x1x1024 .f32) :
    val_main_v10 (F := Ideal) x0 x1 x2 x3 x4 x5 = result x0 x1 x2 x3 x4 x5 := by
  funext i
  have h0 : (i 0).val < 32768 := idx2_lt0 i
  have h1 : (i 1).val < 1024 := idx2_lt1 i
  rw [val_main_v10_apply, val_main_v9_apply, val_main_v8_apply, val_main_v7_apply, val_main_v6_apply, val_main_v5_apply]
  have e : idx_main_v5 (idx_main_v10 i) = i := by
    funext a; apply Fin.ext
    match a with
    | ⟨0, _⟩ =>
      show ((((i 0).val * 1024 + (i 1).val) / 4194304 * 4096 + ((i 0).val * 1024 + (i 1).val) / 1024 % 4096) * 1024
        + ((i 0).val * 1024 + (i 1).val) % 1024) / 1024 = (i 0).val
      omega
    | ⟨1, _⟩ =>
      show ((((i 0).val * 1024 + (i 1).val) / 4194304 * 4096 + ((i 0).val * 1024 + (i 1).val) / 1024 % 4096) * 1024
        + ((i 0).val * 1024 + (i 1).val) % 1024) % 1024 = (i 1).val
      omega
  have e6 : idx_main_v6 (idx_main_v10 i) = ix2 (i 0) (i 1) := (show _ = _ from e).trans (ValueIdx.eq_ix2 i)
  rw [e, e6]
  unfold result
  refine congrArg (fun a : EReal => x4 i + a) (congrArg₂ (fun a b : EReal => a * b) (congrArg x5 ?_) (product_eq x0 x1 x2 x3 (i 0) (i 1)))
  funext a; apply Fin.ext
  match a with
  | ⟨0, _⟩ => show ((i 0).val * 1024 + (i 1).val) / 4194304 = (i 0).val / 4096; omega
  | ⟨1, _⟩ => rfl
  | ⟨2, _⟩ => show ((i 0).val * 1024 + (i 1).val) % 1024 = (i 1).val; omega

end Cert.OutProjection

end
-- ==== Proof.Dilated.Block.lean ====
/-
  The normalisation, projection and rotation of one block of 1024 rows. The block's body normalises its rows once, keeps
  them, multiplies them by three blocks of 1024 columns of weights, and writes the product in 24 groups of 128 columns:
  eight query heads, turned and scaled; eight key heads, turned; eight value heads as they are.
-/
module

public import proofs.«01_k».proof.Proof.Gen.ProjectDilIdeal.Value
public import Idealize.ShloMosaic.Lib.Pipeline.ValueKit
public import Idealize.ShloMosaic.Lib.Pointwise
public import Idealize.ShloMosaic.Lib.MatmulPlain
public import Idealize.ShloMosaic.Lib.KernelVsHost
public import Idealize.ShloMosaic.Lib.WholeRead

@[expose] public section

set_option maxRecDepth 16384

noncomputable section

namespace Cert.Dilated

open Cert.ProjectDilIdeal Cert.ProjectDilIdeal.Gen Idealize.ShloMosaic.ValueIdx Idealize.ShloMosaic.TcCoe Idealize.SL.Sem
open Idealize.ShloMosaic hiding ix1 ix2 ix3 ix4

/-! ## The mathematics of one row -/

/-- A row divided by its root mean square, times a gain, then scaled by one plus `sc` and shifted by `sh`. -/
def normed (x g sc sh : Fin 1024 → EReal) (k : Fin 1024) : EReal :=
  x k * Ideal.rsqrt (Ideal.div (∑ j, x j * x j) (Ideal.ofBits .f32 0x44800000#32) + Ideal.ofBits .f32 0x358637BD#32)
    * g k * (1 + sc k) + sh k

/-- The sine at lane `l`, from the table that holds it negated on the first half of each rotated pair of quarters. -/
def sine (l : Fin 128) (s : EReal) : EReal := if l.val % 64 < 32 then -s else s

/-- The lane of a head that turns with lane `l`, with the sign it takes. -/
def partner (z : Fin 128 → EReal) (l : Fin 128) : EReal :=
  if h : l.val < 64 then -z ⟨l.val + 64, by omega⟩ else z ⟨l.val - 64, by omega⟩

/-- One lane of a head turned by the angles of its row. -/
def turned (z cs sn : Fin 128 → EReal) (l : Fin 128) : EReal := z l * cs l + partner z l * sine l (sn l)

/-- The head that column `n` lies in. -/
def head (y : Fin 3072 → EReal) (n : Fin 3072) (l : Fin 128) : EReal := y ⟨n.val / 128 * 128 + l.val, by omega⟩

/-- A column of the output from the columns of the product. -/
def column (y : Fin 3072 → EReal) (cs sn : Fin 128 → EReal) (n : Fin 3072) : EReal :=
  if n.val < 1024 then
    turned (head y n) cs sn ⟨n.val % 128, Nat.mod_lt _ (by decide)⟩ * Ideal.ofBits .f32 0x3E38AA3B#32
  else if n.val < 2048 then turned (head y n) cs sn ⟨n.val % 128, Nat.mod_lt _ (by decide)⟩
  else y n

/-! ## The values the body computes, read at an index -/

theorem negated_one : Ideal.ofBits .f32 0xBF800000#32 = -(1 : EReal) := by
  simp [Ideal.ofBits, Ideal.ieee]
  norm_num [-EReal.coe_mul]
  exact (EReal.coe_mul _ _).symm.trans (by norm_num)

theorem normed_apply (x : Vec Ideal S1024x1024 .f32) (g : Vec Ideal S1x1024 .f32) (sc sh : Vec Ideal S1x1x1024 .f32)
    (r k : Fin 1024) :
    k0_pay5 (F := Ideal) x g sc sh (ix2 r k)
      = normed (fun k => x (ix2 r k)) (fun k => g (ix2 (0 : Fin 1) k)) (fun k => sc (ix3 (0 : Fin 1) (0 : Fin 1) k))
          (fun k => sh (ix3 (0 : Fin 1) (0 : Fin 1) k)) k := by
  unfold k0_pay5 normed
  simp only [pointwise]
  rfl

/-- Whether a lane lies in the first quarter or the third, as the body's integer arithmetic decides it. -/
def lowQuarter (w : BitVec 32) : BitVec 1 :=
  let n := Scalar.select (Scalar.cmpi .eq 64#32 0#32) 1#32 64#32
  let q := IntOp.remsi .vector w n
  IntOp.cmpi .slt (Scalar.select (IntOp.andi (IntOp.xori (IntOp.cmpi .slt q 0#32) (Scalar.cmpi .slt n 0#32)) (IntOp.cmpi .ne q 0#32))
    (IntOp.addi q n) q) 32#32

theorem lowQuarter_eq : ∀ l : Fin 128, lowQuarter (BitVec.ofNat 32 l.val) = if l.val % 64 < 32 then 1#1 else 0#1 := by
  decide +kernel

theorem lowHalf_eq : ∀ l : Fin 128, IntOp.cmpi .slt (BitVec.ofNat 32 l.val) 64#32 = if l.val < 64 then 1#1 else 0#1 := by
  decide +kernel

theorem signedSine_apply (s : Vec Ideal S1024x128 .f32) (r : Fin 1024) (l : Fin 128) :
    k0_pay6 (F := Ideal) s (ix2 r l) = (if l.val < 64 then -1 else 1) * sine l (s (ix2 r l)) := by
  have e : iota .tc S1024x128 32 [1] Facts₀.iota_S1024x128_d1_w32 (ix2 r l) = BitVec.ofNat 32 l.val :=
    iota_single_apply .tc S1024x128 32 1 _ (ix2 r l)
  have hq := lowQuarter_eq l
  have hh := lowHalf_eq l
  rw [← e] at hq hh
  refine (show k0_pay6 (F := Ideal) s (ix2 r l)
    = Scalar.select (IntOp.cmpi .slt (iota .tc S1024x128 32 [1] Facts₀.iota_S1024x128_d1_w32 (ix2 r l)) 64#32)
        (Ideal.ofBits .f32 0xBF800000#32) (Ideal.ofBits .f32 0x3F800000#32)
      * Scalar.select (lowQuarter (iota .tc S1024x128 32 [1] Facts₀.iota_S1024x128_d1_w32 (ix2 r l)))
        (Ideal.ofBits .f32 0x00000000#32 - s (ix2 r l)) (s (ix2 r l)) from rfl).trans ?_
  rw [hq, hh, negated_one, Ideal.ofBits_one_f32, Ideal.ofBits_zero_f32, sub_eq_add_neg, zero_add]
  unfold sine
  split_ifs <;> rfl

theorem product_apply (a w : Vec Ideal S1024x1024 .bf16) (r c : Fin 1024) :
    matmul (F := Ideal) (φ₁ := .bf16) (φ₂ := .bf16) dot_S1024x1024_S1024x1024_S1024x1024_1_0_0_1_n_n none a w
      (constant S1024x1024 .f32 0x00000000#32) (ix2 r c) = ∑ k : Fin 1024, a (ix2 r k) * w (ix2 k c) := by
  refine (Ideal.matmul_plain_apply (M := 1024) (K := 1024) (N := 1024) (φ₁ := .bf16) (φ₂ := .bf16) none a w
    (constant S1024x1024 .f32 0x00000000#32) r c).trans ?_
  rw [ValueIdx.constant_apply, Ideal.ofBits_zero_f32, zero_add]

/-- One head of a product, turned: the lanes times the cosines plus the lanes half a head away times the signed sines. -/
theorem turned_apply (P : FVec Ideal S1024x1024 .f32) (cs R : FVec Ideal S1024x128 .f32) (C S : Fin 128 → EReal) (o : Nat)
    (ho : o + 128 ≤ 1024) (h : S1024x1024.Slices ![0, o] S1024x128) (hr : S1024x128.Rotates 1 none) (r : Fin 1024) (l : Fin 128)
    (hC : cs (ix2 r l) = C l) (hR : R (ix2 r l) = (if l.val < 64 then -1 else 1) * sine l (S l)) :
    extractStridedSlice S1024x128 ![0, o] P h (ix2 r l) * cs (ix2 r l)
        + dynamicRotate 1 64#32 none (extractStridedSlice S1024x128 ![0, o] P h) hr (ix2 r l) * R (ix2 r l)
      = turned (fun l => P (ix2 r (⟨o + l.val, by omega⟩ : Fin 1024))) C S l := by
  have hs : ∀ l : Fin 128, extractStridedSlice S1024x128 ![0, o] P h (ix2 r l) = P (ix2 r (⟨o + l.val, by omega⟩ : Fin 1024)) :=
    fun l => extractStridedSlice_apply _ P h (ix2 r l) (ix2 r (⟨o + l.val, by omega⟩ : Fin 1024)) fun a => by
      match a with | ⟨0, _⟩ => exact (Nat.zero_add _).symm | ⟨1, _⟩ => rfl
  rw [hs, hC, hR]
  unfold turned partner
  refine congrArg (fun a : EReal => P (ix2 r (⟨o + l.val, by omega⟩ : Fin 1024)) * C l + a) ?_
  have hl := l.isLt
  split_ifs with hl2
  · rw [dynamicRotate_apply (s := S1024x128) 1 64#32 _ hr (ix2 r l) (ix2 r (⟨l.val + 64, by omega⟩ : Fin 128)) (fun b => by
      match b with
      | ⟨0, _⟩ => rfl
      | ⟨1, _⟩ => show l.val + 64 = (l.val + 128 - 64 % 128) % 128; omega), hs, neg_mul, neg_mul, one_mul, mul_neg]
  · rw [dynamicRotate_apply (s := S1024x128) 1 64#32 _ hr (ix2 r l) (ix2 r (⟨l.val - 64, by omega⟩ : Fin 128)) (fun b => by
      match b with
      | ⟨0, _⟩ => rfl
      | ⟨1, _⟩ => show l.val - 64 = (l.val + 128 - 64 % 128) % 128; omega), hs, one_mul]

/-! ## The stores of one block -/

section

variable {P : FVec Ideal S1024x1024 .f32} {cs R : FVec Ideal S1024x128 .f32} {Y : Fin 1024 → Fin 3072 → EReal}
  {C S : Fin 1024 → Fin 128 → EReal}

theorem store_inb (o : Nat) (ho : o + 128 ≤ 3072) (a : Fin 2) :
    (![0, o] : Fin 2 → Nat) a + (![1024, 128] : Fin 2 → Nat) a ≤ S1024x3072.size a := by
  match a with | ⟨0, _⟩ => exact Nat.le_refl 1024 | ⟨1, _⟩ => exact ho

theorem store_at (k : Nat) (inb) (x : (Rect.unit (s := S1024x3072) ![0, k] ![1024, 128] inb).shape.Idx) :
    (((Rect.unit (s := S1024x3072) ![0, k] ![1024, 128] inb).emb x) 0).val = (x 0).val
      ∧ (((Rect.unit (s := S1024x3072) ![0, k] ![1024, 128] inb).emb x) 1).val = k + (x 1).val := by
  constructor
  · refine (Rect.idx_unit_val _ _ _ x 0).trans ?_
    exact Nat.zero_add _
  · exact Rect.idx_unit_val _ _ _ x 1

/-- A query head. -/
theorem q_store (hP : ∀ r (n : Fin 1024), P (ix2 r n) = Y r ⟨n.val, by omega⟩) (hC : ∀ r l, cs (ix2 r l) = C r l)
    (hR : ∀ r (l : Fin 128), R (ix2 r l) = (if l.val < 64 then -1 else 1) * sine l (S r l))
    (k : Nat) (hk : k < 8) (h : S1024x1024.Slices ![0, 128 * k] S1024x128) (hr : S1024x128.Rotates 1 none) (hb)
    (x : S1024x128.Idx) :
    truncf .bf16 (mulf (addf (mulf (extractStridedSlice S1024x128 ![0, 128 * k] P h) cs)
        (mulf (dynamicRotate 1 64#32 none (extractStridedSlice S1024x128 ![0, 128 * k] P h) hr) R))
        (broadcast S1024x128 (Scalar.ofBits (F := Ideal) .f32 0x3E38AA3B#32))) hb x
      = column (Y (((Rect.unit (s := S1024x3072) ![0, 128 * k] ![1024, 128] (store_inb (128 * k) (by omega))).emb x) 0 : Fin 1024))
          (C (((Rect.unit (s := S1024x3072) ![0, 128 * k] ![1024, 128] (store_inb (128 * k) (by omega))).emb x) 0 : Fin 1024))
          (S (((Rect.unit (s := S1024x3072) ![0, 128 * k] ![1024, 128] (store_inb (128 * k) (by omega))).emb x) 0 : Fin 1024))
          (((Rect.unit (s := S1024x3072) ![0, 128 * k] ![1024, 128] (store_inb (128 * k) (by omega))).emb x) 1 : Fin 3072) := by
  obtain ⟨e0, e1⟩ := store_at (128 * k) (store_inb (128 * k) (by omega)) x
  generalize (Rect.unit (s := S1024x3072) ![0, 128 * k] ![1024, 128] (store_inb (128 * k) (by omega))).emb x = y at e0 e1 ⊢
  obtain ⟨r, l, rfl⟩ : ∃ (r : Fin 1024) (l : Fin 128), x = ix2 r l := ⟨x 0, x 1, ValueIdx.eq_ix2 x⟩
  obtain ⟨r', n, rfl⟩ : ∃ (r' : Fin 1024) (n : Fin 3072), y = ix2 r' n := ⟨y 0, y 1, ValueIdx.eq_ix2 y⟩
  obtain rfl : r' = r := Fin.ext e0
  have hn : n.val = 128 * k + l.val := e1
  have hl := l.isLt
  refine (congrArg (fun a : EReal => a * Ideal.ofBits .f32 0x3E38AA3B#32)
    (turned_apply P cs R (C r') (S r') (128 * k) (by omega) h hr r' l (hC r' l) (hR r' l))).trans ?_
  show _ = column (Y r') (C r') (S r') n
  unfold column
  rw [if_pos (by omega)]
  obtain rfl : l = ⟨n.val % 128, Nat.mod_lt _ (by decide)⟩ := Fin.ext (show l.val = n.val % 128 by omega)
  refine congrArg (fun z : Fin 128 → EReal => turned z (C r') (S r') _ * Ideal.ofBits .f32 0x3E38AA3B#32) (funext fun j => ?_)
  rw [hP]
  exact congrArg (Y r') (Fin.ext (show 128 * k + j.val = n.val / 128 * 128 + j.val by omega))

/-- A key head. -/
theorem k_store (hP : ∀ r (n : Fin 1024), P (ix2 r n) = Y r ⟨1024 + n.val, by omega⟩) (hC : ∀ r l, cs (ix2 r l) = C r l)
    (hR : ∀ r (l : Fin 128), R (ix2 r l) = (if l.val < 64 then -1 else 1) * sine l (S r l))
    (k : Nat) (hk : k < 8) (h : S1024x1024.Slices ![0, 128 * k] S1024x128) (hr : S1024x128.Rotates 1 none) (hb)
    (x : S1024x128.Idx) :
    truncf .bf16 (addf (mulf (extractStridedSlice S1024x128 ![0, 128 * k] P h) cs)
        (mulf (dynamicRotate 1 64#32 none (extractStridedSlice S1024x128 ![0, 128 * k] P h) hr) R)) hb x
      = column (Y (((Rect.unit (s := S1024x3072) ![0, 1024 + 128 * k] ![1024, 128] (store_inb (1024 + 128 * k) (by omega))).emb x) 0 : Fin 1024))
          (C (((Rect.unit (s := S1024x3072) ![0, 1024 + 128 * k] ![1024, 128] (store_inb (1024 + 128 * k) (by omega))).emb x) 0 : Fin 1024))
          (S (((Rect.unit (s := S1024x3072) ![0, 1024 + 128 * k] ![1024, 128] (store_inb (1024 + 128 * k) (by omega))).emb x) 0 : Fin 1024))
          (((Rect.unit (s := S1024x3072) ![0, 1024 + 128 * k] ![1024, 128] (store_inb (1024 + 128 * k) (by omega))).emb x) 1 : Fin 3072) := by
  obtain ⟨e0, e1⟩ := store_at (1024 + 128 * k) (store_inb (1024 + 128 * k) (by omega)) x
  generalize (Rect.unit (s := S1024x3072) ![0, 1024 + 128 * k] ![1024, 128] (store_inb (1024 + 128 * k) (by omega))).emb x = y at e0 e1 ⊢
  obtain ⟨r, l, rfl⟩ : ∃ (r : Fin 1024) (l : Fin 128), x = ix2 r l := ⟨x 0, x 1, ValueIdx.eq_ix2 x⟩
  obtain ⟨r', n, rfl⟩ : ∃ (r' : Fin 1024) (n : Fin 3072), y = ix2 r' n := ⟨y 0, y 1, ValueIdx.eq_ix2 y⟩
  obtain rfl : r' = r := Fin.ext e0
  have hn : n.val = 1024 + 128 * k + l.val := e1
  have hl := l.isLt
  refine (show _ = _ from turned_apply P cs R (C r') (S r') (128 * k) (by omega) h hr r' l (hC r' l) (hR r' l)).trans ?_
  show _ = column (Y r') (C r') (S r') n
  unfold column
  rw [if_neg (by omega), if_pos (by omega)]
  obtain rfl : l = ⟨n.val % 128, Nat.mod_lt _ (by decide)⟩ := Fin.ext (show l.val = n.val % 128 by omega)
  refine congrArg (fun z : Fin 128 → EReal => turned z (C r') (S r') _) (funext fun j => ?_)
  rw [hP]
  exact congrArg (Y r') (Fin.ext (show 1024 + (128 * k + j.val) = n.val / 128 * 128 + j.val by omega))

/-- A value head. -/
theorem v_store (hP : ∀ r (n : Fin 1024), P (ix2 r n) = Y r ⟨2048 + n.val, by omega⟩)
    (k : Nat) (hk : k < 8) (h : S1024x1024.Slices ![0, 128 * k] S1024x128) (hb) (x : S1024x128.Idx) :
    truncf .bf16 (extractStridedSlice S1024x128 ![0, 128 * k] P h) hb x
      = column (Y (((Rect.unit (s := S1024x3072) ![0, 2048 + 128 * k] ![1024, 128] (store_inb (2048 + 128 * k) (by omega))).emb x) 0 : Fin 1024))
          (C (((Rect.unit (s := S1024x3072) ![0, 2048 + 128 * k] ![1024, 128] (store_inb (2048 + 128 * k) (by omega))).emb x) 0 : Fin 1024))
          (S (((Rect.unit (s := S1024x3072) ![0, 2048 + 128 * k] ![1024, 128] (store_inb (2048 + 128 * k) (by omega))).emb x) 0 : Fin 1024))
          (((Rect.unit (s := S1024x3072) ![0, 2048 + 128 * k] ![1024, 128] (store_inb (2048 + 128 * k) (by omega))).emb x) 1 : Fin 3072) := by
  obtain ⟨e0, e1⟩ := store_at (2048 + 128 * k) (store_inb (2048 + 128 * k) (by omega)) x
  generalize (Rect.unit (s := S1024x3072) ![0, 2048 + 128 * k] ![1024, 128] (store_inb (2048 + 128 * k) (by omega))).emb x = y at e0 e1 ⊢
  obtain ⟨r, l, rfl⟩ : ∃ (r : Fin 1024) (l : Fin 128), x = ix2 r l := ⟨x 0, x 1, ValueIdx.eq_ix2 x⟩
  obtain ⟨r', n, rfl⟩ : ∃ (r' : Fin 1024) (n : Fin 3072), y = ix2 r' n := ⟨y 0, y 1, ValueIdx.eq_ix2 y⟩
  obtain rfl : r' = r := Fin.ext e0
  have hn : n.val = 2048 + 128 * k + l.val := e1
  have hl := l.isLt
  refine (show _ = _ from extractStridedSlice_apply _ P h (ix2 r' l) (ix2 r' (⟨128 * k + l.val, by omega⟩ : Fin 1024)) fun a => by
      match a with | ⟨0, _⟩ => exact (Nat.zero_add _).symm | ⟨1, _⟩ => rfl).trans ?_
  show _ = column (Y r') (C r') (S r') n
  unfold column
  rw [if_neg (by omega), if_neg (by omega), hP]
  exact congrArg (Y r') (Fin.ext (show 2048 + (128 * k + l.val) = n.val by omega))

end

end Cert.Dilated

end
-- ==== Proof.Dilated.Stores.lean ====
/-
  What the body of one block leaves in its two output blocks: the normalised rows, and the 24 groups of columns of the
  projection.
-/
module

public import proofs.«01_k».proof.Proof.Dilated.Block

@[expose] public section

set_option maxRecDepth 16384

noncomputable section

namespace Cert.Dilated

open Cert.ProjectDilIdeal Cert.ProjectDilIdeal.Gen Idealize.ShloMosaic.ValueIdx Idealize.ShloMosaic.TcCoe Idealize.SL.Sem
open Idealize.ShloMosaic hiding ix1 ix2 ix3 ix4

/-- The normalised rows of a block. -/
def blockNormed (x0 : Vec Ideal S1024x1024 .f32) (x1 : Vec Ideal S1x1024 .f32) (x2 x3 : Vec Ideal S1x1x1024 .f32)
    (r k : Fin 1024) : EReal :=
  normed (fun k => x0 (ix2 r k)) (fun k => x1 (ix2 (0 : Fin 1) k)) (fun k => x2 (ix3 (0 : Fin 1) (0 : Fin 1) k))
    (fun k => x3 (ix3 (0 : Fin 1) (0 : Fin 1) k)) k

/-- Their product with the weights. -/
def blockProduct (x0 : Vec Ideal S1024x1024 .f32) (x1 : Vec Ideal S1x1024 .f32) (x2 x3 : Vec Ideal S1x1x1024 .f32)
    (x4 : Vec Ideal S1024x3072 .bf16) (r : Fin 1024) (n : Fin 3072) : EReal :=
  ∑ k : Fin 1024, blockNormed x0 x1 x2 x3 r k * x4 (ix2 k n)

/-- The columns written for a block. -/
def blockOut (x0 : Vec Ideal S1024x1024 .f32) (x1 : Vec Ideal S1x1024 .f32) (x2 x3 : Vec Ideal S1x1x1024 .f32)
    (x4 : Vec Ideal S1024x3072 .bf16) (x5 x6 : Vec Ideal S1024x128 .f32) (y : S1024x3072.Idx) : EReal :=
  column (blockProduct x0 x1 x2 x3 x4 (y 0 : Fin 1024)) (fun l => x5 (ix2 (y 0 : Fin 1024) l)) (fun l => x6 (ix2 (y 0 : Fin 1024) l))
    (y 1 : Fin 3072)

section

variable (c : Dev nD) (i : grid0.Coords) (arg2 : Memref sig .tc .vmem S1024x1024 .f32) (harg2 : arg2.IsWhole)
  (arg3 : Memref sig .tc .vmem S1x1024 .f32) (harg3 : arg3.IsWhole) (arg4 : Memref sig .tc .vmem S1x1x1024 .f32) (harg4 : arg4.IsWhole)
  (arg5 : Memref sig .tc .vmem S1x1x1024 .f32) (harg5 : arg5.IsWhole) (arg6 : Memref sig .tc .vmem S1024x3072 .bf16) (harg6 : arg6.IsWhole)
  (arg7 : Memref sig .tc .vmem S1024x128 .f32) (harg7 : arg7.IsWhole) (arg8 : Memref sig .tc .vmem S1024x128 .f32) (harg8 : arg8.IsWhole)
  (arg9 : Memref sig .tc .vmem S1024x3072 .bf16) (harg9 : arg9.IsWhole) (arg10 : Memref sig .tc .vmem S1024x1024 .bf16) (harg10 : arg10.IsWhole)
  (arg11 : Memref sig .tc .vmem S1024x1024 .bf16) (harg11 : arg11.IsWhole) (hc0 : cond0_0 i)
  (x0 : Vec Ideal S1024x1024 .f32) (x1 : Vec Ideal S1x1024 .f32) (x2 x3 : Vec Ideal S1x1x1024 .f32)
  (x4 : Vec Ideal S1024x3072 .bf16) (x5 x6 : Vec Ideal S1024x128 .f32)

/-- A load at an index, from the block the memory holds. -/
theorem loaded2 {a b a' b' : Nat} {e : EltTy} (arg : Memref sig .tc .vmem (⟨2, ![a, b]⟩ : Shape) e) (h : arg.IsWhole)
    (x : Vec Ideal (⟨2, ![a, b]⟩ : Shape) e) (o : Nat) (inb) (y : (⟨2, ![a', b']⟩ : Shape).Idx) (z : (⟨2, ![a, b]⟩ : Shape).Idx)
    (h0 : (z 0).val = (y 0).val) (h1 : (z 1).val = o + (y 1).val) :
    View.readAt (Elt Ideal) arg.view (Rect.unit (s := (⟨2, ![a, b]⟩ : Shape)) ![0, o] ![a', b'] inb).toLoadRect (h.unread x) y = x z := by
  refine (h.readAt_unread x (Rect.unit (s := (⟨2, ![a, b]⟩ : Shape)) ![0, o] ![a', b'] inb).toLoadRect y).trans
    (congrArg x (funext fun d => Fin.ext ?_))
  refine (Rect.idx_unit_val _ _ _ y d).trans ?_
  match d with
  | ⟨0, _⟩ => exact (Nat.zero_add _).trans h0.symm
  | ⟨1, _⟩ => exact h1.symm

theorem loaded3 {e : EltTy} (arg : Memref sig .tc .vmem S1x1x1024 e) (h : arg.IsWhole) (x : Vec Ideal S1x1x1024 e) (inb) :
    View.readAt (Elt Ideal) arg.view (Rect.unit (s := S1x1x1024) ![0, 0, 0] S1x1x1024.size inb).toLoadRect (h.unread x) = x := by
  funext y
  refine (h.readAt_unread x _ y).trans (congrArg x (funext fun d => Fin.ext ?_))
  refine (Rect.idx_unit_val _ _ _ y d).trans ?_
  match d with
  | ⟨0, _⟩ => exact Nat.zero_add _
  | ⟨1, _⟩ => exact Nat.zero_add _
  | ⟨2, _⟩ => exact Nat.zero_add _

/-- The normalised rows as the body reads them back from the memory it keeps them in. -/
theorem kept_apply (r k : Fin 1024) :
    kernelRun0_A.sl.v222 (F := Ideal) c arg2 harg2 arg3 harg3 arg4 harg4 arg5 harg5 arg11 x0 x1 x2 x3 (ix2 r k)
      = blockNormed x0 x1 x2 x3 r k := by
  unfold kernelRun0_A.sl.v222
  refine (congrFun (View.readCov_unit_lit (S := S1024x1024) arg11.view _ _ (fun a => by
    match a with | ⟨0, _⟩ => rfl | ⟨1, _⟩ => rfl)) (ix2 r k)).trans ?_
  refine (normed_apply _ _ _ _ r k).trans ?_
  unfold blockNormed
  rw [loaded3 arg4 harg4 x2, loaded3 arg5 harg5 x3]
  refine congrArg₂ (fun u v => normed u v _ _ k) (funext fun k => ?_) (funext fun k => ?_)
  · exact loaded2 arg2 harg2 x0 0 _ _ _ rfl (Nat.zero_add _).symm
  · exact loaded2 arg3 harg3 x1 0 _ _ _ rfl (Nat.zero_add _).symm

/-- A block of 1024 columns of the product. -/
theorem columns_apply (o : Nat) (ho : o + 1024 ≤ 3072) (inb) (r n : Fin 1024) :
    matmul (F := Ideal) (φ₁ := .bf16) (φ₂ := .bf16) dot_S1024x1024_S1024x1024_S1024x1024_1_0_0_1_n_n none
      (kernelRun0_A.sl.v222 (F := Ideal) c arg2 harg2 arg3 harg3 arg4 harg4 arg5 harg5 arg11 x0 x1 x2 x3)
      (View.readAt (Elt Ideal) arg6.view (Rect.unit (s := S1024x3072) ![0, o] S1024x1024.size inb).toLoadRect (harg6.unread x4))
      (constant S1024x1024 .f32 0x00000000#32) (ix2 r n)
      = blockProduct x0 x1 x2 x3 x4 r ⟨o + n.val, by omega⟩ := by
  refine (product_apply _ _ r n).trans (Finset.sum_congr rfl fun k _ => congrArg₂ (fun a b : EReal => a * b) ?_ ?_)
  · exact kept_apply c arg2 harg2 arg3 harg3 arg4 harg4 arg5 harg5 arg11 x0 x1 x2 x3 r k
  · exact loaded2 arg6 harg6 x4 o _ _ _ rfl rfl

theorem out7_apply (y : S1024x3072.Idx) :
    out0_A_7 (F := Ideal) c i arg2 harg2 arg3 harg3 arg4 harg4 arg5 harg5 arg6 harg6 arg7 harg7 arg8 harg8 arg9 harg9 arg10 harg10
      arg11 harg11 hc0 x0 x1 x2 x3 x4 x5 x6 y = blockOut x0 x1 x2 x3 x4 x5 x6 y := by
  unfold out0_A_7
  refine View.read_writes_apply_of_pieces VO0_7 _ (blockOut x0 x1 x2 x3 x4 x5 x6) _ ?_ y (cover0_A_7 c i arg2 harg2 arg3 harg3 arg4 harg4
    arg5 harg5 arg6 harg6 arg7 harg7 arg8 harg8 arg9 harg9 arg10 harg10 arg11 harg11 hc0 x0 x1 x2 x3 x4 x5 x6 y)
  intro p hp x
  have hC : ∀ (r : Fin 1024) (l : Fin 128), kernelRun0_A.sl.r (F := Ideal) c arg7 harg7 x5 (ix2 r l) = x5 (ix2 r l) := fun r l =>
    loaded2 arg7 harg7 x5 0 _ _ _ rfl (Nat.zero_add _).symm
  have hR : ∀ (r : Fin 1024) (l : Fin 128), kernelRun0_A.sl.r_1 (F := Ideal) c arg8 harg8 x6 (ix2 r l)
      = (if l.val < 64 then -1 else 1) * sine l (x6 (ix2 r l)) := fun r l =>
    (signedSine_apply _ r l).trans (congrArg (fun s => (if l.val < 64 then -1 else 1) * sine l s)
      (loaded2 arg8 harg8 x6 0 _ _ _ rfl (Nat.zero_add _).symm))
  have hq : ∀ (r n : Fin 1024), kernelRun0_A.sl.r_3 (F := Ideal) c arg2 harg2 arg3 harg3 arg4 harg4 arg5 harg5 arg6 harg6 arg11 x0 x1 x2 x3 x4
      (ix2 r n) = blockProduct x0 x1 x2 x3 x4 r ⟨n.val, by omega⟩ := fun r n =>
    (columns_apply c arg2 harg2 arg3 harg3 arg4 harg4 arg5 harg5 arg6 harg6 arg11 x0 x1 x2 x3 x4 0 (by decide) _ r n).trans
      (congrArg (blockProduct x0 x1 x2 x3 x4 r) (Fin.ext (Nat.zero_add _)))
  have hk : ∀ (r n : Fin 1024), kernelRun0_A.sl.r_4 (F := Ideal) c arg2 harg2 arg3 harg3 arg4 harg4 arg5 harg5 arg6 harg6 arg11 x0 x1 x2 x3 x4
      (ix2 r n) = blockProduct x0 x1 x2 x3 x4 r ⟨1024 + n.val, by omega⟩ := fun r n =>
    columns_apply c arg2 harg2 arg3 harg3 arg4 harg4 arg5 harg5 arg6 harg6 arg11 x0 x1 x2 x3 x4 1024 (by decide) _ r n
  have hv : ∀ (r n : Fin 1024), kernelRun0_A.sl.r_7 (F := Ideal) c arg2 harg2 arg3 harg3 arg4 harg4 arg5 harg5 arg6 harg6 arg11 x0 x1 x2 x3 x4
      (ix2 r n) = blockProduct x0 x1 x2 x3 x4 r ⟨2048 + n.val, by omega⟩ := fun r n =>
    columns_apply c arg2 harg2 arg3 harg3 arg4 harg4 arg5 harg5 arg6 harg6 arg11 x0 x1 x2 x3 x4 2048 (by decide) _ r n
  unfold kernelRun0_A at hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl
  · exact v_store (C := fun r l => x5 (ix2 r l)) (S := fun r l => x6 (ix2 r l)) hv 7 (by decide) _ _ x
  · exact v_store (C := fun r l => x5 (ix2 r l)) (S := fun r l => x6 (ix2 r l)) hv 6 (by decide) _ _ x
  · exact v_store (C := fun r l => x5 (ix2 r l)) (S := fun r l => x6 (ix2 r l)) hv 5 (by decide) _ _ x
  · exact v_store (C := fun r l => x5 (ix2 r l)) (S := fun r l => x6 (ix2 r l)) hv 4 (by decide) _ _ x
  · exact v_store (C := fun r l => x5 (ix2 r l)) (S := fun r l => x6 (ix2 r l)) hv 3 (by decide) _ _ x
  · exact v_store (C := fun r l => x5 (ix2 r l)) (S := fun r l => x6 (ix2 r l)) hv 2 (by decide) _ _ x
  · exact v_store (C := fun r l => x5 (ix2 r l)) (S := fun r l => x6 (ix2 r l)) hv 1 (by decide) _ _ x
  · exact v_store (C := fun r l => x5 (ix2 r l)) (S := fun r l => x6 (ix2 r l)) hv 0 (by decide) _ _ x
  · exact k_store hk hC hR 7 (by decide) _ _ _ x
  · exact k_store hk hC hR 6 (by decide) _ _ _ x
  · exact k_store hk hC hR 5 (by decide) _ _ _ x
  · exact k_store hk hC hR 4 (by decide) _ _ _ x
  · exact k_store hk hC hR 3 (by decide) _ _ _ x
  · exact k_store hk hC hR 2 (by decide) _ _ _ x
  · exact k_store hk hC hR 1 (by decide) _ _ _ x
  · exact k_store hk hC hR 0 (by decide) _ _ _ x
  · exact q_store hq hC hR 7 (by decide) _ _ _ x
  · exact q_store hq hC hR 6 (by decide) _ _ _ x
  · exact q_store hq hC hR 5 (by decide) _ _ _ x
  · exact q_store hq hC hR 4 (by decide) _ _ _ x
  · exact q_store hq hC hR 3 (by decide) _ _ _ x
  · exact q_store hq hC hR 2 (by decide) _ _ _ x
  · exact q_store hq hC hR 1 (by decide) _ _ _ x
  · exact q_store hq hC hR 0 (by decide) _ _ _ x

theorem out8_apply (y : S1024x1024.Idx) :
    out0_A_8 (F := Ideal) c i arg2 harg2 arg3 harg3 arg4 harg4 arg5 harg5 arg6 harg6 arg7 harg7 arg8 harg8 arg9 harg9 arg10 harg10
      arg11 harg11 hc0 x0 x1 x2 x3 x4 x5 x6 y = blockNormed x0 x1 x2 x3 (y 0 : Fin 1024) (y 1 : Fin 1024) := by
  unfold out0_A_8
  refine View.read_writes_apply_of_pieces VO0_8 _ (fun y => blockNormed x0 x1 x2 x3 (y 0 : Fin 1024) (y 1 : Fin 1024)) _ ?_ y
    (cover0_A_8 c i arg2 harg2 arg3 harg3 arg4 harg4
    arg5 harg5 arg6 harg6 arg7 harg7 arg8 harg8 arg9 harg9 arg10 harg10 arg11 harg11 hc0 x0 x1 x2 x3 x4 x5 x6 y)
  intro p hp x
  unfold kernelRun0_A at hp
  simp only [List.mem_cons, List.not_mem_nil, or_false] at hp
  rcases hp with rfl
  have e0 : (Rect.unit (s := S1024x1024) ![0, 0] S1024x1024.size Facts₀.inb_S1024x1024_S1024x1024_0_0).emb x = x := by
    funext a; apply Fin.ext
    refine (Rect.idx_unit_val _ _ _ x a).trans ?_
    match a with | ⟨0, _⟩ => exact Nat.zero_add _ | ⟨1, _⟩ => exact Nat.zero_add _
  refine Eq.trans ?_ (congrArg (fun y : S1024x1024.Idx => blockNormed x0 x1 x2 x3 (y 0 : Fin 1024) (y 1 : Fin 1024)) e0).symm
  exact (congrArg _ (ValueIdx.eq_ix2 x)).trans (kept_apply c arg2 harg2 arg3 harg3 arg4 harg4 arg5 harg5 arg11 x0 x1 x2 x3 (x 0) (x 1))

end

end Cert.Dilated

end
-- ==== Proof.Dilated.Array.lean ====
/-
  The two arrays the 32 grid points of the normalisation and projection leave: the projected heads, `heads`, and the
  normalised rows, `rows`. A point writes 1024 rows of each; four points share a batch's scale and shift.
-/
module

public import proofs.«01_k».proof.Proof.Dilated.Stores

@[expose] public section

set_option maxRecDepth 16384

noncomputable section

namespace Cert.Dilated

open Cert.ProjectDilIdeal Cert.ProjectDilIdeal.Gen Idealize.ShloMosaic.ValueIdx Idealize.ShloMosaic.TcCoe Idealize.SL.Sem
open Idealize.ShloMosaic hiding ix1 ix2 ix3 ix4

/-- A normalised row of the whole array, scaled and shifted as its batch of 4096 rows is. -/
def row (x0 : Vec Ideal S32768x1024 .f32) (x1 : Vec Ideal S1x1024 .f32) (x2 x3 : Vec Ideal S8x1x1024 .f32) (r : Fin 32768)
    (k : Fin 1024) : EReal :=
  normed (fun k => x0 (ix2 r k)) (fun k => x1 (ix2 (0 : Fin 1) k))
    (fun k => x2 (ix3 (⟨r.val / 4096, by omega⟩ : Fin 8) (0 : Fin 1) k))
    (fun k => x3 (ix3 (⟨r.val / 4096, by omega⟩ : Fin 8) (0 : Fin 1) k)) k

/-- The second result: the normalised rows. -/
def rows (x0 : Vec Ideal S32768x1024 .f32) (x1 : Vec Ideal S1x1024 .f32) (x2 x3 : Vec Ideal S8x1x1024 .f32)
    (i : S32768x1024.Idx) : EReal := row x0 x1 x2 x3 (i 0 : Fin 32768) (i 1 : Fin 1024)

/-- The first result: the rows through the weights, the query and key heads turned, the query heads scaled. -/
def heads (x0 : Vec Ideal S32768x1024 .f32) (x1 : Vec Ideal S1x1024 .f32) (x2 x3 : Vec Ideal S8x1x1024 .f32)
    (x4 : Vec Ideal S1024x3072 .bf16) (x5 x6 : Vec Ideal S32768x128 .f32) (i : S32768x3072.Idx) : EReal :=
  column (fun n => ∑ k : Fin 1024, row x0 x1 x2 x3 (i 0 : Fin 32768) k * x4 (ix2 k n)) (fun l => x5 (ix2 (i 0 : Fin 32768) l))
    (fun l => x6 (ix2 (i 0 : Fin 32768) l)) (i 1 : Fin 3072)

variable (m : (ℓ : Loc nD τ sig) → Buf (Elt Ideal) ℓ) (c : Dev nD)

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![t.val / 4, 0, 0] :=
  (by decide +kernel : ∀ t : Fin grid0.N, win0_2.index t = ![t.val / 4, 0, 0])
theorem index3 : ∀ t : Fin cfg0.N, win0_3.index t = ![t.val / 4, 0, 0] :=
  (by decide +kernel : ∀ t : Fin grid0.N, win0_3.index t = ![t.val / 4, 0, 0])
theorem index4 : ∀ t : Fin cfg0.N, win0_4.index t = ![0, 0] :=
  (by decide +kernel : ∀ t : Fin grid0.N, win0_4.index t = ![0, 0])
theorem index5 : ∀ t : Fin cfg0.N, win0_5.index t = ![t.val, 0] :=
  (by decide +kernel : ∀ t : Fin grid0.N, win0_5.index t = ![t.val, 0])
theorem index6 : ∀ t : Fin cfg0.N, win0_6.index t = ![t.val, 0] :=
  (by decide +kernel : ∀ t : Fin grid0.N, win0_6.index t = ![t.val, 0])
theorem index7 : ∀ t : Fin cfg0.N, win0_7.index t = ![t.val, 0] :=
  (by decide +kernel : ∀ t : Fin grid0.N, win0_7.index t = ![t.val, 0])
theorem index8 : ∀ t : Fin cfg0.N, win0_8.index t = ![t.val, 0] :=
  (by decide +kernel : ∀ t : Fin grid0.N, win0_8.index t = ![t.val, 0])

/-- The position of an element of a block in the array it is a block of, window by window. -/
theorem at0 (t : Fin cfg0.N) (y : S1024x1024.Idx) (i : S32768x1024.Idx)
    (h0 : (i 0).val = t.val * 1024 + (y 0).val) (h1 : (i 1).val = 0 * 1024 + (y 1).val) :
    iblk m c 0 t y = m ((c : Thread nD τ).loc main_arg0) i := by
  show V m c main_arg0 ((win0_0.blk t).view.emb y) = _
  refine congrArg (m ((c : Thread nD τ).loc main_arg0)) (funext fun a => Fin.ext ?_)
  have e := index0 t
  match a with
  | ⟨0, _⟩ => blk_simp; rw [e]; exact h0.symm
  | ⟨1, _⟩ => blk_simp; rw [e]; exact h1.symm

theorem at1 (t : Fin cfg0.N) (y i : S1x1024.Idx) (h1 : (i 1).val = 0 * 1024 + (y 1).val) :
    iblk m c 1 t y = m ((c : Thread nD τ).loc main_arg1) i := by
  show V m c main_arg1 ((win0_1.blk t).view.emb y) = _
  refine congrArg (m ((c : Thread nD τ).loc main_arg1)) (funext fun a => Fin.ext ?_)
  have e := index1 t
  match a with
  | ⟨0, _⟩ => blk_simp; rw [e]; rfl
  | ⟨1, _⟩ => blk_simp; rw [e]; exact h1.symm

theorem at2 (t : Fin cfg0.N) (y : S1x1x1024.Idx) (i : S8x1x1024.Idx)
    (h0 : (i 0).val = t.val / 4) (h2 : (i 2).val = 0 * 1024 + (y 2).val) :
    iblk m c 2 t y = m ((c : Thread nD τ).loc main_arg2) i := by
  show V m c main_arg2 ((win0_2.blk t).view.emb y) = _
  refine congrArg (m ((c : Thread nD τ).loc main_arg2)) (funext fun a => Fin.ext ?_)
  have e := index2 t
  match a with
  | ⟨0, _⟩ => blk_simp; rw [e]; exact h0.symm
  | ⟨1, _⟩ => blk_simp; rw [e]; rfl
  | ⟨2, _⟩ => blk_simp; rw [e]; exact h2.symm

theorem at3 (t : Fin cfg0.N) (y : S1x1x1024.Idx) (i : S8x1x1024.Idx)
    (h0 : (i 0).val = t.val / 4) (h2 : (i 2).val = 0 * 1024 + (y 2).val) :
    iblk m c 3 t y = m ((c : Thread nD τ).loc main_arg3) i := by
  show V m c main_arg3 ((win0_3.blk t).view.emb y) = _
  refine congrArg (m ((c : Thread nD τ).loc main_arg3)) (funext fun a => Fin.ext ?_)
  have e := index3 t
  match a with
  | ⟨0, _⟩ => blk_simp; rw [e]; exact h0.symm
  | ⟨1, _⟩ => blk_simp; rw [e]; rfl
  | ⟨2, _⟩ => blk_simp; rw [e]; exact h2.symm

theorem at4 (t : Fin cfg0.N) (y i : S1024x3072.Idx)
    (h0 : (i 0).val = 0 * 1024 + (y 0).val) (h1 : (i 1).val = 0 * 3072 + (y 1).val) :
    iblk m c 4 t y = m ((c : Thread nD τ).loc main_arg4) i := by
  show V m c main_arg4 ((win0_4.blk t).view.emb y) = _
  refine congrArg (m ((c : Thread nD τ).loc main_arg4)) (funext fun a => Fin.ext ?_)
  have e := index4 t
  match a with
  | ⟨0, _⟩ => blk_simp; rw [e]; exact h0.symm
  | ⟨1, _⟩ => blk_simp; rw [e]; exact h1.symm

theorem at5 (t : Fin cfg0.N) (y : S1024x128.Idx) (i : S32768x128.Idx)
    (h0 : (i 0).val = t.val * 1024 + (y 0).val) (h1 : (i 1).val = 0 * 128 + (y 1).val) :
    iblk m c 5 t y = m ((c : Thread nD τ).loc main_arg5) i := by
  show V m c main_arg5 ((win0_5.blk t).view.emb y) = _
  refine congrArg (m ((c : Thread nD τ).loc main_arg5)) (funext fun a => Fin.ext ?_)
  have e := index5 t
  match a with
  | ⟨0, _⟩ => blk_simp; rw [e]; exact h0.symm
  | ⟨1, _⟩ => blk_simp; rw [e]; exact h1.symm

theorem at6 (t : Fin cfg0.N) (y : S1024x128.Idx) (i : S32768x128.Idx)
    (h0 : (i 0).val = t.val * 1024 + (y 0).val) (h1 : (i 1).val = 0 * 128 + (y 1).val) :
    iblk m c 6 t y = m ((c : Thread nD τ).loc main_arg6) i := by
  show V m c main_arg6 ((win0_6.blk t).view.emb y) = _
  refine congrArg (m ((c : Thread nD τ).loc main_arg6)) (funext fun a => Fin.ext ?_)
  have e := index6 t
  match a with
  | ⟨0, _⟩ => blk_simp; rw [e]; exact h0.symm
  | ⟨1, _⟩ => blk_simp; rw [e]; exact h1.symm

theorem at7 (t : Fin cfg0.N) (y : S1024x3072.Idx) :
    (((win0_7.blk t).view.emb y) 0).val = t.val * 1024 + (y 0).val
      ∧ (((win0_7.blk t).view.emb y) 1).val = (y 1).val := by
  have e := index7 t
  constructor
  · blk_simp; rw [e]; rfl
  · blk_simp; rw [e]; show 0 * 3072 + (y 1).val = (y 1).val; omega

theorem at8 (t : Fin cfg0.N) (y : S1024x1024.Idx) :
    (((win0_8.blk t).view.emb y) 0).val = t.val * 1024 + (y 0).val
      ∧ (((win0_8.blk t).view.emb y) 1).val = (y 1).val := by
  have e := index8 t
  constructor
  · blk_simp; rw [e]; rfl
  · blk_simp; rw [e]; show 0 * 1024 + (y 1).val = (y 1).val; omega

/-- A normalised row of a block is that row of the whole array. -/
theorem blockNormed_eq_row (t : Fin cfg0.N) (r : Fin 1024) (s : Fin 32768) (hs : s.val = t.val * 1024 + r.val) (k : Fin 1024) :
    blockNormed (iblk m c 0 t) (iblk m c 1 t) (iblk m c 2 t) (iblk m c 3 t) r k
      = row (m ((c : Thread nD τ).loc main_arg0)) (m ((c : Thread nD τ).loc main_arg1))
          (m ((c : Thread nD τ).loc main_arg2)) (m ((c : Thread nD τ).loc main_arg3)) s k := by
  have hr := r.isLt
  have hb : s.val / 4096 = t.val / 4 := by omega
  unfold blockNormed row
  have e0 : (fun k : Fin 1024 => (iblk m c 0 t (ix2 r k) : EReal)) = fun k => m ((c : Thread nD τ).loc main_arg0) (ix2 s k) :=
    funext fun k => at0 m c t _ _ hs (Nat.zero_add _).symm
  have e1 : (fun k : Fin 1024 => (iblk m c 1 t (ix2 (0 : Fin 1) k) : EReal))
      = fun k => m ((c : Thread nD τ).loc main_arg1) (ix2 (0 : Fin 1) k) :=
    funext fun k => at1 m c t _ _ (Nat.zero_add _).symm
  have e2 : (fun k : Fin 1024 => (iblk m c 2 t (ix3 (0 : Fin 1) (0 : Fin 1) k) : EReal))
      = fun k => m ((c : Thread nD τ).loc main_arg2) (ix3 (⟨s.val / 4096, by omega⟩ : Fin 8) (0 : Fin 1) k) :=
    funext fun k => at2 m c t _ _ hb (Nat.zero_add _).symm
  have e3 : (fun k : Fin 1024 => (iblk m c 3 t (ix3 (0 : Fin 1) (0 : Fin 1) k) : EReal))
      = fun k => m ((c : Thread nD τ).loc main_arg3) (ix3 (⟨s.val / 4096, by omega⟩ : Fin 8) (0 : Fin 1) k) :=
    funext fun k => at3 m c t _ _ hb (Nat.zero_add _).symm
  exact congr (congr (congr (congr (congrArg normed e0) e1) e2) e3) rfl

theorem block8 (t : Fin cfg0.N) (y : S1024x1024.Idx) : (outsAt0 m c t).2 y
    = rows (m ((c : Thread nD τ).loc main_arg0)) (m ((c : Thread nD τ).loc main_arg1)) (m ((c : Thread nD τ).loc main_arg2)) (m ((c : Thread nD τ).loc main_arg3)) ((win0_8.blk t).view.emb y) := by
  obtain ⟨r0, r1⟩ := at8 t y
  dsimp only [outsAt0]
  have h := out8_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
    (hcond0_0 t) (iblk m c 0 t) (iblk m c 1 t) (iblk m c 2 t) (iblk m c 3 t) (iblk m c 4 t) (iblk m c 5 t) (iblk m c 6 t) y
  refine Eq.trans h ?_
  refine (blockNormed_eq_row m c t (y 0) ((win0_8.blk t).view.emb y 0) r0 (y 1)).trans ?_
  unfold rows
  exact congrArg _ (Fin.ext r1.symm)

theorem final8 : (dats m 0 c).arrAt 8 cfg0.N
    = rows (m ((c : Thread nD τ).loc main_arg0)) (m ((c : Thread nD τ).loc main_arg1)) (m ((c : Thread nD τ).loc main_arg2))
        (m ((c : Thread nD τ).loc main_arg3)) := by
  refine (dats m 0 c).arrAt_eq_of_covers 8 _ (by decide +kernel) fun t hf y => ?_
  blk_simp
  rw [after0_8]
  exact block8 m c t y

theorem block7 (t : Fin cfg0.N) (y : S1024x3072.Idx) : (outsAt0 m c t).1 y
    = heads (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ((win0_7.blk t).view.emb y) := by
  obtain ⟨r0, r1⟩ := at7 t y
  dsimp only [outsAt0]
  have h := out7_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
    (hcond0_0 t) (iblk m c 0 t) (iblk m c 1 t) (iblk m c 2 t) (iblk m c 3 t) (iblk m c 4 t) (iblk m c 5 t) (iblk m c 6 t) y
  refine Eq.trans h ?_
  unfold blockOut heads
  have eP : blockProduct (iblk m c 0 t) (iblk m c 1 t) (iblk m c 2 t) (iblk m c 3 t) (iblk m c 4 t) (y 0 : Fin 1024)
      = fun n => ∑ k : Fin 1024, row (m ((c : Thread nD τ).loc main_arg0)) (m ((c : Thread nD τ).loc main_arg1))
          (m ((c : Thread nD τ).loc main_arg2)) (m ((c : Thread nD τ).loc main_arg3)) ((win0_7.blk t).view.emb y 0) k
          * m ((c : Thread nD τ).loc main_arg4) (ix2 k n) := funext fun n =>
    Finset.sum_congr rfl fun k _ => congrArg₂ (fun a b : EReal => a * b)
      (blockNormed_eq_row m c t (y 0) ((win0_7.blk t).view.emb y 0) r0 k)
      (at4 m c t _ _ (Nat.zero_add _).symm (Nat.zero_add _).symm)
  have e5 : (fun l : Fin 128 => (iblk m c 5 t (ix2 (y 0 : Fin 1024) l) : EReal))
      = fun l => m ((c : Thread nD τ).loc main_arg5) (ix2 ((win0_7.blk t).view.emb y 0 : Fin 32768) l) :=
    funext fun l => at5 m c t _ _ r0 (Nat.zero_add _).symm
  have e6 : (fun l : Fin 128 => (iblk m c 6 t (ix2 (y 0 : Fin 1024) l) : EReal))
      = fun l => m ((c : Thread nD τ).loc main_arg6) (ix2 ((win0_7.blk t).view.emb y 0 : Fin 32768) l) :=
    funext fun l => at6 m c t _ _ r0 (Nat.zero_add _).symm
  exact congr (congr (congr (congrArg column eP) e5) e6) (Fin.ext r1.symm)

theorem final7 : (dats m 0 c).arrAt 7 cfg0.N
    = heads (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 7 _ (by decide +kernel) fun t hf y => ?_
  blk_simp
  rw [after0_7]
  exact block7 m c t y

end Cert.Dilated

end
-- ==== Proof.Dilated.Reference.lean ====
/-
  The reference of the normalisation and projection, read at an index: its rows are `rows` and its heads are `heads`. The
  reference cuts the first 2048 columns into 16 heads of two halves of 64, joins the negated second half and the first for
  the turned copy, and joins the three parts at the end.
-/
module

public import proofs.«01_k».proof.Proof.Dilated.Array
public import proofs.«01_k».proof.Proof.Gen.ProjectDilReferenceIdeal.Read

@[expose] public section

set_option maxRecDepth 16384

noncomputable section

namespace Cert.Dilated.Reference

open Cert.ProjectDilReferenceIdeal Cert.ProjectDilReferenceIdeal.Read Idealize.ShloMosaic.ValueIdx Idealize.SL.Sem
open Idealize.ShloMosaic hiding ix1 ix2 ix3 ix4

section

variable (x0 : Vec Ideal S32768x1024 .f32) (x1 : Vec Ideal S1x1024 .f32) (x2 x3 : Vec Ideal S8x1x1024 .f32)
  (x4 : Vec Ideal S1024x3072 .bf16) (x5 x6 : Vec Ideal S32768x128 .f32)

/-- The row divided by its root mean square and multiplied by the gain. -/
theorem scaled_apply (r : Fin 32768) (k : Fin 1024) :
    val_main_v11 (F := Ideal) x0 x1 (ix2 r k)
      = x0 (ix2 r k) * Ideal.rsqrt (Ideal.div (∑ j, x0 (ix2 r j) * x0 (ix2 r j)) (Ideal.ofBits .f32 0x44800000#32)
          + Ideal.ofBits .f32 0x358637BD#32) * x1 (ix2 (0 : Fin 1) k) := by
  rw [val_main_v11_apply, val_main_v9_apply, val_main_v8_apply, val_main_v7_apply, val_main_v6_apply, val_main_v4_apply,
    val_main_v2_apply, val_main_v10_apply]
  have eg : x1 (idx_main_v10 (ix2 r k)) = x1 (ix2 (0 : Fin 1) k) :=
    congrArg x1 (funext fun a => by match a with | ⟨0, _⟩ => rfl | ⟨1, _⟩ => rfl)
  have es : val_main_v1 (F := Ideal) x0 (idx_main_v2 (idx_main_v8 (ix2 r k))) = ∑ j, x0 (ix2 r j) * x0 (ix2 r j) := by
    rw [val_main_v1_apply, val_main_cst_apply, show (FloatOps.ofBits .f32 0x00000000#32 : Ideal .f32) = (0 : EReal) from Ideal.ofBits_zero_f32]
    refine (zero_add (M := EReal) _).trans ?_
    refine Finset.sum_congr rfl fun j _ => ?_
    have e : idx_main_v1 (idx_main_v2 (idx_main_v8 (ix2 r k))) j = ix2 r j :=
      funext fun a => by match a with | ⟨0, _⟩ => rfl | ⟨1, _⟩ => rfl
    rw [val_main_v0_apply, e]
    rfl
  rw [eg]
  refine Eq.trans ?_ (congrArg (fun s : EReal => x0 (ix2 r k) * Ideal.rsqrt (Ideal.div s (Ideal.ofBits .f32 0x44800000#32)
    + Ideal.ofBits .f32 0x358637BD#32) * x1 (ix2 (0 : Fin 1) k)) es)
  rfl

theorem row_apply (r : Fin 32768) (k : Fin 1024) :
    val_main_v19 (F := Ideal) x0 x1 x2 x3 (ix2 r k) = row x0 x1 x2 x3 r k := by
  have hr := r.isLt
  have hk := k.isLt
  rw [val_main_v19_apply]
  have e : idx_main_v19 (ix2 r k) = ix3 (⟨r.val / 4096, by omega⟩ : Fin 8) (⟨r.val % 4096, by omega⟩ : Fin 4096) k := by
    funext a; apply Fin.ext
    match a with
    | ⟨0, _⟩ => show (r.val * 1024 + k.val) / 4194304 = r.val / 4096; omega
    | ⟨1, _⟩ => show (r.val * 1024 + k.val) / 1024 % 4096 = r.val % 4096; omega
    | ⟨2, _⟩ => show (r.val * 1024 + k.val) % 1024 = k.val; omega
  rw [e, val_main_v18_apply, val_main_v16_apply, val_main_v12_apply, val_main_v15_apply, val_main_v14_apply, val_main_v17_apply]
  have e12 : idx_main_v12 (ix3 (⟨r.val / 4096, by omega⟩ : Fin 8) (⟨r.val % 4096, by omega⟩ : Fin 4096) k) = ix2 r k := by
    funext a; apply Fin.ext
    match a with
    | ⟨0, _⟩ => show ((r.val / 4096 * 4096 + r.val % 4096) * 1024 + k.val) / 1024 = r.val; omega
    | ⟨1, _⟩ => show ((r.val / 4096 * 4096 + r.val % 4096) * 1024 + k.val) % 1024 = k.val; omega
  have e15 : idx_main_v15 (ix3 (⟨r.val / 4096, by omega⟩ : Fin 8) (⟨r.val % 4096, by omega⟩ : Fin 4096) k)
      = ix3 (⟨r.val / 4096, by omega⟩ : Fin 8) (0 : Fin 1) k :=
    funext fun a => by match a with | ⟨0, _⟩ => rfl | ⟨1, _⟩ => rfl | ⟨2, _⟩ => rfl
  have e17 : idx_main_v17 (ix3 (⟨r.val / 4096, by omega⟩ : Fin 8) (⟨r.val % 4096, by omega⟩ : Fin 4096) k)
      = ix3 (⟨r.val / 4096, by omega⟩ : Fin 8) (0 : Fin 1) k :=
    funext fun a => by match a with | ⟨0, _⟩ => rfl | ⟨1, _⟩ => rfl | ⟨2, _⟩ => rfl
  rw [e12, e15, e17, scaled_apply]
  unfold row normed
  refine congrArg₂ (fun a b : EReal => a * b + _) rfl ?_
  refine congrArg (fun a : EReal => a + _) ?_
  exact Ideal.ofBits_one_f32

/-- The second result. -/
theorem rows_eq : val_main_v52 (F := Ideal) x0 x1 x2 x3 = rows x0 x1 x2 x3 := by
  funext i
  refine (congrArg (val_main_v52 (F := Ideal) x0 x1 x2 x3) (ValueIdx.eq_ix2 i)).trans ?_
  exact row_apply x0 x1 x2 x3 (i 0) (i 1)

/-- The product of a row with the weights. -/
def product (r : Fin 32768) (n : Fin 3072) : EReal := ∑ k : Fin 1024, row x0 x1 x2 x3 r k * x4 (ix2 k n)

theorem product_apply (r : Fin 32768) (n : Fin 3072) :
    val_main_v23 (F := Ideal) x0 x1 x2 x3 x4 (ix2 r n) = product x0 x1 x2 x3 x4 r n := by
  refine (val_main_v23_apply x0 x1 x2 x3 x4 (ix2 r n)).trans (Finset.sum_congr rfl fun k _ => congrArg₂ (fun a b : EReal => a * b) ?_ ?_)
  · have e : lidx_main_v23 (ix2 r n) k = ix2 r k := funext fun a => by match a with | ⟨0, _⟩ => rfl | ⟨1, _⟩ => rfl
    rw [e]
    exact row_apply x0 x1 x2 x3 r k
  · exact congrArg x4 (funext fun a => by match a with | ⟨0, _⟩ => rfl | ⟨1, _⟩ => rfl)

/-- Whether a lane lies in the first quarter or the third, as the reference's remainder decides it. -/
def lowQuarter (w : BitVec 32) : BitVec 1 :=
  let n := Scalar.select (IntOp.cmpi .eq 64#32 0#32) 1#32 64#32
  let q := IntOp.remsi .host w n
  IntOp.cmpi .slt (Scalar.select (IntOp.andi (IntOp.cmpi .ne (IntOp.cmpi .slt q 0#32) (IntOp.cmpi .slt n 0#32)) (IntOp.cmpi .ne q 0#32))
    (IntOp.addi q n) q) 32#32

theorem lowQuarter_eq : ∀ l : Fin 128, lowQuarter (BitVec.ofNat 32 l.val) = if l.val % 64 < 32 then 1#1 else 0#1 := by
  decide +kernel

theorem sine_apply (r : Fin 32768) (l : Fin 128) :
    val_main_v29 (F := Ideal) x6 (ix2 r l) = sine l (x6 (ix2 r l)) := by
  rw [val_main_v29_apply, val_main_call1_v0_apply]
  have e : val_main_v27 (F := Ideal) (idx_main_call1_v0 (ix2 r l)) = lowQuarter (BitVec.ofNat 32 l.val) := by
    simp only [val_main_v27_apply, val_main_v25_apply, val_main_v26_apply, val_main_c_3_apply, val_main_call0_v12_apply,
      val_main_call0_v14_apply, val_main_call0_v4_apply, val_main_call0_v11_apply, val_main_call0_v6_apply, val_main_call0_v8_apply,
      val_main_call0_v10_apply, val_main_call0_v9_apply, val_main_call0_v7_apply, val_main_call0_v5_apply, val_main_call0_v13_apply,
      val_main_call0_v3_apply, val_main_call0_v2_apply, val_main_call0_v1_apply, val_main_call0_v0_apply, val_main_c_apply,
      val_main_call0_c_apply, val_main_call0_c_0_apply, val_main_call0_c_1_apply, val_main_call0_c_2_apply, val_main_call0_c_3_apply,
      val_main_v24_apply]
    rfl
  rw [e, lowQuarter_eq]
  unfold sine
  split_ifs <;> rfl

/-- One half of one head of the product. -/
theorem half_apply (r : Fin 32768) (h : Fin 16) (p : Fin 2) (q : Fin 64) :
    val_main_v31 (F := Ideal) x0 x1 x2 x3 x4 (ix4 r h p q)
      = product x0 x1 x2 x3 x4 r ⟨h.val * 128 + (p.val * 64 + q.val), by omega⟩ := by
  have hr := r.isLt
  rw [val_main_v31_apply, val_main_v30_apply, ← product_apply]
  refine congrArg (val_main_v23 (F := Ideal) x0 x1 x2 x3 x4) (funext fun a => Fin.ext ?_)
  match a with
  | ⟨0, _⟩ => show (((r.val * 16 + h.val) * 2 + p.val) * 64 + q.val) / 2048 = r.val; omega
  | ⟨1, _⟩ => show (((r.val * 16 + h.val) * 2 + p.val) * 64 + q.val) % 2048 = h.val * 128 + (p.val * 64 + q.val); omega

/-- The other half, negated before the first half. -/
theorem partner_apply (r : Fin 32768) (h : Fin 16) (p : Fin 2) (q : Fin 64) :
    val_main_v35 (F := Ideal) x0 x1 x2 x3 x4 (ix4 r h p q)
      = partner (fun l => product x0 x1 x2 x3 x4 r ⟨h.val * 128 + l.val, by omega⟩) ⟨p.val * 64 + q.val, by omega⟩ := by
  unfold val_main_v35 partner
  have hp := p.isLt
  have hq := q.isLt
  by_cases hp0 : p.val = 0
  · obtain rfl : p = 0 := Fin.ext hp0
    rw [dif_pos (show (0 : Fin 2).val * 64 + q.val < 64 by simp)]
    refine (concatenate_pair_apply_left (t := S32768x16x2x64) (s₁ := S32768x16x1x64) (s₂ := S32768x16x1x64) 2
      (val_main_v33 (F := Ideal) x0 x1 x2 x3 x4) (val_main_v34 (F := Ideal) x0 x1 x2 x3 x4) _ (ix4 r h (0 : Fin 2) q) rfl
      (ix4 r h (0 : Fin 1) q) fun b => by
        match b with | ⟨0, _⟩ => rfl | ⟨1, _⟩ => rfl | ⟨2, _⟩ => rfl | ⟨3, _⟩ => rfl).trans ?_
    rw [val_main_v33_apply, val_main_v32_apply]
    have e : idx_main_v32 (ix4 r h (0 : Fin 1) q) = ix4 r h (1 : Fin 2) q :=
      funext fun a => by match a with | ⟨0, _⟩ => rfl | ⟨1, _⟩ => rfl | ⟨2, _⟩ => rfl | ⟨3, _⟩ => rfl
    rw [e, half_apply]
    refine congrArg (fun a : EReal => -a) (congrArg (product x0 x1 x2 x3 x4 r) (Fin.ext ?_))
    show h.val * 128 + (1 * 64 + q.val) = h.val * 128 + (0 * 64 + q.val + 64)
    omega
  · obtain rfl : p = 1 := Fin.ext (show p.val = 1 by omega)
    rw [dif_neg (show ¬ (1 : Fin 2).val * 64 + q.val < 64 by simp)]
    refine (concatenate_pair_apply_right (t := S32768x16x2x64) (s₁ := S32768x16x1x64) (s₂ := S32768x16x1x64) 2
      (val_main_v33 (F := Ideal) x0 x1 x2 x3 x4) (val_main_v34 (F := Ideal) x0 x1 x2 x3 x4) _ (ix4 r h (1 : Fin 2) q) rfl rfl
      (ix4 r h (0 : Fin 1) q) (fun b hb => by
        match b with | ⟨0, _⟩ => rfl | ⟨1, _⟩ => rfl | ⟨2, _⟩ => exact absurd rfl hb | ⟨3, _⟩ => rfl) rfl).trans ?_
    rw [val_main_v34_apply]
    have e : idx_main_v34 (ix4 r h (0 : Fin 1) q) = ix4 r h (0 : Fin 2) q :=
      funext fun a => by match a with | ⟨0, _⟩ => rfl | ⟨1, _⟩ => rfl | ⟨2, _⟩ => rfl | ⟨3, _⟩ => rfl
    rw [e, half_apply]
    refine congrArg (product x0 x1 x2 x3 x4 r) (Fin.ext ?_)
    show h.val * 128 + (0 * 64 + q.val) = h.val * 128 + (1 * 64 + q.val - 64)
    omega

theorem cosines_apply (r : Fin 32768) (h : Fin 16) (p : Fin 2) (q : Fin 64) :
    val_main_v37 (F := Ideal) x5 (ix4 r h p q) = x5 (ix2 r (⟨p.val * 64 + q.val, by omega⟩ : Fin 128)) := by
  have hr := r.isLt
  rw [val_main_v37_apply, val_main_v36_apply]
  refine congrArg x5 (funext fun a => Fin.ext ?_)
  match a with
  | ⟨0, _⟩ => show (((r.val * 1 + 0) * 2 + p.val) * 64 + q.val) / 128 = r.val; omega
  | ⟨1, _⟩ => show (((r.val * 1 + 0) * 2 + p.val) * 64 + q.val) % 128 = p.val * 64 + q.val; omega

theorem sines_apply (r : Fin 32768) (h : Fin 16) (p : Fin 2) (q : Fin 64) :
    val_main_v40 (F := Ideal) x6 (ix4 r h p q)
      = sine ⟨p.val * 64 + q.val, by omega⟩ (x6 (ix2 r (⟨p.val * 64 + q.val, by omega⟩ : Fin 128))) := by
  have hr := r.isLt
  rw [val_main_v40_apply, val_main_v39_apply, ← sine_apply]
  refine congrArg (val_main_v29 (F := Ideal) x6) (funext fun a => Fin.ext ?_)
  match a with
  | ⟨0, _⟩ => show (((r.val * 1 + 0) * 2 + p.val) * 64 + q.val) / 128 = r.val; omega
  | ⟨1, _⟩ => show (((r.val * 1 + 0) * 2 + p.val) * 64 + q.val) % 128 = p.val * 64 + q.val; omega

/-- A head turned. -/
theorem turned_apply (r : Fin 32768) (h : Fin 16) (p : Fin 2) (q : Fin 64) :
    val_main_v42 (F := Ideal) x0 x1 x2 x3 x4 x5 x6 (ix4 r h p q)
      = turned (fun l => product x0 x1 x2 x3 x4 r ⟨h.val * 128 + l.val, by omega⟩) (fun l => x5 (ix2 r l)) (fun l => x6 (ix2 r l))
          ⟨p.val * 64 + q.val, by omega⟩ := by
  rw [val_main_v42_apply, val_main_v38_apply, val_main_v41_apply, half_apply, partner_apply, cosines_apply, sines_apply]
  rfl

/-- Column `n` of the heads, for a head given by its number. -/
theorem turned_at (r : Fin 32768) (n : Fin 3072) (h : Fin 16) (hh : h.val = n.val / 128) (p : Fin 2) (hp : p.val = n.val / 64 % 2)
    (q : Fin 64) (hq : q.val = n.val % 64) :
    val_main_v42 (F := Ideal) x0 x1 x2 x3 x4 x5 x6 (ix4 r h p q)
      = turned (head (product x0 x1 x2 x3 x4 r) n) (fun l => x5 (ix2 r l)) (fun l => x6 (ix2 r l))
          ⟨n.val % 128, Nat.mod_lt _ (by decide)⟩ := by
  refine (turned_apply x0 x1 x2 x3 x4 x5 x6 r h p q).trans ?_
  have e : (⟨p.val * 64 + q.val, by omega⟩ : Fin 128) = ⟨n.val % 128, Nat.mod_lt _ (by decide)⟩ :=
    Fin.ext (show p.val * 64 + q.val = n.val % 128 by omega)
  rw [e]
  refine congrArg (fun z : Fin 128 → EReal => turned z _ _ _) (funext fun l => ?_)
  unfold head
  exact congrArg (product x0 x1 x2 x3 x4 r) (Fin.ext (show h.val * 128 + l.val = n.val / 128 * 128 + l.val by rw [hh]))

theorem column_apply (r : Fin 32768) (n : Fin 3072) :
    val_main_v50 (F := Ideal) x0 x1 x2 x3 x4 x5 x6 (ix2 r n)
      = column (product x0 x1 x2 x3 x4 r) (fun l => x5 (ix2 r l)) (fun l => x6 (ix2 r l)) n := by
  have hr := r.isLt
  have hn := n.isLt
  unfold val_main_v50 column
  split_ifs with h1 h2
  · refine (concatenate_apply_piece (t := S32768x3072) 1 _ _ (ix2 r n) 0 (by show 0 < 3; omega) S32768x1024
      (val_main_v46 (F := Ideal) x0 x1 x2 x3 x4 x5 x6) rfl rfl 0 rfl (ix2 r (⟨n.val, h1⟩ : Fin 1024))
      (fun b hb => by match b with | ⟨0, _⟩ => rfl | ⟨1, _⟩ => exact absurd rfl hb) (Nat.zero_add _)).trans ?_
    rw [val_main_v46_apply, val_main_v45_apply, val_main_v43_apply, val_main_v44_apply]
    refine congrArg₂ (fun a b : EReal => a * b) ?_ rfl
    refine Eq.trans (congrArg _ (funext fun a => Fin.ext ?_)) (turned_at x0 x1 x2 x3 x4 x5 x6 r n ⟨n.val / 128, by omega⟩ rfl
      ⟨n.val / 64 % 2, by omega⟩ rfl ⟨n.val % 64, by omega⟩ rfl)
    match a with
    | ⟨0, _⟩ => show (r.val * 1024 + n.val) / 1024 = r.val; omega
    | ⟨1, _⟩ => show (r.val * 1024 + n.val) / 128 % 8 = n.val / 128; omega
    | ⟨2, _⟩ => show (r.val * 1024 + n.val) / 64 % 2 = n.val / 64 % 2; omega
    | ⟨3, _⟩ => show (r.val * 1024 + n.val) % 64 = n.val % 64; omega
  · refine (concatenate_apply_piece (t := S32768x3072) 1 _ _ (ix2 r n) 1 (by show 1 < 3; omega) S32768x1024
      (val_main_v48 (F := Ideal) x0 x1 x2 x3 x4 x5 x6) rfl rfl 1024 rfl (ix2 r (⟨n.val - 1024, by omega⟩ : Fin 1024))
      (fun b hb => by match b with | ⟨0, _⟩ => rfl | ⟨1, _⟩ => exact absurd rfl hb) (show 1024 + (n.val - 1024) = n.val by omega)).trans ?_
    rw [val_main_v48_apply, val_main_v47_apply]
    refine Eq.trans (congrArg _ (funext fun a => Fin.ext ?_)) (turned_at x0 x1 x2 x3 x4 x5 x6 r n ⟨n.val / 128, by omega⟩ rfl
      ⟨n.val / 64 % 2, by omega⟩ rfl ⟨n.val % 64, by omega⟩ rfl)
    match a with
    | ⟨0, _⟩ => show (r.val * 1024 + (n.val - 1024)) / 1024 = r.val; omega
    | ⟨1, _⟩ => show 8 + (r.val * 1024 + (n.val - 1024)) / 128 % 8 = n.val / 128; omega
    | ⟨2, _⟩ => show (r.val * 1024 + (n.val - 1024)) / 64 % 2 = n.val / 64 % 2; omega
    | ⟨3, _⟩ => show (r.val * 1024 + (n.val - 1024)) % 64 = n.val % 64; omega
  · refine (concatenate_apply_piece (t := S32768x3072) 1 _ _ (ix2 r n) 2 (by show 2 < 3; omega) S32768x1024
      (val_main_v49 (F := Ideal) x0 x1 x2 x3 x4) rfl rfl 2048 rfl (ix2 r (⟨n.val - 2048, by omega⟩ : Fin 1024))
      (fun b hb => by match b with | ⟨0, _⟩ => rfl | ⟨1, _⟩ => exact absurd rfl hb) (show 2048 + (n.val - 2048) = n.val by omega)).trans ?_
    rw [val_main_v49_apply, ← product_apply]
    refine congrArg (val_main_v23 (F := Ideal) x0 x1 x2 x3 x4) (funext fun a => Fin.ext ?_)
    match a with
    | ⟨0, _⟩ => rfl
    | ⟨1, _⟩ => show 2048 + (n.val - 2048) = n.val; omega

/-- The first result. -/
theorem heads_eq : val_main_v51 (F := Ideal) x0 x1 x2 x3 x4 x5 x6 = heads x0 x1 x2 x3 x4 x5 x6 := by
  funext i
  refine (congrArg (val_main_v51 (F := Ideal) x0 x1 x2 x3 x4 x5 x6) (ValueIdx.eq_ix2 i)).trans ?_
  exact column_apply x0 x1 x2 x3 x4 x5 x6 (i 0) (i 1)

end

end Cert.Dilated.Reference

end
-- ==== Proof.Projection.Kit.lean ====
/-
  What the projections without a rotation share: a load of a whole block, and a store of 128 columns cut from a product.
-/
module

public import Idealize.ShloMosaic.Lib.Pipeline.ValueKit
public import Idealize.ShloMosaic.Lib.Pointwise
public import Idealize.ShloMosaic.Lib.MatmulPlain
public import Idealize.ShloMosaic.Lib.KernelVsHost
public import Idealize.ShloMosaic.Lib.WholeRead

@[expose] public section

noncomputable section

namespace Cert.Projection

open Idealize.ShloMosaic.ValueIdx Idealize.ShloMosaic.TcCoe Idealize.SL.Sem
open Idealize.ShloMosaic hiding ix1 ix2 ix3 ix4

/-- A load of a whole block of two dimensions is the block. -/
theorem loaded2 {sig : RefSig} {a b : Nat} {e : EltTy} (arg : Memref sig .tc .vmem (⟨2, ![a, b]⟩ : Shape) e) (h : arg.IsWhole)
    (x : Vec Ideal (⟨2, ![a, b]⟩ : Shape) e) (inb) :
    View.readAt (Elt Ideal) arg.view (Rect.unit (s := (⟨2, ![a, b]⟩ : Shape)) ![0, 0] ![a, b] inb).toLoadRect (h.unread x) = x := by
  funext y
  refine (h.readAt_unread x (Rect.unit (s := (⟨2, ![a, b]⟩ : Shape)) ![0, 0] ![a, b] inb).toLoadRect y).trans
    (congrArg x (funext fun d => Fin.ext ?_))
  refine (Rect.idx_unit_val _ _ _ y d).trans ?_
  match d with
  | ⟨0, _⟩ => exact Nat.zero_add _
  | ⟨1, _⟩ => exact Nat.zero_add _

/-- A load of a whole block of three dimensions, the first two of size one, is the block. -/
theorem loaded3 {sig : RefSig} {b : Nat} {e : EltTy} (arg : Memref sig .tc .vmem (⟨3, ![1, 1, b]⟩ : Shape) e) (h : arg.IsWhole)
    (x : Vec Ideal (⟨3, ![1, 1, b]⟩ : Shape) e) (inb) :
    View.readAt (Elt Ideal) arg.view (Rect.unit (s := (⟨3, ![1, 1, b]⟩ : Shape)) ![0, 0, 0] ![1, 1, b] inb).toLoadRect (h.unread x)
      = x := by
  funext y
  refine (h.readAt_unread x (Rect.unit (s := (⟨3, ![1, 1, b]⟩ : Shape)) ![0, 0, 0] ![1, 1, b] inb).toLoadRect y).trans
    (congrArg x (funext fun d => Fin.ext ?_))
  refine (Rect.idx_unit_val _ _ _ y d).trans ?_
  match d with
  | ⟨0, _⟩ => exact Nat.zero_add _
  | ⟨1, _⟩ => exact Nat.zero_add _
  | ⟨2, _⟩ => exact Nat.zero_add _

/-- Columns `o` to `o + 127` of a product, at the place where the body stores them. -/
theorem cut_at {b : Nat} {φ : FTy} (P : FVec Ideal (⟨2, ![1024, b]⟩ : Shape) φ) (o : Nat)
    (h : (⟨2, ![1024, b]⟩ : Shape).Slices ![0, o] (⟨2, ![1024, 128]⟩ : Shape)) (inb) (x : (⟨2, ![1024, 128]⟩ : Shape).Idx) :
    extractStridedSlice (⟨2, ![1024, 128]⟩ : Shape) ![0, o] P h x
      = P ((Rect.unit (s := (⟨2, ![1024, b]⟩ : Shape)) ![0, o] ![1024, 128] inb).emb x) :=
  extractStridedSlice_apply _ P h x _ fun a => by
    refine (Rect.idx_unit_val _ _ _ x a).trans ?_
    match a with | ⟨0, _⟩ => rfl | ⟨1, _⟩ => rfl

/-- A store of a whole block lies where the block does. -/
theorem whole_at {a b : Nat} (inb) (x : (⟨2, ![a, b]⟩ : Shape).Idx) :
    (Rect.unit (s := (⟨2, ![a, b]⟩ : Shape)) ![0, 0] ![a, b] inb).emb x = x := by
  funext d; apply Fin.ext
  refine (Rect.idx_unit_val _ _ _ x d).trans ?_
  match d with | ⟨0, _⟩ => exact Nat.zero_add _ | ⟨1, _⟩ => exact Nat.zero_add _

end Cert.Projection

end
-- ==== Proof.Latent.Array.lean ====
/-
  The normalisation and the latent projection of the even layers. The rows are normalised as before the odd layers'
  projection (`Dilated.row`); a grid point keeps its rows, multiplies them by the 768 columns of weights and writes the
  product 128 columns at a time. The 32 points' blocks are two arrays, `latents` and `Dilated.rows`.
-/
module

public import proofs.«01_k».proof.Proof.Gen.ProjectLatentIdeal.Value
public import proofs.«01_k».proof.Proof.Gen.ProjectLatentReferenceIdeal.Read
public import proofs.«01_k».proof.Proof.Projection.Kit
public import proofs.«01_k».proof.Proof.Dilated.Reference

@[expose] public section

set_option maxRecDepth 16384

noncomputable section

namespace Cert.Latent

open Cert.ProjectLatentIdeal Cert.ProjectLatentIdeal.Gen Cert.Projection Idealize.ShloMosaic.ValueIdx Idealize.ShloMosaic.TcCoe Idealize.SL.Sem
open Idealize.ShloMosaic hiding ix1 ix2 ix3 ix4
open Cert.Dilated (normed row rows)

theorem normed_apply (x : Vec Ideal S1024x1024 .f32) (g : Vec Ideal S1x1024 .f32) (sc sh : Vec Ideal S1x1x1024 .f32)
    (r k : Fin 1024) :
    k0_pay1 (F := Ideal) x g sc sh (ix2 r k)
      = normed (fun k => x (ix2 r k)) (fun k => g (ix2 (0 : Fin 1) k)) (fun k => sc (ix3 (0 : Fin 1) (0 : Fin 1) k))
          (fun k => sh (ix3 (0 : Fin 1) (0 : Fin 1) k)) k := by
  unfold k0_pay1 normed
  simp only [pointwise]
  rfl

/-- The normalised rows of a block. -/
def blockNormed (x0 : Vec Ideal S1024x1024 .f32) (x1 : Vec Ideal S1x1024 .f32) (x2 x3 : Vec Ideal S1x1x1024 .f32)
    (y : S1024x1024.Idx) : EReal :=
  normed (fun k => x0 (ix2 (y 0 : Fin 1024) k)) (fun k => x1 (ix2 (0 : Fin 1) k)) (fun k => x2 (ix3 (0 : Fin 1) (0 : Fin 1) k))
    (fun k => x3 (ix3 (0 : Fin 1) (0 : Fin 1) k)) (y 1 : Fin 1024)

/-- Their product with the weights. -/
def blockOut (x0 : Vec Ideal S1024x1024 .f32) (x1 : Vec Ideal S1x1024 .f32) (x2 x3 : Vec Ideal S1x1x1024 .f32)
    (x4 : Vec Ideal S1024x768 .bf16) (y : S1024x768.Idx) : EReal :=
  ∑ k : Fin 1024, blockNormed x0 x1 x2 x3 (ix2 (y 0 : Fin 1024) k) * x4 (ix2 k (y 1 : Fin 768))

section

variable (c : Dev nD) (i : grid0.Coords) (arg2 : Memref sig .tc .vmem S1024x1024 .f32) (harg2 : arg2.IsWhole)
  (arg3 : Memref sig .tc .vmem S1x1024 .f32) (harg3 : arg3.IsWhole) (arg4 : Memref sig .tc .vmem S1x1x1024 .f32) (harg4 : arg4.IsWhole)
  (arg5 : Memref sig .tc .vmem S1x1x1024 .f32) (harg5 : arg5.IsWhole) (arg6 : Memref sig .tc .vmem S1024x768 .bf16) (harg6 : arg6.IsWhole)
  (arg7 : Memref sig .tc .vmem S1024x768 .f32) (harg7 : arg7.IsWhole) (arg8 : Memref sig .tc .vmem S1024x1024 .bf16) (harg8 : arg8.IsWhole)
  (arg9 : Memref sig .tc .vmem S1024x1024 .bf16) (harg9 : arg9.IsWhole) (hc0 : cond0_0 i)
  (x0 : Vec Ideal S1024x1024 .f32) (x1 : Vec Ideal S1x1024 .f32) (x2 x3 : Vec Ideal S1x1x1024 .f32) (x4 : Vec Ideal S1024x768 .bf16)

/-- The normalised rows as the body reads them back from the memory it keeps them in. -/
theorem kept_apply (y : S1024x1024.Idx) :
    kernelRun0_A.sl.v46 (F := Ideal) c arg2 harg2 arg3 harg3 arg4 harg4 arg5 harg5 arg9 x0 x1 x2 x3 y = blockNormed x0 x1 x2 x3 y := by
  obtain ⟨r, k, rfl⟩ : ∃ (r k : Fin 1024), y = ix2 r k := ⟨y 0, y 1, ValueIdx.eq_ix2 y⟩
  unfold kernelRun0_A.sl.v46
  refine (congrFun (View.readCov_unit_lit (S := S1024x1024) arg9.view _ _ (fun a => by
    match a with | ⟨0, _⟩ => rfl | ⟨1, _⟩ => rfl)) (ix2 r k)).trans ?_
  refine (normed_apply _ _ _ _ r k).trans ?_
  rw [loaded2 arg2 harg2 x0, loaded2 arg3 harg3 x1, loaded3 arg4 harg4 x2, loaded3 arg5 harg5 x3]
  rfl

/-- The product of a block. -/
theorem product_apply (inb) (y : S1024x768.Idx) :
    k0_pay2 (F := Ideal) (kernelRun0_A.sl.v46 (F := Ideal) c arg2 harg2 arg3 harg3 arg4 harg4 arg5 harg5 arg9 x0 x1 x2 x3)
      (View.readAt (Elt Ideal) arg6.view (Rect.unit (s := S1024x768) ![0, 0] S1024x768.size inb).toLoadRect (harg6.unread x4)) y
      = blockOut x0 x1 x2 x3 x4 y := by
  obtain ⟨r, n, rfl⟩ : ∃ (r : Fin 1024) (n : Fin 768), y = ix2 r n := ⟨y 0, y 1, ValueIdx.eq_ix2 y⟩
  unfold k0_pay2
  refine (Ideal.matmul_plain_apply (M := 1024) (K := 1024) (N := 768) (φ₁ := .bf16) (φ₂ := .bf16) none _ _
    (constant S1024x768 .f32 0x00000000#32) r n).trans ?_
  rw [ValueIdx.constant_apply, Ideal.ofBits_zero_f32, zero_add]
  refine Finset.sum_congr rfl fun k _ => congrArg₂ (fun a b : EReal => a * b) ?_ ?_
  · exact kept_apply c arg2 harg2 arg3 harg3 arg4 harg4 arg5 harg5 arg9 x0 x1 x2 x3 (ix2 r k)
  · exact congrFun (loaded2 arg6 harg6 x4 inb) (ix2 k n)

theorem out5_apply (y : S1024x768.Idx) :
    out0_A_5 (F := Ideal) c i arg2 harg2 arg3 harg3 arg4 harg4 arg5 harg5 arg6 harg6 arg7 harg7 arg8 harg8 arg9 harg9 hc0 x0 x1 x2 x3 x4 y
      = blockOut x0 x1 x2 x3 x4 y := by
  refine Eq.trans ?_ (product_apply c arg2 harg2 arg3 harg3 arg4 harg4 arg5 harg5 arg6 harg6 arg9 x0 x1 x2 x3 x4
    Facts₀.inb_S1024x768_S1024x768_0_0 y)
  unfold out0_A_5
  refine View.read_writes_apply_of_pieces VO0_5 _ (k0_pay2 (F := Ideal)
      (kernelRun0_A.sl.v46 (F := Ideal) c arg2 harg2 arg3 harg3 arg4 harg4 arg5 harg5 arg9 x0 x1 x2 x3)
      (View.readAt (Elt Ideal) arg6.view (Rect.unit (s := S1024x768) ![0, 0] S1024x768.size
        Facts₀.inb_S1024x768_S1024x768_0_0).toLoadRect (harg6.unread x4))) _ ?_ y
    (cover0_A_5 c i arg2 harg2 arg3 harg3 arg4 harg4 arg5 harg5 arg6 harg6 arg7 harg7 arg8 harg8 arg9 harg9 hc0 x0 x1 x2 x3 x4 y)
  intro p hp x
  unfold kernelRun0_A at hp
  simp only [List.mem_cons, List.not_mem_nil, or_false] at hp
  rcases hp with rfl | rfl | rfl | rfl | rfl | rfl <;> refine cut_at (k0_pay2 (F := Ideal)
      (kernelRun0_A.sl.v46 (F := Ideal) c arg2 harg2 arg3 harg3 arg4 harg4 arg5 harg5 arg9 x0 x1 x2 x3)
      (View.readAt (Elt Ideal) arg6.view (Rect.unit (s := S1024x768) ![0, 0] S1024x768.size
        Facts₀.inb_S1024x768_S1024x768_0_0).toLoadRect (harg6.unread x4))) _ ?_ ?_ x <;> decide

theorem out6_apply (y : S1024x1024.Idx) :
    out0_A_6 (F := Ideal) c i arg2 harg2 arg3 harg3 arg4 harg4 arg5 harg5 arg6 harg6 arg7 harg7 arg8 harg8 arg9 harg9 hc0 x0 x1 x2 x3 x4 y
      = blockNormed x0 x1 x2 x3 y := by
  unfold out0_A_6
  refine View.read_writes_apply_of_pieces VO0_6 _ (blockNormed x0 x1 x2 x3) _ ?_ y
    (cover0_A_6 c i arg2 harg2 arg3 harg3 arg4 harg4 arg5 harg5 arg6 harg6 arg7 harg7 arg8 harg8 arg9 harg9 hc0 x0 x1 x2 x3 x4 y)
  intro p hp x
  unfold kernelRun0_A at hp
  simp only [List.mem_cons, List.not_mem_nil, or_false] at hp
  rcases hp with rfl
  refine Eq.trans ?_ (congrArg (blockNormed x0 x1 x2 x3) (whole_at Facts₀.inb_S1024x1024_S1024x1024_0_0 x)).symm
  exact kept_apply c arg2 harg2 arg3 harg3 arg4 harg4 arg5 harg5 arg9 x0 x1 x2 x3 x

end

/-- The first result: the normalised rows through the weights. -/
def latents (x0 : Vec Ideal S32768x1024 .f32) (x1 : Vec Ideal S1x1024 .f32) (x2 x3 : Vec Ideal S8x1x1024 .f32)
    (x4 : Vec Ideal S1024x768 .bf16) (i : S32768x768.Idx) : EReal :=
  ∑ k : Fin 1024, row x0 x1 x2 x3 (i 0 : Fin 32768) k * x4 (ix2 k (i 1 : Fin 768))

section

variable (m : (ℓ : Loc nD τ sig) → Buf (Elt Ideal) ℓ) (c : Dev nD)

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![t.val / 4, 0, 0] :=
  (by decide +kernel : ∀ t : Fin grid0.N, win0_2.index t = ![t.val / 4, 0, 0])
theorem index3 : ∀ t : Fin cfg0.N, win0_3.index t = ![t.val / 4, 0, 0] :=
  (by decide +kernel : ∀ t : Fin grid0.N, win0_3.index t = ![t.val / 4, 0, 0])
theorem index4 : ∀ t : Fin cfg0.N, win0_4.index t = ![0, 0] :=
  (by decide +kernel : ∀ t : Fin grid0.N, win0_4.index t = ![0, 0])
theorem index5 : ∀ t : Fin cfg0.N, win0_5.index t = ![t.val, 0] :=
  (by decide +kernel : ∀ t : Fin grid0.N, win0_5.index t = ![t.val, 0])
theorem index6 : ∀ t : Fin cfg0.N, win0_6.index t = ![t.val, 0] :=
  (by decide +kernel : ∀ t : Fin grid0.N, win0_6.index t = ![t.val, 0])

/-- The position of an element of a block in the array it is a block of, window by window. -/
theorem at0 (t : Fin cfg0.N) (y : S1024x1024.Idx) (i : S32768x1024.Idx)
    (h0 : (i 0).val = t.val * 1024 + (y 0).val) (h1 : (i 1).val = 0 * 1024 + (y 1).val) :
    iblk m c 0 t y = m ((c : Thread nD τ).loc main_arg0) i := by
  show V m c main_arg0 ((win0_0.blk t).view.emb y) = _
  refine congrArg (m ((c : Thread nD τ).loc main_arg0)) (funext fun a => Fin.ext ?_)
  have e := index0 t
  match a with
  | ⟨0, _⟩ => blk_simp; rw [e]; exact h0.symm
  | ⟨1, _⟩ => blk_simp; rw [e]; exact h1.symm

theorem at1 (t : Fin cfg0.N) (y i : S1x1024.Idx) (h1 : (i 1).val = 0 * 1024 + (y 1).val) :
    iblk m c 1 t y = m ((c : Thread nD τ).loc main_arg1) i := by
  show V m c main_arg1 ((win0_1.blk t).view.emb y) = _
  refine congrArg (m ((c : Thread nD τ).loc main_arg1)) (funext fun a => Fin.ext ?_)
  have e := index1 t
  match a with
  | ⟨0, _⟩ => blk_simp; rw [e]; rfl
  | ⟨1, _⟩ => blk_simp; rw [e]; exact h1.symm

theorem at2 (t : Fin cfg0.N) (y : S1x1x1024.Idx) (i : S8x1x1024.Idx)
    (h0 : (i 0).val = t.val / 4) (h2 : (i 2).val = 0 * 1024 + (y 2).val) :
    iblk m c 2 t y = m ((c : Thread nD τ).loc main_arg2) i := by
  show V m c main_arg2 ((win0_2.blk t).view.emb y) = _
  refine congrArg (m ((c : Thread nD τ).loc main_arg2)) (funext fun a => Fin.ext ?_)
  have e := index2 t
  match a with
  | ⟨0, _⟩ => blk_simp; rw [e]; exact h0.symm
  | ⟨1, _⟩ => blk_simp; rw [e]; rfl
  | ⟨2, _⟩ => blk_simp; rw [e]; exact h2.symm

theorem at3 (t : Fin cfg0.N) (y : S1x1x1024.Idx) (i : S8x1x1024.Idx)
    (h0 : (i 0).val = t.val / 4) (h2 : (i 2).val = 0 * 1024 + (y 2).val) :
    iblk m c 3 t y = m ((c : Thread nD τ).loc main_arg3) i := by
  show V m c main_arg3 ((win0_3.blk t).view.emb y) = _
  refine congrArg (m ((c : Thread nD τ).loc main_arg3)) (funext fun a => Fin.ext ?_)
  have e := index3 t
  match a with
  | ⟨0, _⟩ => blk_simp; rw [e]; exact h0.symm
  | ⟨1, _⟩ => blk_simp; rw [e]; rfl
  | ⟨2, _⟩ => blk_simp; rw [e]; exact h2.symm

theorem at4 (t : Fin cfg0.N) (y i : S1024x768.Idx)
    (h0 : (i 0).val = 0 * 1024 + (y 0).val) (h1 : (i 1).val = 0 * 768 + (y 1).val) :
    iblk m c 4 t y = m ((c : Thread nD τ).loc main_arg4) i := by
  show V m c main_arg4 ((win0_4.blk t).view.emb y) = _
  refine congrArg (m ((c : Thread nD τ).loc main_arg4)) (funext fun a => Fin.ext ?_)
  have e := index4 t
  match a with
  | ⟨0, _⟩ => blk_simp; rw [e]; exact h0.symm
  | ⟨1, _⟩ => blk_simp; rw [e]; exact h1.symm

theorem at5 (t : Fin cfg0.N) (y : S1024x768.Idx) :
    (((win0_5.blk t).view.emb y) 0).val = t.val * 1024 + (y 0).val
      ∧ (((win0_5.blk t).view.emb y) 1).val = (y 1).val := by
  have e := index5 t
  constructor
  · blk_simp; rw [e]; rfl
  · blk_simp; rw [e]; show 0 * 768 + (y 1).val = (y 1).val; omega

theorem at6 (t : Fin cfg0.N) (y : S1024x1024.Idx) :
    (((win0_6.blk t).view.emb y) 0).val = t.val * 1024 + (y 0).val
      ∧ (((win0_6.blk t).view.emb y) 1).val = (y 1).val := by
  have e := index6 t
  constructor
  · blk_simp; rw [e]; rfl
  · blk_simp; rw [e]; show 0 * 1024 + (y 1).val = (y 1).val; omega

/-- A normalised row of a block is that row of the whole array. -/
theorem blockNormed_eq_row (t : Fin cfg0.N) (r : Fin 1024) (s : Fin 32768) (hs : s.val = t.val * 1024 + r.val) (k : Fin 1024) :
    blockNormed (iblk m c 0 t) (iblk m c 1 t) (iblk m c 2 t) (iblk m c 3 t) (ix2 r k)
      = row (m ((c : Thread nD τ).loc main_arg0)) (m ((c : Thread nD τ).loc main_arg1))
          (m ((c : Thread nD τ).loc main_arg2)) (m ((c : Thread nD τ).loc main_arg3)) s k := by
  have hr := r.isLt
  have hb : s.val / 4096 = t.val / 4 := by omega
  unfold blockNormed row
  have e0 : (fun k : Fin 1024 => (iblk m c 0 t (ix2 r k) : EReal)) = fun k => m ((c : Thread nD τ).loc main_arg0) (ix2 s k) :=
    funext fun k => at0 m c t _ _ hs (Nat.zero_add _).symm
  have e1 : (fun k : Fin 1024 => (iblk m c 1 t (ix2 (0 : Fin 1) k) : EReal))
      = fun k => m ((c : Thread nD τ).loc main_arg1) (ix2 (0 : Fin 1) k) :=
    funext fun k => at1 m c t _ _ (Nat.zero_add _).symm
  have e2 : (fun k : Fin 1024 => (iblk m c 2 t (ix3 (0 : Fin 1) (0 : Fin 1) k) : EReal))
      = fun k => m ((c : Thread nD τ).loc main_arg2) (ix3 (⟨s.val / 4096, by omega⟩ : Fin 8) (0 : Fin 1) k) :=
    funext fun k => at2 m c t _ _ hb (Nat.zero_add _).symm
  have e3 : (fun k : Fin 1024 => (iblk m c 3 t (ix3 (0 : Fin 1) (0 : Fin 1) k) : EReal))
      = fun k => m ((c : Thread nD τ).loc main_arg3) (ix3 (⟨s.val / 4096, by omega⟩ : Fin 8) (0 : Fin 1) k) :=
    funext fun k => at3 m c t _ _ hb (Nat.zero_add _).symm
  exact congr (congr (congr (congr (congrArg normed e0) e1) e2) e3) rfl

theorem block6 (t : Fin cfg0.N) (y : S1024x1024.Idx) : (outsAt0 m c t).2 y
    = rows (m ((c : Thread nD τ).loc main_arg0)) (m ((c : Thread nD τ).loc main_arg1)) (m ((c : Thread nD τ).loc main_arg2))
        (m ((c : Thread nD τ).loc main_arg3)) ((win0_6.blk t).view.emb y) := by
  obtain ⟨r0, r1⟩ := at6 t y
  dsimp only [outsAt0]
  have h := out6_apply c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _)
    (hcond0_0 t) (iblk m c 0 t) (iblk m c 1 t) (iblk m c 2 t) (iblk m c 3 t) (iblk m c 4 t) y
  refine Eq.trans h ?_
  refine (blockNormed_eq_row m c t (y 0) ((win0_6.blk t).view.emb y 0) r0 (y 1)).trans ?_
  unfold rows
  exact congrArg _ (Fin.ext r1.symm)

theorem final6 : (dats m 0 c).arrAt 6 cfg0.N
    = rows (m ((c : Thread nD τ).loc main_arg0)) (m ((c : Thread nD τ).loc main_arg1)) (m ((c : Thread nD τ).loc main_arg2))
        (m ((c : Thread nD τ).loc main_arg3)) := by
  refine (dats m 0 c).arrAt_eq_of_covers 6 _ (by decide +kernel) fun t hf y => ?_
  blk_simp
  rw [after0_6]
  exact block6 m c t y

theorem block5 (t : Fin cfg0.N) (y : S1024x768.Idx) : (outsAt0 m c t).1 y
    = latents (m ((c : Thread nD τ).loc main_arg0)) (m ((c : Thread nD τ).loc main_arg1)) (m ((c : Thread nD τ).loc main_arg2))
        (m ((c : Thread nD τ).loc main_arg3)) (m ((c : Thread nD τ).loc main_arg4)) ((win0_5.blk t).view.emb y) := by
  obtain ⟨r0, r1⟩ := at5 t y
  dsimp only [outsAt0]
  have h := out5_apply c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _)
    (hcond0_0 t) (iblk m c 0 t) (iblk m c 1 t) (iblk m c 2 t) (iblk m c 3 t) (iblk m c 4 t) y
  refine Eq.trans h ?_
  unfold blockOut latents
  exact Finset.sum_congr rfl fun k _ => congrArg₂ (fun a b : EReal => a * b)
    (blockNormed_eq_row m c t (y 0) ((win0_5.blk t).view.emb y 0) r0 k)
    (at4 m c t _ _ (Nat.zero_add _).symm (r1.trans (Nat.zero_add _).symm))

theorem final5 : (dats m 0 c).arrAt 5 cfg0.N
    = latents (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  rw [after0_5]
  exact block5 m c t y

end

section

open Cert.ProjectLatentReferenceIdeal.Read

variable (x0 : Vec Ideal S32768x1024 .f32) (x1 : Vec Ideal S1x1024 .f32) (x2 x3 : Vec Ideal S8x1x1024 .f32)
  (x4 : Vec Ideal S1024x768 .bf16)

/-- The reference normalises as the odd layers' reference does. -/
theorem reference_row (r : Fin 32768) (k : Fin 1024) :
    val_main_v19 (F := Ideal) x0 x1 x2 x3 (ix2 r k) = row x0 x1 x2 x3 r k :=
  (show val_main_v19 (F := Ideal) x0 x1 x2 x3 (ix2 r k)
    = Cert.ProjectDilReferenceIdeal.Read.val_main_v19 (F := Ideal) x0 x1 x2 x3 (ix2 r k) from rfl).trans
    (Cert.Dilated.Reference.row_apply x0 x1 x2 x3 r k)

theorem rows_eq_reference : val_main_v22 (F := Ideal) x0 x1 x2 x3 = rows x0 x1 x2 x3 := by
  funext i
  refine (congrArg (val_main_v22 (F := Ideal) x0 x1 x2 x3) (ValueIdx.eq_ix2 i)).trans ?_
  exact reference_row x0 x1 x2 x3 (i 0) (i 1)

theorem latents_eq_reference : val_main_v21 (F := Ideal) x0 x1 x2 x3 x4 = latents x0 x1 x2 x3 x4 := by
  funext i
  obtain ⟨r, n, rfl⟩ : ∃ (r : Fin 32768) (n : Fin 768), i = ix2 r n := ⟨i 0, i 1, ValueIdx.eq_ix2 i⟩
  refine (val_main_v21_apply x0 x1 x2 x3 x4 (ix2 r n)).trans (Finset.sum_congr rfl fun k _ => congrArg₂ (fun a b : EReal => a * b) ?_ ?_)
  · have e : lidx_main_v21 (ix2 r n) k = ix2 r k := funext fun a => by match a with | ⟨0, _⟩ => rfl | ⟨1, _⟩ => rfl
    rw [e]
    exact reference_row x0 x1 x2 x3 r k
  · exact congrArg x4 (funext fun a => by match a with | ⟨0, _⟩ => rfl | ⟨1, _⟩ => rfl)

end

end Cert.Latent

end
-- ==== Proof.KeysValues.Array.lean ====
/-
  The keys and values of the even layers' attention: the 256 latent columns divided by their root mean square, times a gain,
  through the weights. A grid point keeps its normalised rows, multiplies them and writes the product 128 columns at a time;
  the 32 points' blocks are one array, `result`, which is what the reference computes.
-/
module

public import proofs.«01_k».proof.Proof.Gen.ProjectKVIdeal.Value
public import proofs.«01_k».proof.Proof.Gen.ProjectKVReferenceIdeal.Read
public import proofs.«01_k».proof.Proof.Projection.Kit

@[expose] public section

set_option maxRecDepth 16384

noncomputable section

namespace Cert.KeysValues

open Cert.ProjectKVIdeal Cert.ProjectKVIdeal.Gen Cert.Projection Idealize.ShloMosaic.ValueIdx Idealize.ShloMosaic.TcCoe Idealize.SL.Sem
open Idealize.ShloMosaic hiding ix1 ix2 ix3 ix4

/-- A row divided by its root mean square, times a gain. -/
def normed (x g : Fin 256 → EReal) (k : Fin 256) : EReal :=
  x k * Ideal.rsqrt (Ideal.div (∑ j, x j * x j) (Ideal.ofBits .f32 0x43800000#32) + Ideal.ofBits .f32 0x358637BD#32) * g k

theorem normed_apply (x : Vec Ideal S1024x256 .f32) (g : Vec Ideal S1x256 .f32) (r : Fin 1024) (k : Fin 256) :
    k0_pay9 (F := Ideal) x g (ix2 r k) = normed (fun k => x (ix2 r k)) (fun k => g (ix2 (0 : Fin 1) k)) k := by
  unfold k0_pay9 normed
  simp only [pointwise]
  rfl

/-- What one grid point leaves in its block. -/
def blockOut (x0 : Vec Ideal S1024x256 .f32) (x1 : Vec Ideal S1x256 .f32) (x2 : Vec Ideal S256x2048 .bf16) (y : S1024x2048.Idx) : EReal :=
  ∑ k : Fin 256, normed (fun k => x0 (ix2 (y 0 : Fin 1024) k)) (fun k => x1 (ix2 (0 : Fin 1) k)) k * x2 (ix2 k (y 1 : Fin 2048))

section

variable (c : Dev nD) (i : grid0.Coords) (arg2 : Memref sig .tc .vmem S1024x256 .f32) (harg2 : arg2.IsWhole)
  (arg3 : Memref sig .tc .vmem S1x256 .f32) (harg3 : arg3.IsWhole) (arg4 : Memref sig .tc .vmem S256x2048 .bf16) (harg4 : arg4.IsWhole)
  (arg5 : Memref sig .tc .vmem S1024x2048 .bf16) (harg5 : arg5.IsWhole) (arg6 : Memref sig .tc .vmem S1024x256 .bf16) (harg6 : arg6.IsWhole)
  (hc0 : cond0_0 i) (x0 : Vec Ideal S1024x256 .f32) (x1 : Vec Ideal S1x256 .f32) (x2 : Vec Ideal S256x2048 .bf16)

/-- The normalised rows as the body reads them back from the memory it keeps them in. -/
theorem kept_apply (r : Fin 1024) (k : Fin 256) :
    kernelRun0_A.sl.v3 (F := Ideal) c arg2 harg2 arg3 harg3 arg6 x0 x1 (ix2 r k)
      = normed (fun k => x0 (ix2 r k)) (fun k => x1 (ix2 (0 : Fin 1) k)) k := by
  unfold kernelRun0_A.sl.v3
  refine (congrFun (View.readCov_unit_lit (S := S1024x256) arg6.view _ _ (fun a => by
    match a with | ⟨0, _⟩ => rfl | ⟨1, _⟩ => rfl)) (ix2 r k)).trans ?_
  refine (normed_apply _ _ r k).trans ?_
  rw [loaded2 arg2 harg2 x0, loaded2 arg3 harg3 x1]

/-- The product of a block. -/
theorem product_apply (y : S1024x2048.Idx) :
    kernelRun0_A.sl.r (F := Ideal) c arg2 harg2 arg3 harg3 arg4 harg4 arg6 x0 x1 x2 y = blockOut x0 x1 x2 y := by
  obtain ⟨r, n, rfl⟩ : ∃ (r : Fin 1024) (n : Fin 2048), y = ix2 r n := ⟨y 0, y 1, ValueIdx.eq_ix2 y⟩
  unfold kernelRun0_A.sl.r k0_pay10
  refine (Ideal.matmul_plain_apply (M := 1024) (K := 256) (N := 2048) (φ₁ := .bf16) (φ₂ := .bf16) none _ _
    (constant S1024x2048 .f32 0x00000000#32) r n).trans ?_
  rw [ValueIdx.constant_apply, Ideal.ofBits_zero_f32, zero_add]
  refine Finset.sum_congr rfl fun k _ => congrArg₂ (fun a b : EReal => a * b) ?_ ?_
  · exact kept_apply c arg2 harg2 arg3 harg3 arg6 x0 x1 r k
  · rw [loaded2 arg4 harg4 x2]

theorem out_apply (y : S1024x2048.Idx) :
    out0_A_3 (F := Ideal) c i arg2 harg2 arg3 harg3 arg4 harg4 arg5 harg5 arg6 harg6 hc0 x0 x1 x2 y = blockOut x0 x1 x2 y := by
  refine Eq.trans ?_ (product_apply c arg2 harg2 arg3 harg3 arg4 harg4 arg6 x0 x1 x2 y)
  unfold out0_A_3
  refine View.read_writes_apply_of_pieces VO0_3 _ (kernelRun0_A.sl.r (F := Ideal) c arg2 harg2 arg3 harg3 arg4 harg4 arg6 x0 x1 x2) _ ?_ y
    (cover0_A_3 c i arg2 harg2 arg3 harg3 arg4 harg4 arg5 harg5 arg6 harg6 hc0 x0 x1 x2 y)
  intro p hp x
  unfold kernelRun0_A at hp
  simp only [List.mem_cons, List.not_mem_nil, or_false] at hp
  rcases hp with rfl | rfl | rfl | rfl | rfl | rfl | rfl | rfl | rfl | rfl | rfl | rfl | rfl | rfl | rfl | rfl <;>
    refine cut_at (kernelRun0_A.sl.r (F := Ideal) c arg2 harg2 arg3 harg3 arg4 harg4 arg6 x0 x1 x2) _ ?_ ?_ x <;> decide

end

/-- The array the points leave. -/
def result (x0 : Vec Ideal S32768x768 .f32) (x1 : Vec Ideal S1x256 .f32) (x2 : Vec Ideal S256x2048 .bf16) (i : S32768x2048.Idx) : EReal :=
  ∑ k : Fin 256, normed (fun k => x0 (ix2 (i 0 : Fin 32768) (⟨512 + k.val, by omega⟩ : Fin 768))) (fun k => x1 (ix2 (0 : Fin 1) k)) k
    * x2 (ix2 k (i 1 : Fin 2048))

section

variable (m : (ℓ : Loc nD τ sig) → Buf (Elt Ideal) ℓ) (c : Dev nD)

theorem index0 : ∀ t : Fin cfg0.N, win0_0.index t = ![t.val, 2] :=
  (by decide +kernel : ∀ t : Fin grid0.N, win0_0.index t = ![t.val, 2])
theorem index1 : ∀ t : Fin cfg0.N, win0_1.index t = ![0, 0] :=
  (by decide +kernel : ∀ t : Fin grid0.N, win0_1.index t = ![0, 0])
theorem index2 : ∀ t : Fin cfg0.N, win0_2.index t = ![0, 0] :=
  (by decide +kernel : ∀ t : Fin grid0.N, win0_2.index t = ![0, 0])
theorem index3 : ∀ t : Fin cfg0.N, win0_3.index t = ![t.val, 0] :=
  (by decide +kernel : ∀ t : Fin grid0.N, win0_3.index t = ![t.val, 0])

theorem at0 (t : Fin cfg0.N) (y : S1024x256.Idx) (i : S32768x768.Idx)
    (h0 : (i 0).val = t.val * 1024 + (y 0).val) (h1 : (i 1).val = 2 * 256 + (y 1).val) :
    iblk m c 0 t y = m ((c : Thread nD τ).loc main_arg0) i := by
  show V m c main_arg0 ((win0_0.blk t).view.emb y) = _
  refine congrArg (m ((c : Thread nD τ).loc main_arg0)) (funext fun a => Fin.ext ?_)
  have e := index0 t
  match a with
  | ⟨0, _⟩ => blk_simp; rw [e]; exact h0.symm
  | ⟨1, _⟩ => blk_simp; rw [e]; exact h1.symm

theorem at1 (t : Fin cfg0.N) (y i : S1x256.Idx) (h1 : (i 1).val = 0 * 256 + (y 1).val) :
    iblk m c 1 t y = m ((c : Thread nD τ).loc main_arg1) i := by
  show V m c main_arg1 ((win0_1.blk t).view.emb y) = _
  refine congrArg (m ((c : Thread nD τ).loc main_arg1)) (funext fun a => Fin.ext ?_)
  have e := index1 t
  match a with
  | ⟨0, _⟩ => blk_simp; rw [e]; rfl
  | ⟨1, _⟩ => blk_simp; rw [e]; exact h1.symm

theorem at2 (t : Fin cfg0.N) (y i : S256x2048.Idx)
    (h0 : (i 0).val = 0 * 256 + (y 0).val) (h1 : (i 1).val = 0 * 2048 + (y 1).val) :
    iblk m c 2 t y = m ((c : Thread nD τ).loc main_arg2) i := by
  show V m c main_arg2 ((win0_2.blk t).view.emb y) = _
  refine congrArg (m ((c : Thread nD τ).loc main_arg2)) (funext fun a => Fin.ext ?_)
  have e := index2 t
  match a with
  | ⟨0, _⟩ => blk_simp; rw [e]; exact h0.symm
  | ⟨1, _⟩ => blk_simp; rw [e]; exact h1.symm

theorem at3 (t : Fin cfg0.N) (y : S1024x2048.Idx) :
    (((win0_3.blk t).view.emb y) 0).val = t.val * 1024 + (y 0).val
      ∧ (((win0_3.blk t).view.emb y) 1).val = (y 1).val := by
  have e := index3 t
  constructor
  · blk_simp; rw [e]; rfl
  · blk_simp; rw [e]; show 0 * 2048 + (y 1).val = (y 1).val; omega

theorem block (t : Fin cfg0.N) (y : S1024x2048.Idx) : outsAt0 m c t y
    = result (m ((c : Thread nD τ).loc main_arg0)) (m ((c : Thread nD τ).loc main_arg1)) (m ((c : Thread nD τ).loc main_arg2))
        ((win0_3.blk t).view.emb y) := by
  obtain ⟨r0, r1⟩ := at3 t y
  dsimp only [outsAt0]
  have h := out_apply c (grid0.coords t) (ms0_0 t) (hs0_0 t) (ms0_1 t) (hs0_1 t) (ms0_2 t) (hs0_2 t) (ms0_3 t) (hs0_3 t) scM0_0
    (Memref.isWhole_whole _) (hcond0_0 t) (iblk m c 0 t) (iblk m c 1 t) (iblk m c 2 t) y
  refine Eq.trans h ?_
  unfold blockOut result
  have e0 : (fun k : Fin 256 => (iblk m c 0 t (ix2 (y 0 : Fin 1024) k) : EReal))
      = fun k => m ((c : Thread nD τ).loc main_arg0) (ix2 ((win0_3.blk t).view.emb y 0 : Fin 32768) (⟨512 + k.val, by omega⟩ : Fin 768)) :=
    funext fun k => at0 m c t _ _ r0 rfl
  have e1 : (fun k : Fin 256 => (iblk m c 1 t (ix2 (0 : Fin 1) k) : EReal))
      = fun k => m ((c : Thread nD τ).loc main_arg1) (ix2 (0 : Fin 1) k) :=
    funext fun k => at1 m c t _ _ (Nat.zero_add _).symm
  refine Finset.sum_congr rfl fun k _ => congrArg₂ (fun a b : EReal => a * b) (congr (congr (congrArg normed e0) e1) rfl) ?_
  exact at2 m c t _ _ (Nat.zero_add _).symm (r1.trans (Nat.zero_add _).symm)

theorem final : (dats m 0 c).arrAt 3 cfg0.N
    = result (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  exact block m c t y

end

section

open Cert.ProjectKVReferenceIdeal.Read

variable (x0 : Vec Ideal S32768x768 .f32) (x1 : Vec Ideal S1x256 .f32) (x2 : Vec Ideal S256x2048 .bf16)

/-- The reference's normalised latent row. -/
theorem reference_row (r : Fin 32768) (k : Fin 256) :
    val_main_v12 (F := Ideal) x0 x1 (ix2 r k)
      = normed (fun k => x0 (ix2 r (⟨512 + k.val, by omega⟩ : Fin 768))) (fun k => x1 (ix2 (0 : Fin 1) k)) k := by
  have ex : ∀ k : Fin 256, val_main_v0 (F := Ideal) x0 (ix2 r k) = x0 (ix2 r (⟨512 + k.val, by omega⟩ : Fin 768)) := fun k => by
    rw [val_main_v0_apply]
    exact congrArg x0 (funext fun a => by match a with | ⟨0, _⟩ => rfl | ⟨1, _⟩ => rfl)
  rw [val_main_v12_apply, val_main_v10_apply, val_main_v9_apply, val_main_v8_apply, val_main_v7_apply, val_main_v5_apply,
    val_main_v3_apply, val_main_v11_apply, ex]
  have eg : x1 (idx_main_v11 (ix2 r k)) = x1 (ix2 (0 : Fin 1) k) :=
    congrArg x1 (funext fun a => by match a with | ⟨0, _⟩ => rfl | ⟨1, _⟩ => rfl)
  have es : val_main_v2 (F := Ideal) x0 (idx_main_v3 (idx_main_v9 (ix2 r k)))
      = ∑ j : Fin 256, x0 (ix2 r (⟨512 + j.val, by omega⟩ : Fin 768)) * x0 (ix2 r (⟨512 + j.val, by omega⟩ : Fin 768)) := by
    rw [val_main_v2_apply, val_main_cst_apply, show (FloatOps.ofBits .f32 0x00000000#32 : Ideal .f32) = (0 : EReal) from Ideal.ofBits_zero_f32]
    refine (zero_add (M := EReal) _).trans (Finset.sum_congr rfl fun j _ => ?_)
    have e : idx_main_v2 (idx_main_v3 (idx_main_v9 (ix2 r k))) j = ix2 r j :=
      funext fun a => by match a with | ⟨0, _⟩ => rfl | ⟨1, _⟩ => rfl
    rw [val_main_v1_apply, e, ex]
    rfl
  rw [eg, es]
  rfl

theorem result_eq_reference : val_main_v15 (F := Ideal) x0 x1 x2 = result x0 x1 x2 := by
  funext i
  obtain ⟨r, n, rfl⟩ : ∃ (r : Fin 32768) (n : Fin 2048), i = ix2 r n := ⟨i 0, i 1, ValueIdx.eq_ix2 i⟩
  refine (show val_main_v15 (F := Ideal) x0 x1 x2 (ix2 r n) = val_main_v14 (F := Ideal) x0 x1 x2 (ix2 r n) from rfl).trans ?_
  refine (val_main_v14_apply x0 x1 x2 (ix2 r n)).trans (Finset.sum_congr rfl fun k _ => congrArg₂ (fun a b : EReal => a * b) ?_ ?_)
  · have e : lidx_main_v14 (ix2 r n) k = ix2 r k := funext fun a => by match a with | ⟨0, _⟩ => rfl | ⟨1, _⟩ => rfl
    rw [e]
    exact reference_row x0 x1 r k
  · exact congrArg x2 (funext fun a => by match a with | ⟨0, _⟩ => rfl | ⟨1, _⟩ => rfl)

end

end Cert.KeysValues

end
-- ==== Proof.Combination.Block.lean ====
/-
  The combination of the experts' rows: a token's four rows, each times its gate, added up, times the gate of the batch, added
  to the stream; in the last layer the row is then divided by its root mean square. What a grid point computes of a block,
  read at an index.
-/
module

public import proofs.«01_k».proof.Proof.Gen.CombineIdeal.Value
public import proofs.«01_k».proof.Proof.Gen.CombineLastIdeal.Value
public import Idealize.ShloMosaic.Lib.Pipeline.ValueKit
public import Idealize.ShloMosaic.Lib.Pointwise
public import Idealize.ShloMosaic.Lib.KernelVsHost

@[expose] public section

set_option maxRecDepth 16384

noncomputable section

namespace Cert.Combination

open Cert.CombineLastIdeal Cert.CombineLastIdeal.Gen Idealize.ShloMosaic.ValueIdx Idealize.ShloMosaic.TcCoe Idealize.SL.Sem
open Idealize.ShloMosaic hiding ix1 ix2 ix3 ix4

/-- The first half of a word. -/
def high (w : BitVec 32) : EReal := Ideal.ofBits .f32 (w &&& 4294901760#32)
/-- The second half of a word. -/
def low (w : BitVec 32) : EReal := Ideal.ofBits .f32 (w <<< 16)

/-- The columns of a packed row: the first halves of its words, then the second halves. -/
def columns (w : Fin 512 → BitVec 32) (k : Fin 1024) : EReal :=
  if h : k.val < 512 then high (w ⟨k.val, h⟩) else low (w ⟨k.val - 512, by omega⟩)

/-- Four values, each times its gate. -/
def mix (g y : Fin 4 → EReal) : EReal := g 0 * y 0 + g 1 * y 1 + g 2 * y 2 + g 3 * y 3

/-- The four experts' rows of a token added to its row of the stream. -/
def stream (y : Fin 4 → Fin 512 → BitVec 32) (g : Fin 4 → EReal) (x b : Fin 1024 → EReal) (k : Fin 1024) : EReal :=
  x k + b k * mix g fun e => columns (y e) k

/-- A row divided by its root mean square, times a gain. -/
def normed (s g : Fin 1024 → EReal) (k : Fin 1024) : EReal :=
  s k * Ideal.rsqrt (Ideal.div (∑ j, s j * s j) (Ideal.ofBits .f32 0x44800000#32) + Ideal.ofBits .f32 0x358637BD#32) * g k

theorem high_apply (g : Vec Ideal S1024x4 .f32) (y0 y1 y2 y3 : Vec Ideal S1024x512 .i32) (x : Vec Ideal S1024x512 .f32)
    (b : Vec Ideal S1x1x512 .f32) (r : Fin 1024) (k : Fin 512) :
    k0_pay8 (F := Ideal) g (k0_pay5 (F := Ideal) g y0 y1 y2) y3 4294901760#32 x b (ix2 r k)
      = x (ix2 r k) + b (ix3 (0 : Fin 1) (0 : Fin 1) k) * mix (fun e => g (ix2 r e))
          ![high (y0 (ix2 r k)), high (y1 (ix2 r k)), high (y2 (ix2 r k)), high (y3 (ix2 r k))] := by
  unfold k0_pay8 k0_pay5 k0_pay7 k0_pay4 k0_pay3 k0_pay2 mix
  simp only [pointwise]
  refine congrArg (fun a : EReal => x (ix2 r k) + b (ix3 (0 : Fin 1) (0 : Fin 1) k) * a) (congrArg₂ (fun a b : EReal => a + b)
    (congrArg₂ (fun a b : EReal => a + b) (congrArg₂ (fun a b : EReal => a + b) (congrArg₂ (fun a b : EReal => a * b) ?_ ?_)
      (congrArg₂ (fun a b : EReal => a * b) ?_ ?_)) (congrArg₂ (fun a b : EReal => a * b) ?_ ?_))
    (congrArg₂ (fun a b : EReal => a * b) ?_ ?_))
  all_goals first
    | rfl
    | exact congrArg g (funext fun a => by match a with | ⟨0, _⟩ => exact Fin.ext (Nat.zero_add _) | ⟨1, _⟩ => rfl)

theorem low_apply (g : Vec Ideal S1024x4 .f32) (y0 y1 y2 y3 : Vec Ideal S1024x512 .i32) (x : Vec Ideal S1024x512 .f32)
    (b : Vec Ideal S1x1x512 .f32) (r : Fin 1024) (k : Fin 512) :
    k0_pay9 (F := Ideal) g (k0_pay6 (F := Ideal) g y0 y1 y2) y3 x b (ix2 r k)
      = x (ix2 r k) + b (ix3 (0 : Fin 1) (0 : Fin 1) k) * mix (fun e => g (ix2 r e))
          ![low (y0 (ix2 r k)), low (y1 (ix2 r k)), low (y2 (ix2 r k)), low (y3 (ix2 r k))] := by
  unfold k0_pay9 k0_pay6 k0_pay7 k0_pay4 k0_pay3 k0_pay2 mix
  simp only [pointwise]
  refine congrArg (fun a : EReal => x (ix2 r k) + b (ix3 (0 : Fin 1) (0 : Fin 1) k) * a) (congrArg₂ (fun a b : EReal => a + b)
    (congrArg₂ (fun a b : EReal => a + b) (congrArg₂ (fun a b : EReal => a + b) (congrArg₂ (fun a b : EReal => a * b) ?_ ?_)
      (congrArg₂ (fun a b : EReal => a * b) ?_ ?_)) (congrArg₂ (fun a b : EReal => a * b) ?_ ?_))
    (congrArg₂ (fun a b : EReal => a * b) ?_ ?_))
  all_goals first
    | rfl
    | exact congrArg g (funext fun a => by match a with | ⟨0, _⟩ => exact Fin.ext (Nat.zero_add _) | ⟨1, _⟩ => rfl)

theorem root_apply (g : Vec Ideal S1024x4 .f32) (v37 v40 : FVec Ideal S1024x512 .f32) (y3 : Vec Ideal S1024x512 .i32) (w : BitVec 32)
    (x : Vec Ideal S1024x512 .f32) (b : Vec Ideal S1x1x512 .f32) (x' : Vec Ideal S1024x512 .f32) (b' : Vec Ideal S1x1x512 .f32)
    (r : Fin 1024) :
    k0_pay10 (F := Ideal) g v37 v40 y3 w x b x' b' (ix2 r (0 : Fin 1))
      = Ideal.rsqrt (Ideal.div ((∑ k : Fin 512, k0_pay8 (F := Ideal) g v37 y3 w x b (ix2 r k) * k0_pay8 (F := Ideal) g v37 y3 w x b (ix2 r k))
          + ∑ k : Fin 512, k0_pay9 (F := Ideal) g v40 y3 x' b' (ix2 r k) * k0_pay9 (F := Ideal) g v40 y3 x' b' (ix2 r k))
          (Ideal.ofBits .f32 0x44800000#32) + Ideal.ofBits .f32 0x358637BD#32) := by
  unfold k0_pay10
  generalize k0_pay8 (F := Ideal) g v37 y3 w x b = u
  generalize k0_pay9 (F := Ideal) g v40 y3 x' b' = v
  simp only [pointwise]
  rfl

/-! ## The two halves of the columns -/

theorem columns_left (w : Fin 512 → BitVec 32) (k : Fin 512) : columns w (Fin.castAdd 512 k : Fin (512 + 512)) = high (w k) :=
  dif_pos k.isLt

theorem columns_right (w : Fin 512 → BitVec 32) (k : Fin 512) : columns w (Fin.natAdd 512 k : Fin (512 + 512)) = low (w k) := by
  refine (dif_neg (show ¬ 512 + k.val < 512 by omega)).trans (congrArg low (congrArg w (Fin.ext ?_)))
  show 512 + k.val - 512 = k.val
  omega

theorem four_left (a b c d : Fin 512 → BitVec 32) (k : Fin 512) :
    ![high (a k), high (b k), high (c k), high (d k)] = fun e => columns (![a, b, c, d] e) (Fin.castAdd 512 k : Fin (512 + 512)) := by
  rw [← columns_left a, ← columns_left b, ← columns_left c, ← columns_left d]
  funext e
  match e with
  | ⟨0, _⟩ => rfl
  | ⟨1, _⟩ => rfl
  | ⟨2, _⟩ => rfl
  | ⟨3, _⟩ => rfl

theorem four_right (a b c d : Fin 512 → BitVec 32) (k : Fin 512) :
    ![low (a k), low (b k), low (c k), low (d k)] = fun e => columns (![a, b, c, d] e) (Fin.natAdd 512 k : Fin (512 + 512)) := by
  rw [← columns_right a, ← columns_right b, ← columns_right c, ← columns_right d]
  funext e
  match e with
  | ⟨0, _⟩ => rfl
  | ⟨1, _⟩ => rfl
  | ⟨2, _⟩ => rfl
  | ⟨3, _⟩ => rfl

/-- The row a grid point computes from its blocks, before the normalisation. -/
def row (x0 x1 x2 x3 : Vec Ideal S1024x512 .i32) (x4 : Vec Ideal S1024x4 .f32) (x5 : Vec Ideal S1024x1024 .f32)
    (x6 : Vec Ideal S1x1x1024 .f32) (r : Fin 1024) : Fin 1024 → EReal :=
  stream ![fun j => x0 (ix2 r j), fun j => x1 (ix2 r j), fun j => x2 (ix2 r j), fun j => x3 (ix2 r j)]
    (fun e => x4 (ix2 r e)) (fun k => x5 (ix2 r k)) (fun k => x6 (ix3 (0 : Fin 1) (0 : Fin 1) k))

theorem whole_gates {e : EltTy} (x : Vec Ideal S1024x4 e) : View.ld x r0_0 = x := by
  funext y
  exact View.ld_unit_apply_of x _ _ _ _ _ fun a => by match a with | ⟨0, _⟩ => exact (Nat.zero_add _).symm | ⟨1, _⟩ => exact (Nat.zero_add _).symm

theorem whole_words {e : EltTy} (x : Vec Ideal S1024x512 e) : View.ld x r0_1 = x := by
  funext y
  exact View.ld_unit_apply_of x _ _ _ _ _ fun a => by match a with | ⟨0, _⟩ => exact (Nat.zero_add _).symm | ⟨1, _⟩ => exact (Nat.zero_add _).symm

theorem whole_gain {e : EltTy} (x : Vec Ideal S1x1024 e) : View.ld x r0_6 = x := by
  funext y
  exact View.ld_unit_apply_of x _ _ _ _ _ fun a => by match a with | ⟨0, _⟩ => exact (Nat.zero_add _).symm | ⟨1, _⟩ => exact (Nat.zero_add _).symm

theorem left_stream (x : Vec Ideal S1024x1024 .f32) (r : Fin 1024) (k : Fin 512) :
    View.ld x r0_2 (ix2 r k) = x (ix2 r (Fin.castAdd 512 k : Fin (512 + 512))) :=
  View.ld_unit_apply_of x _ _ _ _ _ fun a => by
    match a with | ⟨0, _⟩ => exact (Nat.zero_add _).symm | ⟨1, _⟩ => exact (Nat.zero_add _).symm

theorem right_stream (x : Vec Ideal S1024x1024 .f32) (r : Fin 1024) (k : Fin 512) :
    View.ld x r0_4 (ix2 r k) = x (ix2 r (Fin.natAdd 512 k : Fin (512 + 512))) :=
  View.ld_unit_apply_of x _ _ _ _ _ fun a => by
    match a with | ⟨0, _⟩ => exact (Nat.zero_add _).symm | ⟨1, _⟩ => rfl

theorem left_gate (x : Vec Ideal S1x1x1024 .f32) (k : Fin 512) :
    View.ld x r0_3 (ix3 (0 : Fin 1) (0 : Fin 1) k) = x (ix3 (0 : Fin 1) (0 : Fin 1) (Fin.castAdd 512 k : Fin (512 + 512))) :=
  View.ld_unit_apply_of x _ _ _ _ _ fun a => by
    match a with | ⟨0, _⟩ => rfl | ⟨1, _⟩ => rfl | ⟨2, _⟩ => exact (Nat.zero_add _).symm

theorem right_gate (x : Vec Ideal S1x1x1024 .f32) (k : Fin 512) :
    View.ld x r0_5 (ix3 (0 : Fin 1) (0 : Fin 1) k) = x (ix3 (0 : Fin 1) (0 : Fin 1) (Fin.natAdd 512 k : Fin (512 + 512))) :=
  View.ld_unit_apply_of x _ _ _ _ _ fun a => by
    match a with | ⟨0, _⟩ => rfl | ⟨1, _⟩ => rfl | ⟨2, _⟩ => rfl

/-- The first half of a block's row. -/
theorem left_row (x0 x1 x2 x3 : Vec Ideal S1024x512 .i32) (x4 : Vec Ideal S1024x4 .f32) (x5 : Vec Ideal S1024x1024 .f32)
    (x6 : Vec Ideal S1x1x1024 .f32) (r : Fin 1024) (k : Fin 512) :
    k0_pay8 (F := Ideal) (View.ld x4 r0_0) (k0_pay5 (F := Ideal) (View.ld x4 r0_0) (View.ld x0 r0_1) (View.ld x1 r0_1) (View.ld x2 r0_1))
        (View.ld x3 r0_1) 4294901760#32 (View.ld x5 r0_2) (View.ld x6 r0_3) (ix2 r k)
      = row x0 x1 x2 x3 x4 x5 x6 r (Fin.castAdd 512 k : Fin (512 + 512)) := by
  rw [whole_gates x4, whole_words x0, whole_words x1, whole_words x2, whole_words x3]
  refine (high_apply x4 x0 x1 x2 x3 _ _ r k).trans ?_
  rw [left_stream, left_gate]
  unfold row stream
  refine congrArg (fun y : Fin 4 → EReal => x5 (ix2 r (Fin.castAdd 512 k : Fin (512 + 512)))
    + x6 (ix3 (0 : Fin 1) (0 : Fin 1) (Fin.castAdd 512 k : Fin (512 + 512))) * mix (fun e => x4 (ix2 r e)) y)
    (four_left (fun j => x0 (ix2 r j)) (fun j => x1 (ix2 r j)) (fun j => x2 (ix2 r j)) (fun j => x3 (ix2 r j)) k)

/-- The second half of a block's row. -/
theorem right_row (x0 x1 x2 x3 : Vec Ideal S1024x512 .i32) (x4 : Vec Ideal S1024x4 .f32) (x5 : Vec Ideal S1024x1024 .f32)
    (x6 : Vec Ideal S1x1x1024 .f32) (r : Fin 1024) (k : Fin 512) :
    k0_pay9 (F := Ideal) (View.ld x4 r0_0) (k0_pay6 (F := Ideal) (View.ld x4 r0_0) (View.ld x0 r0_1) (View.ld x1 r0_1) (View.ld x2 r0_1))
        (View.ld x3 r0_1) (View.ld x5 r0_4) (View.ld x6 r0_5) (ix2 r k)
      = row x0 x1 x2 x3 x4 x5 x6 r (Fin.natAdd 512 k : Fin (512 + 512)) := by
  rw [whole_gates x4, whole_words x0, whole_words x1, whole_words x2, whole_words x3]
  refine (low_apply x4 x0 x1 x2 x3 _ _ r k).trans ?_
  rw [right_stream, right_gate]
  unfold row stream
  refine congrArg (fun y : Fin 4 → EReal => x5 (ix2 r (Fin.natAdd 512 k : Fin (512 + 512)))
    + x6 (ix3 (0 : Fin 1) (0 : Fin 1) (Fin.natAdd 512 k : Fin (512 + 512))) * mix (fun e => x4 (ix2 r e)) y)
    (four_right (fun j => x0 (ix2 r j)) (fun j => x1 (ix2 r j)) (fun j => x2 (ix2 r j)) (fun j => x3 (ix2 r j)) k)

/-- The root of a block's row: over both halves, so over the whole row. -/
theorem root_row (x0 x1 x2 x3 : Vec Ideal S1024x512 .i32) (x4 : Vec Ideal S1024x4 .f32) (x5 : Vec Ideal S1024x1024 .f32)
    (x6 : Vec Ideal S1x1x1024 .f32) (r : Fin 1024) :
    k0_pay10 (F := Ideal) (View.ld x4 r0_0)
        (k0_pay5 (F := Ideal) (View.ld x4 r0_0) (View.ld x0 r0_1) (View.ld x1 r0_1) (View.ld x2 r0_1))
        (k0_pay6 (F := Ideal) (View.ld x4 r0_0) (View.ld x0 r0_1) (View.ld x1 r0_1) (View.ld x2 r0_1))
        (View.ld x3 r0_1) 4294901760#32 (View.ld x5 r0_2) (View.ld x6 r0_3) (View.ld x5 r0_4) (View.ld x6 r0_5) (ix2 r (0 : Fin 1))
      = Ideal.rsqrt (Ideal.div (∑ j, row x0 x1 x2 x3 x4 x5 x6 r j * row x0 x1 x2 x3 x4 x5 x6 r j) (Ideal.ofBits .f32 0x44800000#32)
          + Ideal.ofBits .f32 0x358637BD#32) := by
  refine (root_apply _ _ _ _ _ _ _ _ _ r).trans ?_
  refine congrArg (fun s : EReal => Ideal.rsqrt (Ideal.div s (Ideal.ofBits .f32 0x44800000#32) + Ideal.ofBits .f32 0x358637BD#32)) ?_
  refine Eq.trans ?_ (Fin.sum_univ_add (a := 512) (b := 512) (M := EReal)
    (fun j => row x0 x1 x2 x3 x4 x5 x6 r j * row x0 x1 x2 x3 x4 x5 x6 r j)).symm
  exact congrArg₂ (fun a b : EReal => a + b)
    (Finset.sum_congr rfl fun k _ => by rw [left_row x0 x1 x2 x3 x4 x5 x6 r k])
    (Finset.sum_congr rfl fun k _ => by rw [right_row x0 x1 x2 x3 x4 x5 x6 r k])

theorem scaled_right (v : FVec Ideal S1024x512 .f32) (g : Vec Ideal S1x1024 .f32) (w : FVec Ideal S1024x1 .f32) (r : Fin 1024) (k : Fin 512) :
    k0_pay1 (F := Ideal) v g w (ix2 r k)
      = v (ix2 r k) * w (ix2 r (0 : Fin 1)) * g (ix2 (0 : Fin 1) (Fin.natAdd 512 k : Fin (512 + 512))) := by
  unfold k0_pay1
  simp only [pointwise]
  rfl

theorem scaled_left (g : Vec Ideal S1024x4 .f32) (v37 v40 : FVec Ideal S1024x512 .f32) (y3 : Vec Ideal S1024x512 .i32) (w : BitVec 32)
    (x : Vec Ideal S1024x512 .f32) (b : Vec Ideal S1x1x512 .f32) (x' : Vec Ideal S1024x512 .f32) (b' : Vec Ideal S1x1x512 .f32)
    (h : Vec Ideal S1x1024 .f32) (r : Fin 1024) (k : Fin 512) :
    k0_pay11 (F := Ideal) g v37 v40 y3 w x b x' b' h (ix2 r k)
      = k0_pay8 (F := Ideal) g v37 y3 w x b (ix2 r k) * k0_pay10 (F := Ideal) g v37 v40 y3 w x b x' b' (ix2 r (0 : Fin 1))
          * h (ix2 (0 : Fin 1) (Fin.castAdd 512 k : Fin (512 + 512))) := by
  unfold k0_pay11
  generalize k0_pay8 (F := Ideal) g v37 y3 w x b = u
  generalize k0_pay10 (F := Ideal) g v37 v40 y3 w x b x' b' = v
  simp only [pointwise]
  refine congrArg (fun a : EReal => u (ix2 r k) * v (ix2 r (0 : Fin 1)) * a) (congrArg h (funext fun a => ?_))
  match a with
  | ⟨0, _⟩ => rfl
  | ⟨1, _⟩ => exact Fin.ext (Nat.zero_add _)

/-! ## The whole arrays -/

/-- A row of the whole result before the normalisation, from the arrays. -/
def resultRow (x0 : Vec Ideal S131072x512 .i32) (x1 : Vec Ideal S32768x4 .f32) (x2 : Vec Ideal S32768x1024 .f32)
    (x3 : Vec Ideal S8x1x1024 .f32) (r : Fin 32768) : Fin 1024 → EReal :=
  stream (fun e j => x0 (ix2 (⟨e.val * 32768 + r.val, by omega⟩ : Fin 131072) j)) (fun e => x1 (ix2 r e)) (fun k => x2 (ix2 r k))
    (fun k => x3 (ix3 (⟨r.val / 4096, by omega⟩ : Fin 8) (0 : Fin 1) k))

/-- The combination: the stream with the experts' rows added. -/
def result (x0 : Vec Ideal S131072x512 .i32) (x1 : Vec Ideal S32768x4 .f32) (x2 : Vec Ideal S32768x1024 .f32)
    (x3 : Vec Ideal S8x1x1024 .f32) (i : S32768x1024.Idx) : EReal :=
  resultRow x0 x1 x2 x3 (i 0 : Fin 32768) (i 1 : Fin 1024)

/-- The combination and the last normalisation. -/
def lastResult (x0 : Vec Ideal S131072x512 .i32) (x1 : Vec Ideal S32768x4 .f32) (x2 : Vec Ideal S32768x1024 .f32)
    (x3 : Vec Ideal S8x1x1024 .f32) (x4 : Vec Ideal S1x1024 .f32) (i : S32768x1024.Idx) : EReal :=
  normed (resultRow x0 x1 x2 x3 (i 0 : Fin 32768)) (fun k => x4 (ix2 (0 : Fin 1) k)) (i 1 : Fin 1024)

/-- The row of a block is the row of the arrays that its grid point's blocks were cut from. -/
theorem row_eq_resultRow (x0 x1 x2 x3 : Vec Ideal S1024x512 .i32) (x4 : Vec Ideal S1024x4 .f32) (x5 : Vec Ideal S1024x1024 .f32)
    (x6 : Vec Ideal S1x1x1024 .f32) (X0 : Vec Ideal S131072x512 .i32) (X1 : Vec Ideal S32768x4 .f32) (X2 : Vec Ideal S32768x1024 .f32)
    (X3 : Vec Ideal S8x1x1024 .f32) (r : Fin 1024) (R : Fin 32768)
    (h0 : ∀ j, x0 (ix2 r j) = X0 (ix2 (⟨0 * 32768 + R.val, by omega⟩ : Fin 131072) j))
    (h1 : ∀ j, x1 (ix2 r j) = X0 (ix2 (⟨1 * 32768 + R.val, by omega⟩ : Fin 131072) j))
    (h2 : ∀ j, x2 (ix2 r j) = X0 (ix2 (⟨2 * 32768 + R.val, by omega⟩ : Fin 131072) j))
    (h3 : ∀ j, x3 (ix2 r j) = X0 (ix2 (⟨3 * 32768 + R.val, by omega⟩ : Fin 131072) j))
    (h4 : ∀ e, x4 (ix2 r e) = X1 (ix2 R e)) (h5 : ∀ k, x5 (ix2 r k) = X2 (ix2 R k))
    (h6 : ∀ k, x6 (ix3 (0 : Fin 1) (0 : Fin 1) k) = X3 (ix3 (⟨R.val / 4096, by omega⟩ : Fin 8) (0 : Fin 1) k)) :
    row x0 x1 x2 x3 x4 x5 x6 r = resultRow X0 X1 X2 X3 R := by
  unfold row resultRow
  rw [funext h4, funext h5, funext h6, funext h0, funext h1, funext h2, funext h3]
  refine congrArg (fun y => stream y (fun e => X1 (ix2 R e)) (fun k => X2 (ix2 R k)) _) (funext fun e => ?_)
  match e with
  | ⟨0, _⟩ => rfl
  | ⟨1, _⟩ => rfl
  | ⟨2, _⟩ => rfl
  | ⟨3, _⟩ => rfl

end Cert.Combination

end
-- ==== Proof.Combination.Middle.lean ====
/-
  The combination of the first three layers: the blocks of the 32 grid points are one array, `result`.
-/
module

public import proofs.«01_k».proof.Proof.Combination.Block

@[expose] public section

set_option maxRecDepth 16384

noncomputable section

namespace Cert.Combination.Middle

open Cert.CombineIdeal Cert.CombineIdeal.Gen Idealize.ShloMosaic.ValueIdx Idealize.ShloMosaic.TcCoe Idealize.SL.Sem
open Idealize.ShloMosaic hiding ix1 ix2 ix3 ix4

/-- What one grid point computes from its blocks. -/
def blockOut (x0 x1 x2 x3 : Vec Ideal S1024x512 .i32) (x4 : Vec Ideal S1024x4 .f32) (x5 : Vec Ideal S1024x1024 .f32)
    (x6 : Vec Ideal S1x1x1024 .f32)
    (y : S1024x1024.Idx) : EReal := row x0 x1 x2 x3 x4 x5 x6 (y 0 : Fin 1024) (y 1 : Fin 1024)

theorem out_apply (x0 x1 x2 x3 : Vec Ideal S1024x512 .i32) (x4 : Vec Ideal S1024x4 .f32) (x5 : Vec Ideal S1024x1024 .f32)
    (x6 : Vec Ideal S1x1x1024 .f32)
    (y : S1024x1024.Idx) : out0_7 (F := Ideal) x0 x1 x2 x3 x4 x5 x6 y = blockOut x0 x1 x2 x3 x4 x5 x6 y := by
  unfold out0_7
  refine View.canon_apply_of_pieces (Val := Elt Ideal) (e := .f32) (blockOut x0 x1 x2 x3 x4 x5 x6) _ (fun p hp x => ?_) y (cover0_7 _ _ y)
  simp only [List.mem_cons, List.not_mem_nil, or_false] at hp
  rcases hp with rfl | rfl
  · have hy : (r0_4 : Rect S1024x1024).emb x = ix2 (x 0 : Fin 1024) (Fin.natAdd 512 (x 1 : Fin 512) : Fin (512 + 512)) := by
      funext a; apply Fin.ext
      refine (Rect.idx_unit_val _ _ _ x a).trans ?_
      match a with | ⟨0, _⟩ => exact Nat.zero_add _ | ⟨1, _⟩ => exact rfl
    refine Eq.trans ?_ (congrArg (blockOut x0 x1 x2 x3 x4 x5 x6) hy).symm
    refine (congrArg _ (ValueIdx.eq_ix2 x)).trans ?_
    exact right_row x0 x1 x2 x3 x4 x5 x6 (x 0) (x 1)
  · have hy : (r0_2 : Rect S1024x1024).emb x = ix2 (x 0 : Fin 1024) (Fin.castAdd 512 (x 1 : Fin 512) : Fin (512 + 512)) := by
      funext a; apply Fin.ext
      refine (Rect.idx_unit_val _ _ _ x a).trans ?_
      match a with | ⟨0, _⟩ => exact Nat.zero_add _ | ⟨1, _⟩ => exact Nat.zero_add _
    refine Eq.trans ?_ (congrArg (blockOut x0 x1 x2 x3 x4 x5 x6) hy).symm
    refine (congrArg _ (ValueIdx.eq_ix2 x)).trans ?_
    exact left_row x0 x1 x2 x3 x4 x5 x6 (x 0) (x 1)

variable (m : (ℓ : Loc nD τ sig) → Buf (Elt Ideal) ℓ) (c : Dev nD)

theorem index0 : ∀ t : Fin cfg0.N, win0_0.index t = ![0 * 32 + t.val, 0] :=
  (by decide +kernel : ∀ t : Fin grid0.N, win0_0.index t = ![0 * 32 + t.val, 0])
theorem index1 : ∀ t : Fin cfg0.N, win0_1.index t = ![1 * 32 + t.val, 0] :=
  (by decide +kernel : ∀ t : Fin grid0.N, win0_1.index t = ![1 * 32 + t.val, 0])
theorem index2 : ∀ t : Fin cfg0.N, win0_2.index t = ![2 * 32 + t.val, 0] :=
  (by decide +kernel : ∀ t : Fin grid0.N, win0_2.index t = ![2 * 32 + t.val, 0])
theorem index3 : ∀ t : Fin cfg0.N, win0_3.index t = ![3 * 32 + t.val, 0] :=
  (by decide +kernel : ∀ t : Fin grid0.N, win0_3.index t = ![3 * 32 + t.val, 0])
theorem index4 : ∀ t : Fin cfg0.N, win0_4.index t = ![t.val, 0] :=
  (by decide +kernel : ∀ t : Fin grid0.N, win0_4.index t = ![t.val, 0])
theorem index5 : ∀ t : Fin cfg0.N, win0_5.index t = ![t.val, 0] :=
  (by decide +kernel : ∀ t : Fin grid0.N, win0_5.index t = ![t.val, 0])
theorem index6 : ∀ t : Fin cfg0.N, win0_6.index t = ![t.val / 4, 0, 0] :=
  (by decide +kernel : ∀ t : Fin grid0.N, win0_6.index t = ![t.val / 4, 0, 0])
theorem index7 : ∀ t : Fin cfg0.N, win0_7.index t = ![t.val, 0] :=
  (by decide +kernel : ∀ t : Fin grid0.N, win0_7.index t = ![t.val, 0])

/-! What a block holds of the array it is cut from, window by window. -/

theorem at0 (t : Fin cfg0.N) (r : Fin 1024) (j : Fin 512) (R : Fin 32768) (h : R.val = t.val * 1024 + r.val) : iblk m c 0 t (ix2 r j)
    = m ((c : Thread nD τ).loc main_arg0) (ix2 (⟨0 * 32768 + R.val, by omega⟩ : Fin 131072) j) := by
  show V m c main_arg0 ((win0_0.blk t).view.emb (ix2 r j)) = _
  refine congrArg (m ((c : Thread nD τ).loc main_arg0)) (funext fun a => Fin.ext ?_)
  have e := index0 t
  match a with
  | ⟨0, _⟩ => blk_simp; rw [e]; show (0 * 32 + t.val) * 1024 + r.val = R.val; omega
  | ⟨1, _⟩ => blk_simp; rw [e]; exact Nat.zero_add _

theorem at1 (t : Fin cfg0.N) (r : Fin 1024) (j : Fin 512) (R : Fin 32768) (h : R.val = t.val * 1024 + r.val) : iblk m c 1 t (ix2 r j)
    = m ((c : Thread nD τ).loc main_arg0) (ix2 (⟨1 * 32768 + R.val, by omega⟩ : Fin 131072) j) := by
  show V m c main_arg0 ((win0_1.blk t).view.emb (ix2 r j)) = _
  refine congrArg (m ((c : Thread nD τ).loc main_arg0)) (funext fun a => Fin.ext ?_)
  have e := index1 t
  match a with
  | ⟨0, _⟩ => blk_simp; rw [e]; show (1 * 32 + t.val) * 1024 + r.val = 1 * 32768 + R.val; omega
  | ⟨1, _⟩ => blk_simp; rw [e]; exact Nat.zero_add _

theorem at2 (t : Fin cfg0.N) (r : Fin 1024) (j : Fin 512) (R : Fin 32768) (h : R.val = t.val * 1024 + r.val) : iblk m c 2 t (ix2 r j)
    = m ((c : Thread nD τ).loc main_arg0) (ix2 (⟨2 * 32768 + R.val, by omega⟩ : Fin 131072) j) := by
  show V m c main_arg0 ((win0_2.blk t).view.emb (ix2 r j)) = _
  refine congrArg (m ((c : Thread nD τ).loc main_arg0)) (funext fun a => Fin.ext ?_)
  have e := index2 t
  match a with
  | ⟨0, _⟩ => blk_simp; rw [e]; show (2 * 32 + t.val) * 1024 + r.val = 2 * 32768 + R.val; omega
  | ⟨1, _⟩ => blk_simp; rw [e]; exact Nat.zero_add _

theorem at3 (t : Fin cfg0.N) (r : Fin 1024) (j : Fin 512) (R : Fin 32768) (h : R.val = t.val * 1024 + r.val) : iblk m c 3 t (ix2 r j)
    = m ((c : Thread nD τ).loc main_arg0) (ix2 (⟨3 * 32768 + R.val, by omega⟩ : Fin 131072) j) := by
  show V m c main_arg0 ((win0_3.blk t).view.emb (ix2 r j)) = _
  refine congrArg (m ((c : Thread nD τ).loc main_arg0)) (funext fun a => Fin.ext ?_)
  have e := index3 t
  match a with
  | ⟨0, _⟩ => blk_simp; rw [e]; show (3 * 32 + t.val) * 1024 + r.val = 3 * 32768 + R.val; omega
  | ⟨1, _⟩ => blk_simp; rw [e]; exact Nat.zero_add _

theorem at4 (t : Fin cfg0.N) (r : Fin 1024) (j : Fin 4) (R : Fin 32768) (h : R.val = t.val * 1024 + r.val) : iblk m c 4 t (ix2 r j)
    = m ((c : Thread nD τ).loc main_arg1) (ix2 R j) := by
  show V m c main_arg1 ((win0_4.blk t).view.emb (ix2 r j)) = _
  refine congrArg (m ((c : Thread nD τ).loc main_arg1)) (funext fun a => Fin.ext ?_)
  have e := index4 t
  match a with
  | ⟨0, _⟩ => blk_simp; rw [e]; exact h.symm
  | ⟨1, _⟩ => blk_simp; rw [e]; exact Nat.zero_add _

theorem at5 (t : Fin cfg0.N) (r : Fin 1024) (k : Fin 1024) (R : Fin 32768) (h : R.val = t.val * 1024 + r.val) : iblk m c 5 t (ix2 r k)
    = m ((c : Thread nD τ).loc main_arg2) (ix2 R k) := by
  show V m c main_arg2 ((win0_5.blk t).view.emb (ix2 r k)) = _
  refine congrArg (m ((c : Thread nD τ).loc main_arg2)) (funext fun a => Fin.ext ?_)
  have e := index5 t
  match a with
  | ⟨0, _⟩ => blk_simp; rw [e]; exact h.symm
  | ⟨1, _⟩ => blk_simp; rw [e]; exact Nat.zero_add _

theorem at6 (t : Fin cfg0.N) (k : Fin 1024) (B : Fin 8) (h : B.val = t.val / 4) : iblk m c 6 t (ix3 (0 : Fin 1) (0 : Fin 1) k)
    = m ((c : Thread nD τ).loc main_arg3) (ix3 B (0 : Fin 1) k) := by
  show V m c main_arg3 ((win0_6.blk t).view.emb (ix3 (0 : Fin 1) (0 : Fin 1) k)) = _
  refine congrArg (m ((c : Thread nD τ).loc main_arg3)) (funext fun a => Fin.ext ?_)
  have e := index6 t
  match a with
  | ⟨0, _⟩ => blk_simp; rw [e]; exact h.symm
  | ⟨1, _⟩ => blk_simp; rw [e]; rfl
  | ⟨2, _⟩ => blk_simp; rw [e]; exact Nat.zero_add _

theorem at7 (t : Fin cfg0.N) (y : S1024x1024.Idx) :
    (((win0_7.blk t).view.emb y) 0).val = t.val * 1024 + (y 0).val
      ∧ (((win0_7.blk t).view.emb y) 1).val = (y 1).val := by
  have e := index7 t
  constructor
  · blk_simp; rw [e]; rfl
  · blk_simp; rw [e]; show 0 * 1024 + (y 1).val = (y 1).val; omega

theorem row_eq (t : Fin cfg0.N) (r : Fin 1024) (R : Fin 32768) (h : R.val = t.val * 1024 + r.val) :
    row (iblk m c 0 t) (iblk m c 1 t) (iblk m c 2 t) (iblk m c 3 t) (iblk m c 4 t) (iblk m c 5 t) (iblk m c 6 t) r
      = resultRow (m ((c : Thread nD τ).loc main_arg0)) (m ((c : Thread nD τ).loc main_arg1)) (m ((c : Thread nD τ).loc main_arg2)) (m ((c : Thread nD τ).loc main_arg3)) R :=
  row_eq_resultRow _ _ _ _ _ _ _ _ _ _ _ r R (fun j => at0 m c t r j R h) (fun j => at1 m c t r j R h) (fun j => at2 m c t r j R h)
    (fun j => at3 m c t r j R h) (fun e => at4 m c t r e R h) (fun k => at5 m c t r k R h)
    (fun k => at6 m c t k _ (by show R.val / 4096 = t.val / 4; omega))

/-- Read at a block's element, `result` is what the block's grid point computes. -/
theorem blockOut_eq_result (t : Fin cfg0.N) (y : S1024x1024.Idx) :
    blockOut (iblk m c 0 t) (iblk m c 1 t) (iblk m c 2 t) (iblk m c 3 t) (iblk m c 4 t) (iblk m c 5 t) (iblk m c 6 t) y
      = result (m ((c : Thread nD τ).loc main_arg0)) (m ((c : Thread nD τ).loc main_arg1)) (m ((c : Thread nD τ).loc main_arg2)) (m ((c : Thread nD τ).loc main_arg3))
          ((win0_7.blk t).view.emb y) := by
  obtain ⟨r0, r1⟩ := at7 t y
  unfold blockOut result
  rw [row_eq m c t (y 0) (((win0_7.blk t).view.emb y) 0) r0]
  exact congrArg _ (Fin.ext r1.symm : (y 1 : Fin 1024) = ((win0_7.blk t).view.emb y) 1)

theorem final : (dats m 0 c).arrAt 7 cfg0.N
    = result (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  exact (out_apply _ _ _ _ _ _ _ y).trans (blockOut_eq_result m c t y)

end Cert.Combination.Middle

end
-- ==== Proof.Combination.Last.lean ====
/-
  The combination of the last layer: the blocks of the 32 grid points are one array, `lastResult`.
-/
module

public import proofs.«01_k».proof.Proof.Combination.Block

@[expose] public section

set_option maxRecDepth 16384

noncomputable section

namespace Cert.Combination.Last

open Cert.CombineLastIdeal Cert.CombineLastIdeal.Gen Idealize.ShloMosaic.ValueIdx Idealize.ShloMosaic.TcCoe Idealize.SL.Sem
open Idealize.ShloMosaic hiding ix1 ix2 ix3 ix4

/-- What one grid point computes from its blocks. -/
def blockOut (x0 x1 x2 x3 : Vec Ideal S1024x512 .i32) (x4 : Vec Ideal S1024x4 .f32) (x5 : Vec Ideal S1024x1024 .f32)
    (x6 : Vec Ideal S1x1x1024 .f32) (x7 : Vec Ideal S1x1024 .f32)
    (y : S1024x1024.Idx) : EReal := normed (row x0 x1 x2 x3 x4 x5 x6 (y 0 : Fin 1024)) (fun k => x7 (ix2 (0 : Fin 1) k)) (y 1 : Fin 1024)

theorem out_apply (x0 x1 x2 x3 : Vec Ideal S1024x512 .i32) (x4 : Vec Ideal S1024x4 .f32) (x5 : Vec Ideal S1024x1024 .f32)
    (x6 : Vec Ideal S1x1x1024 .f32) (x7 : Vec Ideal S1x1024 .f32)
    (y : S1024x1024.Idx) : out0_8 (F := Ideal) x0 x1 x2 x3 x4 x5 x6 x7 y = blockOut x0 x1 x2 x3 x4 x5 x6 x7 y := by
  unfold out0_8 k0_pay13 k0_pay12
  refine View.canon_apply_of_pieces (Val := Elt Ideal) (e := .f32) (blockOut x0 x1 x2 x3 x4 x5 x6 x7) _ (fun p hp x => ?_) y (cover0_8 _ _ y)
  simp only [List.mem_cons, List.not_mem_nil, or_false] at hp
  rcases hp with rfl | rfl
  · have hy : (r0_4 : Rect S1024x1024).emb x = ix2 (x 0 : Fin 1024) (Fin.natAdd 512 (x 1 : Fin 512) : Fin (512 + 512)) := by
      funext a; apply Fin.ext
      refine (Rect.idx_unit_val _ _ _ x a).trans ?_
      match a with | ⟨0, _⟩ => exact Nat.zero_add _ | ⟨1, _⟩ => exact rfl
    refine Eq.trans ?_ (congrArg (blockOut x0 x1 x2 x3 x4 x5 x6 x7) hy).symm
    refine (congrArg _ (ValueIdx.eq_ix2 x)).trans ?_
    refine (scaled_right _ _ _ (x 0) (x 1)).trans ?_
    rw [whole_gain x7, root_row x0 x1 x2 x3 x4 x5 x6 (x 0)]
    exact congrArg (fun a : EReal => a * _ * _) (right_row x0 x1 x2 x3 x4 x5 x6 (x 0) (x 1))
  · have hy : (r0_2 : Rect S1024x1024).emb x = ix2 (x 0 : Fin 1024) (Fin.castAdd 512 (x 1 : Fin 512) : Fin (512 + 512)) := by
      funext a; apply Fin.ext
      refine (Rect.idx_unit_val _ _ _ x a).trans ?_
      match a with | ⟨0, _⟩ => exact Nat.zero_add _ | ⟨1, _⟩ => exact Nat.zero_add _
    refine Eq.trans ?_ (congrArg (blockOut x0 x1 x2 x3 x4 x5 x6 x7) hy).symm
    refine (congrArg _ (ValueIdx.eq_ix2 x)).trans ?_
    refine (scaled_left _ _ _ _ _ _ _ _ _ _ (x 0) (x 1)).trans ?_
    rw [whole_gain x7, root_row x0 x1 x2 x3 x4 x5 x6 (x 0)]
    exact congrArg (fun a : EReal => a * _ * _) (left_row x0 x1 x2 x3 x4 x5 x6 (x 0) (x 1))

variable (m : (ℓ : Loc nD τ sig) → Buf (Elt Ideal) ℓ) (c : Dev nD)

theorem index0 : ∀ t : Fin cfg0.N, win0_0.index t = ![0 * 32 + t.val, 0] :=
  (by decide +kernel : ∀ t : Fin grid0.N, win0_0.index t = ![0 * 32 + t.val, 0])
theorem index1 : ∀ t : Fin cfg0.N, win0_1.index t = ![1 * 32 + t.val, 0] :=
  (by decide +kernel : ∀ t : Fin grid0.N, win0_1.index t = ![1 * 32 + t.val, 0])
theorem index2 : ∀ t : Fin cfg0.N, win0_2.index t = ![2 * 32 + t.val, 0] :=
  (by decide +kernel : ∀ t : Fin grid0.N, win0_2.index t = ![2 * 32 + t.val, 0])
theorem index3 : ∀ t : Fin cfg0.N, win0_3.index t = ![3 * 32 + t.val, 0] :=
  (by decide +kernel : ∀ t : Fin grid0.N, win0_3.index t = ![3 * 32 + t.val, 0])
theorem index4 : ∀ t : Fin cfg0.N, win0_4.index t = ![t.val, 0] :=
  (by decide +kernel : ∀ t : Fin grid0.N, win0_4.index t = ![t.val, 0])
theorem index5 : ∀ t : Fin cfg0.N, win0_5.index t = ![t.val, 0] :=
  (by decide +kernel : ∀ t : Fin grid0.N, win0_5.index t = ![t.val, 0])
theorem index6 : ∀ t : Fin cfg0.N, win0_6.index t = ![t.val / 4, 0, 0] :=
  (by decide +kernel : ∀ t : Fin grid0.N, win0_6.index t = ![t.val / 4, 0, 0])
theorem index7 : ∀ t : Fin cfg0.N, win0_7.index t = ![0, 0] :=
  (by decide +kernel : ∀ t : Fin grid0.N, win0_7.index t = ![0, 0])
theorem index8 : ∀ t : Fin cfg0.N, win0_8.index t = ![t.val, 0] :=
  (by decide +kernel : ∀ t : Fin grid0.N, win0_8.index t = ![t.val, 0])

/-! What a block holds of the array it is cut from, window by window. -/

theorem at0 (t : Fin cfg0.N) (r : Fin 1024) (j : Fin 512) (R : Fin 32768) (h : R.val = t.val * 1024 + r.val) : iblk m c 0 t (ix2 r j)
    = m ((c : Thread nD τ).loc main_arg0) (ix2 (⟨0 * 32768 + R.val, by omega⟩ : Fin 131072) j) := by
  show V m c main_arg0 ((win0_0.blk t).view.emb (ix2 r j)) = _
  refine congrArg (m ((c : Thread nD τ).loc main_arg0)) (funext fun a => Fin.ext ?_)
  have e := index0 t
  match a with
  | ⟨0, _⟩ => blk_simp; rw [e]; show (0 * 32 + t.val) * 1024 + r.val = R.val; omega
  | ⟨1, _⟩ => blk_simp; rw [e]; exact Nat.zero_add _

theorem at1 (t : Fin cfg0.N) (r : Fin 1024) (j : Fin 512) (R : Fin 32768) (h : R.val = t.val * 1024 + r.val) : iblk m c 1 t (ix2 r j)
    = m ((c : Thread nD τ).loc main_arg0) (ix2 (⟨1 * 32768 + R.val, by omega⟩ : Fin 131072) j) := by
  show V m c main_arg0 ((win0_1.blk t).view.emb (ix2 r j)) = _
  refine congrArg (m ((c : Thread nD τ).loc main_arg0)) (funext fun a => Fin.ext ?_)
  have e := index1 t
  match a with
  | ⟨0, _⟩ => blk_simp; rw [e]; show (1 * 32 + t.val) * 1024 + r.val = 1 * 32768 + R.val; omega
  | ⟨1, _⟩ => blk_simp; rw [e]; exact Nat.zero_add _

theorem at2 (t : Fin cfg0.N) (r : Fin 1024) (j : Fin 512) (R : Fin 32768) (h : R.val = t.val * 1024 + r.val) : iblk m c 2 t (ix2 r j)
    = m ((c : Thread nD τ).loc main_arg0) (ix2 (⟨2 * 32768 + R.val, by omega⟩ : Fin 131072) j) := by
  show V m c main_arg0 ((win0_2.blk t).view.emb (ix2 r j)) = _
  refine congrArg (m ((c : Thread nD τ).loc main_arg0)) (funext fun a => Fin.ext ?_)
  have e := index2 t
  match a with
  | ⟨0, _⟩ => blk_simp; rw [e]; show (2 * 32 + t.val) * 1024 + r.val = 2 * 32768 + R.val; omega
  | ⟨1, _⟩ => blk_simp; rw [e]; exact Nat.zero_add _

theorem at3 (t : Fin cfg0.N) (r : Fin 1024) (j : Fin 512) (R : Fin 32768) (h : R.val = t.val * 1024 + r.val) : iblk m c 3 t (ix2 r j)
    = m ((c : Thread nD τ).loc main_arg0) (ix2 (⟨3 * 32768 + R.val, by omega⟩ : Fin 131072) j) := by
  show V m c main_arg0 ((win0_3.blk t).view.emb (ix2 r j)) = _
  refine congrArg (m ((c : Thread nD τ).loc main_arg0)) (funext fun a => Fin.ext ?_)
  have e := index3 t
  match a with
  | ⟨0, _⟩ => blk_simp; rw [e]; show (3 * 32 + t.val) * 1024 + r.val = 3 * 32768 + R.val; omega
  | ⟨1, _⟩ => blk_simp; rw [e]; exact Nat.zero_add _

theorem at4 (t : Fin cfg0.N) (r : Fin 1024) (j : Fin 4) (R : Fin 32768) (h : R.val = t.val * 1024 + r.val) : iblk m c 4 t (ix2 r j)
    = m ((c : Thread nD τ).loc main_arg1) (ix2 R j) := by
  show V m c main_arg1 ((win0_4.blk t).view.emb (ix2 r j)) = _
  refine congrArg (m ((c : Thread nD τ).loc main_arg1)) (funext fun a => Fin.ext ?_)
  have e := index4 t
  match a with
  | ⟨0, _⟩ => blk_simp; rw [e]; exact h.symm
  | ⟨1, _⟩ => blk_simp; rw [e]; exact Nat.zero_add _

theorem at5 (t : Fin cfg0.N) (r : Fin 1024) (k : Fin 1024) (R : Fin 32768) (h : R.val = t.val * 1024 + r.val) : iblk m c 5 t (ix2 r k)
    = m ((c : Thread nD τ).loc main_arg2) (ix2 R k) := by
  show V m c main_arg2 ((win0_5.blk t).view.emb (ix2 r k)) = _
  refine congrArg (m ((c : Thread nD τ).loc main_arg2)) (funext fun a => Fin.ext ?_)
  have e := index5 t
  match a with
  | ⟨0, _⟩ => blk_simp; rw [e]; exact h.symm
  | ⟨1, _⟩ => blk_simp; rw [e]; exact Nat.zero_add _

theorem at6 (t : Fin cfg0.N) (k : Fin 1024) (B : Fin 8) (h : B.val = t.val / 4) : iblk m c 6 t (ix3 (0 : Fin 1) (0 : Fin 1) k)
    = m ((c : Thread nD τ).loc main_arg3) (ix3 B (0 : Fin 1) k) := by
  show V m c main_arg3 ((win0_6.blk t).view.emb (ix3 (0 : Fin 1) (0 : Fin 1) k)) = _
  refine congrArg (m ((c : Thread nD τ).loc main_arg3)) (funext fun a => Fin.ext ?_)
  have e := index6 t
  match a with
  | ⟨0, _⟩ => blk_simp; rw [e]; exact h.symm
  | ⟨1, _⟩ => blk_simp; rw [e]; rfl
  | ⟨2, _⟩ => blk_simp; rw [e]; exact Nat.zero_add _

theorem at7 (t : Fin cfg0.N) (k : Fin 1024) : iblk m c 7 t (ix2 (0 : Fin 1) k)
    = m ((c : Thread nD τ).loc main_arg4) (ix2 (0 : Fin 1) k) := by
  show V m c main_arg4 ((win0_7.blk t).view.emb (ix2 (0 : Fin 1) k)) = _
  refine congrArg (m ((c : Thread nD τ).loc main_arg4)) (funext fun a => Fin.ext ?_)
  have e := index7 t
  match a with
  | ⟨0, _⟩ => blk_simp; rw [e]; rfl
  | ⟨1, _⟩ => blk_simp; rw [e]; exact Nat.zero_add _

theorem at8 (t : Fin cfg0.N) (y : S1024x1024.Idx) :
    (((win0_8.blk t).view.emb y) 0).val = t.val * 1024 + (y 0).val
      ∧ (((win0_8.blk t).view.emb y) 1).val = (y 1).val := by
  have e := index8 t
  constructor
  · blk_simp; rw [e]; rfl
  · blk_simp; rw [e]; show 0 * 1024 + (y 1).val = (y 1).val; omega

theorem row_eq (t : Fin cfg0.N) (r : Fin 1024) (R : Fin 32768) (h : R.val = t.val * 1024 + r.val) :
    row (iblk m c 0 t) (iblk m c 1 t) (iblk m c 2 t) (iblk m c 3 t) (iblk m c 4 t) (iblk m c 5 t) (iblk m c 6 t) r
      = resultRow (m ((c : Thread nD τ).loc main_arg0)) (m ((c : Thread nD τ).loc main_arg1)) (m ((c : Thread nD τ).loc main_arg2)) (m ((c : Thread nD τ).loc main_arg3)) R :=
  row_eq_resultRow _ _ _ _ _ _ _ _ _ _ _ r R (fun j => at0 m c t r j R h) (fun j => at1 m c t r j R h) (fun j => at2 m c t r j R h)
    (fun j => at3 m c t r j R h) (fun e => at4 m c t r e R h) (fun k => at5 m c t r k R h)
    (fun k => at6 m c t k _ (by show R.val / 4096 = t.val / 4; omega))

/-- Read at a block's element, `lastResult` is what the block's grid point computes. -/
theorem blockOut_eq_result (t : Fin cfg0.N) (y : S1024x1024.Idx) :
    blockOut (iblk m c 0 t) (iblk m c 1 t) (iblk m c 2 t) (iblk m c 3 t) (iblk m c 4 t) (iblk m c 5 t) (iblk m c 6 t) (iblk m c 7 t) y
      = lastResult (m ((c : Thread nD τ).loc main_arg0)) (m ((c : Thread nD τ).loc main_arg1)) (m ((c : Thread nD τ).loc main_arg2)) (m ((c : Thread nD τ).loc main_arg3)) (m ((c : Thread nD τ).loc main_arg4))
          ((win0_8.blk t).view.emb y) := by
  obtain ⟨r0, r1⟩ := at8 t y
  unfold blockOut lastResult
  rw [row_eq m c t (y 0) (((win0_8.blk t).view.emb y) 0) r0]
  have e : (fun k : Fin 1024 => iblk m c 7 t (ix2 (0 : Fin 1) k)) = fun k => m ((c : Thread nD τ).loc main_arg4) (ix2 (0 : Fin 1) k) :=
    funext fun k => at7 m c t k
  exact congrArg₂ (fun g (k : Fin 1024) => normed (resultRow (m ((c : Thread nD τ).loc main_arg0)) (m ((c : Thread nD τ).loc main_arg1)) (m ((c : Thread nD τ).loc main_arg2)) (m ((c : Thread nD τ).loc main_arg3))
    (((win0_8.blk t).view.emb y) 0 : Fin 32768)) g k) e (Fin.ext r1.symm)

theorem final : (dats m 0 c).arrAt 8 cfg0.N
    = lastResult (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  exact (out_apply _ _ _ _ _ _ _ _ y).trans (blockOut_eq_result m c t y)

end Cert.Combination.Last

end
-- ==== Proof.Combination.Reference.lean ====
/-
  The references of the combination: the rows unpacked, a sum over the four experts and the residual are `resultRow`, and the
  mean of the squares is the one the last layer's kernel takes in two halves.
-/
module

public import proofs.«01_k».proof.Proof.Combination.Block
public import proofs.«01_k».proof.Proof.Gen.CombineReferenceIdeal.Read
public import proofs.«01_k».proof.Proof.Gen.CombineLastReferenceIdeal.Read

@[expose] public section

set_option maxRecDepth 16384

noncomputable section

namespace Cert.Combination

open Cert.CombineLastReferenceIdeal Cert.CombineLastReferenceIdeal.Read Idealize.ShloMosaic.ValueIdx Idealize.ShloMosaic.TcCoe Idealize.SL.Sem
open Idealize.ShloMosaic hiding ix1 ix2 ix3 ix4

/-- The two halves of the words of a row, joined, are its columns. -/
theorem unpacked (x0 : Vec Ideal S131072x512 .i32) (r : Fin 131072) (k : Fin (512 + 512)) :
    val_main_v6 (F := Ideal) x0 (ix2 r k) = columns (fun j => x0 (ix2 r j)) k := by
  unfold val_main_v6
  refine Fin.addCases (fun j => ?_) (fun j => ?_) k
  · refine (concatenate_pair_apply_left (t := S131072x1024) (s₁ := S131072x512) (s₂ := S131072x512) 1 _ _ _ (ix2 r (Fin.castAdd 512 j : Fin (512 + 512))) rfl
      (ix2 r j) fun b => by match b with | ⟨0, _⟩ => rfl | ⟨1, _⟩ => rfl).trans ?_
    rw [columns_left]
    rfl
  · refine (concatenate_pair_apply_right (t := S131072x1024) (s₁ := S131072x512) (s₂ := S131072x512) 1 _ _ _ (ix2 r (Fin.natAdd 512 j : Fin (512 + 512))) rfl rfl
      (ix2 r j) (fun b hb => by match b with | ⟨0, _⟩ => rfl | ⟨1, _⟩ => exact absurd rfl hb) (Nat.add_comm _ _)).trans ?_
    rw [columns_right]
    rfl

theorem gate_apply (x1 : Vec Ideal S32768x4 .f32) (e : Fin 4) (r : Fin 32768) (k : Fin 1024) :
    val_main_v10 (F := Ideal) x1 (ix3 e r k) = x1 (ix2 r e) := by
  rw [val_main_v10_apply, val_main_v9_apply, val_main_v8_apply]
  exact congrArg x1 (funext fun a => by match a with | ⟨0, _⟩ => rfl | ⟨1, _⟩ => rfl)

theorem expert_apply (x0 : Vec Ideal S131072x512 .i32) (e : Fin 4) (r : Fin 32768) (k : Fin 1024) :
    val_main_v7 (F := Ideal) x0 (ix3 e r k)
      = columns (fun j => x0 (ix2 (⟨e.val * 32768 + r.val, by omega⟩ : Fin 131072) j)) k := by
  rw [val_main_v7_apply]
  refine Eq.trans ?_ (unpacked x0 ⟨e.val * 32768 + r.val, by omega⟩ k)
  refine congrArg (val_main_v6 (F := Ideal) x0) (funext fun a => Fin.ext ?_)
  match a with
  | ⟨0, _⟩ => show ((e.val * 32768 + r.val) * 1024 + k.val) / 1024 = e.val * 32768 + r.val; omega
  | ⟨1, _⟩ => show ((e.val * 32768 + r.val) * 1024 + k.val) % 1024 = k.val; omega

theorem sum_eq_mix (g y : Fin 4 → EReal) : ∑ e, g e * y e = mix g y := Fin.sum_univ_four (M := EReal) _

/-- The sum over the experts. -/
theorem mix_eq (x0 : Vec Ideal S131072x512 .i32) (x1 : Vec Ideal S32768x4 .f32) (r : Fin 32768) (k : Fin 1024) :
    val_main_v12 (F := Ideal) x0 x1 (ix2 r k)
      = mix (fun e => x1 (ix2 r e)) fun e => columns (fun j => x0 (ix2 (⟨e.val * 32768 + r.val, by omega⟩ : Fin 131072) j)) k := by
  refine (val_main_v12_apply x0 x1 (ix2 r k)).trans ?_
  have h : ∀ e : Fin 4, val_main_v11 (F := Ideal) x0 x1 (idx_main_v12 (ix2 r k) e)
      = x1 (ix2 r e) * columns (fun j => x0 (ix2 (⟨e.val * 32768 + r.val, by omega⟩ : Fin 131072) j)) k := fun e => by
    have hi : idx_main_v12 (ix2 r k) e = ix3 e r k := funext fun a => by match a with | ⟨0, _⟩ => rfl | ⟨1, _⟩ => rfl | ⟨2, _⟩ => rfl
    rw [hi, val_main_v11_apply, expert_apply, gate_apply]
    exact mul_comm (G := EReal) _ _
  rw [Finset.sum_congr rfl fun e _ => h e, sum_eq_mix (fun e => x1 (ix2 r e)), val_main_cst_apply]
  exact (congrArg (fun a : EReal => a + _) Ideal.ofBits_zero_f32).trans (zero_add (M := EReal) _)

theorem stream_eq (x0 : Vec Ideal S131072x512 .i32) (x1 : Vec Ideal S32768x4 .f32) (x2 : Vec Ideal S32768x1024 .f32)
    (x3 : Vec Ideal S8x1x1024 .f32) (r : Fin 32768) (k : Fin 1024) :
    val_main_v18 (F := Ideal) x0 x1 x2 x3 (ix2 r k) = resultRow x0 x1 x2 x3 r k := by
  rw [val_main_v18_apply, val_main_v17_apply, val_main_v16_apply, val_main_v15_apply, val_main_v14_apply, val_main_v13_apply]
  have e : idx_main_v13 (idx_main_v18 (ix2 r k)) = ix2 r k := by
    funext a; apply Fin.ext
    match a with
    | ⟨0, _⟩ =>
      show (((r.val * 1024 + k.val) / 4194304 * 4096 + (r.val * 1024 + k.val) / 1024 % 4096) * 1024
        + (r.val * 1024 + k.val) % 1024) / 1024 = r.val
      omega
    | ⟨1, _⟩ =>
      show (((r.val * 1024 + k.val) / 4194304 * 4096 + (r.val * 1024 + k.val) / 1024 % 4096) * 1024
        + (r.val * 1024 + k.val) % 1024) % 1024 = k.val
      omega
  have e' : idx_main_v14 (idx_main_v18 (ix2 r k)) = ix2 r k := e
  rw [e, e', mix_eq]
  unfold resultRow stream
  refine congrArg (fun a : EReal => x2 (ix2 r k) + a) (congrArg (fun a : EReal => a * _) (congrArg x3 ?_))
  funext a; apply Fin.ext
  match a with
  | ⟨0, _⟩ => show (r.val * 1024 + k.val) / 4194304 = r.val / 4096; omega
  | ⟨1, _⟩ => rfl
  | ⟨2, _⟩ => show (r.val * 1024 + k.val) % 1024 = k.val; omega

theorem result_eq_reference (x0 : Vec Ideal S131072x512 .i32) (x1 : Vec Ideal S32768x4 .f32) (x2 : Vec Ideal S32768x1024 .f32)
    (x3 : Vec Ideal S8x1x1024 .f32) : Cert.CombineReferenceIdeal.Read.val_main_v18 (F := Ideal) x0 x1 x2 x3 = result x0 x1 x2 x3 := by
  refine (show _ = val_main_v18 (F := Ideal) x0 x1 x2 x3 from rfl).trans (funext fun i => ?_)
  exact (congrArg _ (ValueIdx.eq_ix2 i)).trans (stream_eq x0 x1 x2 x3 (i 0) (i 1))

theorem root_eq (x0 : Vec Ideal S131072x512 .i32) (x1 : Vec Ideal S32768x4 .f32) (x2 : Vec Ideal S32768x1024 .f32)
    (x3 : Vec Ideal S8x1x1024 .f32) (r : Fin 32768) (k : Fin 1024) :
    val_main_v27 (F := Ideal) x0 x1 x2 x3 (ix2 r k)
      = Ideal.rsqrt (Ideal.div (∑ j, resultRow x0 x1 x2 x3 r j * resultRow x0 x1 x2 x3 r j) (Ideal.ofBits .f32 0x44800000#32)
          + Ideal.ofBits .f32 0x358637BD#32) := by
  rw [val_main_v27_apply, val_main_v26_apply, val_main_v25_apply, val_main_v24_apply, val_main_cst_3_apply, val_main_v23_apply,
    val_main_v22_apply, val_main_cst_2_apply, val_main_v21_apply, val_main_v20_apply]
  refine congrArg (fun s : EReal => Ideal.rsqrt (Ideal.div s (Ideal.ofBits .f32 0x44800000#32) + Ideal.ofBits .f32 0x358637BD#32)) ?_
  refine (congrArg₂ (fun a b : EReal => a + b) (Ideal.ofBits_zero_f32) (Finset.sum_congr rfl fun j _ => ?_)).trans (zero_add (M := EReal) _)
  have hi : idx_main_v20 (idx_main_v21 (idx_main_v27 (ix2 r k))) j = ix2 r j := funext fun a => by
    match a with | ⟨0, _⟩ => rfl | ⟨1, _⟩ => rfl
  rw [hi, val_main_v19_apply, stream_eq]
  rfl

theorem lastResult_eq_reference (x0 : Vec Ideal S131072x512 .i32) (x1 : Vec Ideal S32768x4 .f32) (x2 : Vec Ideal S32768x1024 .f32)
    (x3 : Vec Ideal S8x1x1024 .f32) (x4 : Vec Ideal S1x1024 .f32) :
    val_main_v30 (F := Ideal) x0 x1 x2 x3 x4 = lastResult x0 x1 x2 x3 x4 := by
  funext i
  refine (congrArg _ (ValueIdx.eq_ix2 i)).trans ?_
  refine (val_main_v30_apply x0 x1 x2 x3 x4 (ix2 (i 0 : Fin 32768) (i 1 : Fin 1024))).trans ?_
  rw [val_main_v29_apply, val_main_v28_apply, stream_eq x0 x1 x2 x3 (i 0) (i 1), root_eq x0 x1 x2 x3 (i 0) (i 1)]
  unfold lastResult normed
  refine congrArg (fun a : EReal => resultRow x0 x1 x2 x3 (i 0 : Fin 32768) (i 1 : Fin 1024) * _ * a) (congrArg x4 (funext fun a => ?_))
  match a with
  | ⟨0, _⟩ => rfl
  | ⟨1, _⟩ => rfl

end Cert.Combination

end
-- ==== Proof.lean ====
/-
  The certificate of the even layers' normalisation and latent projection, keys and values, attention and output
  projection, of the odd layers' normalisation and first projection, of the experts' call of each of the four layers, and
  of the combination of the experts' rows with the stream, in the last layer with the last normalisation:
  every program runs, leaves its arguments as they were and every semaphore at zero. On finite queries and keys the
  attention ends with its reference's array, on tables in range so does each experts' call, and the projections and the
  combinations do so on any arguments.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Attention.Finite
public import proofs.«01_k».proof.Proof.Gen.Pre_tables
public import proofs.«01_k».proof.Proof.Experts.Layer0
public import proofs.«01_k».proof.Proof.Experts.Layer1
public import proofs.«01_k».proof.Proof.Experts.Layer2
public import proofs.«01_k».proof.Proof.Experts.Layer3
public import proofs.«01_k».proof.Proof.Gen.ProjectAB.Frame
public import proofs.«01_k».proof.Proof.Gen.ProjectABReferenceIdeal.Run
public import proofs.«01_k».proof.Proof.OutProjection.Array
public import proofs.«01_k».proof.Proof.Gen.ProjectDil.Frame
public import proofs.«01_k».proof.Proof.Gen.ProjectDilReferenceIdeal.Run
public import proofs.«01_k».proof.Proof.Dilated.Reference
public import proofs.«01_k».proof.Proof.Gen.ProjectLatent.Frame
public import proofs.«01_k».proof.Proof.Gen.ProjectLatentReferenceIdeal.Run
public import proofs.«01_k».proof.Proof.Latent.Array
public import proofs.«01_k».proof.Proof.Gen.ProjectKV.Frame
public import proofs.«01_k».proof.Proof.Gen.ProjectKVReferenceIdeal.Run
public import proofs.«01_k».proof.Proof.KeysValues.Array
public import proofs.«01_k».proof.Proof.Gen.Combine.Frame
public import proofs.«01_k».proof.Proof.Gen.CombineReferenceIdeal.Run
public import proofs.«01_k».proof.Proof.Gen.CombineLast.Frame
public import proofs.«01_k».proof.Proof.Gen.CombineLastReferenceIdeal.Run
public import proofs.«01_k».proof.Proof.Combination.Middle
public import proofs.«01_k».proof.Proof.Combination.Last
public import proofs.«01_k».proof.Proof.Combination.Reference
public import Idealize.ShloMosaic.Adequacy
public import Idealize.ShloMosaic.Init

@[expose] public section

noncomputable section

namespace Cert.Proof

open Idealize.ShloMosaic Idealize.ShloMosaic.TcCoe Idealize.SL.Sem

/-- The reference declares no semaphore; its frame is its run. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

attribute [local instance] Cert.Attention.preFacts

/-- The kernel's array and the reference's, on arguments that agree and satisfy the precondition. -/
theorem algebraic : Cert.algebraic_KernelIdeal_ReferenceIdeal_pre_finite_keys := by
  intro m g m' g' hpre hagree
  refine ⟨fun c => Cert.Attention.result (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · exact (θ_run Cert.KernelIdeal.defs _ _).mono (fun _ h c => ⟨(h c).1.trans (Cert.Attention.final m c), (h c).2⟩)
      (Cert.KernelIdeal.Value.run_blocks (F := Ideal) m g)
  · refine (θ_run Cert.ReferenceIdeal.defs _ _).mono (fun _ h c => ⟨(h c).1.trans ?_, (h c).2⟩)
      (Cert.ReferenceIdeal.Value.run (F := Ideal) m' g')
    obtain ⟨a0, a1, a2⟩ := hagree c
    refine (Cert.ReferenceIdeal.Read.val_main_v28_eq m' c).trans ?_
    rw [a0, a1, a2]
    exact Cert.Attention.result_eq_reference _ _ _ (hpre c)

/-- The output projection's reference: its frame is its run. -/
theorem frame_reference_ab (m : (ℓ : Loc Cert.ProjectABReferenceIdeal.nD Cert.ProjectABReferenceIdeal.τ Cert.ProjectABReferenceIdeal.sig) → Buf (Elt Ideal) ℓ)
    (g : Dev Cert.ProjectABReferenceIdeal.nD → PrngReg) :
    θ_run (Cert.ProjectABReferenceIdeal.defs (F := Ideal)) (onTc (τ := Cert.ProjectABReferenceIdeal.τ) (Cert.ProjectABReferenceIdeal.main (F := Ideal)))
      ⟨m, fun _ => 0, g⟩ (fun r => (∀ c : Dev Cert.ProjectABReferenceIdeal.nD,
        r.2.mem ((c.tc : Thread Cert.ProjectABReferenceIdeal.nD Cert.ProjectABReferenceIdeal.τ).loc Cert.ProjectABReferenceIdeal.main_arg0)
          = m ((c.tc : Thread Cert.ProjectABReferenceIdeal.nD Cert.ProjectABReferenceIdeal.τ).loc Cert.ProjectABReferenceIdeal.main_arg0)
        ∧ r.2.mem ((c.tc : Thread Cert.ProjectABReferenceIdeal.nD Cert.ProjectABReferenceIdeal.τ).loc Cert.ProjectABReferenceIdeal.main_arg1)
          = m ((c.tc : Thread Cert.ProjectABReferenceIdeal.nD Cert.ProjectABReferenceIdeal.τ).loc Cert.ProjectABReferenceIdeal.main_arg1)
        ∧ r.2.mem ((c.tc : Thread Cert.ProjectABReferenceIdeal.nD Cert.ProjectABReferenceIdeal.τ).loc Cert.ProjectABReferenceIdeal.main_arg2)
          = m ((c.tc : Thread Cert.ProjectABReferenceIdeal.nD Cert.ProjectABReferenceIdeal.τ).loc Cert.ProjectABReferenceIdeal.main_arg2)
        ∧ r.2.mem ((c.tc : Thread Cert.ProjectABReferenceIdeal.nD Cert.ProjectABReferenceIdeal.τ).loc Cert.ProjectABReferenceIdeal.main_arg3)
          = m ((c.tc : Thread Cert.ProjectABReferenceIdeal.nD Cert.ProjectABReferenceIdeal.τ).loc Cert.ProjectABReferenceIdeal.main_arg3)
        ∧ r.2.mem ((c.tc : Thread Cert.ProjectABReferenceIdeal.nD Cert.ProjectABReferenceIdeal.τ).loc Cert.ProjectABReferenceIdeal.main_arg4)
          = m ((c.tc : Thread Cert.ProjectABReferenceIdeal.nD Cert.ProjectABReferenceIdeal.τ).loc Cert.ProjectABReferenceIdeal.main_arg4)
        ∧ r.2.mem ((c.tc : Thread Cert.ProjectABReferenceIdeal.nD Cert.ProjectABReferenceIdeal.τ).loc Cert.ProjectABReferenceIdeal.main_arg5)
          = m ((c.tc : Thread Cert.ProjectABReferenceIdeal.nD Cert.ProjectABReferenceIdeal.τ).loc Cert.ProjectABReferenceIdeal.main_arg5))
        ∧ r.2.sem = fun _ => 0) :=
  (θ_run Cert.ProjectABReferenceIdeal.defs _ _).mono (fun r h => ⟨fun c => (h c).2, sem_eq_zero_of_no_sems (by decide) r.2⟩)
    (Cert.ProjectABReferenceIdeal.Value.run (F := Ideal) m g)

/-- The reference of the odd layers' normalisation and projection: its frame is its run. -/
theorem frame_reference_dil (m : (ℓ : Loc Cert.ProjectDilReferenceIdeal.nD Cert.ProjectDilReferenceIdeal.τ Cert.ProjectDilReferenceIdeal.sig) → Buf (Elt Ideal) ℓ)
    (g : Dev Cert.ProjectDilReferenceIdeal.nD → PrngReg) :
    θ_run (Cert.ProjectDilReferenceIdeal.defs (F := Ideal)) (onTc (τ := Cert.ProjectDilReferenceIdeal.τ) (Cert.ProjectDilReferenceIdeal.main (F := Ideal)))
      ⟨m, fun _ => 0, g⟩ (fun r => (∀ c : Dev Cert.ProjectDilReferenceIdeal.nD,
        r.2.mem ((c.tc : Thread Cert.ProjectDilReferenceIdeal.nD Cert.ProjectDilReferenceIdeal.τ).loc Cert.ProjectDilReferenceIdeal.main_arg0)
          = m ((c.tc : Thread Cert.ProjectDilReferenceIdeal.nD Cert.ProjectDilReferenceIdeal.τ).loc Cert.ProjectDilReferenceIdeal.main_arg0)
        ∧ r.2.mem ((c.tc : Thread Cert.ProjectDilReferenceIdeal.nD Cert.ProjectDilReferenceIdeal.τ).loc Cert.ProjectDilReferenceIdeal.main_arg1)
          = m ((c.tc : Thread Cert.ProjectDilReferenceIdeal.nD Cert.ProjectDilReferenceIdeal.τ).loc Cert.ProjectDilReferenceIdeal.main_arg1)
        ∧ r.2.mem ((c.tc : Thread Cert.ProjectDilReferenceIdeal.nD Cert.ProjectDilReferenceIdeal.τ).loc Cert.ProjectDilReferenceIdeal.main_arg2)
          = m ((c.tc : Thread Cert.ProjectDilReferenceIdeal.nD Cert.ProjectDilReferenceIdeal.τ).loc Cert.ProjectDilReferenceIdeal.main_arg2)
        ∧ r.2.mem ((c.tc : Thread Cert.ProjectDilReferenceIdeal.nD Cert.ProjectDilReferenceIdeal.τ).loc Cert.ProjectDilReferenceIdeal.main_arg3)
          = m ((c.tc : Thread Cert.ProjectDilReferenceIdeal.nD Cert.ProjectDilReferenceIdeal.τ).loc Cert.ProjectDilReferenceIdeal.main_arg3)
        ∧ r.2.mem ((c.tc : Thread Cert.ProjectDilReferenceIdeal.nD Cert.ProjectDilReferenceIdeal.τ).loc Cert.ProjectDilReferenceIdeal.main_arg4)
          = m ((c.tc : Thread Cert.ProjectDilReferenceIdeal.nD Cert.ProjectDilReferenceIdeal.τ).loc Cert.ProjectDilReferenceIdeal.main_arg4)
        ∧ r.2.mem ((c.tc : Thread Cert.ProjectDilReferenceIdeal.nD Cert.ProjectDilReferenceIdeal.τ).loc Cert.ProjectDilReferenceIdeal.main_arg5)
          = m ((c.tc : Thread Cert.ProjectDilReferenceIdeal.nD Cert.ProjectDilReferenceIdeal.τ).loc Cert.ProjectDilReferenceIdeal.main_arg5)
        ∧ r.2.mem ((c.tc : Thread Cert.ProjectDilReferenceIdeal.nD Cert.ProjectDilReferenceIdeal.τ).loc Cert.ProjectDilReferenceIdeal.main_arg6)
          = m ((c.tc : Thread Cert.ProjectDilReferenceIdeal.nD Cert.ProjectDilReferenceIdeal.τ).loc Cert.ProjectDilReferenceIdeal.main_arg6))
        ∧ r.2.sem = fun _ => 0) :=
  (θ_run Cert.ProjectDilReferenceIdeal.defs _ _).mono (fun r h => ⟨fun c => (h c).2.2, sem_eq_zero_of_no_sems (by decide) r.2⟩)
    (Cert.ProjectDilReferenceIdeal.Value.run (F := Ideal) m g)

/-- The output projection and its reference, on arguments that agree. -/
theorem algebraic_ab : Cert.algebraic_ProjectABIdeal_ProjectABReferenceIdeal := by
  intro m g m' g' _ hagree
  refine ⟨fun c => Cert.OutProjection.result (m ((c.tc : Thread Cert.ProjectABIdeal.nD Cert.ProjectABIdeal.τ).loc Cert.ProjectABIdeal.main_arg0))
    (m ((c.tc : Thread Cert.ProjectABIdeal.nD Cert.ProjectABIdeal.τ).loc Cert.ProjectABIdeal.main_arg1))
    (m ((c.tc : Thread Cert.ProjectABIdeal.nD Cert.ProjectABIdeal.τ).loc Cert.ProjectABIdeal.main_arg2))
    (m ((c.tc : Thread Cert.ProjectABIdeal.nD Cert.ProjectABIdeal.τ).loc Cert.ProjectABIdeal.main_arg3))
    (m ((c.tc : Thread Cert.ProjectABIdeal.nD Cert.ProjectABIdeal.τ).loc Cert.ProjectABIdeal.main_arg4))
    (m ((c.tc : Thread Cert.ProjectABIdeal.nD Cert.ProjectABIdeal.τ).loc Cert.ProjectABIdeal.main_arg5)), ?_, ?_⟩
  · exact (θ_run Cert.ProjectABIdeal.defs _ _).mono (fun _ h c => ⟨(h c).1.trans (Cert.OutProjection.final m c), (h c).2⟩)
      (Cert.ProjectABIdeal.Value.run_blocks (F := Ideal) m g)
  · refine (θ_run Cert.ProjectABReferenceIdeal.defs _ _).mono (fun _ h c => ⟨(h c).1.trans ?_, (h c).2⟩)
      (Cert.ProjectABReferenceIdeal.Value.run (F := Ideal) m' g')
    obtain ⟨a0, a1, a2, a3, a4, a5⟩ := hagree c
    refine (Cert.ProjectABReferenceIdeal.Read.val_main_v10_eq _ _ _ _ _ _).trans ?_
    rw [a0, a1, a2, a3, a4, a5]
    exact Cert.OutProjection.result_eq_reference _ _ _ _ _ _

/-- The odd layers' normalisation and projection and its reference, on arguments that agree: both results. -/
theorem algebraic_dil : Cert.algebraic_ProjectDilIdeal_ProjectDilReferenceIdeal := by
  intro m g m' g' _ hagree
  refine ⟨fun c => Cert.Dilated.heads (m ((c.tc : Thread Cert.ProjectDilIdeal.nD Cert.ProjectDilIdeal.τ).loc Cert.ProjectDilIdeal.main_arg0))
    (m ((c.tc : Thread Cert.ProjectDilIdeal.nD Cert.ProjectDilIdeal.τ).loc Cert.ProjectDilIdeal.main_arg1))
    (m ((c.tc : Thread Cert.ProjectDilIdeal.nD Cert.ProjectDilIdeal.τ).loc Cert.ProjectDilIdeal.main_arg2))
    (m ((c.tc : Thread Cert.ProjectDilIdeal.nD Cert.ProjectDilIdeal.τ).loc Cert.ProjectDilIdeal.main_arg3))
    (m ((c.tc : Thread Cert.ProjectDilIdeal.nD Cert.ProjectDilIdeal.τ).loc Cert.ProjectDilIdeal.main_arg4))
    (m ((c.tc : Thread Cert.ProjectDilIdeal.nD Cert.ProjectDilIdeal.τ).loc Cert.ProjectDilIdeal.main_arg5))
    (m ((c.tc : Thread Cert.ProjectDilIdeal.nD Cert.ProjectDilIdeal.τ).loc Cert.ProjectDilIdeal.main_arg6)),
    fun c => Cert.Dilated.rows (m ((c.tc : Thread Cert.ProjectDilIdeal.nD Cert.ProjectDilIdeal.τ).loc Cert.ProjectDilIdeal.main_arg0))
    (m ((c.tc : Thread Cert.ProjectDilIdeal.nD Cert.ProjectDilIdeal.τ).loc Cert.ProjectDilIdeal.main_arg1))
    (m ((c.tc : Thread Cert.ProjectDilIdeal.nD Cert.ProjectDilIdeal.τ).loc Cert.ProjectDilIdeal.main_arg2))
    (m ((c.tc : Thread Cert.ProjectDilIdeal.nD Cert.ProjectDilIdeal.τ).loc Cert.ProjectDilIdeal.main_arg3)), ?_, ?_⟩
  · exact (θ_run Cert.ProjectDilIdeal.defs _ _).mono (fun _ h c => ⟨(h c).1.trans (Cert.Dilated.final7 m c),
      (h c).2.1.trans (Cert.Dilated.final8 m c), (h c).2.2⟩) (Cert.ProjectDilIdeal.Value.run_blocks (F := Ideal) m g)
  · refine (θ_run Cert.ProjectDilReferenceIdeal.defs _ _).mono (fun _ h c => ⟨(h c).1.trans ?_, (h c).2.1.trans ?_, (h c).2.2⟩)
      (Cert.ProjectDilReferenceIdeal.Value.run (F := Ideal) m' g')
    · obtain ⟨a0, a1, a2, a3, a4, a5, a6⟩ := hagree c
      refine (Cert.ProjectDilReferenceIdeal.Read.val_main_v51_eq m' c).trans ?_
      rw [a0, a1, a2, a3, a4, a5, a6]
      exact Cert.Dilated.Reference.heads_eq _ _ _ _ _ _ _
    · obtain ⟨a0, a1, a2, a3, -⟩ := hagree c
      refine (Cert.ProjectDilReferenceIdeal.Read.val_main_v52_eq _ _ _ _).trans ?_
      rw [a0, a1, a2, a3]
      exact Cert.Dilated.Reference.rows_eq _ _ _ _

/-- The reference of the even layers' normalisation and latent projection: its frame is its run. -/
theorem frame_reference_latent (m : (ℓ : Loc Cert.ProjectLatentReferenceIdeal.nD Cert.ProjectLatentReferenceIdeal.τ Cert.ProjectLatentReferenceIdeal.sig) → Buf (Elt Ideal) ℓ)
    (g : Dev Cert.ProjectLatentReferenceIdeal.nD → PrngReg) :
    θ_run (Cert.ProjectLatentReferenceIdeal.defs (F := Ideal)) (onTc (τ := Cert.ProjectLatentReferenceIdeal.τ) (Cert.ProjectLatentReferenceIdeal.main (F := Ideal)))
      ⟨m, fun _ => 0, g⟩ (fun r => (∀ c : Dev Cert.ProjectLatentReferenceIdeal.nD,
        r.2.mem ((c.tc : Thread Cert.ProjectLatentReferenceIdeal.nD Cert.ProjectLatentReferenceIdeal.τ).loc Cert.ProjectLatentReferenceIdeal.main_arg0)
          = m ((c.tc : Thread Cert.ProjectLatentReferenceIdeal.nD Cert.ProjectLatentReferenceIdeal.τ).loc Cert.ProjectLatentReferenceIdeal.main_arg0)
        ∧ r.2.mem ((c.tc : Thread Cert.ProjectLatentReferenceIdeal.nD Cert.ProjectLatentReferenceIdeal.τ).loc Cert.ProjectLatentReferenceIdeal.main_arg1)
          = m ((c.tc : Thread Cert.ProjectLatentReferenceIdeal.nD Cert.ProjectLatentReferenceIdeal.τ).loc Cert.ProjectLatentReferenceIdeal.main_arg1)
        ∧ r.2.mem ((c.tc : Thread Cert.ProjectLatentReferenceIdeal.nD Cert.ProjectLatentReferenceIdeal.τ).loc Cert.ProjectLatentReferenceIdeal.main_arg2)
          = m ((c.tc : Thread Cert.ProjectLatentReferenceIdeal.nD Cert.ProjectLatentReferenceIdeal.τ).loc Cert.ProjectLatentReferenceIdeal.main_arg2)
        ∧ r.2.mem ((c.tc : Thread Cert.ProjectLatentReferenceIdeal.nD Cert.ProjectLatentReferenceIdeal.τ).loc Cert.ProjectLatentReferenceIdeal.main_arg3)
          = m ((c.tc : Thread Cert.ProjectLatentReferenceIdeal.nD Cert.ProjectLatentReferenceIdeal.τ).loc Cert.ProjectLatentReferenceIdeal.main_arg3)
        ∧ r.2.mem ((c.tc : Thread Cert.ProjectLatentReferenceIdeal.nD Cert.ProjectLatentReferenceIdeal.τ).loc Cert.ProjectLatentReferenceIdeal.main_arg4)
          = m ((c.tc : Thread Cert.ProjectLatentReferenceIdeal.nD Cert.ProjectLatentReferenceIdeal.τ).loc Cert.ProjectLatentReferenceIdeal.main_arg4))
        ∧ r.2.sem = fun _ => 0) :=
  (θ_run Cert.ProjectLatentReferenceIdeal.defs _ _).mono (fun r h => ⟨fun c => (h c).2.2, sem_eq_zero_of_no_sems (by decide) r.2⟩)
    (Cert.ProjectLatentReferenceIdeal.Value.run (F := Ideal) m g)

/-- The reference of the even layers' keys and values: its frame is its run. -/
theorem frame_reference_kv (m : (ℓ : Loc Cert.ProjectKVReferenceIdeal.nD Cert.ProjectKVReferenceIdeal.τ Cert.ProjectKVReferenceIdeal.sig) → Buf (Elt Ideal) ℓ)
    (g : Dev Cert.ProjectKVReferenceIdeal.nD → PrngReg) :
    θ_run (Cert.ProjectKVReferenceIdeal.defs (F := Ideal)) (onTc (τ := Cert.ProjectKVReferenceIdeal.τ) (Cert.ProjectKVReferenceIdeal.main (F := Ideal)))
      ⟨m, fun _ => 0, g⟩ (fun r => (∀ c : Dev Cert.ProjectKVReferenceIdeal.nD,
        r.2.mem ((c.tc : Thread Cert.ProjectKVReferenceIdeal.nD Cert.ProjectKVReferenceIdeal.τ).loc Cert.ProjectKVReferenceIdeal.main_arg0)
          = m ((c.tc : Thread Cert.ProjectKVReferenceIdeal.nD Cert.ProjectKVReferenceIdeal.τ).loc Cert.ProjectKVReferenceIdeal.main_arg0)
        ∧ r.2.mem ((c.tc : Thread Cert.ProjectKVReferenceIdeal.nD Cert.ProjectKVReferenceIdeal.τ).loc Cert.ProjectKVReferenceIdeal.main_arg1)
          = m ((c.tc : Thread Cert.ProjectKVReferenceIdeal.nD Cert.ProjectKVReferenceIdeal.τ).loc Cert.ProjectKVReferenceIdeal.main_arg1)
        ∧ r.2.mem ((c.tc : Thread Cert.ProjectKVReferenceIdeal.nD Cert.ProjectKVReferenceIdeal.τ).loc Cert.ProjectKVReferenceIdeal.main_arg2)
          = m ((c.tc : Thread Cert.ProjectKVReferenceIdeal.nD Cert.ProjectKVReferenceIdeal.τ).loc Cert.ProjectKVReferenceIdeal.main_arg2))
        ∧ r.2.sem = fun _ => 0) :=
  (θ_run Cert.ProjectKVReferenceIdeal.defs _ _).mono (fun r h => ⟨fun c => (h c).2, sem_eq_zero_of_no_sems (by decide) r.2⟩)
    (Cert.ProjectKVReferenceIdeal.Value.run (F := Ideal) m g)

/-- The even layers' normalisation and latent projection and its reference, on arguments that agree: both results. -/
theorem algebraic_latent : Cert.algebraic_ProjectLatentIdeal_ProjectLatentReferenceIdeal := by
  intro m g m' g' _ hagree
  refine ⟨fun c => Cert.Latent.latents (m ((c.tc : Thread Cert.ProjectLatentIdeal.nD Cert.ProjectLatentIdeal.τ).loc Cert.ProjectLatentIdeal.main_arg0))
    (m ((c.tc : Thread Cert.ProjectLatentIdeal.nD Cert.ProjectLatentIdeal.τ).loc Cert.ProjectLatentIdeal.main_arg1))
    (m ((c.tc : Thread Cert.ProjectLatentIdeal.nD Cert.ProjectLatentIdeal.τ).loc Cert.ProjectLatentIdeal.main_arg2))
    (m ((c.tc : Thread Cert.ProjectLatentIdeal.nD Cert.ProjectLatentIdeal.τ).loc Cert.ProjectLatentIdeal.main_arg3))
    (m ((c.tc : Thread Cert.ProjectLatentIdeal.nD Cert.ProjectLatentIdeal.τ).loc Cert.ProjectLatentIdeal.main_arg4)),
    fun c => Cert.Dilated.rows (m ((c.tc : Thread Cert.ProjectLatentIdeal.nD Cert.ProjectLatentIdeal.τ).loc Cert.ProjectLatentIdeal.main_arg0))
    (m ((c.tc : Thread Cert.ProjectLatentIdeal.nD Cert.ProjectLatentIdeal.τ).loc Cert.ProjectLatentIdeal.main_arg1))
    (m ((c.tc : Thread Cert.ProjectLatentIdeal.nD Cert.ProjectLatentIdeal.τ).loc Cert.ProjectLatentIdeal.main_arg2))
    (m ((c.tc : Thread Cert.ProjectLatentIdeal.nD Cert.ProjectLatentIdeal.τ).loc Cert.ProjectLatentIdeal.main_arg3)), ?_, ?_⟩
  · exact (θ_run Cert.ProjectLatentIdeal.defs _ _).mono (fun _ h c => ⟨(h c).1.trans (Cert.Latent.final5 m c),
      (h c).2.1.trans (Cert.Latent.final6 m c), (h c).2.2⟩) (Cert.ProjectLatentIdeal.Value.run_blocks (F := Ideal) m g)
  · refine (θ_run Cert.ProjectLatentReferenceIdeal.defs _ _).mono (fun _ h c => ⟨(h c).1.trans ?_, (h c).2.1.trans ?_, (h c).2.2⟩)
      (Cert.ProjectLatentReferenceIdeal.Value.run (F := Ideal) m' g')
    · obtain ⟨a0, a1, a2, a3, a4⟩ := hagree c
      refine (Cert.ProjectLatentReferenceIdeal.Read.val_main_v21_eq _ _ _ _ _).trans ?_
      rw [a0, a1, a2, a3, a4]
      exact Cert.Latent.latents_eq_reference _ _ _ _ _
    · obtain ⟨a0, a1, a2, a3, -⟩ := hagree c
      refine (Cert.ProjectLatentReferenceIdeal.Read.val_main_v22_eq _ _ _ _).trans ?_
      rw [a0, a1, a2, a3]
      exact Cert.Latent.rows_eq_reference _ _ _ _

/-- The even layers' keys and values and their reference, on arguments that agree. -/
theorem algebraic_kv : Cert.algebraic_ProjectKVIdeal_ProjectKVReferenceIdeal := by
  intro m g m' g' _ hagree
  refine ⟨fun c => Cert.KeysValues.result (m ((c.tc : Thread Cert.ProjectKVIdeal.nD Cert.ProjectKVIdeal.τ).loc Cert.ProjectKVIdeal.main_arg0))
    (m ((c.tc : Thread Cert.ProjectKVIdeal.nD Cert.ProjectKVIdeal.τ).loc Cert.ProjectKVIdeal.main_arg1))
    (m ((c.tc : Thread Cert.ProjectKVIdeal.nD Cert.ProjectKVIdeal.τ).loc Cert.ProjectKVIdeal.main_arg2)), ?_, ?_⟩
  · exact (θ_run Cert.ProjectKVIdeal.defs _ _).mono (fun _ h c => ⟨(h c).1.trans (Cert.KeysValues.final m c), (h c).2⟩)
      (Cert.ProjectKVIdeal.Value.run_blocks (F := Ideal) m g)
  · refine (θ_run Cert.ProjectKVReferenceIdeal.defs _ _).mono (fun _ h c => ⟨(h c).1.trans ?_, (h c).2⟩)
      (Cert.ProjectKVReferenceIdeal.Value.run (F := Ideal) m' g')
    obtain ⟨a0, a1, a2⟩ := hagree c
    refine (Cert.ProjectKVReferenceIdeal.Read.val_main_v15_eq _ _ _).trans ?_
    rw [a0, a1, a2]
    exact Cert.KeysValues.result_eq_reference _ _ _

/-- The reference of the combination of the first three layers: its frame is its run. -/
theorem frame_reference_combine (m : (ℓ : Loc Cert.CombineReferenceIdeal.nD Cert.CombineReferenceIdeal.τ Cert.CombineReferenceIdeal.sig) → Buf (Elt Ideal) ℓ)
    (g : Dev Cert.CombineReferenceIdeal.nD → PrngReg) :
    θ_run (Cert.CombineReferenceIdeal.defs (F := Ideal)) (onTc (τ := Cert.CombineReferenceIdeal.τ) (Cert.CombineReferenceIdeal.main (F := Ideal)))
      ⟨m, fun _ => 0, g⟩ (fun r => (∀ c : Dev Cert.CombineReferenceIdeal.nD,
        r.2.mem ((c.tc : Thread Cert.CombineReferenceIdeal.nD Cert.CombineReferenceIdeal.τ).loc Cert.CombineReferenceIdeal.main_arg0)
          = m ((c.tc : Thread Cert.CombineReferenceIdeal.nD Cert.CombineReferenceIdeal.τ).loc Cert.CombineReferenceIdeal.main_arg0)
        ∧ r.2.mem ((c.tc : Thread Cert.CombineReferenceIdeal.nD Cert.CombineReferenceIdeal.τ).loc Cert.CombineReferenceIdeal.main_arg1)
          = m ((c.tc : Thread Cert.CombineReferenceIdeal.nD Cert.CombineReferenceIdeal.τ).loc Cert.CombineReferenceIdeal.main_arg1)
        ∧ r.2.mem ((c.tc : Thread Cert.CombineReferenceIdeal.nD Cert.CombineReferenceIdeal.τ).loc Cert.CombineReferenceIdeal.main_arg2)
          = m ((c.tc : Thread Cert.CombineReferenceIdeal.nD Cert.CombineReferenceIdeal.τ).loc Cert.CombineReferenceIdeal.main_arg2)
        ∧ r.2.mem ((c.tc : Thread Cert.CombineReferenceIdeal.nD Cert.CombineReferenceIdeal.τ).loc Cert.CombineReferenceIdeal.main_arg3)
          = m ((c.tc : Thread Cert.CombineReferenceIdeal.nD Cert.CombineReferenceIdeal.τ).loc Cert.CombineReferenceIdeal.main_arg3))
        ∧ r.2.sem = fun _ => 0) :=
  (θ_run Cert.CombineReferenceIdeal.defs _ _).mono (fun r h => ⟨fun c => (h c).2, sem_eq_zero_of_no_sems (by decide) r.2⟩)
    (Cert.CombineReferenceIdeal.Value.run (F := Ideal) m g)

/-- The reference of the last layer's combination and of the last normalisation: its frame is its run. -/
theorem frame_reference_last (m : (ℓ : Loc Cert.CombineLastReferenceIdeal.nD Cert.CombineLastReferenceIdeal.τ Cert.CombineLastReferenceIdeal.sig) → Buf (Elt Ideal) ℓ)
    (g : Dev Cert.CombineLastReferenceIdeal.nD → PrngReg) :
    θ_run (Cert.CombineLastReferenceIdeal.defs (F := Ideal)) (onTc (τ := Cert.CombineLastReferenceIdeal.τ) (Cert.CombineLastReferenceIdeal.main (F := Ideal)))
      ⟨m, fun _ => 0, g⟩ (fun r => (∀ c : Dev Cert.CombineLastReferenceIdeal.nD,
        r.2.mem ((c.tc : Thread Cert.CombineLastReferenceIdeal.nD Cert.CombineLastReferenceIdeal.τ).loc Cert.CombineLastReferenceIdeal.main_arg0)
          = m ((c.tc : Thread Cert.CombineLastReferenceIdeal.nD Cert.CombineLastReferenceIdeal.τ).loc Cert.CombineLastReferenceIdeal.main_arg0)
        ∧ r.2.mem ((c.tc : Thread Cert.CombineLastReferenceIdeal.nD Cert.CombineLastReferenceIdeal.τ).loc Cert.CombineLastReferenceIdeal.main_arg1)
          = m ((c.tc : Thread Cert.CombineLastReferenceIdeal.nD Cert.CombineLastReferenceIdeal.τ).loc Cert.CombineLastReferenceIdeal.main_arg1)
        ∧ r.2.mem ((c.tc : Thread Cert.CombineLastReferenceIdeal.nD Cert.CombineLastReferenceIdeal.τ).loc Cert.CombineLastReferenceIdeal.main_arg2)
          = m ((c.tc : Thread Cert.CombineLastReferenceIdeal.nD Cert.CombineLastReferenceIdeal.τ).loc Cert.CombineLastReferenceIdeal.main_arg2)
        ∧ r.2.mem ((c.tc : Thread Cert.CombineLastReferenceIdeal.nD Cert.CombineLastReferenceIdeal.τ).loc Cert.CombineLastReferenceIdeal.main_arg3)
          = m ((c.tc : Thread Cert.CombineLastReferenceIdeal.nD Cert.CombineLastReferenceIdeal.τ).loc Cert.CombineLastReferenceIdeal.main_arg3)
        ∧ r.2.mem ((c.tc : Thread Cert.CombineLastReferenceIdeal.nD Cert.CombineLastReferenceIdeal.τ).loc Cert.CombineLastReferenceIdeal.main_arg4)
          = m ((c.tc : Thread Cert.CombineLastReferenceIdeal.nD Cert.CombineLastReferenceIdeal.τ).loc Cert.CombineLastReferenceIdeal.main_arg4))
        ∧ r.2.sem = fun _ => 0) :=
  (θ_run Cert.CombineLastReferenceIdeal.defs _ _).mono (fun r h => ⟨fun c => (h c).2, sem_eq_zero_of_no_sems (by decide) r.2⟩)
    (Cert.CombineLastReferenceIdeal.Value.run (F := Ideal) m g)

/-- The combination of the first three layers and its reference, on arguments that agree. -/
theorem algebraic_combine : Cert.algebraic_CombineIdeal_CombineReferenceIdeal := by
  intro m g m' g' _ hagree
  refine ⟨fun c => Cert.Combination.result (m ((c.tc : Thread Cert.CombineIdeal.nD Cert.CombineIdeal.τ).loc Cert.CombineIdeal.main_arg0))
    (m ((c.tc : Thread Cert.CombineIdeal.nD Cert.CombineIdeal.τ).loc Cert.CombineIdeal.main_arg1))
    (m ((c.tc : Thread Cert.CombineIdeal.nD Cert.CombineIdeal.τ).loc Cert.CombineIdeal.main_arg2))
    (m ((c.tc : Thread Cert.CombineIdeal.nD Cert.CombineIdeal.τ).loc Cert.CombineIdeal.main_arg3)), ?_, ?_⟩
  · exact (θ_run Cert.CombineIdeal.defs _ _).mono (fun _ h c => ⟨(h c).1.trans (Cert.Combination.Middle.final m c), (h c).2⟩)
      (Cert.CombineIdeal.Value.run_blocks (F := Ideal) m g)
  · refine (θ_run Cert.CombineReferenceIdeal.defs _ _).mono (fun _ h c => ⟨(h c).1.trans ?_, (h c).2⟩)
      (Cert.CombineReferenceIdeal.Value.run (F := Ideal) m' g')
    obtain ⟨a0, a1, a2, a3⟩ := hagree c
    refine (Cert.CombineReferenceIdeal.Read.val_main_v18_eq _ _ _ _).trans ?_
    rw [a0, a1, a2, a3]
    exact Cert.Combination.result_eq_reference _ _ _ _

/-- The last layer's combination and the last normalisation and their reference, on arguments that agree. -/
theorem algebraic_last : Cert.algebraic_CombineLastIdeal_CombineLastReferenceIdeal := by
  intro m g m' g' _ hagree
  refine ⟨fun c => Cert.Combination.lastResult (m ((c.tc : Thread Cert.CombineLastIdeal.nD Cert.CombineLastIdeal.τ).loc Cert.CombineLastIdeal.main_arg0))
    (m ((c.tc : Thread Cert.CombineLastIdeal.nD Cert.CombineLastIdeal.τ).loc Cert.CombineLastIdeal.main_arg1))
    (m ((c.tc : Thread Cert.CombineLastIdeal.nD Cert.CombineLastIdeal.τ).loc Cert.CombineLastIdeal.main_arg2))
    (m ((c.tc : Thread Cert.CombineLastIdeal.nD Cert.CombineLastIdeal.τ).loc Cert.CombineLastIdeal.main_arg3))
    (m ((c.tc : Thread Cert.CombineLastIdeal.nD Cert.CombineLastIdeal.τ).loc Cert.CombineLastIdeal.main_arg4)), ?_, ?_⟩
  · exact (θ_run Cert.CombineLastIdeal.defs _ _).mono (fun _ h c => ⟨(h c).1.trans (Cert.Combination.Last.final m c), (h c).2⟩)
      (Cert.CombineLastIdeal.Value.run_blocks (F := Ideal) m g)
  · refine (θ_run Cert.CombineLastReferenceIdeal.defs _ _).mono (fun _ h c => ⟨(h c).1.trans ?_, (h c).2⟩)
      (Cert.CombineLastReferenceIdeal.Value.run (F := Ideal) m' g')
    obtain ⟨a0, a1, a2, a3, a4⟩ := hagree c
    refine (Cert.CombineLastReferenceIdeal.Read.val_main_v30_eq _ _ _ _ _).trans ?_
    rw [a0, a1, a2, a3, a4]
    exact Cert.Combination.lastResult_eq_reference _ _ _ _ _

theorem claim : Cert.Claim := ⟨Cert.Kernel.Gen.facts, Cert.KernelIdeal.Gen.facts, Cert.ReferenceIdeal.Gen.facts,
  Cert.Experts0.Gen.facts, Cert.Experts0Ideal.Gen.facts, Cert.ExpertsReference0Ideal.Gen.facts,
  Cert.Experts1.Gen.facts, Cert.Experts1Ideal.Gen.facts, Cert.ExpertsReference1Ideal.Gen.facts,
  Cert.Experts2.Gen.facts, Cert.Experts2Ideal.Gen.facts, Cert.ExpertsReference2Ideal.Gen.facts,
  Cert.Experts3.Gen.facts, Cert.Experts3Ideal.Gen.facts, Cert.ExpertsReference3Ideal.Gen.facts,
  Cert.ProjectAB.Gen.facts, Cert.ProjectABIdeal.Gen.facts, Cert.ProjectABReferenceIdeal.Gen.facts,
  Cert.ProjectDil.Gen.facts, Cert.ProjectDilIdeal.Gen.facts, Cert.ProjectDilReferenceIdeal.Gen.facts,
  Cert.ProjectLatent.Gen.facts, Cert.ProjectLatentIdeal.Gen.facts, Cert.ProjectLatentReferenceIdeal.Gen.facts,
  Cert.ProjectKV.Gen.facts, Cert.ProjectKVIdeal.Gen.facts, Cert.ProjectKVReferenceIdeal.Gen.facts,
  Cert.Combine.Gen.facts, Cert.CombineIdeal.Gen.facts, Cert.CombineReferenceIdeal.Gen.facts,
  Cert.CombineLast.Gen.facts, Cert.CombineLastIdeal.Gen.facts, Cert.CombineLastReferenceIdeal.Gen.facts,
  Cert.Attention.preFacts, Cert.Pre_tables.Gen.facts,
  fun m g _ => Cert.Kernel.Gen.frame m g, fun m g _ => Cert.KernelIdeal.Gen.frame m g,
  fun m g _ => Cert.KernelIdeal.Gen.frame m g, fun m g _ => frame_reference m g, fun m g _ => frame_reference m g,
  Experts.Layer0.frame_bits, Experts.Layer0.frame_ideal, Experts.Layer0.frame_reference, Experts.Layer0.frame_reference_tables,
  Experts.Layer1.frame_bits, Experts.Layer1.frame_ideal, Experts.Layer1.frame_reference, Experts.Layer1.frame_reference_tables,
  Experts.Layer2.frame_bits, Experts.Layer2.frame_ideal, Experts.Layer2.frame_reference, Experts.Layer2.frame_reference_tables,
  Experts.Layer3.frame_bits, Experts.Layer3.frame_ideal, Experts.Layer3.frame_reference, Experts.Layer3.frame_reference_tables,
  fun m g _ => Cert.ProjectAB.Gen.frame m g, fun m g _ => Cert.ProjectABIdeal.Gen.frame m g, fun m g _ => frame_reference_ab m g,
  fun m g _ => Cert.ProjectDil.Gen.frame m g, fun m g _ => Cert.ProjectDilIdeal.Gen.frame m g, fun m g _ => frame_reference_dil m g,
  fun m g _ => Cert.ProjectLatent.Gen.frame m g, fun m g _ => Cert.ProjectLatentIdeal.Gen.frame m g,
  fun m g _ => frame_reference_latent m g,
  fun m g _ => Cert.ProjectKV.Gen.frame m g, fun m g _ => Cert.ProjectKVIdeal.Gen.frame m g, fun m g _ => frame_reference_kv m g,
  fun m g _ => Cert.Combine.Gen.frame m g, fun m g _ => Cert.CombineIdeal.Gen.frame m g, fun m g _ => frame_reference_combine m g,
  fun m g _ => Cert.CombineLast.Gen.frame m g, fun m g _ => Cert.CombineLastIdeal.Gen.frame m g,
  fun m g _ => frame_reference_last m g,
  trivial, algebraic,
  trivial, Experts.Layer0.algebraic,
  trivial, Experts.Layer1.algebraic,
  trivial, Experts.Layer2.algebraic,
  trivial, Experts.Layer3.algebraic,
  trivial, algebraic_ab,
  trivial, algebraic_dil,
  trivial, algebraic_latent,
  trivial, algebraic_kv,
  trivial, algebraic_combine,
  trivial, algebraic_last⟩

end Cert.Proof

end
